-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gdn_finite [hPre_gdn_finite : Cert.Pre_gdn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gdn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gdn_finite [hPre_gdn_finite : Cert.Pre_gdn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gdn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_AttPrep (m : (ℓ : Loc Cert.AttPrep.nD Cert.AttPrep.τ Cert.AttPrep.sig) → Buf (Elt Bits) ℓ) : Prop :=
  True

def Pre_AttPrepIdeal (m : (ℓ : Loc Cert.AttPrepIdeal.nD Cert.AttPrepIdeal.τ Cert.AttPrepIdeal.sig) → Buf (Elt Ideal) ℓ) : Prop :=
  True

def Pre_AttPrepRefIdeal (m : (ℓ : Loc Cert.AttPrepRefIdeal.nD Cert.AttPrepRefIdeal.τ Cert.AttPrepRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_step_finite [hPre_step_finite : Cert.Pre_step_finite.Facts] (m : (ℓ : Loc Cert.StepIdeal.nD Cert.StepIdeal.τ Cert.StepIdeal.sig) → Buf (Elt Ideal) ℓ) : Prop :=
  ∀ c : Dev Cert.StepIdeal.nD,
    (Cert.Pre_step_finite.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6))) = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_step_finite [hPre_step_finite : Cert.Pre_step_finite.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_step_finite.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6))) = (fun _ => 1#1)

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_AttPrepS (m : (ℓ : Loc Cert.AttPrepS.nD Cert.AttPrepS.τ Cert.AttPrepS.sig) → Buf (Elt Bits) ℓ) : Prop :=
  True

def Pre_AttPrepSIdeal (m : (ℓ : Loc Cert.AttPrepSIdeal.nD Cert.AttPrepSIdeal.τ Cert.AttPrepSIdeal.sig) → Buf (Elt Ideal) ℓ) : Prop :=
  True

def Pre_AttPrepSRefIdeal (m : (ℓ : Loc Cert.AttPrepSRefIdeal.nD Cert.AttPrepSRefIdeal.τ Cert.AttPrepSRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gdn_finite [hKernelIdeal : Cert.KernelIdeal.Facts] [hPre_gdn_finite : Cert.Pre_gdn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gdn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gdn_finite [hReferenceIdeal : Cert.ReferenceIdeal.Facts] [hPre_gdn_finite : Cert.Pre_gdn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gdn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_AttPrep [hAttPrep : Cert.AttPrep.Facts] : Prop :=
  ∀ (m : (ℓ : Loc Cert.AttPrep.nD Cert.AttPrep.τ Cert.AttPrep.sig) → Buf (Elt Bits) ℓ) (g : Dev Cert.AttPrep.nD → PrngReg), Pre_AttPrep m →
    θ_run (Cert.AttPrep.defs (F := Bits)) (onTc (τ := Cert.AttPrep.τ) (Cert.AttPrep.main (F := Bits))) ⟨m, fun _ => 0, g⟩ (fun r => (∀ c : Dev Cert.AttPrep.nD,
      r.2.mem ((c.tc : Thread Cert.AttPrep.nD Cert.AttPrep.τ).loc Cert.AttPrep.main_arg0) = m ((c.tc : Thread Cert.AttPrep.nD Cert.AttPrep.τ).loc Cert.AttPrep.main_arg0)
      ∧ r.2.mem ((c.tc : Thread Cert.AttPrep.nD Cert.AttPrep.τ).loc Cert.AttPrep.main_arg1) = m ((c.tc : Thread Cert.AttPrep.nD Cert.AttPrep.τ).loc Cert.AttPrep.main_arg1)
      ∧ r.2.mem ((c.tc : Thread Cert.AttPrep.nD Cert.AttPrep.τ).loc Cert.AttPrep.main_arg2) = m ((c.tc : Thread Cert.AttPrep.nD Cert.AttPrep.τ).loc Cert.AttPrep.main_arg2))
      ∧ r.2.sem = fun _ => 0)

def quiescent_AttPrepIdeal [hAttPrepIdeal : Cert.AttPrepIdeal.Facts] : Prop :=
  ∀ (m : (ℓ : Loc Cert.AttPrepIdeal.nD Cert.AttPrepIdeal.τ Cert.AttPrepIdeal.sig) → Buf (Elt Ideal) ℓ) (g : Dev Cert.AttPrepIdeal.nD → PrngReg), Pre_AttPrepIdeal m →
    θ_run (Cert.AttPrepIdeal.defs (F := Ideal)) (onTc (τ := Cert.AttPrepIdeal.τ) (Cert.AttPrepIdeal.main (F := Ideal))) ⟨m, fun _ => 0, g⟩ (fun r => (∀ c : Dev Cert.AttPrepIdeal.nD,
      r.2.mem ((c.tc : Thread Cert.AttPrepIdeal.nD Cert.AttPrepIdeal.τ).loc Cert.AttPrepIdeal.main_arg0) = m ((c.tc : Thread Cert.AttPrepIdeal.nD Cert.AttPrepIdeal.τ).loc Cert.AttPrepIdeal.main_arg0)
      ∧ r.2.mem ((c.tc : Thread Cert.AttPrepIdeal.nD Cert.AttPrepIdeal.τ).loc Cert.AttPrepIdeal.main_arg1) = m ((c.tc : Thread Cert.AttPrepIdeal.nD Cert.AttPrepIdeal.τ).loc Cert.AttPrepIdeal.main_arg1)
      ∧ r.2.mem ((c.tc : Thread Cert.AttPrepIdeal.nD Cert.AttPrepIdeal.τ).loc Cert.AttPrepIdeal.main_arg2) = m ((c.tc : Thread Cert.AttPrepIdeal.nD Cert.AttPrepIdeal.τ).loc Cert.AttPrepIdeal.main_arg2))
      ∧ r.2.sem = fun _ => 0)

def quiescent_AttPrepRefIdeal [hAttPrepRefIdeal : Cert.AttPrepRefIdeal.Facts] : Prop :=
  ∀ (m : (ℓ : Loc Cert.AttPrepRefIdeal.nD Cert.AttPrepRefIdeal.τ Cert.AttPrepRefIdeal.sig) → Buf (Elt Ideal) ℓ) (g : Dev Cert.AttPrepRefIdeal.nD → PrngReg), Pre_AttPrepRefIdeal m →
    θ_run (Cert.AttPrepRefIdeal.defs (F := Ideal)) (onTc (τ := Cert.AttPrepRefIdeal.τ) (Cert.AttPrepRefIdeal.main (F := Ideal))) ⟨m, fun _ => 0, g⟩ (fun r => (∀ c : Dev Cert.AttPrepRefIdeal.nD,
      r.2.mem ((c.tc : Thread Cert.AttPrepRefIdeal.nD Cert.AttPrepRefIdeal.τ).loc Cert.AttPrepRefIdeal.main_arg0) = m ((c.tc : Thread Cert.AttPrepRefIdeal.nD Cert.AttPrepRefIdeal.τ).loc Cert.AttPrepRefIdeal.main_arg0)
      ∧ r.2.mem ((c.tc : Thread Cert.AttPrepRefIdeal.nD Cert.AttPrepRefIdeal.τ).loc Cert.AttPrepRefIdeal.main_arg1) = m ((c.tc : Thread Cert.AttPrepRefIdeal.nD Cert.AttPrepRefIdeal.τ).loc Cert.AttPrepRefIdeal.main_arg1)
      ∧ r.2.mem ((c.tc : Thread Cert.AttPrepRefIdeal.nD Cert.AttPrepRefIdeal.τ).loc Cert.AttPrepRefIdeal.main_arg2) = m ((c.tc : Thread Cert.AttPrepRefIdeal.nD Cert.AttPrepRefIdeal.τ).loc Cert.AttPrepRefIdeal.main_arg2))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepIdeal_pre_step_finite [hStepIdeal : Cert.StepIdeal.Facts] [hPre_step_finite : Cert.Pre_step_finite.Facts] : Prop :=
  ∀ (m : (ℓ : Loc Cert.StepIdeal.nD Cert.StepIdeal.τ Cert.StepIdeal.sig) → Buf (Elt Ideal) ℓ) (g : Dev Cert.StepIdeal.nD → PrngReg), Pre_StepIdeal_step_finite m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_StepRefIdeal_pre_step_finite [hStepRefIdeal : Cert.StepRefIdeal.Facts] [hPre_step_finite : Cert.Pre_step_finite.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_step_finite m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3)
      ∧ r.2.mem ((c.tc : Thread Cert.PrepS.nD Cert.PrepS.τ).loc Cert.PrepS.main_arg4) = m ((c.tc : Thread Cert.PrepS.nD Cert.PrepS.τ).loc Cert.PrepS.main_arg4))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3))
      ∧ r.2.sem = fun _ => 0)

def quiescent_AttPrepS [hAttPrepS : Cert.AttPrepS.Facts] : Prop :=
  ∀ (m : (ℓ : Loc Cert.AttPrepS.nD Cert.AttPrepS.τ Cert.AttPrepS.sig) → Buf (Elt Bits) ℓ) (g : Dev Cert.AttPrepS.nD → PrngReg), Pre_AttPrepS m →
    θ_run (Cert.AttPrepS.defs (F := Bits)) (onTc (τ := Cert.AttPrepS.τ) (Cert.AttPrepS.main (F := Bits))) ⟨m, fun _ => 0, g⟩ (fun r => (∀ c : Dev Cert.AttPrepS.nD,
      r.2.mem ((c.tc : Thread Cert.AttPrepS.nD Cert.AttPrepS.τ).loc Cert.AttPrepS.main_arg0) = m ((c.tc : Thread Cert.AttPrepS.nD Cert.AttPrepS.τ).loc Cert.AttPrepS.main_arg0)
      ∧ r.2.mem ((c.tc : Thread Cert.AttPrepS.nD Cert.AttPrepS.τ).loc Cert.AttPrepS.main_arg1) = m ((c.tc : Thread Cert.AttPrepS.nD Cert.AttPrepS.τ).loc Cert.AttPrepS.main_arg1)
      ∧ r.2.mem ((c.tc : Thread Cert.AttPrepS.nD Cert.AttPrepS.τ).loc Cert.AttPrepS.main_arg2) = m ((c.tc : Thread Cert.AttPrepS.nD Cert.AttPrepS.τ).loc Cert.AttPrepS.main_arg2))
      ∧ r.2.sem = fun _ => 0)

def quiescent_AttPrepSIdeal [hAttPrepSIdeal : Cert.AttPrepSIdeal.Facts] : Prop :=
  ∀ (m : (ℓ : Loc Cert.AttPrepSIdeal.nD Cert.AttPrepSIdeal.τ Cert.AttPrepSIdeal.sig) → Buf (Elt Ideal) ℓ) (g : Dev Cert.AttPrepSIdeal.nD → PrngReg), Pre_AttPrepSIdeal m →
    θ_run (Cert.AttPrepSIdeal.defs (F := Ideal)) (onTc (τ := Cert.AttPrepSIdeal.τ) (Cert.AttPrepSIdeal.main (F := Ideal))) ⟨m, fun _ => 0, g⟩ (fun r => (∀ c : Dev Cert.AttPrepSIdeal.nD,
      r.2.mem ((c.tc : Thread Cert.AttPrepSIdeal.nD Cert.AttPrepSIdeal.τ).loc Cert.AttPrepSIdeal.main_arg0) = m ((c.tc : Thread Cert.AttPrepSIdeal.nD Cert.AttPrepSIdeal.τ).loc Cert.AttPrepSIdeal.main_arg0)
      ∧ r.2.mem ((c.tc : Thread Cert.AttPrepSIdeal.nD Cert.AttPrepSIdeal.τ).loc Cert.AttPrepSIdeal.main_arg1) = m ((c.tc : Thread Cert.AttPrepSIdeal.nD Cert.AttPrepSIdeal.τ).loc Cert.AttPrepSIdeal.main_arg1)
      ∧ r.2.mem ((c.tc : Thread Cert.AttPrepSIdeal.nD Cert.AttPrepSIdeal.τ).loc Cert.AttPrepSIdeal.main_arg2) = m ((c.tc : Thread Cert.AttPrepSIdeal.nD Cert.AttPrepSIdeal.τ).loc Cert.AttPrepSIdeal.main_arg2))
      ∧ r.2.sem = fun _ => 0)

def quiescent_AttPrepSRefIdeal [hAttPrepSRefIdeal : Cert.AttPrepSRefIdeal.Facts] : Prop :=
  ∀ (m : (ℓ : Loc Cert.AttPrepSRefIdeal.nD Cert.AttPrepSRefIdeal.τ Cert.AttPrepSRefIdeal.sig) → Buf (Elt Ideal) ℓ) (g : Dev Cert.AttPrepSRefIdeal.nD → PrngReg), Pre_AttPrepSRefIdeal m →
    θ_run (Cert.AttPrepSRefIdeal.defs (F := Ideal)) (onTc (τ := Cert.AttPrepSRefIdeal.τ) (Cert.AttPrepSRefIdeal.main (F := Ideal))) ⟨m, fun _ => 0, g⟩ (fun r => (∀ c : Dev Cert.AttPrepSRefIdeal.nD,
      r.2.mem ((c.tc : Thread Cert.AttPrepSRefIdeal.nD Cert.AttPrepSRefIdeal.τ).loc Cert.AttPrepSRefIdeal.main_arg0) = m ((c.tc : Thread Cert.AttPrepSRefIdeal.nD Cert.AttPrepSRefIdeal.τ).loc Cert.AttPrepSRefIdeal.main_arg0)
      ∧ r.2.mem ((c.tc : Thread Cert.AttPrepSRefIdeal.nD Cert.AttPrepSRefIdeal.τ).loc Cert.AttPrepSRefIdeal.main_arg1) = m ((c.tc : Thread Cert.AttPrepSRefIdeal.nD Cert.AttPrepSRefIdeal.τ).loc Cert.AttPrepSRefIdeal.main_arg1)
      ∧ r.2.mem ((c.tc : Thread Cert.AttPrepSRefIdeal.nD Cert.AttPrepSRefIdeal.τ).loc Cert.AttPrepSRefIdeal.main_arg2) = m ((c.tc : Thread Cert.AttPrepSRefIdeal.nD Cert.AttPrepSRefIdeal.τ).loc Cert.AttPrepSRefIdeal.main_arg2))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10))
      ∧ r.2.sem = fun _ => 0)

def preserves_Kernel_KernelIdeal : Prop :=
  True

def algebraic_KernelIdeal_ReferenceIdeal_pre_gdn_finite [hKernelIdeal : Cert.KernelIdeal.Facts] [hReferenceIdeal : Cert.ReferenceIdeal.Facts] [hPre_gdn_finite : Cert.Pre_gdn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gdn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v9_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)) (v1 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_v4) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v11)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v11) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v46) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_AttPrep_AttPrepIdeal : Prop :=
  True

def algebraic_AttPrepIdeal_AttPrepRefIdeal [hAttPrepIdeal : Cert.AttPrepIdeal.Facts] [hAttPrepRefIdeal : Cert.AttPrepRefIdeal.Facts] : Prop :=
  ∀ (m : (ℓ : Loc Cert.AttPrepIdeal.nD Cert.AttPrepIdeal.τ Cert.AttPrepIdeal.sig) → Buf (Elt Ideal) ℓ) (g : Dev Cert.AttPrepIdeal.nD → PrngReg)
    (m' : (ℓ : Loc Cert.AttPrepRefIdeal.nD Cert.AttPrepRefIdeal.τ Cert.AttPrepRefIdeal.sig) → Buf (Elt Ideal) ℓ) (g' : Dev Cert.AttPrepRefIdeal.nD → PrngReg), Pre_AttPrepIdeal m →
    (∀ c : Dev Cert.AttPrepIdeal.nD,
      m' ((c.tc : Thread Cert.AttPrepRefIdeal.nD Cert.AttPrepRefIdeal.τ).loc Cert.AttPrepRefIdeal.main_arg0) = m ((c.tc : Thread Cert.AttPrepIdeal.nD Cert.AttPrepIdeal.τ).loc Cert.AttPrepIdeal.main_arg0)
      ∧ m' ((c.tc : Thread Cert.AttPrepRefIdeal.nD Cert.AttPrepRefIdeal.τ).loc Cert.AttPrepRefIdeal.main_arg1) = m ((c.tc : Thread Cert.AttPrepIdeal.nD Cert.AttPrepIdeal.τ).loc Cert.AttPrepIdeal.main_arg1)
      ∧ m' ((c.tc : Thread Cert.AttPrepRefIdeal.nD Cert.AttPrepRefIdeal.τ).loc Cert.AttPrepRefIdeal.main_arg2) = m ((c.tc : Thread Cert.AttPrepIdeal.nD Cert.AttPrepIdeal.τ).loc Cert.AttPrepIdeal.main_arg2)) →
    ∃ (v0 : (c : Dev Cert.AttPrepIdeal.nD) → Buf (Elt Ideal) ((c.tc : Thread Cert.AttPrepIdeal.nD Cert.AttPrepIdeal.τ).loc Cert.AttPrepIdeal.main_v22_1)) (v1 : (c : Dev Cert.AttPrepIdeal.nD) → Buf (Elt Ideal) ((c.tc : Thread Cert.AttPrepIdeal.nD Cert.AttPrepIdeal.τ).loc Cert.AttPrepIdeal.main_v22_2)) (v2 : (c : Dev Cert.AttPrepIdeal.nD) → Buf (Elt Ideal) ((c.tc : Thread Cert.AttPrepIdeal.nD Cert.AttPrepIdeal.τ).loc Cert.AttPrepIdeal.main_v22_5)) (v3 : (c : Dev Cert.AttPrepIdeal.nD) → Buf (Elt Ideal) ((c.tc : Thread Cert.AttPrepIdeal.nD Cert.AttPrepIdeal.τ).loc Cert.AttPrepIdeal.main_v22_6)),
      θ_run (Cert.AttPrepIdeal.defs (F := Ideal)) (onTc (τ := Cert.AttPrepIdeal.τ) (Cert.AttPrepIdeal.main (F := Ideal))) ⟨m, fun _ => 0, g⟩ (fun r => ∀ c : Dev Cert.AttPrepIdeal.nD,
          r.2.mem ((c.tc : Thread Cert.AttPrepIdeal.nD Cert.AttPrepIdeal.τ).loc Cert.AttPrepIdeal.main_v22_1) = v0 c
          ∧ r.2.mem ((c.tc : Thread Cert.AttPrepIdeal.nD Cert.AttPrepIdeal.τ).loc Cert.AttPrepIdeal.main_v22_2) = v1 c
          ∧ r.2.mem ((c.tc : Thread Cert.AttPrepIdeal.nD Cert.AttPrepIdeal.τ).loc Cert.AttPrepIdeal.main_v22_5) = v2 c
          ∧ r.2.mem ((c.tc : Thread Cert.AttPrepIdeal.nD Cert.AttPrepIdeal.τ).loc Cert.AttPrepIdeal.main_v22_6) = v3 c
          ∧ r.2.mem ((c.tc : Thread Cert.AttPrepIdeal.nD Cert.AttPrepIdeal.τ).loc Cert.AttPrepIdeal.main_arg0) = m ((c.tc : Thread Cert.AttPrepIdeal.nD Cert.AttPrepIdeal.τ).loc Cert.AttPrepIdeal.main_arg0)
          ∧ r.2.mem ((c.tc : Thread Cert.AttPrepIdeal.nD Cert.AttPrepIdeal.τ).loc Cert.AttPrepIdeal.main_arg1) = m ((c.tc : Thread Cert.AttPrepIdeal.nD Cert.AttPrepIdeal.τ).loc Cert.AttPrepIdeal.main_arg1)
          ∧ r.2.mem ((c.tc : Thread Cert.AttPrepIdeal.nD Cert.AttPrepIdeal.τ).loc Cert.AttPrepIdeal.main_arg2) = m ((c.tc : Thread Cert.AttPrepIdeal.nD Cert.AttPrepIdeal.τ).loc Cert.AttPrepIdeal.main_arg2))
      ∧ θ_run (Cert.AttPrepRefIdeal.defs (F := Ideal)) (onTc (τ := Cert.AttPrepRefIdeal.τ) (Cert.AttPrepRefIdeal.main (F := Ideal))) ⟨m', fun _ => 0, g'⟩ (fun r => ∀ c : Dev Cert.AttPrepRefIdeal.nD,
          r.2.mem ((c.tc : Thread Cert.AttPrepRefIdeal.nD Cert.AttPrepRefIdeal.τ).loc Cert.AttPrepRefIdeal.main_v130) = v0 c
          ∧ r.2.mem ((c.tc : Thread Cert.AttPrepRefIdeal.nD Cert.AttPrepRefIdeal.τ).loc Cert.AttPrepRefIdeal.main_v131) = v1 c
          ∧ r.2.mem ((c.tc : Thread Cert.AttPrepRefIdeal.nD Cert.AttPrepRefIdeal.τ).loc Cert.AttPrepRefIdeal.main_v133) = v2 c
          ∧ r.2.mem ((c.tc : Thread Cert.AttPrepRefIdeal.nD Cert.AttPrepRefIdeal.τ).loc Cert.AttPrepRefIdeal.main_v129) = v3 c
          ∧ r.2.mem ((c.tc : Thread Cert.AttPrepRefIdeal.nD Cert.AttPrepRefIdeal.τ).loc Cert.AttPrepRefIdeal.main_arg0) = m' ((c.tc : Thread Cert.AttPrepRefIdeal.nD Cert.AttPrepRefIdeal.τ).loc Cert.AttPrepRefIdeal.main_arg0)
          ∧ r.2.mem ((c.tc : Thread Cert.AttPrepRefIdeal.nD Cert.AttPrepRefIdeal.τ).loc Cert.AttPrepRefIdeal.main_arg1) = m' ((c.tc : Thread Cert.AttPrepRefIdeal.nD Cert.AttPrepRefIdeal.τ).loc Cert.AttPrepRefIdeal.main_arg1)
          ∧ r.2.mem ((c.tc : Thread Cert.AttPrepRefIdeal.nD Cert.AttPrepRefIdeal.τ).loc Cert.AttPrepRefIdeal.main_arg2) = m' ((c.tc : Thread Cert.AttPrepRefIdeal.nD Cert.AttPrepRefIdeal.τ).loc Cert.AttPrepRefIdeal.main_arg2))

def preserves_Step_StepIdeal : Prop :=
  True

def algebraic_StepIdeal_StepRefIdeal_pre_step_finite [hStepIdeal : Cert.StepIdeal.Facts] [hStepRefIdeal : Cert.StepRefIdeal.Facts] [hPre_step_finite : Cert.Pre_step_finite.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_step_finite m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v1_0)) (v1 : (c : Dev Cert.StepIdeal.nD) → Buf (Elt Ideal) ((c.tc : Thread Cert.StepIdeal.nD Cert.StepIdeal.τ).loc Cert.StepIdeal.main_v1_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v1_0) = v0 c
          ∧ r.2.mem ((c.tc : Thread Cert.StepIdeal.nD Cert.StepIdeal.τ).loc Cert.StepIdeal.main_v1_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v38) = v0 c
          ∧ r.2.mem ((c.tc : Thread Cert.StepRefIdeal.nD Cert.StepRefIdeal.τ).loc Cert.StepRefIdeal.main_v19) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def preserves_PrepS_PrepSIdeal : Prop :=
  True

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)
      ∧ m' ((c.tc : Thread Cert.PrepSRefIdeal.nD Cert.PrepSRefIdeal.τ).loc Cert.PrepSRefIdeal.main_arg4) = m ((c.tc : Thread Cert.PrepSIdeal.nD Cert.PrepSIdeal.τ).loc Cert.PrepSIdeal.main_arg4)) →
    ∃ (v0 : (c : Dev Cert.PrepSIdeal.nD) → Buf (Elt Ideal) ((c.tc : Thread Cert.PrepSIdeal.nD Cert.PrepSIdeal.τ).loc Cert.PrepSIdeal.main_v16_0)) (v1 : (c : Dev Cert.PrepSIdeal.nD) → Buf (Elt Ideal) ((c.tc : Thread Cert.PrepSIdeal.nD Cert.PrepSIdeal.τ).loc Cert.PrepSIdeal.main_v16_1)) (v2 : (c : Dev Cert.PrepSIdeal.nD) → Buf (Elt Ideal) ((c.tc : Thread Cert.PrepSIdeal.nD Cert.PrepSIdeal.τ).loc Cert.PrepSIdeal.main_v16_2)) (v3 : (c : Dev Cert.PrepSIdeal.nD) → Buf (Elt Ideal) ((c.tc : Thread Cert.PrepSIdeal.nD Cert.PrepSIdeal.τ).loc Cert.PrepSIdeal.main_v16_3)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v16_0) = v0 c
          ∧ r.2.mem ((c.tc : Thread Cert.PrepSIdeal.nD Cert.PrepSIdeal.τ).loc Cert.PrepSIdeal.main_v16_1) = v1 c
          ∧ r.2.mem ((c.tc : Thread Cert.PrepSIdeal.nD Cert.PrepSIdeal.τ).loc Cert.PrepSIdeal.main_v16_2) = v2 c
          ∧ r.2.mem ((c.tc : Thread Cert.PrepSIdeal.nD Cert.PrepSIdeal.τ).loc Cert.PrepSIdeal.main_v16_3) = v3 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
          ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v75) = v0 c
          ∧ r.2.mem ((c.tc : Thread Cert.PrepSRefIdeal.nD Cert.PrepSRefIdeal.τ).loc Cert.PrepSRefIdeal.main_v76) = v1 c
          ∧ r.2.mem ((c.tc : Thread Cert.PrepSRefIdeal.nD Cert.PrepSRefIdeal.τ).loc Cert.PrepSRefIdeal.main_v77) = v2 c
          ∧ r.2.mem ((c.tc : Thread Cert.PrepSRefIdeal.nD Cert.PrepSRefIdeal.τ).loc Cert.PrepSRefIdeal.main_v79) = v3 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3)
          ∧ r.2.mem ((c.tc : Thread Cert.PrepSRefIdeal.nD Cert.PrepSRefIdeal.τ).loc Cert.PrepSRefIdeal.main_arg4) = m' ((c.tc : Thread Cert.PrepSRefIdeal.nD Cert.PrepSRefIdeal.τ).loc Cert.PrepSRefIdeal.main_arg4))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)
      ∧ m' ((c.tc : Thread Cert.InProjSRefIdeal.nD Cert.InProjSRefIdeal.τ).loc Cert.InProjSRefIdeal.main_arg3) = m ((c.tc : Thread Cert.InProjSIdeal.nD Cert.InProjSIdeal.τ).loc Cert.InProjSIdeal.main_arg3)) →
    ∃ (v0 : (c : Dev Cert.InProjSIdeal.nD) → Buf (Elt Ideal) ((c.tc : Thread Cert.InProjSIdeal.nD Cert.InProjSIdeal.τ).loc Cert.InProjSIdeal.main_v2)) (v1 : (c : Dev Cert.InProjSIdeal.nD) → Buf (Elt Ideal) ((c.tc : Thread Cert.InProjSIdeal.nD Cert.InProjSIdeal.τ).loc Cert.InProjSIdeal.main_v6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v2) = v0 c
          ∧ r.2.mem ((c.tc : Thread Cert.InProjSIdeal.nD Cert.InProjSIdeal.τ).loc Cert.InProjSIdeal.main_v6) = v1 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v17) = v0 c
          ∧ r.2.mem ((c.tc : Thread Cert.InProjSRefIdeal.nD Cert.InProjSRefIdeal.τ).loc Cert.InProjSRefIdeal.main_v18) = v1 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2)
          ∧ r.2.mem ((c.tc : Thread Cert.InProjSRefIdeal.nD Cert.InProjSRefIdeal.τ).loc Cert.InProjSRefIdeal.main_arg3) = m' ((c.tc : Thread Cert.InProjSRefIdeal.nD Cert.InProjSRefIdeal.τ).loc Cert.InProjSRefIdeal.main_arg3))

def preserves_AttPrepS_AttPrepSIdeal : Prop :=
  True

def algebraic_AttPrepSIdeal_AttPrepSRefIdeal [hAttPrepSIdeal : Cert.AttPrepSIdeal.Facts] [hAttPrepSRefIdeal : Cert.AttPrepSRefIdeal.Facts] : Prop :=
  ∀ (m : (ℓ : Loc Cert.AttPrepSIdeal.nD Cert.AttPrepSIdeal.τ Cert.AttPrepSIdeal.sig) → Buf (Elt Ideal) ℓ) (g : Dev Cert.AttPrepSIdeal.nD → PrngReg)
    (m' : (ℓ : Loc Cert.AttPrepSRefIdeal.nD Cert.AttPrepSRefIdeal.τ Cert.AttPrepSRefIdeal.sig) → Buf (Elt Ideal) ℓ) (g' : Dev Cert.AttPrepSRefIdeal.nD → PrngReg), Pre_AttPrepSIdeal m →
    (∀ c : Dev Cert.AttPrepSIdeal.nD,
      m' ((c.tc : Thread Cert.AttPrepSRefIdeal.nD Cert.AttPrepSRefIdeal.τ).loc Cert.AttPrepSRefIdeal.main_arg0) = m ((c.tc : Thread Cert.AttPrepSIdeal.nD Cert.AttPrepSIdeal.τ).loc Cert.AttPrepSIdeal.main_arg0)
      ∧ m' ((c.tc : Thread Cert.AttPrepSRefIdeal.nD Cert.AttPrepSRefIdeal.τ).loc Cert.AttPrepSRefIdeal.main_arg1) = m ((c.tc : Thread Cert.AttPrepSIdeal.nD Cert.AttPrepSIdeal.τ).loc Cert.AttPrepSIdeal.main_arg1)
      ∧ m' ((c.tc : Thread Cert.AttPrepSRefIdeal.nD Cert.AttPrepSRefIdeal.τ).loc Cert.AttPrepSRefIdeal.main_arg2) = m ((c.tc : Thread Cert.AttPrepSIdeal.nD Cert.AttPrepSIdeal.τ).loc Cert.AttPrepSIdeal.main_arg2)) →
    ∃ (v0 : (c : Dev Cert.AttPrepSIdeal.nD) → Buf (Elt Ideal) ((c.tc : Thread Cert.AttPrepSIdeal.nD Cert.AttPrepSIdeal.τ).loc Cert.AttPrepSIdeal.main_v23_1)) (v1 : (c : Dev Cert.AttPrepSIdeal.nD) → Buf (Elt Ideal) ((c.tc : Thread Cert.AttPrepSIdeal.nD Cert.AttPrepSIdeal.τ).loc Cert.AttPrepSIdeal.main_v23_2)) (v2 : (c : Dev Cert.AttPrepSIdeal.nD) → Buf (Elt Ideal) ((c.tc : Thread Cert.AttPrepSIdeal.nD Cert.AttPrepSIdeal.τ).loc Cert.AttPrepSIdeal.main_v23_3)) (v3 : (c : Dev Cert.AttPrepSIdeal.nD) → Buf (Elt Ideal) ((c.tc : Thread Cert.AttPrepSIdeal.nD Cert.AttPrepSIdeal.τ).loc Cert.AttPrepSIdeal.main_v23_4)),
      θ_run (Cert.AttPrepSIdeal.defs (F := Ideal)) (onTc (τ := Cert.AttPrepSIdeal.τ) (Cert.AttPrepSIdeal.main (F := Ideal))) ⟨m, fun _ => 0, g⟩ (fun r => ∀ c : Dev Cert.AttPrepSIdeal.nD,
          r.2.mem ((c.tc : Thread Cert.AttPrepSIdeal.nD Cert.AttPrepSIdeal.τ).loc Cert.AttPrepSIdeal.main_v23_1) = v0 c
          ∧ r.2.mem ((c.tc : Thread Cert.AttPrepSIdeal.nD Cert.AttPrepSIdeal.τ).loc Cert.AttPrepSIdeal.main_v23_2) = v1 c
          ∧ r.2.mem ((c.tc : Thread Cert.AttPrepSIdeal.nD Cert.AttPrepSIdeal.τ).loc Cert.AttPrepSIdeal.main_v23_3) = v2 c
          ∧ r.2.mem ((c.tc : Thread Cert.AttPrepSIdeal.nD Cert.AttPrepSIdeal.τ).loc Cert.AttPrepSIdeal.main_v23_4) = v3 c
          ∧ r.2.mem ((c.tc : Thread Cert.AttPrepSIdeal.nD Cert.AttPrepSIdeal.τ).loc Cert.AttPrepSIdeal.main_arg0) = m ((c.tc : Thread Cert.AttPrepSIdeal.nD Cert.AttPrepSIdeal.τ).loc Cert.AttPrepSIdeal.main_arg0)
          ∧ r.2.mem ((c.tc : Thread Cert.AttPrepSIdeal.nD Cert.AttPrepSIdeal.τ).loc Cert.AttPrepSIdeal.main_arg1) = m ((c.tc : Thread Cert.AttPrepSIdeal.nD Cert.AttPrepSIdeal.τ).loc Cert.AttPrepSIdeal.main_arg1)
          ∧ r.2.mem ((c.tc : Thread Cert.AttPrepSIdeal.nD Cert.AttPrepSIdeal.τ).loc Cert.AttPrepSIdeal.main_arg2) = m ((c.tc : Thread Cert.AttPrepSIdeal.nD Cert.AttPrepSIdeal.τ).loc Cert.AttPrepSIdeal.main_arg2))
      ∧ θ_run (Cert.AttPrepSRefIdeal.defs (F := Ideal)) (onTc (τ := Cert.AttPrepSRefIdeal.τ) (Cert.AttPrepSRefIdeal.main (F := Ideal))) ⟨m', fun _ => 0, g'⟩ (fun r => ∀ c : Dev Cert.AttPrepSRefIdeal.nD,
          r.2.mem ((c.tc : Thread Cert.AttPrepSRefIdeal.nD Cert.AttPrepSRefIdeal.τ).loc Cert.AttPrepSRefIdeal.main_v134) = v0 c
          ∧ r.2.mem ((c.tc : Thread Cert.AttPrepSRefIdeal.nD Cert.AttPrepSRefIdeal.τ).loc Cert.AttPrepSRefIdeal.main_v135) = v1 c
          ∧ r.2.mem ((c.tc : Thread Cert.AttPrepSRefIdeal.nD Cert.AttPrepSRefIdeal.τ).loc Cert.AttPrepSRefIdeal.main_v136) = v2 c
          ∧ r.2.mem ((c.tc : Thread Cert.AttPrepSRefIdeal.nD Cert.AttPrepSRefIdeal.τ).loc Cert.AttPrepSRefIdeal.main_v137) = v3 c
          ∧ r.2.mem ((c.tc : Thread Cert.AttPrepSRefIdeal.nD Cert.AttPrepSRefIdeal.τ).loc Cert.AttPrepSRefIdeal.main_arg0) = m' ((c.tc : Thread Cert.AttPrepSRefIdeal.nD Cert.AttPrepSRefIdeal.τ).loc Cert.AttPrepSRefIdeal.main_arg0)
          ∧ r.2.mem ((c.tc : Thread Cert.AttPrepSRefIdeal.nD Cert.AttPrepSRefIdeal.τ).loc Cert.AttPrepSRefIdeal.main_arg1) = m' ((c.tc : Thread Cert.AttPrepSRefIdeal.nD Cert.AttPrepSRefIdeal.τ).loc Cert.AttPrepSRefIdeal.main_arg1)
          ∧ r.2.mem ((c.tc : Thread Cert.AttPrepSRefIdeal.nD Cert.AttPrepSRefIdeal.τ).loc Cert.AttPrepSRefIdeal.main_arg2) = m' ((c.tc : Thread Cert.AttPrepSRefIdeal.nD Cert.AttPrepSRefIdeal.τ).loc Cert.AttPrepSRefIdeal.main_arg2))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)) →
    ∃ (v0 : (c : Dev Cert.TailSIdeal.nD) → Buf (Elt Ideal) ((c.tc : Thread Cert.TailSIdeal.nD Cert.TailSIdeal.τ).loc Cert.TailSIdeal.main_v11)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v11) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v45) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hTail : Cert.Tail.Facts) (hTailIdeal : Cert.TailIdeal.Facts) (hTailRefIdeal : Cert.TailRefIdeal.Facts) (hAttPrep : Cert.AttPrep.Facts) (hAttPrepIdeal : Cert.AttPrepIdeal.Facts) (hAttPrepRefIdeal : Cert.AttPrepRefIdeal.Facts) (hStep : Cert.Step.Facts) (hStepIdeal : Cert.StepIdeal.Facts) (hStepRefIdeal : Cert.StepRefIdeal.Facts) (hPrepS : Cert.PrepS.Facts) (hPrepSIdeal : Cert.PrepSIdeal.Facts) (hPrepSRefIdeal : Cert.PrepSRefIdeal.Facts) (hInProjS : Cert.InProjS.Facts) (hInProjSIdeal : Cert.InProjSIdeal.Facts) (hInProjSRefIdeal : Cert.InProjSRefIdeal.Facts) (hAttPrepS : Cert.AttPrepS.Facts) (hAttPrepSIdeal : Cert.AttPrepSIdeal.Facts) (hAttPrepSRefIdeal : Cert.AttPrepSRefIdeal.Facts) (hTailS : Cert.TailS.Facts) (hTailSIdeal : Cert.TailSIdeal.Facts) (hTailSRefIdeal : Cert.TailSRefIdeal.Facts) (hPre_gdn_finite : Cert.Pre_gdn_finite.Facts) (hPre_step_finite : Cert.Pre_step_finite.Facts),
    quiescent_Kernel (hKernel := hKernel)
    ∧ quiescent_KernelIdeal (hKernelIdeal := hKernelIdeal)
    ∧ quiescent_KernelIdeal_pre_gdn_finite (hKernelIdeal := hKernelIdeal) (hPre_gdn_finite := hPre_gdn_finite)
    ∧ quiescent_ReferenceIdeal (hReferenceIdeal := hReferenceIdeal)
    ∧ quiescent_ReferenceIdeal_pre_gdn_finite (hReferenceIdeal := hReferenceIdeal) (hPre_gdn_finite := hPre_gdn_finite)
    ∧ quiescent_InProj (hInProj := hInProj)
    ∧ quiescent_InProjIdeal (hInProjIdeal := hInProjIdeal)
    ∧ quiescent_InProjRefIdeal (hInProjRefIdeal := hInProjRefIdeal)
    ∧ quiescent_Tail (hTail := hTail)
    ∧ quiescent_TailIdeal (hTailIdeal := hTailIdeal)
    ∧ quiescent_TailRefIdeal (hTailRefIdeal := hTailRefIdeal)
    ∧ quiescent_AttPrep (hAttPrep := hAttPrep)
    ∧ quiescent_AttPrepIdeal (hAttPrepIdeal := hAttPrepIdeal)
    ∧ quiescent_AttPrepRefIdeal (hAttPrepRefIdeal := hAttPrepRefIdeal)
    ∧ quiescent_Step (hStep := hStep)
    ∧ quiescent_StepIdeal (hStepIdeal := hStepIdeal)
    ∧ quiescent_StepIdeal_pre_step_finite (hStepIdeal := hStepIdeal) (hPre_step_finite := hPre_step_finite)
    ∧ quiescent_StepRefIdeal (hStepRefIdeal := hStepRefIdeal)
    ∧ quiescent_StepRefIdeal_pre_step_finite (hStepRefIdeal := hStepRefIdeal) (hPre_step_finite := hPre_step_finite)
    ∧ quiescent_PrepS (hPrepS := hPrepS)
    ∧ quiescent_PrepSIdeal (hPrepSIdeal := hPrepSIdeal)
    ∧ quiescent_PrepSRefIdeal (hPrepSRefIdeal := hPrepSRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_AttPrepS (hAttPrepS := hAttPrepS)
    ∧ quiescent_AttPrepSIdeal (hAttPrepSIdeal := hAttPrepSIdeal)
    ∧ quiescent_AttPrepSRefIdeal (hAttPrepSRefIdeal := hAttPrepSRefIdeal)
    ∧ quiescent_TailS (hTailS := hTailS)
    ∧ quiescent_TailSIdeal (hTailSIdeal := hTailSIdeal)
    ∧ quiescent_TailSRefIdeal (hTailSRefIdeal := hTailSRefIdeal)
    ∧ preserves_Kernel_KernelIdeal
    ∧ algebraic_KernelIdeal_ReferenceIdeal_pre_gdn_finite (hKernelIdeal := hKernelIdeal) (hReferenceIdeal := hReferenceIdeal) (hPre_gdn_finite := hPre_gdn_finite)
    ∧ preserves_InProj_InProjIdeal
    ∧ algebraic_InProjIdeal_InProjRefIdeal (hInProjIdeal := hInProjIdeal) (hInProjRefIdeal := hInProjRefIdeal)
    ∧ preserves_Tail_TailIdeal
    ∧ algebraic_TailIdeal_TailRefIdeal (hTailIdeal := hTailIdeal) (hTailRefIdeal := hTailRefIdeal)
    ∧ preserves_AttPrep_AttPrepIdeal
    ∧ algebraic_AttPrepIdeal_AttPrepRefIdeal (hAttPrepIdeal := hAttPrepIdeal) (hAttPrepRefIdeal := hAttPrepRefIdeal)
    ∧ preserves_Step_StepIdeal
    ∧ algebraic_StepIdeal_StepRefIdeal_pre_step_finite (hStepIdeal := hStepIdeal) (hStepRefIdeal := hStepRefIdeal) (hPre_step_finite := hPre_step_finite)
    ∧ preserves_PrepS_PrepSIdeal
    ∧ algebraic_PrepSIdeal_PrepSRefIdeal (hPrepSIdeal := hPrepSIdeal) (hPrepSRefIdeal := hPrepSRefIdeal)
    ∧ preserves_InProjS_InProjSIdeal
    ∧ algebraic_InProjSIdeal_InProjSRefIdeal (hInProjSIdeal := hInProjSIdeal) (hInProjSRefIdeal := hInProjSRefIdeal)
    ∧ preserves_AttPrepS_AttPrepSIdeal
    ∧ algebraic_AttPrepSIdeal_AttPrepSRefIdeal (hAttPrepSIdeal := hAttPrepSIdeal) (hAttPrepSRefIdeal := hAttPrepSRefIdeal)
    ∧ preserves_TailS_TailSIdeal
    ∧ algebraic_TailSIdeal_TailSRefIdeal (hTailSIdeal := hTailSIdeal) (hTailSRefIdeal := hTailSRefIdeal)
-- ==== Pre_gdn_finite.lean ====
abbrev S2x4096x1024 : Shape := ⟨3, ![2, 4096, 1024]⟩
abbrev S2x4096x14592 : Shape := ⟨3, ![2, 4096, 14592]⟩
abbrev S2x4096x8 : Shape := ⟨3, ![2, 4096, 8]⟩
abbrev S2x8x128x128 : Shape := ⟨4, ![2, 8, 128, 128]⟩
abbrev S1x128 : Shape := ⟨2, ![1, 128]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_

variable [Facts]

def fn_part1 {F : FTy → Type} [FloatOps F] (main_arg5 : FVec F S2x4096x8 .f32) (main_arg6 : FVec F S2x8x128x128 .f32) (main_v13 : IVec S_ 1) (main_v16 : IVec S2x4096x8 1) : IVec S_ 1 :=
  let main_c_5 : IVec S_ 1 := constantI S_ 1 1#1
  let main_v17 : IVec S_ 1 := (fun x v => Host.reduce IntOp.andi x v reducesTo_S2x4096x8_S_d0_1_2 h_S_) main_v16 main_c_5
  let main_v18 : IVec S_ 1 := andi main_v13 main_v17
  let main_v19 : FVec F S2x4096x8 .f32 := Host.absf main_arg5
  let main_cst_6 : FVec F S_ .f32 := constant S_ .f32 0x7F800000#32
  let main_v20 : FVec F S2x4096x8 .f32 := broadcastInDim S2x4096x8 ![] bcast_S_S2x4096x8 main_cst_6
  let main_v21 : IVec S2x4096x8 1 := cmpf .olt main_v19 main_v20
  let main_c_7 : IVec S_ 1 := constantI S_ 1 1#1
  let main_v22 : IVec S_ 1 := (fun x v => Host.reduce IntOp.andi x v reducesTo_S2x4096x8_S_d0_1_2 h_S_) main_v21 main_c_7
  let main_v23 : IVec S_ 1 := andi main_v18 main_v22
  let main_v24 : FVec F S2x8x128x128 .f32 := Host.absf main_arg6
  let main_cst_8 : FVec F S_ .f32 := constant S_ .f32 0x7F800000#32
  let main_v25 : FVec F S2x8x128x128 .f32 := broadcastInDim S2x8x128x128 ![] bcast_S_S2x8x128x128 main_cst_8
  let main_v26 : IVec S2x8x128x128 1 := cmpf .olt main_v24 main_v25
  let main_c_9 : IVec S_ 1 := constantI S_ 1 1#1
  let main_v27 : IVec S_ 1 := (fun x v => Host.reduce IntOp.andi x v reducesTo_S2x8x128x128_S_d0_1_2_3 h_S_) main_v26 main_c_9
  let main_v28 : IVec S_ 1 := andi main_v23 main_v27
  main_v28

def fn {F : FTy → Type} [FloatOps F] (main_arg0 : FVec F S2x4096x1024 .f32) (main_arg1 : FVec F S2x4096x1024 .f32) (main_arg2 : FVec F S2x4096x1024 .f32) (main_arg3 : FVec F S2x4096x14592 .f32) (main_arg4 : FVec F S2x4096x8 .f32) (main_arg5 : FVec F S2x4096x8 .f32) (main_arg6 : FVec F S2x8x128x128 .f32) (main_arg7 : FVec F S1x128 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S2x4096x8 .f32 := Host.absf main_arg4
  let main_cst_4 : FVec F S_ .f32 := constant S_ .f32 0x7F800000#32
  let main_v15 : FVec F S2x4096x8 .f32 := broadcastInDim S2x4096x8 ![] bcast_S_S2x4096x8 main_cst_4
  let main_v16 : IVec S2x4096x8 1 := cmpf .olt main_v14 main_v15
  fn_part1 (F := F) main_arg5 main_arg6 main_v13 main_v16
-- ==== Pre_step_finite.lean ====
abbrev S32x1024 : Shape := ⟨2, ![32, 1024]⟩
abbrev S32x14592 : Shape := ⟨2, ![32, 14592]⟩
abbrev S32x128 : Shape := ⟨2, ![32, 128]⟩
abbrev S32x8x128x128 : Shape := ⟨4, ![32, 8, 128, 128]⟩
abbrev S128 : Shape := ⟨1, ![128]⟩
abbrev S_ : Shape := ⟨0, ![]⟩
abbrev S32x16 : Shape := ⟨2, ![32, 16]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  slices_S32x128_S32x16_0_0 : S32x128.Slices ![0, 0] S32x16
  bcast_S_S32x16 : S_.BroadcastsInDim S32x16 (![] : Fin 0 → Fin S32x16.rank)
  reducesTo_S32x16_S_d0_1 : S32x16.ReducesTo [0, 1] S_
  bcast_S_S32x8x128x128 : S_.BroadcastsInDim S32x8x128x128 (![] : Fin 0 → Fin S32x8x128x128.rank)
  reducesTo_S32x8x128x128_S_d0_1_2_3 : S32x8x128x128.ReducesTo [0, 1, 2, 3] S_

variable [Facts]

def fn_part1 {F : FTy → Type} [FloatOps F] (main_arg5 : FVec F S32x8x128x128 .f32) (main_v13 : IVec S_ 1) (main_v15 : FVec F S32x16 .f32) (main_v16 : FVec F S32x16 .f32) : IVec S_ 1 :=
  let main_v17 : IVec S32x16 1 := cmpf .olt main_v15 main_v16
  let main_c_5 : IVec S_ 1 := constantI S_ 1 1#1
  let main_v18 : IVec S_ 1 := (fun x v => Host.reduce IntOp.andi x v reducesTo_S32x16_S_d0_1 h_S_) main_v17 main_c_5
  let main_v19 : IVec S_ 1 := andi main_v13 main_v18
  let main_v20 : FVec F S32x8x128x128 .f32 := Host.absf main_arg5
  let main_cst_6 : FVec F S_ .f32 := constant S_ .f32 0x7F800000#32
  let main_v21 : FVec F S32x8x128x128 .f32 := broadcastInDim S32x8x128x128 ![] bcast_S_S32x8x128x128 main_cst_6
  let main_v22 : IVec S32x8x128x128 1 := cmpf .olt main_v20 main_v21
  let main_c_7 : IVec S_ 1 := constantI S_ 1 1#1
  let main_v23 : IVec S_ 1 := (fun x v => Host.reduce IntOp.andi x v reducesTo_S32x8x128x128_S_d0_1_2_3 h_S_) main_v22 main_c_7
  let main_v24 : IVec S_ 1 := andi main_v19 main_v23
  main_v24

def fn {F : FTy → Type} [FloatOps F] (main_arg0 : FVec F S32x1024 .f32) (main_arg1 : FVec F S32x1024 .f32) (main_arg2 : FVec F S32x1024 .f32) (main_arg3 : FVec F S32x14592 .f32) (main_arg4 : FVec F S32x128 .f32) (main_arg5 : FVec F S32x8x128x128 .f32) (main_arg6 : FVec F S128 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x16 .f32 := (extractStridedSlice S32x16 ![0, 0] · slices_S32x128_S32x16_0_0) main_arg4
  let main_v15 : FVec F S32x16 .f32 := Host.absf main_v14
  let main_cst_4 : FVec F S_ .f32 := constant S_ .f32 0x7F800000#32
  let main_v16 : FVec F S32x16 .f32 := broadcastInDim S32x16 ![] bcast_S_S32x16 main_cst_4
  fn_part1 (F := F) main_arg5 main_v13 main_v15 main_v16
-- ==== Kernel.lean ====
abbrev S2x4096x1024 : Shape := ⟨3, ![2, 4096, 1024]⟩
abbrev S2x4096x14592 : Shape := ⟨3, ![2, 4096, 14592]⟩
abbrev S2x4096x8 : Shape := ⟨3, ![2, 4096, 8]⟩
abbrev S2x8x128x128 : Shape := ⟨4, ![2, 8, 128, 128]⟩
abbrev S1x128 : Shape := ⟨2, ![1, 128]⟩
abbrev S2x64x64x8 : Shape := ⟨4, ![2, 64, 64, 8]⟩
abbrev S_ : Shape := ⟨0, ![]⟩
abbrev S2x8x4096 : Shape := ⟨3, ![2, 8, 4096]⟩
abbrev S2x8x64x1x64 : Shape := ⟨5, ![2, 8, 64, 1, 64]⟩
abbrev S2x4096x8x1 : Shape := ⟨4, ![2, 4096, 8, 1]⟩
abbrev S2x4096x8x128 : Shape := ⟨4, ![2, 4096, 8, 128]⟩
abbrev S1x512x1024 : Shape := ⟨3, ![1, 512, 1024]⟩
abbrev S1x8x8x1x64 : Shape := ⟨5, ![1, 8, 8, 1, 64]⟩
abbrev S1x8x128x128 : Shape := ⟨4, ![1, 8, 128, 128]⟩
abbrev S8x128x128 : Shape := ⟨3, ![8, 128, 128]⟩
abbrev S1x64x64 : Shape := ⟨3, ![1, 64, 64]⟩
abbrev S1x512x128 : Shape := ⟨3, ![1, 512, 128]⟩
abbrev S512x128 : Shape := ⟨2, ![512, 128]⟩
abbrev S8x64x128 : Shape := ⟨3, ![8, 64, 128]⟩
abbrev S64x64x128 : Shape := ⟨3, ![64, 64, 128]⟩
abbrev S8x8x1x64 : Shape := ⟨4, ![8, 8, 1, 64]⟩
abbrev S64x1x64 : Shape := ⟨3, ![64, 1, 64]⟩
abbrev S64x1x1 : Shape := ⟨3, ![64, 1, 1]⟩
abbrev S64x64x64 : Shape := ⟨3, ![64, 64, 64]⟩
abbrev S8x8x64x128 : Shape := ⟨4, ![8, 8, 64, 128]⟩
abbrev S8x8x64x64 : Shape := ⟨4, ![8, 8, 64, 64]⟩
abbrev S8x8x1x1 : Shape := ⟨4, ![8, 8, 1, 1]⟩
abbrev S8x1x64x128 : Shape := ⟨4, ![8, 1, 64, 128]⟩
abbrev S8x1x64x64 : Shape := ⟨4, ![8, 1, 64, 64]⟩
abbrev S8x64x64 : Shape := ⟨3, ![8, 64, 64]⟩
abbrev S8x1x1x1 : Shape := ⟨4, ![8, 1, 1, 1]⟩
abbrev S8x1x1 : Shape := ⟨3, ![8, 1, 1]⟩
abbrev S8x64 : Shape := ⟨2, ![8, 64]⟩
abbrev S8x64x1 : Shape := ⟨3, ![8, 64, 1]⟩
abbrev S1x1x128 : Shape := ⟨3, ![1, 1, 128]⟩
abbrev S1x64x128 : Shape := ⟨3, ![1, 64, 128]⟩
abbrev S64x128 : Shape := ⟨2, ![64, 128]⟩

abbrev nBuf : Space → Nat
  | .hbm => 23
  | .vmem => 22
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x14592, .f32⟩
  | .hbm, ⟨4, _⟩ => ⟨S2x4096x8, .f32⟩
  | .hbm, ⟨5, _⟩ => ⟨S2x4096x8, .f32⟩
  | .hbm, ⟨6, _⟩ => ⟨S2x8x128x128, .f32⟩
  | .hbm, ⟨7, _⟩ => ⟨S1x128, .f32⟩
  | .hbm, ⟨8, _⟩ => ⟨S2x64x64x8, .f32⟩
  | .hbm, ⟨9, _⟩ => ⟨S_, .f32⟩
  | .hbm, ⟨10, _⟩ => ⟨S_, .f32⟩
  | .hbm, ⟨11, _⟩ => ⟨S2x64x64x8, .f32⟩
  | .hbm, ⟨12, _⟩ => ⟨S2x4096x8, .f32⟩
  | .hbm, ⟨13, _⟩ => ⟨S2x8x4096, .f32⟩
  | .hbm, ⟨14, _⟩ => ⟨S2x8x64x1x64, .f32⟩
  | .hbm, ⟨15, _⟩ => ⟨S2x4096x8x1, .f32⟩
  | .hbm, ⟨16, _⟩ => ⟨S2x4096x8x128, .f32⟩
  | .hbm, ⟨17, _⟩ => ⟨S2x4096x1024, .f32⟩
  | .hbm, ⟨18, _⟩ => ⟨S2x4096x8x1, .f32⟩
  | .hbm, ⟨19, _⟩ => ⟨S2x4096x8x128, .f32⟩
  | .hbm, ⟨20, _⟩ => ⟨S2x4096x1024, .f32⟩
  | .hbm, ⟨21, _⟩ => ⟨S2x4096x1024, .bf16⟩
  | .hbm, ⟨22, _⟩ => ⟨S2x8x128x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x8x8x1x64, .f32⟩
  | .local _ .vmem, ⟨13, _⟩ => ⟨S1x8x8x1x64, .f32⟩
  | .local _ .vmem, ⟨14, _⟩ => ⟨S1x8x128x128, .f32⟩
  | .local _ .vmem, ⟨15, _⟩ => ⟨S1x8x128x128, .f32⟩
  | .local _ .vmem, ⟨16, _⟩ => ⟨S1x128, .f32⟩
  | .local _ .vmem, ⟨17, _⟩ => ⟨S1x512x1024, .bf16⟩
  | .local _ .vmem, ⟨18, _⟩ => ⟨S1x512x1024, .bf16⟩
  | .local _ .vmem, ⟨19, _⟩ => ⟨S1x8x128x128, .f32⟩
  | .local _ .vmem, ⟨20, _⟩ => ⟨S1x8x128x128, .f32⟩
  | .local _ .vmem, ⟨21, _⟩ => ⟨S8x128x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v1555 : BitVec 1 := Scalar.cmpi .eq arg2 c7_i32
  let v1556 : BitVec 32 := Scalar.extui v1555
  let c0_i32_769 : BitVec 32 := 0#32
  let v1557 : BitVec 1 := Scalar.cmpi .ne v1556 c0_i32_769
  v1557

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x8x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S2x4096x1024 : Shape := ⟨3, ![2, 4096, 1024]⟩
abbrev S2x4096x14592 : Shape := ⟨3, ![2, 4096, 14592]⟩
abbrev S2x4096x8 : Shape := ⟨3, ![2, 4096, 8]⟩
abbrev S2x8x128x128 : Shape := ⟨4, ![2, 8, 128, 128]⟩
abbrev S1x128 : Shape := ⟨2, ![1, 128]⟩
abbrev S2x4096x8x128 : Shape := ⟨4, ![2, 4096, 8, 128]⟩
abbrev S4096x2x8x128 : Shape := ⟨4, ![4096, 2, 8, 128]⟩
abbrev S4096x2x8 : Shape := ⟨3, ![4096, 2, 8]⟩
abbrev S_ : Shape := ⟨0, ![]⟩
abbrev S1x2x8x128 : Shape := ⟨4, ![1, 2, 8, 128]⟩
abbrev S2x8x128 : Shape := ⟨3, ![2, 8, 128]⟩
abbrev S1x2x8 : Shape := ⟨3, ![1, 2, 8]⟩
abbrev S2x8 : Shape := ⟨2, ![2, 8]⟩
abbrev S2x8x1x1 : Shape := ⟨4, ![2, 8, 1, 1]⟩
abbrev S2x8x128x1 : Shape := ⟨4, ![2, 8, 128, 1]⟩
abbrev S2x8x1 : Shape := ⟨3, ![2, 8, 1]⟩
abbrev S2x8x1x128 : Shape := ⟨4, ![2, 8, 1, 128]⟩
abbrev S2x4096x8x1 : Shape := ⟨4, ![2, 4096, 8, 1]⟩
abbrev S128 : Shape := ⟨1, ![128]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x14592, .f32⟩
  | .hbm, ⟨4, _⟩ => ⟨S2x4096x8, .f32⟩
  | .hbm, ⟨5, _⟩ => ⟨S2x4096x8, .f32⟩
  | .hbm, ⟨6, _⟩ => ⟨S2x8x128x128, .f32⟩
  | .hbm, ⟨7, _⟩ => ⟨S1x128, .f32⟩
  | .hbm, ⟨8, _⟩ => ⟨S2x4096x8x128, .f32⟩
  | .hbm, ⟨9, _⟩ => ⟨S4096x2x8x128, .f32⟩
  | .hbm, ⟨10, _⟩ => ⟨S2x4096x8x128, .f32⟩
  | .hbm, ⟨11, _⟩ => ⟨S4096x2x8x128, .f32⟩
  | .hbm, ⟨12, _⟩ => ⟨S2x4096x8x128, .f32⟩
  | .hbm, ⟨13, _⟩ => ⟨S4096x2x8x128, .f32⟩
  | .hbm, ⟨14, _⟩ => ⟨S4096x2x8, .f32⟩
  | .hbm, ⟨15, _⟩ => ⟨S4096x2x8, .f32⟩
  | .hbm, ⟨16, _⟩ => ⟨S_, .f32⟩
  | .hbm, ⟨17, _⟩ => ⟨S4096x2x8x128, .f32⟩
  | .hbm, ⟨18, _⟩ => ⟨S_, .i32⟩
  | .hbm, ⟨19, _⟩ => ⟨S4096x2x8x128, .f32⟩
  | .hbm, ⟨20, _⟩ => ⟨S4096x2x8x128, .f32⟩
  | .hbm, ⟨21, _⟩ => ⟨S4096x2x8x128, .f32⟩
  | .hbm, ⟨22, _⟩ => ⟨S4096x2x8, .f32⟩
  | .hbm, ⟨23, _⟩ => ⟨S4096x2x8, .f32⟩
  | .hbm, ⟨24, _⟩ => ⟨S_, .i32⟩
  | .hbm, ⟨25, _⟩ => ⟨S2x8x128x128, .f32⟩
  | .hbm, ⟨26, _⟩ => ⟨S4096x2x8x128, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x2x8x128, .f32⟩
  | .hbm, ⟨33, _⟩ => ⟨S2x8x128, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x8x128, .f32⟩
  | .hbm, ⟨38, _⟩ => ⟨S2x8x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x8x128, .f32⟩
  | .hbm, ⟨43, _⟩ => ⟨S2x8x128, .f32⟩
  | .hbm, ⟨44, _⟩ => ⟨S_, .i32⟩
  | .hbm, ⟨45, _⟩ => ⟨S_, .i32⟩
  | .hbm, ⟨46, _⟩ => ⟨S1x2x8, .f32⟩
  | .hbm, ⟨47, _⟩ => ⟨S2x8, .f32⟩
  | .hbm, ⟨48, _⟩ => ⟨S_, .i32⟩
  | .hbm, ⟨49, _⟩ => ⟨S_, .i32⟩
  | .hbm, ⟨50, _⟩ => ⟨S1x2x8, .f32⟩
  | .hbm, ⟨51, _⟩ => ⟨S2x8, .f32⟩
  | .hbm, ⟨52, _⟩ => ⟨S2x8, .f32⟩
  | .hbm, ⟨53, _⟩ => ⟨S2x8x1x1, .f32⟩
  | .hbm, ⟨54, _⟩ => ⟨S2x8x128x128, .f32⟩
  | .hbm, ⟨55, _⟩ => ⟨S2x8x128x128, .f32⟩
  | .hbm, ⟨56, _⟩ => ⟨S2x8x128, .f32⟩
  | .hbm, ⟨57, _⟩ => ⟨S2x8x128x1, .f32⟩
  | .hbm, ⟨58, _⟩ => ⟨S2x8x1, .f32⟩
  | .hbm, ⟨59, _⟩ => ⟨S2x8x128, .f32⟩
  | .hbm, ⟨60, _⟩ => ⟨S2x8x128, .f32⟩
  | .hbm, ⟨61, _⟩ => ⟨S2x8x128, .f32⟩
  | .hbm, ⟨62, _⟩ => ⟨S2x8x1x128, .f32⟩
  | .hbm, ⟨63, _⟩ => ⟨S2x8x128x128, .f32⟩
  | .hbm, ⟨64, _⟩ => ⟨S2x8x128x128, .f32⟩
  | .hbm, ⟨65, _⟩ => ⟨S2x8x128x128, .f32⟩
  | .hbm, ⟨66, _⟩ => ⟨S2x8x128x128, .f32⟩
  | .hbm, ⟨67, _⟩ => ⟨S2x8x128, .f32⟩
  | .hbm, ⟨68, _⟩ => ⟨S1x2x8x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S4096x2x8x128, .f32⟩
  | .hbm, ⟨73, _⟩ => ⟨S_, .i32⟩
  | .hbm, ⟨74, _⟩ => ⟨S_, .i32⟩
  | .hbm, ⟨75, _⟩ => ⟨S2x4096x8x128, .f32⟩
  | .hbm, ⟨76, _⟩ => ⟨S2x4096x8x128, .f32⟩
  | .hbm, ⟨77, _⟩ => ⟨S_, .f32⟩
  | .hbm, ⟨78, _⟩ => ⟨S2x4096x8, .f32⟩
  | .hbm, ⟨79, _⟩ => ⟨S2x4096x8x1, .f32⟩
  | .hbm, ⟨80, _⟩ => ⟨S_, .f32⟩
  | .hbm, ⟨81, _⟩ => ⟨S2x4096x8x1, .f32⟩
  | .hbm, ⟨82, _⟩ => ⟨S2x4096x8x1, .f32⟩
  | .hbm, ⟨83, _⟩ => ⟨S_, .f32⟩
  | .hbm, ⟨84, _⟩ => ⟨S2x4096x8x1, .f32⟩
  | .hbm, ⟨85, _⟩ => ⟨S2x4096x8x1, .f32⟩
  | .hbm, ⟨86, _⟩ => ⟨S2x4096x8x1, .f32⟩
  | .hbm, ⟨87, _⟩ => ⟨S2x4096x8x128, .f32⟩
  | .hbm, ⟨88, _⟩ => ⟨S2x4096x8x128, .f32⟩
  | .hbm, ⟨89, _⟩ => ⟨S128, .f32⟩
  | .hbm, ⟨90, _⟩ => ⟨S1x1x1x128, .f32⟩
  | .hbm, ⟨91, _⟩ => ⟨S2x4096x8x128, .f32⟩
  | .hbm, ⟨92, _⟩ => ⟨S2x4096x8x128, .f32⟩
  | .hbm, ⟨93, _⟩ => ⟨S2x4096x1024, .f32⟩
  | .hbm, ⟨94, _⟩ => ⟨S2x4096x8x128, .f32⟩
  | .hbm, ⟨95, _⟩ => ⟨S2x4096x8x128, .f32⟩
  | .hbm, ⟨96, _⟩ => ⟨S2x4096x8x128, .f32⟩
  | .hbm, ⟨97, _⟩ => ⟨S_, .f32⟩
  | .hbm, ⟨98, _⟩ => ⟨S2x4096x8x128, .f32⟩
  | .hbm, ⟨99, _⟩ => ⟨S2x4096x8x128, .f32⟩
  | .hbm, ⟨100, _⟩ => ⟨S_, .f32⟩
  | .hbm, ⟨101, _⟩ => ⟨S2x4096x8x128, .f32⟩
  | .hbm, ⟨102, _⟩ => ⟨S2x4096x8x128, .f32⟩
  | .hbm, ⟨103, _⟩ => ⟨S2x4096x8x128, .f32⟩
  | .hbm, ⟨104, _⟩ => ⟨S2x4096x8x128, .f32⟩
  | .hbm, ⟨105, _⟩ => ⟨S2x4096x1024, .f32⟩
  | .hbm, ⟨106, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_while0c_c_10 : Ref sig .tc := ⟨.hbm, 27, rfl⟩
abbrev main_while0c_v31 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_v0 : Ref sig .tc := ⟨.hbm, 32, rfl⟩
abbrev main_while0b_v31 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_v0 : Ref sig .tc := ⟨.hbm, 37, rfl⟩
abbrev main_while0b_v32 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_v0 : Ref sig .tc := ⟨.hbm, 42, rfl⟩
abbrev main_while0b_v33 : Ref sig .tc := ⟨.hbm, 43, rfl⟩
abbrev main_while0b_call3_c : Ref sig .tc := ⟨.hbm, 44, rfl⟩
abbrev main_while0b_call3_c_0 : Ref sig .tc := ⟨.hbm, 45, rfl⟩
abbrev main_while0b_call3_v0 : Ref sig .tc := ⟨.hbm, 46, rfl⟩
abbrev main_while0b_v34 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_v0 : Ref sig .tc := ⟨.hbm, 50, rfl⟩
abbrev main_while0b_v35 : Ref sig .tc := ⟨.hbm, 51, rfl⟩
abbrev main_while0b_v36 : Ref sig .tc := ⟨.hbm, 52, rfl⟩
abbrev main_while0b_v37 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_v52 : Ref sig .tc := ⟨.hbm, 72, rfl⟩
abbrev main_while0b_c_10 : Ref sig .tc := ⟨.hbm, 73, rfl⟩
abbrev main_while0b_v53 : Ref sig .tc := ⟨.hbm, 74, rfl⟩
abbrev main_v10 : Ref sig .tc := ⟨.hbm, 75, rfl⟩
abbrev main_v11 : Ref sig .tc := ⟨.hbm, 76, rfl⟩
abbrev main_cst_0 : Ref sig .tc := ⟨.hbm, 77, rfl⟩
abbrev main_v12 : Ref sig .tc := ⟨.hbm, 78, rfl⟩
abbrev main_v13 : Ref sig .tc := ⟨.hbm, 79, rfl⟩
abbrev main_cst_1 : Ref sig .tc := ⟨.hbm, 80, rfl⟩
abbrev main_v14 : Ref sig .tc := ⟨.hbm, 81, rfl⟩
abbrev main_v15 : Ref sig .tc := ⟨.hbm, 82, rfl⟩
abbrev main_cst_2 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_call6_v0 : Ref sig .tc := ⟨.hbm, 95, rfl⟩
abbrev main_call6_v1 : Ref sig .tc := ⟨.hbm, 96, rfl⟩
abbrev main_call6_cst : Ref sig .tc := ⟨.hbm, 97, rfl⟩
abbrev main_call6_v2 : Ref sig .tc := ⟨.hbm, 98, rfl⟩
abbrev main_call6_v3 : Ref sig .tc := ⟨.hbm, 99, rfl⟩
abbrev main_call6_cst_0 : Ref sig .tc := ⟨.hbm, 100, rfl⟩
abbrev main_call6_v4 : Ref sig .tc := ⟨.hbm, 101, rfl⟩
abbrev main_call6_v5 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩

abbrev nD : Nat := 1
abbrev τ : Topo := Topo.v7x

variable {F : FTy → Type} [FloatOps F]

abbrev main_while0_count : Scf.Loop 32 := ⟨0#32, 4096#32, 1#32⟩
-- ==== InProj.lean ====
abbrev S2x4096x2048 : Shape := ⟨3, ![2, 4096, 2048]⟩
abbrev S2048 : Shape := ⟨1, ![2048]⟩
abbrev S2048x14592 : Shape := ⟨2, ![2048, 14592]⟩
abbrev S8192x2048 : Shape := ⟨2, ![8192, 2048]⟩
abbrev S1x2048 : Shape := ⟨2, ![1, 2048]⟩
abbrev S8192x14592 : Shape := ⟨2, ![8192, 14592]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S2x4096x14592 : Shape := ⟨3, ![2, 4096, 14592]⟩
abbrev S2x3x3072 : Shape := ⟨3, ![2, 3, 3072]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x14592, .bf16⟩
  | .hbm, ⟨3, _⟩ => ⟨S8192x2048, .f32⟩
  | .hbm, ⟨4, _⟩ => ⟨S1x2048, .f32⟩
  | .hbm, ⟨5, _⟩ => ⟨S8192x14592, .f32⟩
  | .hbm, ⟨6, _⟩ => ⟨S2x4096x14592, .f32⟩
  | .hbm, ⟨7, _⟩ => ⟨S2x3x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S2x4096x2048 : Shape := ⟨3, ![2, 4096, 2048]⟩
abbrev S2048 : Shape := ⟨1, ![2048]⟩
abbrev S2048x14592 : Shape := ⟨2, ![2048, 14592]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x14592 : Shape := ⟨3, ![2, 4096, 14592]⟩
abbrev S8192x14592 : Shape := ⟨2, ![8192, 14592]⟩
abbrev S2x3x3072 : Shape := ⟨3, ![2, 3, 3072]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x14592, .bf16⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x14592, .f32⟩
  | .hbm, ⟨20, _⟩ => ⟨S2x4096x14592, .f32⟩
  | .hbm, ⟨21, _⟩ => ⟨S8192x14592, .f32⟩
  | .hbm, ⟨22, _⟩ => ⟨S2x3x3072, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Tail.lean ====
abbrev S2x4096x1024 : Shape := ⟨3, ![2, 4096, 1024]⟩
abbrev S2x4096x14592 : Shape := ⟨3, ![2, 4096, 14592]⟩
abbrev S2x4096x2048 : Shape := ⟨3, ![2, 4096, 2048]⟩
abbrev S2x4096x256 : Shape := ⟨3, ![2, 4096, 256]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S8192x1024 : Shape := ⟨2, ![8192, 1024]⟩
abbrev S8192x14592 : Shape := ⟨2, ![8192, 14592]⟩
abbrev S8192x2048 : Shape := ⟨2, ![8192, 2048]⟩
abbrev S8192x256 : Shape := ⟨2, ![8192, 256]⟩
abbrev S1x2048 : Shape := ⟨2, ![1, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 23
  | .vmem => 20
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x14592, .f32⟩
  | .hbm, ⟨3, _⟩ => ⟨S2x4096x2048, .f32⟩
  | .hbm, ⟨4, _⟩ => ⟨S2x4096x256, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S256x2048, .f32⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S2048x2048, .bf16⟩
  | .hbm, ⟨15, _⟩ => ⟨S256x2048, .bf16⟩
  | .hbm, ⟨16, _⟩ => ⟨S8192x1024, .bf16⟩
  | .hbm, ⟨17, _⟩ => ⟨S8192x1024, .bf16⟩
  | .hbm, ⟨18, _⟩ => ⟨S8192x14592, .f32⟩
  | .hbm, ⟨19, _⟩ => ⟨S8192x2048, .f32⟩
  | .hbm, ⟨20, _⟩ => ⟨S8192x256, .f32⟩
  | .hbm, ⟨21, _⟩ => ⟨S1x2048, .f32⟩
  | .hbm, ⟨22, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S2048x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S2x4096x1024 : Shape := ⟨3, ![2, 4096, 1024]⟩
abbrev S2x4096x14592 : Shape := ⟨3, ![2, 4096, 14592]⟩
abbrev S2x4096x2048 : Shape := ⟨3, ![2, 4096, 2048]⟩
abbrev S2x4096x256 : Shape := ⟨3, ![2, 4096, 256]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x14592, .f32⟩
  | .hbm, ⟨3, _⟩ => ⟨S2x4096x2048, .f32⟩
  | .hbm, ⟨4, _⟩ => ⟨S2x4096x256, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S256x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S2x4096x1024, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S2x4096x1024, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S_, .f32⟩
  | .hbm, ⟨40, _⟩ => ⟨S2x4096, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x1, .f32⟩
  | .hbm, ⟨49, _⟩ => ⟨S2x4096x2048, .f32⟩
  | .hbm, ⟨50, _⟩ => ⟨S2x4096x2048, .f32⟩
  | .hbm, ⟨51, _⟩ => ⟨S1x1x2048, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S_, .f32⟩
  | .hbm, ⟨58, _⟩ => ⟨S2x4096x2048, .f32⟩
  | .hbm, ⟨59, _⟩ => ⟨S2x4096x2048, .f32⟩
  | .hbm, ⟨60, _⟩ => ⟨S_, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S8192x2048, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== AttPrep.lean ====
abbrev S2x4096x14592 : Shape := ⟨3, ![2, 4096, 14592]⟩
abbrev S128 : Shape := ⟨1, ![128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x128 : Shape := ⟨2, ![1, 128]⟩
abbrev S2x4096x1024 : Shape := ⟨3, ![2, 4096, 1024]⟩
abbrev S2x8x1024x512 : Shape := ⟨4, ![2, 8, 1024, 512]⟩
abbrev S2x4096x2048 : Shape := ⟨3, ![2, 4096, 2048]⟩
abbrev S2x4096x128 : Shape := ⟨3, ![2, 4096, 128]⟩
abbrev S2x128x4096 : Shape := ⟨3, ![2, 128, 4096]⟩
abbrev S1x256x1024 : Shape := ⟨3, ![1, 256, 1024]⟩
abbrev S1x256x2048 : Shape := ⟨3, ![1, 256, 2048]⟩
abbrev S1x256x128 : Shape := ⟨3, ![1, 256, 128]⟩
abbrev S256x128 : Shape := ⟨2, ![256, 128]⟩
abbrev S1x1x1024x256 : Shape := ⟨4, ![1, 1, 1024, 256]⟩
abbrev S1x128x256 : Shape := ⟨3, ![1, 128, 256]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩

abbrev nBuf : Space → Nat
  | .hbm => 37
  | .vmem => 36
  | .smem => 0
  | _ => 0

abbrev bufTy : (tb : Table) → Fin (tcTables nBuf tb) → BufTy
  | .hbm, ⟨0, _⟩ => ⟨S2x4096x14592, .f32⟩
  | .hbm, ⟨1, _⟩ => ⟨S128, .f32⟩
  | .hbm, ⟨2, _⟩ => ⟨S128, .f32⟩
  | .hbm, ⟨3, _⟩ => ⟨S4096, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S4096x64, .f32⟩
  | .hbm, ⟨25, _⟩ => ⟨S4096x128, .f32⟩
  | .hbm, ⟨26, _⟩ => ⟨S1x128, .f32⟩
  | .hbm, ⟨27, _⟩ => ⟨S1x128, .f32⟩
  | .hbm, ⟨28, _⟩ => ⟨S2x4096x1024, .bf16⟩
  | .hbm, ⟨29, _⟩ => ⟨S2x4096x1024, .f32⟩
  | .hbm, ⟨30, _⟩ => ⟨S2x4096x1024, .f32⟩
  | .hbm, ⟨31, _⟩ => ⟨S2x4096x1024, .bf16⟩
  | .hbm, ⟨32, _⟩ => ⟨S2x8x1024x512, .bf16⟩
  | .hbm, ⟨33, _⟩ => ⟨S2x4096x2048, .bf16⟩
  | .hbm, ⟨34, _⟩ => ⟨S2x4096x128, .f32⟩
  | .hbm, ⟨35, _⟩ => ⟨S2x4096x128, .bf16⟩
  | .hbm, ⟨36, _⟩ => ⟨S2x128x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S1x1x1024x256, .bf16⟩
  | .local _ .vmem, ⟨27, _⟩ => ⟨S1x1x1024x256, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x256x128, .f32⟩
  | .local _ .vmem, ⟨31, _⟩ => ⟨S1x256x128, .f32⟩
  | .local _ .vmem, ⟨32, _⟩ => ⟨S1x256x128, .bf16⟩
  | .local _ .vmem, ⟨33, _⟩ => ⟨S1x256x128, .bf16⟩
  | .local _ .vmem, ⟨34, _⟩ => ⟨S1x128x256, .f32⟩
  | .local _ .vmem, ⟨35, _⟩ => ⟨S1x128x256, .f32⟩
  | _, _ => ⟨S2x4096x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev main_v22_3 : Ref sig .tc := ⟨.hbm, 31, rfl⟩
abbrev main_v22_4 : Ref sig .tc := ⟨.hbm, 32, rfl⟩
abbrev main_v22_5 : Ref sig .tc := ⟨.hbm, 33, rfl⟩
abbrev main_v22_6 : Ref sig .tc := ⟨.hbm, 34, rfl⟩
abbrev main_v22_7 : Ref sig .tc := ⟨.hbm, 35, rfl⟩
abbrev main_v22_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c112_i32 : BitVec 32 := 112#32
  let c0_i32 : BitVec 32 := 0#32
  ![arg0.toNat, arg1.toNat, c112_i32.toNat]

def cc0_transform_5 (i : grid0.Coords) : Fin 3 → Nat :=
  let arg0 : BitVec 32 := BitVec.ofNat 32 (i 0).val
  let arg1 : BitVec 32 := BitVec.ofNat 32 (i 1).val
  let c113_i32 : BitVec 32 := 113#32
  let c0_i32 : BitVec 32 := 0#32
  ![arg0.toNat, arg1.toNat, c113_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== AttPrepRefIdeal.lean ====
abbrev S2x4096x14592 : Shape := ⟨3, ![2, 4096, 14592]⟩
abbrev S128 : Shape := ⟨1, ![128]⟩
abbrev S4096 : Shape := ⟨1, ![4096]⟩
abbrev S2x4096x1024 : Shape := ⟨3, ![2, 4096, 1024]⟩
abbrev S2x4096x8x128 : Shape := ⟨4, ![2, 4096, 8, 128]⟩
abbrev S2x4096x2048 : Shape := ⟨3, ![2, 4096, 2048]⟩
abbrev S2x4096x16x128 : Shape := ⟨4, ![2, 4096, 16, 128]⟩
abbrev S2x4096x128 : Shape := ⟨3, ![2, 4096, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S2x4096x16x64 : Shape := ⟨4, ![2, 4096, 16, 64]⟩
abbrev S2x4096x1x128 : Shape := ⟨4, ![2, 4096, 1, 128]⟩
abbrev S2x4096x1x64 : Shape := ⟨4, ![2, 4096, 1, 64]⟩

abbrev nBuf : Space → Nat
  | .hbm => 149
  | .vmem => 0
  | .smem => 0
  | _ => 0

abbrev hbmTy0_0 (i : Nat) : BufTy := match i % 128 with
  | 0 => ⟨S2x4096x14592, .f32⟩
  | 1 => ⟨S128, .f32⟩
  | 2 => ⟨S128, .f32⟩
  | 3 => ⟨S4096, .i32⟩
  | 4 => ⟨S2x4096x1024, .f32⟩
  | 5 => ⟨S2x4096x8x128, .f32⟩
  | 6 => ⟨S2x4096x1024, .f32⟩
  | 7 => ⟨S2x4096x8x128, .f32⟩
  | 8 => ⟨S2x4096x1024, .f32⟩
  | 9 => ⟨S2x4096x8x128, .f32⟩
  | 10 => ⟨S2x4096x2048, .f32⟩
  | 11 => ⟨S2x4096x16x128, .f32⟩
  | 12 => ⟨S2x4096x128, .f32⟩
  | 13 => ⟨S2x4096x8x128, .f32⟩
  | 14 => ⟨S_, .f32⟩
  | 15 => ⟨S2x4096x8, .f32⟩
  | 16 => ⟨S2x4096x8x1, .f32⟩
  | 17 => ⟨S_, .f32⟩
  | 18 => ⟨S2x4096x8x1, .f32⟩
  | 19 => ⟨S2x4096x8x1, .f32⟩
  | 20 => ⟨S_, .f32⟩
  | 21 => ⟨S2x4096x8x1, .f32⟩
  | 22 => ⟨S2x4096x8x1, .f32⟩
  | 23 => ⟨S2x4096x8x1, .f32⟩
  | 24 => ⟨S2x4096x8x128, .f32⟩
  | 25 => ⟨S2x4096x8x128, .f32⟩
  | 26 => ⟨S1x1x1x128, .f32⟩
  | 27 => ⟨S2x4096x8x128, .f32⟩
  | 28 => ⟨S2x4096x8x128, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S4096, .f32⟩
  | 41 => ⟨S4096x1, .f32⟩
  | 42 => ⟨S1x64, .f32⟩
  | 43 => ⟨S4096x64, .f32⟩
  | 44 => ⟨S4096x64, .f32⟩
  | 45 => ⟨S4096x64, .f32⟩
  | 46 => ⟨S4096x64, .f32⟩
  | 47 => ⟨S4096x1x64, .f32⟩
  | 48 => ⟨S4096x64, .f32⟩
  | 49 => ⟨S4096x1x64, .f32⟩
  | 50 => ⟨S2x4096x8x64, .f32⟩
  | 51 => ⟨S2x4096x8x64, .f32⟩
  | 52 => ⟨S1x4096x1x64, .f32⟩
  | 53 => ⟨S2x4096x8x64, .f32⟩
  | 54 => ⟨S2x4096x8x64, .f32⟩
  | 55 => ⟨S1x4096x1x64, .f32⟩
  | 56 => ⟨S2x4096x8x64, .f32⟩
  | 57 => ⟨S2x4096x8x64, .f32⟩
  | 58 => ⟨S2x4096x8x64, .f32⟩
  | 59 => ⟨S1x4096x1x64, .f32⟩
  | 60 => ⟨S2x4096x8x64, .f32⟩
  | 61 => ⟨S2x4096x8x64, .f32⟩
  | 62 => ⟨S1x4096x1x64, .f32⟩
  | 63 => ⟨S2x4096x8x64, .f32⟩
  | 64 => ⟨S2x4096x8x64, .f32⟩
  | 65 => ⟨S2x4096x8x64, .f32⟩
  | 66 => ⟨S2x4096x8x128, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S4096, .f32⟩
  | 79 => ⟨S4096x1, .f32⟩
  | 80 => ⟨S1x64, .f32⟩
  | 81 => ⟨S4096x64, .f32⟩
  | 82 => ⟨S4096x64, .f32⟩
  | 83 => ⟨S4096x64, .f32⟩
  | 84 => ⟨S4096x64, .f32⟩
  | 85 => ⟨S4096x1x64, .f32⟩
  | 86 => ⟨S4096x64, .f32⟩
  | 87 => ⟨S4096x1x64, .f32⟩
  | 88 => ⟨S2x4096x16x64, .f32⟩
  | 89 => ⟨S2x4096x16x64, .f32⟩
  | 90 => ⟨S1x4096x1x64, .f32⟩
  | 91 => ⟨S2x4096x16x64, .f32⟩
  | 92 => ⟨S2x4096x16x64, .f32⟩
  | 93 => ⟨S1x4096x1x64, .f32⟩
  | 94 => ⟨S2x4096x16x64, .f32⟩
  | 95 => ⟨S2x4096x16x64, .f32⟩
  | 96 => ⟨S2x4096x16x64, .f32⟩
  | 97 => ⟨S1x4096x1x64, .f32⟩
  | 98 => ⟨S2x4096x16x64, .f32⟩
  | 99 => ⟨S2x4096x16x64, .f32⟩
  | 100 => ⟨S1x4096x1x64, .f32⟩
  | 101 => ⟨S2x4096x16x64, .f32⟩
  | 102 => ⟨S2x4096x16x64, .f32⟩
  | 103 => ⟨S2x4096x16x64, .f32⟩
  | 104 => ⟨S2x4096x16x128, .f32⟩
  | 105 => ⟨S2x4096x1x128, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S4096, .f32⟩
  | 118 => ⟨S4096x1, .f32⟩
  | 119 => ⟨S1x64, .f32⟩
  | 120 => ⟨S4096x64, .f32⟩
  | 121 => ⟨S4096x64, .f32⟩
  | 122 => ⟨S4096x64, .f32⟩
  | 123 => ⟨S4096x64, .f32⟩
  | 124 => ⟨S4096x1x64, .f32⟩
  | 125 => ⟨S4096x64, .f32⟩
  | 126 => ⟨S4096x1x64, .f32⟩
  | 127 => ⟨S2x4096x1x64, .f32⟩
  | _ => ⟨S2x4096x14592, .f32⟩

abbrev hbmTy0_1 (i : Nat) : BufTy := match i % 128 with
  | 0 => ⟨S2x4096x1x64, .f32⟩
  | 1 => ⟨S1x4096x1x64, .f32⟩
  | 2 => ⟨S2x4096x1x64, .f32⟩
  | 3 => ⟨S2x4096x1x64, .f32⟩
  | 4 => ⟨S1x4096x1x64, .f32⟩
  | 5 => ⟨S2x4096x1x64, .f32⟩
  | 6 => ⟨S2x4096x1x64, .f32⟩
  | 7 => ⟨S2x4096x1x64, .f32⟩
  | 8 => ⟨S1x4096x1x64, .f32⟩
  | 9 => ⟨S2x4096x1x64, .f32⟩
  | 10 => ⟨S2x4096x1x64, .f32⟩
  | 11 => ⟨S1x4096x1x64, .f32⟩
  | 12 => ⟨S2x4096x1x64, .f32⟩
  | 13 => ⟨S2x4096x1x64, .f32⟩
  | 14 => ⟨S2x4096x1x64, .f32⟩
  | 15 => ⟨S2x4096x1x128, .f32⟩
  | 16 => ⟨S2x4096x128, .f32⟩
  | 17 => ⟨S2x4096x1024, .f32⟩
  | 18 => ⟨S2x4096x1024, .f32⟩
  | 19 => ⟨S2x4096x2048, .f32⟩
  | 20 => ⟨S2x4096x2048, .bf16⟩
  | _ => ⟨S2x4096x14592, .f32⟩

abbrev hbmTy (i : Nat) : BufTy := match i / 128 with
  | 0 => hbmTy0_0 i
  | 1 => hbmTy0_1 i
  | _ => ⟨S2x4096x14592, .f32⟩

abbrev bufTy : (tb : Table) → Fin (tcTables nBuf tb) → BufTy
  | .hbm, ⟨i, _⟩ => hbmTy i
  | _, _ => ⟨S2x4096x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩

abbrev nD : Nat := 1
abbrev τ : Topo := Topo.v7x

variable {F : FTy → Type} [FloatOps F]
-- ==== Step.lean ====
abbrev S32x1024 : Shape := ⟨2, ![32, 1024]⟩
abbrev S32x14592 : Shape := ⟨2, ![32, 14592]⟩
abbrev S32x128 : Shape := ⟨2, ![32, 128]⟩
abbrev S32x8x128x128 : Shape := ⟨4, ![32, 8, 128, 128]⟩
abbrev S128 : Shape := ⟨1, ![128]⟩
abbrev S1x128 : Shape := ⟨2, ![1, 128]⟩
abbrev S8x1024 : Shape := ⟨2, ![8, 1024]⟩
abbrev S8x128 : Shape := ⟨2, ![8, 128]⟩
abbrev S8x8x128x128 : Shape := ⟨4, ![8, 8, 128, 128]⟩
abbrev S128x128 : Shape := ⟨2, ![128, 128]⟩
abbrev S1x1x128x128 : Shape := ⟨4, ![1, 1, 128, 128]⟩
abbrev S1x1 : Shape := ⟨2, ![1, 1]⟩
abbrev S1 : Shape := ⟨1, ![1]⟩

abbrev nBuf : Space → Nat
  | .hbm => 10
  | .vmem => 17
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x14592, .f32⟩
  | .hbm, ⟨4, _⟩ => ⟨S32x128, .f32⟩
  | .hbm, ⟨5, _⟩ => ⟨S32x8x128x128, .f32⟩
  | .hbm, ⟨6, _⟩ => ⟨S128, .f32⟩
  | .hbm, ⟨7, _⟩ => ⟨S1x128, .f32⟩
  | .hbm, ⟨8, _⟩ => ⟨S32x1024, .f32⟩
  | .hbm, ⟨9, _⟩ => ⟨S32x8x128x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S8x8x128x128, .f32⟩
  | .local _ .vmem, ⟨11, _⟩ => ⟨S8x8x128x128, .f32⟩
  | .local _ .vmem, ⟨12, _⟩ => ⟨S1x128, .f32⟩
  | .local _ .vmem, ⟨13, _⟩ => ⟨S8x1024, .f32⟩
  | .local _ .vmem, ⟨14, _⟩ => ⟨S8x1024, .f32⟩
  | .local _ .vmem, ⟨15, _⟩ => ⟨S8x8x128x128, .f32⟩
  | .local _ .vmem, ⟨16, _⟩ => ⟨S8x8x128x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepRefIdeal.lean ====
abbrev S32x1024 : Shape := ⟨2, ![32, 1024]⟩
abbrev S32x14592 : Shape := ⟨2, ![32, 14592]⟩
abbrev S32x128 : Shape := ⟨2, ![32, 128]⟩
abbrev S32x8x128x128 : Shape := ⟨4, ![32, 8, 128, 128]⟩
abbrev S128 : Shape := ⟨1, ![128]⟩
abbrev S32x8x128 : Shape := ⟨3, ![32, 8, 128]⟩
abbrev S32x8 : Shape := ⟨2, ![32, 8]⟩
abbrev S32x8x1x1 : Shape := ⟨4, ![32, 8, 1, 1]⟩
abbrev S32x8x128x1 : Shape := ⟨4, ![32, 8, 128, 1]⟩
abbrev S32x8x1 : Shape := ⟨3, ![32, 8, 1]⟩
abbrev S32x8x1x128 : Shape := ⟨4, ![32, 8, 1, 128]⟩
abbrev S_ : Shape := ⟨0, ![]⟩
abbrev S1x1x128 : Shape := ⟨3, ![1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x14592, .f32⟩
  | .hbm, ⟨4, _⟩ => ⟨S32x128, .f32⟩
  | .hbm, ⟨5, _⟩ => ⟨S32x8x128x128, .f32⟩
  | .hbm, ⟨6, _⟩ => ⟨S128, .f32⟩
  | .hbm, ⟨7, _⟩ => ⟨S32x8x128, .f32⟩
  | .hbm, ⟨8, _⟩ => ⟨S32x8x128, .f32⟩
  | .hbm, ⟨9, _⟩ => ⟨S32x8x128, .f32⟩
  | .hbm, ⟨10, _⟩ => ⟨S32x8, .f32⟩
  | .hbm, ⟨11, _⟩ => ⟨S32x8, .f32⟩
  | .hbm, ⟨12, _⟩ => ⟨S32x8, .f32⟩
  | .hbm, ⟨13, _⟩ => ⟨S32x8x1x1, .f32⟩
  | .hbm, ⟨14, _⟩ => ⟨S32x8x128x128, .f32⟩
  | .hbm, ⟨15, _⟩ => ⟨S32x8x128x128, .f32⟩
  | .hbm, ⟨16, _⟩ => ⟨S32x8x128, .f32⟩
  | .hbm, ⟨17, _⟩ => ⟨S32x8x128x1, .f32⟩
  | .hbm, ⟨18, _⟩ => ⟨S32x8x1, .f32⟩
  | .hbm, ⟨19, _⟩ => ⟨S32x8x128, .f32⟩
  | .hbm, ⟨20, _⟩ => ⟨S32x8x128, .f32⟩
  | .hbm, ⟨21, _⟩ => ⟨S32x8x128, .f32⟩
  | .hbm, ⟨22, _⟩ => ⟨S32x8x1x128, .f32⟩
  | .hbm, ⟨23, _⟩ => ⟨S32x8x128x128, .f32⟩
  | .hbm, ⟨24, _⟩ => ⟨S32x8x128x128, .f32⟩
  | .hbm, ⟨25, _⟩ => ⟨S32x8x128x128, .f32⟩
  | .hbm, ⟨26, _⟩ => ⟨S32x8x128x128, .f32⟩
  | .hbm, ⟨27, _⟩ => ⟨S32x8x128, .f32⟩
  | .hbm, ⟨28, _⟩ => ⟨S32x8x128, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1, .f32⟩
  | .hbm, ⟨39, _⟩ => ⟨S32x8x128, .f32⟩
  | .hbm, ⟨40, _⟩ => ⟨S32x8x128, .f32⟩
  | .hbm, ⟨41, _⟩ => ⟨S1x1x128, .f32⟩
  | .hbm, ⟨42, _⟩ => ⟨S32x8x128, .f32⟩
  | .hbm, ⟨43, _⟩ => ⟨S32x8x128, .f32⟩
  | .hbm, ⟨44, _⟩ => ⟨S32x1024, .f32⟩
  | .hbm, ⟨45, _⟩ => ⟨S32x8x128, .f32⟩
  | .hbm, ⟨46, _⟩ => ⟨S32x8x128, .f32⟩
  | .hbm, ⟨47, _⟩ => ⟨S32x8x128, .f32⟩
  | .hbm, ⟨48, _⟩ => ⟨S_, .f32⟩
  | .hbm, ⟨49, _⟩ => ⟨S32x8x128, .f32⟩
  | .hbm, ⟨50, _⟩ => ⟨S32x8x128, .f32⟩
  | .hbm, ⟨51, _⟩ => ⟨S_, .f32⟩
  | .hbm, ⟨52, _⟩ => ⟨S32x8x128, .f32⟩
  | .hbm, ⟨53, _⟩ => ⟨S32x8x128, .f32⟩
  | .hbm, ⟨54, _⟩ => ⟨S32x8x128, .f32⟩
  | .hbm, ⟨55, _⟩ => ⟨S32x8x128, .f32⟩
  | .hbm, ⟨56, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== PrepS.lean ====
abbrev S32x14592 : Shape := ⟨2, ![32, 14592]⟩
abbrev S32x3x3072 : Shape := ⟨3, ![32, 3, 3072]⟩
abbrev S4x3072 : Shape := ⟨2, ![4, 3072]⟩
abbrev S8 : Shape := ⟨1, ![8]⟩
abbrev S32x1x3072 : Shape := ⟨3, ![32, 1, 3072]⟩
abbrev S32x3072 : Shape := ⟨2, ![32, 3072]⟩
abbrev S_ : Shape := ⟨0, ![]⟩
abbrev S1x128 : Shape := ⟨2, ![1, 128]⟩
abbrev S1 : Shape := ⟨1, ![1]⟩
abbrev S2 : Shape := ⟨1, ![2]⟩
abbrev S32x1024 : Shape := ⟨2, ![32, 1024]⟩
abbrev S32x128 : Shape := ⟨2, ![32, 128]⟩
abbrev S32 : Shape := ⟨1, ![32]⟩
abbrev S32x1 : Shape := ⟨2, ![32, 1]⟩

abbrev nBuf : Space → Nat
  | .hbm => 31
  | .vmem => 12
  | .smem => 0
  | _ => 0

abbrev bufTy : (tb : Table) → Fin (tcTables nBuf tb) → BufTy
  | .hbm, ⟨0, _⟩ => ⟨S32x14592, .f32⟩
  | .hbm, ⟨1, _⟩ => ⟨S32x3x3072, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S32x1x3072, .f32⟩
  | .hbm, ⟨6, _⟩ => ⟨S32x3072, .f32⟩
  | .hbm, ⟨7, _⟩ => ⟨S32x1x3072, .f32⟩
  | .hbm, ⟨8, _⟩ => ⟨S32x3072, .f32⟩
  | .hbm, ⟨9, _⟩ => ⟨S32x1x3072, .f32⟩
  | .hbm, ⟨10, _⟩ => ⟨S32x3072, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S32x128, .f32⟩
  | .local _ .vmem, ⟨0, _⟩ => ⟨S32x3072, .f32⟩
  | .local _ .vmem, ⟨1, _⟩ => ⟨S32x3072, .f32⟩
  | .local _ .vmem, ⟨2, _⟩ => ⟨S32x3072, .f32⟩
  | .local _ .vmem, ⟨3, _⟩ => ⟨S32x3072, .f32⟩
  | .local _ .vmem, ⟨4, _⟩ => ⟨S4x3072, .f32⟩
  | .local _ .vmem, ⟨5, _⟩ => ⟨S32x128, .f32⟩
  | .local _ .vmem, ⟨6, _⟩ => ⟨S1x128, .f32⟩
  | .local _ .vmem, ⟨7, _⟩ => ⟨S1x128, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x128, .f32⟩
  | _, _ => ⟨S32x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c113_i32 : BitVec 32 := 113#32
  let c0_i32_0 : BitVec 32 := 0#32
  ![c0_i32.toNat, c113_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrepSRefIdeal.lean ====
abbrev S32x14592 : Shape := ⟨2, ![32, 14592]⟩
abbrev S32x3x3072 : Shape := ⟨3, ![32, 3, 3072]⟩
abbrev S4x3072 : Shape := ⟨2, ![4, 3072]⟩
abbrev S8 : Shape := ⟨1, ![8]⟩
abbrev S32x1x14592 : Shape := ⟨3, ![32, 1, 14592]⟩
abbrev S32x1x3072 : Shape := ⟨3, ![32, 1, 3072]⟩
abbrev S32x4x3072 : Shape := ⟨3, ![32, 4, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S32x1x1024 : Shape := ⟨3, ![32, 1, 1024]⟩
abbrev S32x1x8x128 : Shape := ⟨4, ![32, 1, 8, 128]⟩
abbrev S32x1x8 : Shape := ⟨3, ![32, 1, 8]⟩
abbrev S32x1x8x1 : Shape := ⟨4, ![32, 1, 8, 1]⟩
abbrev S1x1x8 : Shape := ⟨3, ![1, 1, 8]⟩
abbrev S32x1x120 : Shape := ⟨3, ![32, 1, 120]⟩
abbrev S32x1024 : Shape := ⟨2, ![32, 1024]⟩
abbrev S32x1x128 : Shape := ⟨3, ![32, 1, 128]⟩
abbrev S32x128 : Shape := ⟨2, ![32, 128]⟩

abbrev nBuf : Space → Nat
  | .hbm => 114
  | .vmem => 0
  | .smem => 0
  | _ => 0

abbrev bufTy : (tb : Table) → Fin (tcTables nBuf tb) → BufTy
  | .hbm, ⟨0, _⟩ => ⟨S32x14592, .f32⟩
  | .hbm, ⟨1, _⟩ => ⟨S32x3x3072, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S32x1x14592, .f32⟩
  | .hbm, ⟨6, _⟩ => ⟨S32x1x3072, .f32⟩
  | .hbm, ⟨7, _⟩ => ⟨S32x4x3072, .f32⟩
  | .hbm, ⟨8, _⟩ => ⟨S32x1x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S32x1x3072, .f32⟩
  | .hbm, ⟨13, _⟩ => ⟨S32x1x3072, .f32⟩
  | .hbm, ⟨14, _⟩ => ⟨S_, .f32⟩
  | .hbm, ⟨15, _⟩ => ⟨S32x1x3072, .f32⟩
  | .hbm, ⟨16, _⟩ => ⟨S32x1x3072, .f32⟩
  | .hbm, ⟨17, _⟩ => ⟨S32x1x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S32x1x3072, .f32⟩
  | .hbm, ⟨22, _⟩ => ⟨S32x1x3072, .f32⟩
  | .hbm, ⟨23, _⟩ => ⟨S32x1x3072, .f32⟩
  | .hbm, ⟨24, _⟩ => ⟨S32x1x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S32x1x3072, .f32⟩
  | .hbm, ⟨29, _⟩ => ⟨S32x1x3072, .f32⟩
  | .hbm, ⟨30, _⟩ => ⟨S32x1x3072, .f32⟩
  | .hbm, ⟨31, _⟩ => ⟨S32x1x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S32x1x3072, .f32⟩
  | .hbm, ⟨36, _⟩ => ⟨S32x1x3072, .f32⟩
  | .hbm, ⟨37, _⟩ => ⟨S32x1x3072, .f32⟩
  | .hbm, ⟨38, _⟩ => ⟨S32x1x3072, .f32⟩
  | .hbm, ⟨39, _⟩ => ⟨S32x1x3072, .f32⟩
  | .hbm, ⟨40, _⟩ => ⟨S_, .f32⟩
  | .hbm, ⟨41, _⟩ => ⟨S32x1x3072, .f32⟩
  | .hbm, ⟨42, _⟩ => ⟨S32x1x3072, .f32⟩
  | .hbm, ⟨43, _⟩ => ⟨S_, .f32⟩
  | .hbm, ⟨44, _⟩ => ⟨S32x1x3072, .f32⟩
  | .hbm, ⟨45, _⟩ => ⟨S32x1x3072, .f32⟩
  | .hbm, ⟨46, _⟩ => ⟨S32x1x3072, .f32⟩
  | .hbm, ⟨47, _⟩ => ⟨S32x1x1024, .f32⟩
  | .hbm, ⟨48, _⟩ => ⟨S32x1x8x128, .f32⟩
  | .hbm, ⟨49, _⟩ => ⟨S32x1x8x128, .f32⟩
  | .hbm, ⟨50, _⟩ => ⟨S_, .f32⟩
  | .hbm, ⟨51, _⟩ => ⟨S32x1x8, .f32⟩
  | .hbm, ⟨52, _⟩ => ⟨S32x1x8x1, .f32⟩
  | .hbm, ⟨53, _⟩ => ⟨S_, .f32⟩
  | .hbm, ⟨54, _⟩ => ⟨S32x1x8x1, .f32⟩
  | .hbm, ⟨55, _⟩ => ⟨S32x1x8x1, .f32⟩
  | .hbm, ⟨56, _⟩ => ⟨S32x1x8x1, .f32⟩
  | .hbm, ⟨57, _⟩ => ⟨S32x1x8x128, .f32⟩
  | .hbm, ⟨58, _⟩ => ⟨S32x1x8x128, .f32⟩
  | .hbm, ⟨59, _⟩ => ⟨S_, .f32⟩
  | .hbm, ⟨60, _⟩ => ⟨S32x1x8x128, .f32⟩
  | .hbm, ⟨61, _⟩ => ⟨S32x1x8x128, .f32⟩
  | .hbm, ⟨62, _⟩ => ⟨S32x1x1024, .f32⟩
  | .hbm, ⟨63, _⟩ => ⟨S32x1x1024, .f32⟩
  | .hbm, ⟨64, _⟩ => ⟨S32x1x8x128, .f32⟩
  | .hbm, ⟨65, _⟩ => ⟨S32x1x8x128, .f32⟩
  | .hbm, ⟨66, _⟩ => ⟨S_, .f32⟩
  | .hbm, ⟨67, _⟩ => ⟨S32x1x8, .f32⟩
  | .hbm, ⟨68, _⟩ => ⟨S32x1x8x1, .f32⟩
  | .hbm, ⟨69, _⟩ => ⟨S_, .f32⟩
  | .hbm, ⟨70, _⟩ => ⟨S32x1x8x1, .f32⟩
  | .hbm, ⟨71, _⟩ => ⟨S32x1x8x1, .f32⟩
  | .hbm, ⟨72, _⟩ => ⟨S32x1x8x1, .f32⟩
  | .hbm, ⟨73, _⟩ => ⟨S32x1x8x128, .f32⟩
  | .hbm, ⟨74, _⟩ => ⟨S32x1x8x128, .f32⟩
  | .hbm, ⟨75, _⟩ => ⟨S32x1x1024, .f32⟩
  | .hbm, ⟨76, _⟩ => ⟨S8, .f32⟩
  | .hbm, ⟨77, _⟩ => ⟨S8, .f32⟩
  | .hbm, ⟨78, _⟩ => ⟨S32x1x8, .f32⟩
  | .hbm, ⟨79, _⟩ => ⟨S1x1x8, .f32⟩
  | .hbm, ⟨80, _⟩ => ⟨S32x1x8, .f32⟩
  | .hbm, ⟨81, _⟩ => ⟨S32x1x8, .f32⟩
  | .hbm, ⟨82, _⟩ => ⟨S_, .f32⟩
  | .hbm, ⟨83, _⟩ => ⟨S32x1x8, .f32⟩
  | .hbm, ⟨84, _⟩ => ⟨S32x1x8, .f32⟩
  | .hbm, ⟨85, _⟩ => ⟨S32x1x8, .f32⟩
  | .hbm, ⟨86, _⟩ => ⟨S32x1x8, .f32⟩
  | .hbm, ⟨87, _⟩ => ⟨S32x1x8, .i1⟩
  | .hbm, ⟨88, _⟩ => ⟨S32x1x8, .f32⟩
  | .hbm, ⟨89, _⟩ => ⟨S32x1x8, .f32⟩
  | .hbm, ⟨90, _⟩ => ⟨S32x1x8, .f32⟩
  | .hbm, ⟨91, _⟩ => ⟨S32x1x8, .f32⟩
  | .hbm, ⟨92, _⟩ => ⟨S32x1x8, .f32⟩
  | .hbm, ⟨93, _⟩ => ⟨S32x1x8, .f32⟩
  | .hbm, ⟨94, _⟩ => ⟨S32x1x8, .f32⟩
  | .hbm, ⟨95, _⟩ => ⟨S32x1x8, .f32⟩
  | .hbm, ⟨96, _⟩ => ⟨S1x1x8, .f32⟩
  | .hbm, ⟨97, _⟩ => ⟨S32x1x8, .f32⟩
  | .hbm, ⟨98, _⟩ => ⟨S32x1x8, .f32⟩
  | .hbm, ⟨99, _⟩ => ⟨S32x1x1024, .f32⟩
  | .hbm, ⟨100, _⟩ => ⟨S32x1x120, .f32⟩
  | .hbm, ⟨101, _⟩ => ⟨S32x1x120, .f32⟩
  | .hbm, ⟨102, _⟩ => ⟨S32x1x120, .f32⟩
  | .hbm, ⟨103, _⟩ => ⟨S_, .f32⟩
  | .hbm, ⟨104, _⟩ => ⟨S32x1x120, .f32⟩
  | .hbm, ⟨105, _⟩ => ⟨S32x1x120, .f32⟩
  | .hbm, ⟨106, _⟩ => ⟨S_, .f32⟩
  | .hbm, ⟨107, _⟩ => ⟨S32x1x120, .f32⟩
  | .hbm, ⟨108, _⟩ => ⟨S32x1x120, .f32⟩
  | .hbm, ⟨109, _⟩ => ⟨S32x1024, .f32⟩
  | .hbm, ⟨110, _⟩ => ⟨S32x1024, .f32⟩
  | .hbm, ⟨111, _⟩ => ⟨S32x1024, .f32⟩
  | .hbm, ⟨112, _⟩ => ⟨S32x1x128, .f32⟩
  | .hbm, ⟨113, _⟩ => ⟨S32x128, .f32⟩
  | _, _ => ⟨S32x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_3 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_5 : Ref sig .tc := ⟨.hbm, 103, rfl⟩
abbrev main_v71 : Ref sig .tc := ⟨.hbm, 104, rfl⟩
abbrev main_v72 : Ref sig .tc := ⟨.hbm, 105, rfl⟩
abbrev main_cst_6 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]
-- ==== InProjS.lean ====
abbrev S32x1x2048 : Shape := ⟨3, ![32, 1, 2048]⟩
abbrev S2048 : Shape := ⟨1, ![2048]⟩
abbrev S2048x14592 : Shape := ⟨2, ![2048, 14592]⟩
abbrev S32x3x3072 : Shape := ⟨3, ![32, 3, 3072]⟩
abbrev S32x2048 : Shape := ⟨2, ![32, 2048]⟩
abbrev S1x2048 : Shape := ⟨2, ![1, 2048]⟩
abbrev S32x14592 : Shape := ⟨2, ![32, 14592]⟩
abbrev S2048x2432 : Shape := ⟨2, ![2048, 2432]⟩
abbrev S32x2432 : Shape := ⟨2, ![32, 2432]⟩
abbrev S32 : Shape := ⟨1, ![32]⟩
abbrev S32x1 : Shape := ⟨2, ![32, 1]⟩
abbrev S32x2x3072 : Shape := ⟨3, ![32, 2, 3072]⟩
abbrev S32x3072 : Shape := ⟨2, ![32, 3072]⟩
abbrev S32x1x3072 : Shape := ⟨3, ![32, 1, 3072]⟩

abbrev nBuf : Space → Nat
  | .hbm => 11
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x14592, .bf16⟩
  | .hbm, ⟨3, _⟩ => ⟨S32x3x3072, .f32⟩
  | .hbm, ⟨4, _⟩ => ⟨S32x2048, .f32⟩
  | .hbm, ⟨5, _⟩ => ⟨S1x2048, .f32⟩
  | .hbm, ⟨6, _⟩ => ⟨S32x14592, .f32⟩
  | .hbm, ⟨7, _⟩ => ⟨S32x2x3072, .f32⟩
  | .hbm, ⟨8, _⟩ => ⟨S32x3072, .f32⟩
  | .hbm, ⟨9, _⟩ => ⟨S32x1x3072, .f32⟩
  | .hbm, ⟨10, _⟩ => ⟨S32x3x3072, .f32⟩
  | .local _ .vmem, ⟨0, _⟩ => ⟨S32x2048, .f32⟩
  | .local _ .vmem, ⟨1, _⟩ => ⟨S1x2048, .f32⟩
  | .local _ .vmem, ⟨2, _⟩ => ⟨S2048x2432, .bf16⟩
  | .local _ .vmem, ⟨3, _⟩ => ⟨S2048x2432, .bf16⟩
  | .local _ .vmem, ⟨4, _⟩ => ⟨S32x2432, .f32⟩
  | .local _ .vmem, ⟨5, _⟩ => ⟨S32x2432, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjSRefIdeal.lean ====
abbrev S32x1x2048 : Shape := ⟨3, ![32, 1, 2048]⟩
abbrev S2048 : Shape := ⟨1, ![2048]⟩
abbrev S2048x14592 : Shape := ⟨2, ![2048, 14592]⟩
abbrev S32x3x3072 : Shape := ⟨3, ![32, 3, 3072]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x1x14592 : Shape := ⟨3, ![32, 1, 14592]⟩
abbrev S32x1x3072 : Shape := ⟨3, ![32, 1, 3072]⟩
abbrev S32x4x3072 : Shape := ⟨3, ![32, 4, 3072]⟩
abbrev S32x14592 : Shape := ⟨2, ![32, 14592]⟩

abbrev nBuf : Space → Nat
  | .hbm => 26
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x14592, .bf16⟩
  | .hbm, ⟨3, _⟩ => ⟨S32x3x3072, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x14592, .f32⟩
  | .hbm, ⟨21, _⟩ => ⟨S32x1x14592, .f32⟩
  | .hbm, ⟨22, _⟩ => ⟨S32x1x3072, .f32⟩
  | .hbm, ⟨23, _⟩ => ⟨S32x4x3072, .f32⟩
  | .hbm, ⟨24, _⟩ => ⟨S32x14592, .f32⟩
  | .hbm, ⟨25, _⟩ => ⟨S32x3x3072, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AttPrepS.lean ====
abbrev S32x14592 : Shape := ⟨2, ![32, 14592]⟩
abbrev S128 : Shape := ⟨1, ![128]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x14592 : Shape := ⟨3, ![1, 32, 14592]⟩
abbrev S1x128 : Shape := ⟨2, ![1, 128]⟩
abbrev S1x32x1024 : Shape := ⟨3, ![1, 32, 1024]⟩
abbrev S1x32x2048 : Shape := ⟨3, ![1, 32, 2048]⟩
abbrev S1x32x128 : Shape := ⟨3, ![1, 32, 128]⟩

abbrev nBuf : Space → Nat
  | .hbm => 36
  | .vmem => 16
  | .smem => 0
  | _ => 0

abbrev bufTy : (tb : Table) → Fin (tcTables nBuf tb) → BufTy
  | .hbm, ⟨0, _⟩ => ⟨S32x14592, .f32⟩
  | .hbm, ⟨1, _⟩ => ⟨S128, .f32⟩
  | .hbm, ⟨2, _⟩ => ⟨S128, .f32⟩
  | .hbm, ⟨3, _⟩ => ⟨S_, .i32⟩
  | .hbm, ⟨4, _⟩ => ⟨S32, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S32, .f32⟩
  | .hbm, ⟨17, _⟩ => ⟨S32x1, .f32⟩
  | .hbm, ⟨18, _⟩ => ⟨S1x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x128, .f32⟩
  | .hbm, ⟨25, _⟩ => ⟨S32x64, .f32⟩
  | .hbm, ⟨26, _⟩ => ⟨S32x128, .f32⟩
  | .hbm, ⟨27, _⟩ => ⟨S1x32x14592, .f32⟩
  | .hbm, ⟨28, _⟩ => ⟨S1x128, .f32⟩
  | .hbm, ⟨29, _⟩ => ⟨S1x128, .f32⟩
  | .hbm, ⟨30, _⟩ => ⟨S1x32x1024, .f32⟩
  | .hbm, ⟨31, _⟩ => ⟨S1x32x1024, .f32⟩
  | .hbm, ⟨32, _⟩ => ⟨S1x32x1024, .f32⟩
  | .hbm, ⟨33, _⟩ => ⟨S1x32x2048, .bf16⟩
  | .hbm, ⟨34, _⟩ => ⟨S1x32x128, .f32⟩
  | .hbm, ⟨35, _⟩ => ⟨S1x32x128, .bf16⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x2048, .f32⟩
  | .local _ .vmem, ⟨4, _⟩ => ⟨S1x32x128, .f32⟩
  | .local _ .vmem, ⟨5, _⟩ => ⟨S1x32x128, .f32⟩
  | .local _ .vmem, ⟨6, _⟩ => ⟨S32x128, .f32⟩
  | .local _ .vmem, ⟨7, _⟩ => ⟨S32x128, .f32⟩
  | .local _ .vmem, ⟨8, _⟩ => ⟨S1x128, .f32⟩
  | .local _ .vmem, ⟨9, _⟩ => ⟨S1x128, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x2048, .bf16⟩
  | .local _ .vmem, ⟨14, _⟩ => ⟨S1x32x128, .f32⟩
  | .local _ .vmem, ⟨15, _⟩ => ⟨S1x32x128, .bf16⟩
  | _, _ => ⟨S32x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c112_i32 : BitVec 32 := 112#32
  let c0_i32 : BitVec 32 := 0#32
  ![arg0.toNat, arg1.toNat, c112_i32.toNat]

def cc0_transform_5 (i : grid0.Coords) : Fin 3 → Nat :=
  let arg0 : BitVec 32 := BitVec.ofNat 32 (i 0).val
  let arg1 : BitVec 32 := BitVec.ofNat 32 (i 1).val
  let c113_i32 : BitVec 32 := 113#32
  let c0_i32 : BitVec 32 := 0#32
  ![arg0.toNat, arg1.toNat, c113_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== AttPrepSRefIdeal.lean ====
abbrev S32x14592 : Shape := ⟨2, ![32, 14592]⟩
abbrev S128 : Shape := ⟨1, ![128]⟩
abbrev S32x1x14592 : Shape := ⟨3, ![32, 1, 14592]⟩
abbrev S1 : Shape := ⟨1, ![1]⟩
abbrev S_ : Shape := ⟨0, ![]⟩
abbrev S32x1x1024 : Shape := ⟨3, ![32, 1, 1024]⟩
abbrev S32x1x8x128 : Shape := ⟨4, ![32, 1, 8, 128]⟩
abbrev S32x1x2048 : Shape := ⟨3, ![32, 1, 2048]⟩
abbrev S32x1x16x128 : Shape := ⟨4, ![32, 1, 16, 128]⟩
abbrev S32x1x128 : Shape := ⟨3, ![32, 1, 128]⟩
abbrev S32x1x8 : Shape := ⟨3, ![32, 1, 8]⟩
abbrev S32x1x8x1 : Shape := ⟨4, ![32, 1, 8, 1]⟩
abbrev S1x1x1x128 : Shape := ⟨4, ![1, 1, 1, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S32x1x8x64 : Shape := ⟨4, ![32, 1, 8, 64]⟩
abbrev S1x1x1x64 : Shape := ⟨4, ![1, 1, 1, 64]⟩
abbrev S32x1x16x64 : Shape := ⟨4, ![32, 1, 16, 64]⟩
abbrev S32x1x1x128 : Shape := ⟨4, ![32, 1, 1, 128]⟩
abbrev S32x1x1x64 : Shape := ⟨4, ![32, 1, 1, 64]⟩
abbrev S1x32x1024 : Shape := ⟨3, ![1, 32, 1024]⟩
abbrev S1x32x2048 : Shape := ⟨3, ![1, 32, 2048]⟩
abbrev S1x32x128 : Shape := ⟨3, ![1, 32, 128]⟩

abbrev nBuf : Space → Nat
  | .hbm => 154
  | .vmem => 0
  | .smem => 0
  | _ => 0

abbrev hbmTy0_0 (i : Nat) : BufTy := match i % 128 with
  | 0 => ⟨S32x14592, .f32⟩
  | 1 => ⟨S128, .f32⟩
  | 2 => ⟨S128, .f32⟩
  | 3 => ⟨S32x1x14592, .f32⟩
  | 4 => ⟨S1, .i32⟩
  | 5 => ⟨S_, .i32⟩
  | 6 => ⟨S1, .i32⟩
  | 7 => ⟨S1, .i32⟩
  | 8 => ⟨S32x1x1024, .f32⟩
  | 9 => ⟨S32x1x8x128, .f32⟩
  | 10 => ⟨S32x1x1024, .f32⟩
  | 11 => ⟨S32x1x8x128, .f32⟩
  | 12 => ⟨S32x1x1024, .f32⟩
  | 13 => ⟨S32x1x8x128, .f32⟩
  | 14 => ⟨S32x1x2048, .f32⟩
  | 15 => ⟨S32x1x16x128, .f32⟩
  | 16 => ⟨S32x1x128, .f32⟩
  | 17 => ⟨S32x1x8x128, .f32⟩
  | 18 => ⟨S_, .f32⟩
  | 19 => ⟨S32x1x8, .f32⟩
  | 20 => ⟨S32x1x8x1, .f32⟩
  | 21 => ⟨S_, .f32⟩
  | 22 => ⟨S32x1x8x1, .f32⟩
  | 23 => ⟨S32x1x8x1, .f32⟩
  | 24 => ⟨S_, .f32⟩
  | 25 => ⟨S32x1x8x1, .f32⟩
  | 26 => ⟨S32x1x8x1, .f32⟩
  | 27 => ⟨S32x1x8x1, .f32⟩
  | 28 => ⟨S32x1x8x128, .f32⟩
  | 29 => ⟨S32x1x8x128, .f32⟩
  | 30 => ⟨S1x1x1x128, .f32⟩
  | 31 => ⟨S32x1x8x128, .f32⟩
  | 32 => ⟨S32x1x8x128, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S1, .f32⟩
  | 45 => ⟨S1x1, .f32⟩
  | 46 => ⟨S1x64, .f32⟩
  | 47 => ⟨S1x64, .f32⟩
  | 48 => ⟨S1x64, .f32⟩
  | 49 => ⟨S1x64, .f32⟩
  | 50 => ⟨S1x1x64, .f32⟩
  | 51 => ⟨S1x64, .f32⟩
  | 52 => ⟨S1x1x64, .f32⟩
  | 53 => ⟨S32x1x8x64, .f32⟩
  | 54 => ⟨S32x1x8x64, .f32⟩
  | 55 => ⟨S1x1x1x64, .f32⟩
  | 56 => ⟨S32x1x8x64, .f32⟩
  | 57 => ⟨S32x1x8x64, .f32⟩
  | 58 => ⟨S1x1x1x64, .f32⟩
  | 59 => ⟨S32x1x8x64, .f32⟩
  | 60 => ⟨S32x1x8x64, .f32⟩
  | 61 => ⟨S32x1x8x64, .f32⟩
  | 62 => ⟨S1x1x1x64, .f32⟩
  | 63 => ⟨S32x1x8x64, .f32⟩
  | 64 => ⟨S32x1x8x64, .f32⟩
  | 65 => ⟨S1x1x1x64, .f32⟩
  | 66 => ⟨S32x1x8x64, .f32⟩
  | 67 => ⟨S32x1x8x64, .f32⟩
  | 68 => ⟨S32x1x8x64, .f32⟩
  | 69 => ⟨S32x1x8x128, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S1, .f32⟩
  | 82 => ⟨S1x1, .f32⟩
  | 83 => ⟨S1x64, .f32⟩
  | 84 => ⟨S1x64, .f32⟩
  | 85 => ⟨S1x64, .f32⟩
  | 86 => ⟨S1x64, .f32⟩
  | 87 => ⟨S1x1x64, .f32⟩
  | 88 => ⟨S1x64, .f32⟩
  | 89 => ⟨S1x1x64, .f32⟩
  | 90 => ⟨S32x1x16x64, .f32⟩
  | 91 => ⟨S32x1x16x64, .f32⟩
  | 92 => ⟨S1x1x1x64, .f32⟩
  | 93 => ⟨S32x1x16x64, .f32⟩
  | 94 => ⟨S32x1x16x64, .f32⟩
  | 95 => ⟨S1x1x1x64, .f32⟩
  | 96 => ⟨S32x1x16x64, .f32⟩
  | 97 => ⟨S32x1x16x64, .f32⟩
  | 98 => ⟨S32x1x16x64, .f32⟩
  | 99 => ⟨S1x1x1x64, .f32⟩
  | 100 => ⟨S32x1x16x64, .f32⟩
  | 101 => ⟨S32x1x16x64, .f32⟩
  | 102 => ⟨S1x1x1x64, .f32⟩
  | 103 => ⟨S32x1x16x64, .f32⟩
  | 104 => ⟨S32x1x16x64, .f32⟩
  | 105 => ⟨S32x1x16x64, .f32⟩
  | 106 => ⟨S32x1x16x128, .f32⟩
  | 107 => ⟨S32x1x1x128, .f32⟩
  | 108 => ⟨S64, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S1, .f32⟩
  | 120 => ⟨S1x1, .f32⟩
  | 121 => ⟨S1x64, .f32⟩
  | 122 => ⟨S1x64, .f32⟩
  | 123 => ⟨S1x64, .f32⟩
  | 124 => ⟨S1x64, .f32⟩
  | 125 => ⟨S1x1x64, .f32⟩
  | 126 => ⟨S1x64, .f32⟩
  | 127 => ⟨S1x1x64, .f32⟩
  | _ => ⟨S32x14592, .f32⟩

abbrev hbmTy0_1 (i : Nat) : BufTy := match i % 128 with
  | 0 => ⟨S32x1x1x64, .f32⟩
  | 1 => ⟨S32x1x1x64, .f32⟩
  | 2 => ⟨S1x1x1x64, .f32⟩
  | 3 => ⟨S32x1x1x64, .f32⟩
  | 4 => ⟨S32x1x1x64, .f32⟩
  | 5 => ⟨S1x1x1x64, .f32⟩
  | 6 => ⟨S32x1x1x64, .f32⟩
  | 7 => ⟨S32x1x1x64, .f32⟩
  | 8 => ⟨S32x1x1x64, .f32⟩
  | 9 => ⟨S1x1x1x64, .f32⟩
  | 10 => ⟨S32x1x1x64, .f32⟩
  | 11 => ⟨S32x1x1x64, .f32⟩
  | 12 => ⟨S1x1x1x64, .f32⟩
  | 13 => ⟨S32x1x1x64, .f32⟩
  | 14 => ⟨S32x1x1x64, .f32⟩
  | 15 => ⟨S32x1x1x64, .f32⟩
  | 16 => ⟨S32x1x1x128, .f32⟩
  | 17 => ⟨S32x1x128, .f32⟩
  | 18 => ⟨S32x1x1024, .f32⟩
  | 19 => ⟨S32x1x1024, .f32⟩
  | 20 => ⟨S32x1x2048, .f32⟩
  | 21 => ⟨S32x1x2048, .bf16⟩
  | 22 => ⟨S1x32x1024, .f32⟩
  | 23 => ⟨S1x32x1024, .f32⟩
  | 24 => ⟨S1x32x2048, .bf16⟩
  | 25 => ⟨S1x32x128, .f32⟩
  | _ => ⟨S32x14592, .f32⟩

abbrev hbmTy (i : Nat) : BufTy := match i / 128 with
  | 0 => hbmTy0_0 i
  | 1 => hbmTy0_1 i
  | _ => ⟨S32x14592, .f32⟩

abbrev bufTy : (tb : Table) → Fin (tcTables nBuf tb) → BufTy
  | .hbm, ⟨i, _⟩ => hbmTy i
  | _, _ => ⟨S32x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_v98 : Ref sig .tc := ⟨.hbm, 112, rfl⟩
abbrev main_cst_9 : Ref sig .tc := ⟨.hbm, 113, rfl⟩
abbrev main_v99 : Ref sig .tc := ⟨.hbm, 114, rfl⟩
abbrev main_v100 : Ref sig .tc := ⟨.hbm, 115, rfl⟩
abbrev main_cst_10 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩

abbrev nD : Nat := 1
abbrev τ : Topo := Topo.v7x

variable {F : FTy → Type} [FloatOps F]
-- ==== TailS.lean ====
abbrev S32x1x1024 : Shape := ⟨3, ![32, 1, 1024]⟩
abbrev S32x1x14592 : Shape := ⟨3, ![32, 1, 14592]⟩
abbrev S32x1x2048 : Shape := ⟨3, ![32, 1, 2048]⟩
abbrev S32x1x256 : Shape := ⟨3, ![32, 1, 256]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S32x1024 : Shape := ⟨2, ![32, 1024]⟩
abbrev S32x14592 : Shape := ⟨2, ![32, 14592]⟩
abbrev S32x2048 : Shape := ⟨2, ![32, 2048]⟩
abbrev S32x256 : Shape := ⟨2, ![32, 256]⟩
abbrev S1x2048 : Shape := ⟨2, ![1, 2048]⟩
abbrev S32 : Shape := ⟨1, ![32]⟩
abbrev S32x1 : Shape := ⟨2, ![32, 1]⟩

abbrev nBuf : Space → Nat
  | .hbm => 23
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .bf16⟩
  | .hbm, ⟨2, _⟩ => ⟨S32x1x14592, .f32⟩
  | .hbm, ⟨3, _⟩ => ⟨S32x1x2048, .f32⟩
  | .hbm, ⟨4, _⟩ => ⟨S32x1x256, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S256x2048, .f32⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S2048x2048, .bf16⟩
  | .hbm, ⟨15, _⟩ => ⟨S256x2048, .bf16⟩
  | .hbm, ⟨16, _⟩ => ⟨S32x1024, .f32⟩
  | .hbm, ⟨17, _⟩ => ⟨S32x1024, .bf16⟩
  | .hbm, ⟨18, _⟩ => ⟨S32x14592, .f32⟩
  | .hbm, ⟨19, _⟩ => ⟨S32x2048, .f32⟩
  | .hbm, ⟨20, _⟩ => ⟨S32x256, .f32⟩
  | .hbm, ⟨21, _⟩ => ⟨S1x2048, .f32⟩
  | .hbm, ⟨22, _⟩ => ⟨S32x2048, .f32⟩
  | .local _ .vmem, ⟨0, _⟩ => ⟨S32x1024, .f32⟩
  | .local _ .vmem, ⟨1, _⟩ => ⟨S32x1024, .bf16⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x256, .f32⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S1x2048, .f32⟩
  | .local _ .vmem, ⟨10, _⟩ => ⟨S2048x2048, .bf16⟩
  | .local _ .vmem, ⟨11, _⟩ => ⟨S256x2048, .bf16⟩
  | .local _ .vmem, ⟨12, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== TailSRefIdeal.lean ====
abbrev S32x1x1024 : Shape := ⟨3, ![32, 1, 1024]⟩
abbrev S32x1x14592 : Shape := ⟨3, ![32, 1, 14592]⟩
abbrev S32x1x2048 : Shape := ⟨3, ![32, 1, 2048]⟩
abbrev S32x1x256 : Shape := ⟨3, ![32, 1, 256]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x2048 : Shape := ⟨2, ![32, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .bf16⟩
  | .hbm, ⟨2, _⟩ => ⟨S32x1x14592, .f32⟩
  | .hbm, ⟨3, _⟩ => ⟨S32x1x2048, .f32⟩
  | .hbm, ⟨4, _⟩ => ⟨S32x1x256, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S256x2048, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S32x1x2048, .f32⟩
  | .hbm, ⟨15, _⟩ => ⟨S_, .f32⟩
  | .hbm, ⟨16, _⟩ => ⟨S32x1x2048, .f32⟩
  | .hbm, ⟨17, _⟩ => ⟨S32x1x2048, .f32⟩
  | .hbm, ⟨18, _⟩ => ⟨S_, .f32⟩
  | .hbm, ⟨19, _⟩ => ⟨S32x1x2048, .f32⟩
  | .hbm, ⟨20, _⟩ => ⟨S32x1x2048, .f32⟩
  | .hbm, ⟨21, _⟩ => ⟨S32x1x2048, .f32⟩
  | .hbm, ⟨22, _⟩ => ⟨S32x1x2048, .f32⟩
  | .hbm, ⟨23, _⟩ => ⟨S32x1x2048, .f32⟩
  | .hbm, ⟨24, _⟩ => ⟨S32x1x2048, .f32⟩
  | .hbm, ⟨25, _⟩ => ⟨S_, .f32⟩
  | .hbm, ⟨26, _⟩ => ⟨S32x1x2048, .f32⟩
  | .hbm, ⟨27, _⟩ => ⟨S32x1x2048, .f32⟩
  | .hbm, ⟨28, _⟩ => ⟨S_, .f32⟩
  | .hbm, ⟨29, _⟩ => ⟨S32x1x2048, .f32⟩
  | .hbm, ⟨30, _⟩ => ⟨S32x1x2048, .f32⟩
  | .hbm, ⟨31, _⟩ => ⟨S32x1x1024, .f32⟩
  | .hbm, ⟨32, _⟩ => ⟨S32x1x2048, .f32⟩
  | .hbm, ⟨33, _⟩ => ⟨S32x1x2048, .f32⟩
  | .hbm, ⟨34, _⟩ => ⟨S32x1x2048, .f32⟩
  | .hbm, ⟨35, _⟩ => ⟨S32x1x2048, .f32⟩
  | .hbm, ⟨36, _⟩ => ⟨S32x1x2048, .f32⟩
  | .hbm, ⟨37, _⟩ => ⟨S32x1x2048, .f32⟩
  | .hbm, ⟨38, _⟩ => ⟨S_, .f32⟩
  | .hbm, ⟨39, _⟩ => ⟨S32x1, .f32⟩
  | .hbm, ⟨40, _⟩ => ⟨S32x1x1, .f32⟩
  | .hbm, ⟨41, _⟩ => ⟨S_, .f32⟩
  | .hbm, ⟨42, _⟩ => ⟨S32x1x1, .f32⟩
  | .hbm, ⟨43, _⟩ => ⟨S32x1x1, .f32⟩
  | .hbm, ⟨44, _⟩ => ⟨S_, .f32⟩
  | .hbm, ⟨45, _⟩ => ⟨S32x1x1, .f32⟩
  | .hbm, ⟨46, _⟩ => ⟨S32x1x1, .f32⟩
  | .hbm, ⟨47, _⟩ => ⟨S32x1x1, .f32⟩
  | .hbm, ⟨48, _⟩ => ⟨S32x1x2048, .f32⟩
  | .hbm, ⟨49, _⟩ => ⟨S32x1x2048, .f32⟩
  | .hbm, ⟨50, _⟩ => ⟨S1x1x2048, .f32⟩
  | .hbm, ⟨51, _⟩ => ⟨S32x1x2048, .f32⟩
  | .hbm, ⟨52, _⟩ => ⟨S32x1x2048, .f32⟩
  | .hbm, ⟨53, _⟩ => ⟨S32x1x2048, .f32⟩
  | .hbm, ⟨54, _⟩ => ⟨S32x1x2048, .f32⟩
  | .hbm, ⟨55, _⟩ => ⟨S32x1x2048, .f32⟩
  | .hbm, ⟨56, _⟩ => ⟨S_, .f32⟩
  | .hbm, ⟨57, _⟩ => ⟨S32x1x2048, .f32⟩
  | .hbm, ⟨58, _⟩ => ⟨S32x1x2048, .f32⟩
  | .hbm, ⟨59, _⟩ => ⟨S_, .f32⟩
  | .hbm, ⟨60, _⟩ => ⟨S32x1x2048, .f32⟩
  | .hbm, ⟨61, _⟩ => ⟨S32x1x2048, .f32⟩
  | .hbm, ⟨62, _⟩ => ⟨S32x1x2048, .f32⟩
  | .hbm, ⟨63, _⟩ => ⟨S32x1x2048, .f32⟩
  | .hbm, ⟨64, _⟩ => ⟨S32x1x2048, .f32⟩
  | .hbm, ⟨65, _⟩ => ⟨S32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Proof.Gdn.Chunk.lean ====
module
public import proofs.«01_k».proof.Proof.Gen.KernelIdeal.Skeleton
public import Idealize.ShloMosaic.Lib.Pointwise

/-! One chunk of the kernel's body at the ideal instance: the state it leaves, the normalised output it forms and the gated
    tile it stores, each as a plain formula in the arrays the body keeps for its eight heads and eight chunks. -/

@[expose] public section

set_option maxRecDepth 16384

noncomputable section

namespace Gdn
open Idealize.ShloMosaic Idealize.ShloMosaic.TcCoe
open Cert.KernelIdeal Cert.KernelIdeal.Gen

/-- The corrected values of chunk `ch` from the state `s` it starts at. -/
def vnew (ch : Fin 8) (u w : FVec Ideal S8x8x64x128 .f32) (s : FVec Ideal S8x128x128 .f32) (h : Fin 8) (i : Fin 64) (c : Fin 128) : EReal :=
  u (ix4 h ch i c) - ∑ a : Fin 128, w (ix4 h ch i a) * s (ix3 h a c)

/-- The state after chunk `ch`. -/
def nxt (ch : Fin 8) (u w kg : FVec Ideal S8x8x64x128 .f32) (gl : FVec Ideal S8x8x1x1 .f32) (s : FVec Ideal S8x128x128 .f32) :
    FVec Ideal S8x128x128 .f32 :=
  fun j => s (ix3 (j 0) (j 1) (j 2)) * gl (ix4 (j 0) ch 0 0)
    + ∑ i : Fin 64, kg (ix4 (j 0) ch i (j 1)) * vnew ch u w s (j 0) i (j 2)

/-- The raw output of chunk `ch`. -/
def raw (ch : Fin 8) (u w : FVec Ideal S8x8x64x128 .f32) (qk : FVec Ideal S8x8x64x64 .f32) (qg : FVec Ideal S8x8x64x128 .f32)
    (s : FVec Ideal S8x128x128 .f32) (h : Fin 8) (i : Fin 64) (c : Fin 128) : EReal :=
  (∑ a : Fin 128, qg (ix4 h ch i a) * s (ix3 h a c)) + ∑ j : Fin 64, qk (ix4 h ch i j) * vnew ch u w s h j c

/-- The normalised output of chunk `ch`. -/
def onF (ch : Fin 8) (u w : FVec Ideal S8x8x64x128 .f32) (qk : FVec Ideal S8x8x64x64 .f32) (qg : FVec Ideal S8x8x64x128 .f32)
    (gain : FVec Ideal S1x128 .f32) (s : FVec Ideal S8x128x128 .f32) : FVec Ideal S8x64x128 .f32 :=
  fun j => raw ch u w qk qg s (j 0) (j 1) (j 2)
    * Ideal.rsqrt (Ideal.div (∑ c : Fin 128, raw ch u w qk qg s (j 0) (j 1) c * raw ch u w qk qg s (j 0) (j 1) c) (Ideal.ofBits .f32 0x43000000#32)
        + Ideal.ofBits .f32 0x358637BD#32)
    * gain (ix2 0 (j 2))

/-- The gated tile of head `h`. -/
def tile (o : FVec Ideal S8x64x128 .f32) (h : Fin 8) (z : FVec Ideal S1x64x128 .f32) : FVec Ideal S1x64x128 .bf16 :=
  fun j => o (ix3 h (j 1) (j 2)) * (z (ix3 0 (j 1) (j 2)) * Ideal.div 1 (1 + Ideal.exp (0 - z (ix3 0 (j 1) (j 2)))))

/-- Chunk 0: the state it leaves. -/
theorem st0 (kg : FVec Ideal S8x8x64x128 .f32) (gl : FVec Ideal S8x8x1x1 .f32) (s : FVec Ideal S8x128x128 .f32) (v : FVec Ideal S64x64x128 .f32) (gcb : FVec Ideal S64x64x128 .f32) (bt : FVec Ideal S64x64x128 .f32) (kb : FVec Ideal S64x64x128 .f32) (p2 : FVec Ideal S64x64x64 .f32) (xm : FVec Ideal S64x64x64 .f32) :
    k0_pay45 kg gl s (k0_pay43 v gcb bt kb p2 xm s) = nxt 0 (k0_pay37 v bt p2 xm) (k0_pay38 gcb kb p2 xm) kg gl s := by
  funext j
  idx_vars j
  pointwise [k0_pay45, k0_pay43, nxt, vnew]

/-- Chunk 0: its normalised output. -/
theorem on0 (g : FVec Ideal S1x128 .f32) (q : FVec Ideal S64x64x128 .f32) (k : FVec Ideal S64x64x128 .f32) (v : FVec Ideal S64x64x128 .f32) (gcb : FVec Ideal S64x64x128 .f32) (bt : FVec Ideal S64x64x128 .f32) (de : FVec Ideal S64x64x64 .f32) (kb : FVec Ideal S64x64x128 .f32) (p2 : FVec Ideal S64x64x64 .f32) (xm : FVec Ideal S64x64x64 .f32) (s : FVec Ideal S8x128x128 .f32) :
    k0_pay46 g (k0_pay44 q k v gcb bt de kb p2 xm s) = onF 0 (k0_pay37 v bt p2 xm) (k0_pay38 gcb kb p2 xm) (k0_pay39 q k de) (k0_pay40 q gcb) g s := by
  funext j
  idx_vars j
  pointwise [k0_pay46, k0_pay44, k0_pay43, onF, raw, vnew]

/-- Chunk 1: the state it leaves. -/
theorem st1 (u : FVec Ideal S8x8x64x128 .f32) (w : FVec Ideal S8x8x64x128 .f32) (kg : FVec Ideal S8x8x64x128 .f32) (gl : FVec Ideal S8x8x1x1 .f32) (s : FVec Ideal S8x128x128 .f32) :
    k0_pay62 u w kg gl s = nxt 1 u w kg gl s := by
  funext j
  idx_vars j
  pointwise [k0_pay62, k0_pay61, nxt, vnew]

/-- Chunk 1: its normalised output. -/
theorem on1 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) :
    k0_pay63 u w qk qg g s = onF 1 u w qk qg g s := by
  funext j
  idx_vars j
  pointwise [k0_pay63, k0_pay61, onF, raw, vnew]

/-- Chunk 2: the state it leaves. -/
theorem st2 (u : FVec Ideal S8x8x64x128 .f32) (w : FVec Ideal S8x8x64x128 .f32) (kg : FVec Ideal S8x8x64x128 .f32) (gl : FVec Ideal S8x8x1x1 .f32) (s : FVec Ideal S8x128x128 .f32) :
    k0_pay80 u w kg gl s = nxt 2 u w kg gl s := by
  funext j
  idx_vars j
  pointwise [k0_pay80, k0_pay79, nxt, vnew]

/-- Chunk 2: its normalised output. -/
theorem on2 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) :
    k0_pay81 u w qk qg g s = onF 2 u w qk qg g s := by
  funext j
  idx_vars j
  pointwise [k0_pay81, k0_pay79, onF, raw, vnew]

/-- Chunk 3: the state it leaves. -/
theorem st3 (u : FVec Ideal S8x8x64x128 .f32) (w : FVec Ideal S8x8x64x128 .f32) (kg : FVec Ideal S8x8x64x128 .f32) (gl : FVec Ideal S8x8x1x1 .f32) (s : FVec Ideal S8x128x128 .f32) :
    k0_pay100 u w kg gl s = nxt 3 u w kg gl s := by
  funext j
  idx_vars j
  pointwise [k0_pay100, k0_pay98, nxt, vnew]

/-- Chunk 3: its normalised output. -/
theorem on3 (g : FVec Ideal S1x128 .f32) (u : FVec Ideal S8x8x64x128 .f32) (w : FVec Ideal S8x8x64x128 .f32) (qk : FVec Ideal S8x8x64x64 .f32) (qg : FVec Ideal S8x8x64x128 .f32) (s : FVec Ideal S8x128x128 .f32) :
    k0_pay101 g (k0_pay99 u w qk qg s) = onF 3 u w qk qg g s := by
  funext j
  idx_vars j
  pointwise [k0_pay101, k0_pay99, k0_pay98, onF, raw, vnew]

/-- Chunk 4: the state it leaves. -/
theorem st4 (kg : FVec Ideal S8x8x64x128 .f32) (gl : FVec Ideal S8x8x1x1 .f32) (s : FVec Ideal S8x128x128 .f32) (u : FVec Ideal S8x8x64x128 .f32) (w : FVec Ideal S8x8x64x128 .f32) :
    k0_pay117 kg gl s (k0_pay115 u w s) = nxt 4 u w kg gl s := by
  funext j
  idx_vars j
  pointwise [k0_pay117, k0_pay115, nxt, vnew]

/-- Chunk 4: its normalised output. -/
theorem on4 (qk : FVec Ideal S8x8x64x64 .f32) (g : FVec Ideal S1x128 .f32) (s : FVec Ideal S8x128x128 .f32) (u : FVec Ideal S8x8x64x128 .f32) (w : FVec Ideal S8x8x64x128 .f32) (qg : FVec Ideal S8x8x64x128 .f32) :
    k0_pay118 qk g s (k0_pay115 u w s) (k0_pay116 qg) = onF 4 u w qk qg g s := by
  funext j
  idx_vars j
  pointwise [k0_pay118, k0_pay115, k0_pay116, onF, raw, vnew]

/-- Chunk 5: the state it leaves. -/
theorem st5 (u : FVec Ideal S8x8x64x128 .f32) (w : FVec Ideal S8x8x64x128 .f32) (kg : FVec Ideal S8x8x64x128 .f32) (gl : FVec Ideal S8x8x1x1 .f32) (s : FVec Ideal S8x128x128 .f32) :
    k0_pay134 u w kg gl s = nxt 5 u w kg gl s := by
  funext j
  idx_vars j
  pointwise [k0_pay134, k0_pay133, nxt, vnew]

/-- Chunk 5: its normalised output. -/
theorem on5 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) :
    k0_pay135 u w qk qg g s = onF 5 u w qk qg g s := by
  funext j
  idx_vars j
  pointwise [k0_pay135, k0_pay133, onF, raw, vnew]

/-- Chunk 6: the state it leaves. -/
theorem st6 (u : FVec Ideal S8x8x64x128 .f32) (w : FVec Ideal S8x8x64x128 .f32) (kg : FVec Ideal S8x8x64x128 .f32) (gl : FVec Ideal S8x8x1x1 .f32) (s : FVec Ideal S8x128x128 .f32) :
    k0_pay155 u w kg gl s = nxt 6 u w kg gl s := by
  funext j
  idx_vars j
  pointwise [k0_pay155, k0_pay153, nxt, vnew]

/-- Chunk 6: its normalised output. -/
theorem on6 (g : FVec Ideal S1x128 .f32) (u : FVec Ideal S8x8x64x128 .f32) (w : FVec Ideal S8x8x64x128 .f32) (qk : FVec Ideal S8x8x64x64 .f32) (qg : FVec Ideal S8x8x64x128 .f32) (s : FVec Ideal S8x128x128 .f32) :
    k0_pay158 g (k0_pay154 u w qk qg s) (k0_pay156 u w qk qg s) (k0_pay157 (F := Ideal)) = onF 6 u w qk qg g s := by
  funext j
  idx_vars j
  pointwise [k0_pay158, k0_pay154, k0_pay156, k0_pay157, k0_pay153, onF, raw, vnew]

/-- Chunk 7: the state it leaves. -/
theorem st7 (kg : FVec Ideal S8x8x64x128 .f32) (s : FVec Ideal S8x128x128 .f32) (u : FVec Ideal S8x8x64x128 .f32) (w : FVec Ideal S8x8x64x128 .f32) (gl : FVec Ideal S8x8x1x1 .f32) :
    k0_pay174 kg s (k0_pay171 u w s) (k0_pay173 gl) = nxt 7 u w kg gl s := by
  funext j
  idx_vars j
  pointwise [k0_pay174, k0_pay171, k0_pay173, nxt, vnew]

/-- Chunk 7: its normalised output. -/
theorem on7 (g : FVec Ideal S1x128 .f32) (u : FVec Ideal S8x8x64x128 .f32) (w : FVec Ideal S8x8x64x128 .f32) (qk : FVec Ideal S8x8x64x64 .f32) (qg : FVec Ideal S8x8x64x128 .f32) (s : FVec Ideal S8x128x128 .f32) :
    k0_pay175 g (k0_pay172 u w qk qg s) = onF 7 u w qk qg g s := by
  funext j
  idx_vars j
  pointwise [k0_pay175, k0_pay172, k0_pay171, onF, raw, vnew]

end Gdn
-- ==== Proof.Gdn.Tiles.lean ====
module
public import proofs.«01_k».proof.Proof.Gdn.Chunk

/-! The sixty-four tiles a grid point stores: each is the gated tile of its chunk's normalised output and its head. -/

@[expose] public section

set_option maxRecDepth 16384

noncomputable section

namespace Gdn
open Idealize.ShloMosaic Idealize.ShloMosaic.TcCoe
open Cert.KernelIdeal Cert.KernelIdeal.Gen

/-- Chunk 0, head 0: the stored tile. -/
theorem tile_0_0 (g : FVec Ideal S1x128 .f32) (o : FVec Ideal S8x64x128 .f32) (z : FVec Ideal S1x64x128 .f32) :
    k0_pay47 g o z = tile (k0_pay46 g o) 0 z := by
  funext j
  idx_vars j
  pointwise [k0_pay47, tile]

/-- Chunk 0, head 1: the stored tile. -/
theorem tile_0_1 (g : FVec Ideal S1x128 .f32) (o : FVec Ideal S8x64x128 .f32) (z : FVec Ideal S1x64x128 .f32) :
    k0_pay50 (k0_pay48 g o) (k0_pay49 z) (FloatOps.ofBits .f32 0#32) = tile (k0_pay46 g o) 1 z := by
  funext j
  idx_vars j
  pointwise [k0_pay50, k0_pay48, k0_pay49, tile]

/-- Chunk 0, head 2: the stored tile. -/
theorem tile_0_2 (on : FVec Ideal S8x64x128 .f32) (z : FVec Ideal S1x64x128 .f32) :
    k0_pay51 on z = tile on 2 z := by
  funext j
  idx_vars j
  pointwise [k0_pay51, tile]

/-- Chunk 0, head 3: the stored tile. -/
theorem tile_0_3 (on : FVec Ideal S8x64x128 .f32) (z : FVec Ideal S1x64x128 .f32) :
    k0_pay55 (k0_pay52 on) (k0_pay53 z) (k0_pay54 z) = tile on 3 z := by
  funext j
  idx_vars j
  pointwise [k0_pay55, k0_pay52, k0_pay53, k0_pay54, tile]

/-- Chunk 0, head 4: the stored tile. -/
theorem tile_0_4 (on : FVec Ideal S8x64x128 .f32) (z : FVec Ideal S1x64x128 .f32) :
    k0_pay56 on z = tile on 4 z := by
  funext j
  idx_vars j
  pointwise [k0_pay56, tile]

/-- Chunk 0, head 5: the stored tile. -/
theorem tile_0_5 (on : FVec Ideal S8x64x128 .f32) (z : FVec Ideal S1x64x128 .f32) :
    k0_pay58 (k0_pay57 on z) = tile on 5 z := by
  funext j
  idx_vars j
  pointwise [k0_pay58, k0_pay57, tile]

/-- Chunk 0, head 6: the stored tile. -/
theorem tile_0_6 (on : FVec Ideal S8x64x128 .f32) (z : FVec Ideal S1x64x128 .f32) :
    k0_pay59 on z = tile on 6 z := by
  funext j
  idx_vars j
  pointwise [k0_pay59, tile]

/-- Chunk 0, head 7: the stored tile. -/
theorem tile_0_7 (on : FVec Ideal S8x64x128 .f32) (z : FVec Ideal S1x64x128 .f32) :
    k0_pay60 on z = tile on 7 z := by
  funext j
  idx_vars j
  pointwise [k0_pay60, tile]

/-- Chunk 1, head 0: the stored tile. -/
theorem tile_1_0 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) (z : FVec Ideal S1x64x128 .f32) :
    k0_pay66 (k0_pay64 u w qk qg g s) (k0_pay65 z) = tile (k0_pay63 u w qk qg g s) 0 z := by
  funext j
  idx_vars j
  pointwise [k0_pay66, k0_pay64, k0_pay65, tile]

/-- Chunk 1, head 1: the stored tile. -/
theorem tile_1_1 (on : FVec Ideal S8x64x128 .f32) (z : FVec Ideal S1x64x128 .f32) :
    k0_pay67 on z = tile on 1 z := by
  funext j
  idx_vars j
  pointwise [k0_pay67, tile]

/-- Chunk 1, head 2: the stored tile. -/
theorem tile_1_2 (on : FVec Ideal S8x64x128 .f32) (z : FVec Ideal S1x64x128 .f32) :
    k0_pay69 (k0_pay68 on z) = tile on 2 z := by
  funext j
  idx_vars j
  pointwise [k0_pay69, k0_pay68, tile]

/-- Chunk 1, head 3: the stored tile. -/
theorem tile_1_3 (on : FVec Ideal S8x64x128 .f32) (z : FVec Ideal S1x64x128 .f32) :
    k0_pay70 on z = tile on 3 z := by
  funext j
  idx_vars j
  pointwise [k0_pay70, tile]

/-- Chunk 1, head 4: the stored tile. -/
theorem tile_1_4 (on : FVec Ideal S8x64x128 .f32) (z : FVec Ideal S1x64x128 .f32) :
    k0_pay71 on z = tile on 4 z := by
  funext j
  idx_vars j
  pointwise [k0_pay71, tile]

/-- Chunk 1, head 5: the stored tile. -/
theorem tile_1_5 (on : FVec Ideal S8x64x128 .f32) (z : FVec Ideal S1x64x128 .f32) :
    k0_pay73 (k0_pay72 on) z = tile on 5 z := by
  funext j
  idx_vars j
  pointwise [k0_pay73, k0_pay72, tile]

/-- Chunk 1, head 6: the stored tile. -/
theorem tile_1_6 (on : FVec Ideal S8x64x128 .f32) (z : FVec Ideal S1x64x128 .f32) :
    k0_pay74 on z = tile on 6 z := by
  funext j
  idx_vars j
  pointwise [k0_pay74, tile]

/-- Chunk 1, head 7: the stored tile. -/
theorem tile_1_7 (on : FVec Ideal S8x64x128 .f32) (z : FVec Ideal S1x64x128 .f32) :
    k0_pay78 (k0_pay75 on) (k0_pay76 z) (k0_pay77 (F := Ideal)) = tile on 7 z := by
  funext j
  idx_vars j
  pointwise [k0_pay78, k0_pay75, k0_pay76, k0_pay77, tile]

/-- Chunk 2, head 0: the stored tile. -/
theorem tile_2_0 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) (z : FVec Ideal S1x64x128 .f32) :
    k0_pay83 (k0_pay82 u w qk qg g s) z = tile (k0_pay81 u w qk qg g s) 0 z := by
  funext j
  idx_vars j
  pointwise [k0_pay83, k0_pay82, tile]

/-- Chunk 2, head 1: the stored tile. -/
theorem tile_2_1 (on : FVec Ideal S8x64x128 .f32) (z : FVec Ideal S1x64x128 .f32) :
    k0_pay84 on z = tile on 1 z := by
  funext j
  idx_vars j
  pointwise [k0_pay84, tile]

/-- Chunk 2, head 2: the stored tile. -/
theorem tile_2_2 (on : FVec Ideal S8x64x128 .f32) (z : FVec Ideal S1x64x128 .f32) :
    k0_pay87 (k0_pay85 on) (k0_pay86 z) = tile on 2 z := by
  funext j
  idx_vars j
  pointwise [k0_pay87, k0_pay85, k0_pay86, tile]

/-- Chunk 2, head 3: the stored tile. -/
theorem tile_2_3 (on : FVec Ideal S8x64x128 .f32) (z : FVec Ideal S1x64x128 .f32) :
    k0_pay88 on z = tile on 3 z := by
  funext j
  idx_vars j
  pointwise [k0_pay88, tile]

/-- Chunk 2, head 4: the stored tile. -/
theorem tile_2_4 (on : FVec Ideal S8x64x128 .f32) (z : FVec Ideal S1x64x128 .f32) :
    k0_pay93 (k0_pay89 on) (k0_pay90 z) (k0_pay91 z) (k0_pay92 (F := Ideal)) = tile on 4 z := by
  funext j
  idx_vars j
  pointwise [k0_pay93, k0_pay89, k0_pay90, k0_pay91, k0_pay92, tile]

/-- Chunk 2, head 5: the stored tile. -/
theorem tile_2_5 (on : FVec Ideal S8x64x128 .f32) (z : FVec Ideal S1x64x128 .f32) :
    k0_pay94 on z = tile on 5 z := by
  funext j
  idx_vars j
  pointwise [k0_pay94, tile]

/-- Chunk 2, head 6: the stored tile. -/
theorem tile_2_6 (on : FVec Ideal S8x64x128 .f32) (z : FVec Ideal S1x64x128 .f32) :
    k0_pay96 (k0_pay95 on z) = tile on 6 z := by
  funext j
  idx_vars j
  pointwise [k0_pay96, k0_pay95, tile]

/-- Chunk 2, head 7: the stored tile. -/
theorem tile_2_7 (on : FVec Ideal S8x64x128 .f32) (z : FVec Ideal S1x64x128 .f32) :
    k0_pay97 on z = tile on 7 z := by
  funext j
  idx_vars j
  pointwise [k0_pay97, tile]

/-- Chunk 3, head 0: the stored tile. -/
theorem tile_3_0 (g : FVec Ideal S1x128 .f32) (o : FVec Ideal S8x64x128 .f32) (z : FVec Ideal S1x64x128 .f32) :
    k0_pay102 g o z = tile (k0_pay101 g o) 0 z := by
  funext j
  idx_vars j
  pointwise [k0_pay102, tile]

/-- Chunk 3, head 1: the stored tile. -/
theorem tile_3_1 (g : FVec Ideal S1x128 .f32) (o : FVec Ideal S8x64x128 .f32) (z : FVec Ideal S1x64x128 .f32) :
    k0_pay106 (k0_pay103 g o) (k0_pay104 z) (k0_pay105 z) = tile (k0_pay101 g o) 1 z := by
  funext j
  idx_vars j
  pointwise [k0_pay106, k0_pay103, k0_pay104, k0_pay105, tile]

/-- Chunk 3, head 2: the stored tile. -/
theorem tile_3_2 (on : FVec Ideal S8x64x128 .f32) (z : FVec Ideal S1x64x128 .f32) :
    k0_pay107 on z = tile on 2 z := by
  funext j
  idx_vars j
  pointwise [k0_pay107, tile]

/-- Chunk 3, head 3: the stored tile. -/
theorem tile_3_3 (on : FVec Ideal S8x64x128 .f32) (z : FVec Ideal S1x64x128 .f32) :
    k0_pay109 (k0_pay108 on z) = tile on 3 z := by
  funext j
  idx_vars j
  pointwise [k0_pay109, k0_pay108, tile]

/-- Chunk 3, head 4: the stored tile. -/
theorem tile_3_4 (on : FVec Ideal S8x64x128 .f32) (z : FVec Ideal S1x64x128 .f32) :
    k0_pay110 on z = tile on 4 z := by
  funext j
  idx_vars j
  pointwise [k0_pay110, tile]

/-- Chunk 3, head 5: the stored tile. -/
theorem tile_3_5 (on : FVec Ideal S8x64x128 .f32) (z : FVec Ideal S1x64x128 .f32) :
    k0_pay111 on z = tile on 5 z := by
  funext j
  idx_vars j
  pointwise [k0_pay111, tile]

/-- Chunk 3, head 6: the stored tile. -/
theorem tile_3_6 (on : FVec Ideal S8x64x128 .f32) (z : FVec Ideal S1x64x128 .f32) :
    k0_pay113 (k0_pay112 on) z = tile on 6 z := by
  funext j
  idx_vars j
  pointwise [k0_pay113, k0_pay112, tile]

/-- Chunk 3, head 7: the stored tile. -/
theorem tile_3_7 (on : FVec Ideal S8x64x128 .f32) (z : FVec Ideal S1x64x128 .f32) :
    k0_pay114 on z = tile on 7 z := by
  funext j
  idx_vars j
  pointwise [k0_pay114, tile]

/-- Chunk 4, head 0: the stored tile. -/
theorem tile_4_0 (qk : FVec Ideal S8x8x64x64 .f32) (g : FVec Ideal S1x128 .f32) (s : FVec Ideal S8x128x128 .f32) (vn : FVec Ideal S8x64x128 .f32) (qs : FVec Ideal S8x1x64x128 .f32) (z : FVec Ideal S1x64x128 .f32) :
    k0_pay119 qk g s vn qs z = tile (k0_pay118 qk g s vn qs) 0 z := by
  funext j
  idx_vars j
  pointwise [k0_pay119, tile]

/-- Chunk 4, head 1: the stored tile. -/
theorem tile_4_1 (on : FVec Ideal S8x64x128 .f32) (z : FVec Ideal S1x64x128 .f32) :
    k0_pay120 on z = tile on 1 z := by
  funext j
  idx_vars j
  pointwise [k0_pay120, tile]

/-- Chunk 4, head 2: the stored tile. -/
theorem tile_4_2 (on : FVec Ideal S8x64x128 .f32) (z : FVec Ideal S1x64x128 .f32) :
    k0_pay121 on z = tile on 2 z := by
  funext j
  idx_vars j
  pointwise [k0_pay121, tile]

/-- Chunk 4, head 3: the stored tile. -/
theorem tile_4_3 (on : FVec Ideal S8x64x128 .f32) (z : FVec Ideal S1x64x128 .f32) :
    k0_pay123 (k0_pay122 on) z = tile on 3 z := by
  funext j
  idx_vars j
  pointwise [k0_pay123, k0_pay122, tile]

/-- Chunk 4, head 4: the stored tile. -/
theorem tile_4_4 (on : FVec Ideal S8x64x128 .f32) (z : FVec Ideal S1x64x128 .f32) :
    k0_pay124 on z = tile on 4 z := by
  funext j
  idx_vars j
  pointwise [k0_pay124, tile]

/-- Chunk 4, head 5: the stored tile. -/
theorem tile_4_5 (on : FVec Ideal S8x64x128 .f32) (z : FVec Ideal S1x64x128 .f32) :
    k0_pay128 (k0_pay125 on) (k0_pay126 z) (k0_pay127 z) (FloatOps.ofBits .f32 1065353216#32) = tile on 5 z := by
  funext j
  idx_vars j
  pointwise [k0_pay128, k0_pay125, k0_pay126, k0_pay127, tile]

/-- Chunk 4, head 6: the stored tile. -/
theorem tile_4_6 (on : FVec Ideal S8x64x128 .f32) (z : FVec Ideal S1x64x128 .f32) :
    k0_pay129 on z = tile on 6 z := by
  funext j
  idx_vars j
  pointwise [k0_pay129, tile]

/-- Chunk 4, head 7: the stored tile. -/
theorem tile_4_7 (on : FVec Ideal S8x64x128 .f32) (z : FVec Ideal S1x64x128 .f32) :
    k0_pay132 (k0_pay130 on) (k0_pay131 z) = tile on 7 z := by
  funext j
  idx_vars j
  pointwise [k0_pay132, k0_pay130, k0_pay131, tile]

/-- Chunk 5, head 0: the stored tile. -/
theorem tile_5_0 (u : FVec Ideal S8x8x64x128 .f32) (w : FVec Ideal S8x8x64x128 .f32) (qk : FVec Ideal S8x8x64x64 .f32) (qg : FVec Ideal S8x8x64x128 .f32) (g : FVec Ideal S1x128 .f32) (s : FVec Ideal S8x128x128 .f32) (z : FVec Ideal S1x64x128 .f32) :
    k0_pay139 (k0_pay136 u w qk qg g s) (k0_pay137 z) (k0_pay138 z) = tile (k0_pay135 u w qk qg g s) 0 z := by
  funext j
  idx_vars j
  pointwise [k0_pay139, k0_pay136, k0_pay137, k0_pay138, tile]

/-- Chunk 5, head 1: the stored tile. -/
theorem tile_5_1 (on : FVec Ideal S8x64x128 .f32) (z : FVec Ideal S1x64x128 .f32) :
    k0_pay140 on z = tile on 1 z := by
  funext j
  idx_vars j
  pointwise [k0_pay140, tile]

/-- Chunk 5, head 2: the stored tile. -/
theorem tile_5_2 (on : FVec Ideal S8x64x128 .f32) (z : FVec Ideal S1x64x128 .f32) :
    k0_pay145 (k0_pay141 on) (k0_pay142 z) (k0_pay143 z) (k0_pay144 (F := Ideal)) = tile on 2 z := by
  funext j
  idx_vars j
  pointwise [k0_pay145, k0_pay141, k0_pay142, k0_pay143, k0_pay144, tile]

/-- Chunk 5, head 3: the stored tile. -/
theorem tile_5_3 (on : FVec Ideal S8x64x128 .f32) (z : FVec Ideal S1x64x128 .f32) :
    k0_pay146 on z = tile on 3 z := by
  funext j
  idx_vars j
  pointwise [k0_pay146, tile]

/-- Chunk 5, head 4: the stored tile. -/
theorem tile_5_4 (on : FVec Ideal S8x64x128 .f32) (z : FVec Ideal S1x64x128 .f32) :
    k0_pay148 (k0_pay147 on z) = tile on 4 z := by
  funext j
  idx_vars j
  pointwise [k0_pay148, k0_pay147, tile]

/-- Chunk 5, head 5: the stored tile. -/
theorem tile_5_5 (on : FVec Ideal S8x64x128 .f32) (z : FVec Ideal S1x64x128 .f32) :
    k0_pay149 on z = tile on 5 z := by
  funext j
  idx_vars j
  pointwise [k0_pay149, tile]

/-- Chunk 5, head 6: the stored tile. -/
theorem tile_5_6 (on : FVec Ideal S8x64x128 .f32) (z : FVec Ideal S1x64x128 .f32) :
    k0_pay150 on z = tile on 6 z := by
  funext j
  idx_vars j
  pointwise [k0_pay150, tile]

/-- Chunk 5, head 7: the stored tile. -/
theorem tile_5_7 (on : FVec Ideal S8x64x128 .f32) (z : FVec Ideal S1x64x128 .f32) :
    k0_pay152 (k0_pay151 on) z = tile on 7 z := by
  funext j
  idx_vars j
  pointwise [k0_pay152, k0_pay151, tile]

/-- Chunk 6, head 0: the stored tile. -/
theorem tile_6_0 (g : FVec Ideal S1x128 .f32) (o : FVec Ideal S8x64x128 .f32) (ms : FVec Ideal S8x64x1 .f32) (z : FVec Ideal S1x64x128 .f32) :
    k0_pay159 g o ms (k0_pay157 (F := Ideal)) z = tile (k0_pay158 g o ms (k0_pay157 (F := Ideal))) 0 z := by
  funext j
  idx_vars j
  pointwise [k0_pay159, k0_pay157, tile]

/-- Chunk 6, head 1: the stored tile. -/
theorem tile_6_1 (g : FVec Ideal S1x128 .f32) (o : FVec Ideal S8x64x128 .f32) (ms : FVec Ideal S8x64x1 .f32) (z : FVec Ideal S1x64x128 .f32) :
    k0_pay160 g o ms (k0_pay157 (F := Ideal)) z = tile (k0_pay158 g o ms (k0_pay157 (F := Ideal))) 1 z := by
  funext j
  idx_vars j
  pointwise [k0_pay160, k0_pay157, tile]

/-- Chunk 6, head 2: the stored tile. -/
theorem tile_6_2 (on : FVec Ideal S8x64x128 .f32) (z : FVec Ideal S1x64x128 .f32) :
    k0_pay161 on z = tile on 2 z := by
  funext j
  idx_vars j
  pointwise [k0_pay161, tile]

/-- Chunk 6, head 3: the stored tile. -/
theorem tile_6_3 (on : FVec Ideal S8x64x128 .f32) (z : FVec Ideal S1x64x128 .f32) :
    k0_pay162 on z = tile on 3 z := by
  funext j
  idx_vars j
  pointwise [k0_pay162, tile]

/-- Chunk 6, head 4: the stored tile. -/
theorem tile_6_4 (on : FVec Ideal S8x64x128 .f32) (z : FVec Ideal S1x64x128 .f32) :
    k0_pay164 (k0_pay163 on) z = tile on 4 z := by
  funext j
  idx_vars j
  pointwise [k0_pay164, k0_pay163, tile]

/-- Chunk 6, head 5: the stored tile. -/
theorem tile_6_5 (on : FVec Ideal S8x64x128 .f32) (z : FVec Ideal S1x64x128 .f32) :
    k0_pay165 on z = tile on 5 z := by
  funext j
  idx_vars j
  pointwise [k0_pay165, tile]

/-- Chunk 6, head 6: the stored tile. -/
theorem tile_6_6 (on : FVec Ideal S8x64x128 .f32) (z : FVec Ideal S1x64x128 .f32) :
    k0_pay169 (k0_pay166 on) (k0_pay167 z) (k0_pay168 z) = tile on 6 z := by
  funext j
  idx_vars j
  pointwise [k0_pay169, k0_pay166, k0_pay167, k0_pay168, tile]

/-- Chunk 6, head 7: the stored tile. -/
theorem tile_6_7 (on : FVec Ideal S8x64x128 .f32) (z : FVec Ideal S1x64x128 .f32) :
    k0_pay170 on z = tile on 7 z := by
  funext j
  idx_vars j
  pointwise [k0_pay170, tile]

/-- Chunk 7, head 0: the stored tile. -/
theorem tile_7_0 (g : FVec Ideal S1x128 .f32) (o : FVec Ideal S8x64x128 .f32) (z : FVec Ideal S1x64x128 .f32) :
    k0_pay176 g o z = tile (k0_pay175 g o) 0 z := by
  funext j
  idx_vars j
  pointwise [k0_pay176, tile]

/-- Chunk 7, head 1: the stored tile. -/
theorem tile_7_1 (g : FVec Ideal S1x128 .f32) (o : FVec Ideal S8x64x128 .f32) (z : FVec Ideal S1x64x128 .f32) :
    k0_pay180 (k0_pay177 g o) (k0_pay178 z) (k0_pay179 (F := Ideal)) = tile (k0_pay175 g o) 1 z := by
  funext j
  idx_vars j
  pointwise [k0_pay180, k0_pay177, k0_pay178, k0_pay179, tile]

/-- Chunk 7, head 2: the stored tile. -/
theorem tile_7_2 (on : FVec Ideal S8x64x128 .f32) (z : FVec Ideal S1x64x128 .f32) :
    k0_pay181 on z = tile on 2 z := by
  funext j
  idx_vars j
  pointwise [k0_pay181, tile]

/-- Chunk 7, head 3: the stored tile. -/
theorem tile_7_3 (on : FVec Ideal S8x64x128 .f32) (z : FVec Ideal S1x64x128 .f32) :
    k0_pay185 (k0_pay182 on) (k0_pay183 z) (k0_pay184 z) (FloatOps.ofBits .f32 1065353216#32) = tile on 3 z := by
  funext j
  idx_vars j
  pointwise [k0_pay185, k0_pay182, k0_pay183, k0_pay184, tile]

/-- Chunk 7, head 4: the stored tile. -/
theorem tile_7_4 (on : FVec Ideal S8x64x128 .f32) (z : FVec Ideal S1x64x128 .f32) :
    k0_pay186 on z = tile on 4 z := by
  funext j
  idx_vars j
  pointwise [k0_pay186, tile]

/-- Chunk 7, head 5: the stored tile. -/
theorem tile_7_5 (on : FVec Ideal S8x64x128 .f32) (z : FVec Ideal S1x64x128 .f32) :
    k0_pay188 (k0_pay187 on z) = tile on 5 z := by
  funext j
  idx_vars j
  pointwise [k0_pay188, k0_pay187, tile]

/-- Chunk 7, head 6: the stored tile. -/
theorem tile_7_6 (on : FVec Ideal S8x64x128 .f32) (z : FVec Ideal S1x64x128 .f32) :
    k0_pay189 on z = tile on 6 z := by
  funext j
  idx_vars j
  pointwise [k0_pay189, tile]

/-- Chunk 7, head 7: the stored tile. -/
theorem tile_7_7 (on : FVec Ideal S8x64x128 .f32) (z : FVec Ideal S1x64x128 .f32) :
    k0_pay190 on z = tile on 7 z := by
  funext j
  idx_vars j
  pointwise [k0_pay190, tile]

end Gdn
-- ==== Proof.Gdn.Stack.lean ====
module
public import proofs.«01_k».proof.Proof.Gen.KernelIdeal.Frame
public import proofs.«01_k».proof.Proof.Gdn.Tiles
public import Idealize.ShloMosaic.Lib.Pipeline.ValueKit

/-! The stacks the body forms of a block: the sixty-four pieces (head by head, chunk by chunk) of a block of 512 tokens by eight
    heads, whichever way the body puts them together. -/

@[expose] public section

set_option maxRecDepth 16384

noncomputable section

namespace Gdn
open Idealize.ShloMosaic Idealize.ShloMosaic.TcCoe Idealize.SL.Sem
open Cert.KernelIdeal Cert.KernelIdeal.Gen

/-- The entry of a block that is row `i`, column `a` of piece `b`: head `b / 8`, chunk `b % 8`. -/
def stkAt (x : FVec Ideal S1x512x1024 .f32) (b i : Fin 64) (a : Fin 128) : EReal :=
  x (ix3 0 ⟨64 * (b.val % 8) + i.val, by omega⟩ ⟨128 * (b.val / 8) + a.val, by omega⟩)

/-- The stack of a block. -/
def stk (x : FVec Ideal S1x512x1024 .f32) : FVec Ideal S64x64x128 .f32 := fun j => stkAt x (j 0) (j 1) (j 2)

/-- Equal places give equal entries. -/
theorem stkAt_of (x : FVec Ideal S1x512x1024 .f32) (b i : Fin 64) (a : Fin 128) (r : Fin 512) (c : Fin 1024)
    (hr : r.val = 64 * (b.val % 8) + i.val) (hc : c.val = 128 * (b.val / 8) + a.val) : x (ix3 0 r c) = stkAt x b i a :=
  congrArg₂ (fun r c => x (ix3 0 r c)) (Fin.ext hr) (Fin.ext hc)

/-- The stack of the queries. -/
theorem fQ (x : FVec Ideal S1x512x1024 .f32) : k0_pay14 (F := Ideal) (k0_pay7 (View.ld (Val := Elt Ideal) (e' := .f32) x (Rect.unit (s := S1x512x1024) ![0, 0, 0] ![1, 512, 128] inb_S1x512x1024_S1x512x128_0_0_0))) (k0_pay8 (View.ld (Val := Elt Ideal) (e' := .f32) x (Rect.unit (s := S1x512x1024) ![0, 0, 128] ![1, 512, 128] inb_S1x512x1024_S1x512x128_0_0_128))) (k0_pay9 (View.ld (Val := Elt Ideal) (e' := .f32) x (Rect.unit (s := S1x512x1024) ![0, 0, 256] ![1, 512, 128] inb_S1x512x1024_S1x512x128_0_0_256))) (k0_pay10 (View.ld (Val := Elt Ideal) (e' := .f32) x (Rect.unit (s := S1x512x1024) ![0, 0, 384] ![1, 512, 128] inb_S1x512x1024_S1x512x128_0_0_384))) (k0_pay11 (View.ld (Val := Elt Ideal) (e' := .f32) x (Rect.unit (s := S1x512x1024) ![0, 0, 512] ![1, 512, 128] inb_S1x512x1024_S1x512x128_0_0_512))) (k0_pay12 (View.ld (Val := Elt Ideal) (e' := .f32) x (Rect.unit (s := S1x512x1024) ![0, 0, 640] ![1, 512, 128] inb_S1x512x1024_S1x512x128_0_0_640))) (k0_pay13 (View.ld (Val := Elt Ideal) (e' := .f32) x (Rect.unit (s := S1x512x1024) ![0, 0, 768] ![1, 512, 128] inb_S1x512x1024_S1x512x128_0_0_768))) (View.ld (Val := Elt Ideal) (e' := .f32) x (Rect.unit (s := S1x512x1024) ![0, 0, 896] ![1, 512, 128] inb_S1x512x1024_S1x512x128_0_0_896)) = stk x := by
  funext j
  idx_vars j
  pointwise [k0_pay14, k0_pay7, k0_pay8, k0_pay9, k0_pay10, k0_pay11, k0_pay12, k0_pay13, stk]
  split_ifs <;> refine stkAt_of _ _ _ _ _ _ ?_ ?_ <;> dsimp only <;> omega

/-- The stack of the keys. -/
theorem fK (x : FVec Ideal S1x512x1024 .f32) : k0_pay15 (F := Ideal) (View.ld (Val := Elt Ideal) (e' := .f32) x (Rect.unit (s := S1x512x1024) ![0, 0, 0] ![1, 512, 128] inb_S1x512x1024_S1x512x128_0_0_0)) (View.ld (Val := Elt Ideal) (e' := .f32) x (Rect.unit (s := S1x512x1024) ![0, 0, 128] ![1, 512, 128] inb_S1x512x1024_S1x512x128_0_0_128)) (View.ld (Val := Elt Ideal) (e' := .f32) x (Rect.unit (s := S1x512x1024) ![0, 0, 256] ![1, 512, 128] inb_S1x512x1024_S1x512x128_0_0_256)) (View.ld (Val := Elt Ideal) (e' := .f32) x (Rect.unit (s := S1x512x1024) ![0, 0, 384] ![1, 512, 128] inb_S1x512x1024_S1x512x128_0_0_384)) (View.ld (Val := Elt Ideal) (e' := .f32) x (Rect.unit (s := S1x512x1024) ![0, 0, 512] ![1, 512, 128] inb_S1x512x1024_S1x512x128_0_0_512)) (View.ld (Val := Elt Ideal) (e' := .f32) x (Rect.unit (s := S1x512x1024) ![0, 0, 640] ![1, 512, 128] inb_S1x512x1024_S1x512x128_0_0_640)) (View.ld (Val := Elt Ideal) (e' := .f32) x (Rect.unit (s := S1x512x1024) ![0, 0, 768] ![1, 512, 128] inb_S1x512x1024_S1x512x128_0_0_768)) (View.ld (Val := Elt Ideal) (e' := .f32) x (Rect.unit (s := S1x512x1024) ![0, 0, 896] ![1, 512, 128] inb_S1x512x1024_S1x512x128_0_0_896)) = stk x := by
  funext j
  idx_vars j
  pointwise [k0_pay15, stk]
  split_ifs <;> refine stkAt_of _ _ _ _ _ _ ?_ ?_ <;> dsimp only <;> omega

/-- The stack of the values. -/
theorem fV (x : FVec Ideal S1x512x1024 .f32) : k0_pay17 (F := Ideal) (k0_pay16 (View.ld (Val := Elt Ideal) (e' := .f32) x (Rect.unit (s := S1x512x1024) ![0, 0, 0] ![1, 512, 128] inb_S1x512x1024_S1x512x128_0_0_0))) (View.ld (Val := Elt Ideal) (e' := .f32) x (Rect.unit (s := S1x512x1024) ![0, 0, 128] ![1, 512, 128] inb_S1x512x1024_S1x512x128_0_0_128)) (View.ld (Val := Elt Ideal) (e' := .f32) x (Rect.unit (s := S1x512x1024) ![0, 0, 256] ![1, 512, 128] inb_S1x512x1024_S1x512x128_0_0_256)) (View.ld (Val := Elt Ideal) (e' := .f32) x (Rect.unit (s := S1x512x1024) ![0, 0, 384] ![1, 512, 128] inb_S1x512x1024_S1x512x128_0_0_384)) (View.ld (Val := Elt Ideal) (e' := .f32) x (Rect.unit (s := S1x512x1024) ![0, 0, 512] ![1, 512, 128] inb_S1x512x1024_S1x512x128_0_0_512)) (View.ld (Val := Elt Ideal) (e' := .f32) x (Rect.unit (s := S1x512x1024) ![0, 0, 640] ![1, 512, 128] inb_S1x512x1024_S1x512x128_0_0_640)) (View.ld (Val := Elt Ideal) (e' := .f32) x (Rect.unit (s := S1x512x1024) ![0, 0, 768] ![1, 512, 128] inb_S1x512x1024_S1x512x128_0_0_768)) (View.ld (Val := Elt Ideal) (e' := .f32) x (Rect.unit (s := S1x512x1024) ![0, 0, 896] ![1, 512, 128] inb_S1x512x1024_S1x512x128_0_0_896)) = stk x := by
  funext j
  idx_vars j
  pointwise [k0_pay17, k0_pay16, stk]
  split_ifs <;> refine stkAt_of _ _ _ _ _ _ ?_ ?_ <;> dsimp only <;> omega

/-- The stack of the cumulative gates. -/
theorem fG (x : FVec Ideal S1x512x1024 .f32) : k0_pay21 (F := Ideal) (k0_pay18 (View.ld (Val := Elt Ideal) (e' := .f32) x (Rect.unit (s := S1x512x1024) ![0, 0, 0] ![1, 512, 128] inb_S1x512x1024_S1x512x128_0_0_0))) (k0_pay19 (View.ld (Val := Elt Ideal) (e' := .f32) x (Rect.unit (s := S1x512x1024) ![0, 0, 128] ![1, 512, 128] inb_S1x512x1024_S1x512x128_0_0_128))) (k0_pay20 (View.ld (Val := Elt Ideal) (e' := .f32) x (Rect.unit (s := S1x512x1024) ![0, 0, 256] ![1, 512, 128] inb_S1x512x1024_S1x512x128_0_0_256))) (View.ld (Val := Elt Ideal) (e' := .f32) x (Rect.unit (s := S1x512x1024) ![0, 0, 384] ![1, 512, 128] inb_S1x512x1024_S1x512x128_0_0_384)) (View.ld (Val := Elt Ideal) (e' := .f32) x (Rect.unit (s := S1x512x1024) ![0, 0, 512] ![1, 512, 128] inb_S1x512x1024_S1x512x128_0_0_512)) (View.ld (Val := Elt Ideal) (e' := .f32) x (Rect.unit (s := S1x512x1024) ![0, 0, 640] ![1, 512, 128] inb_S1x512x1024_S1x512x128_0_0_640)) (View.ld (Val := Elt Ideal) (e' := .f32) x (Rect.unit (s := S1x512x1024) ![0, 0, 768] ![1, 512, 128] inb_S1x512x1024_S1x512x128_0_0_768)) (View.ld (Val := Elt Ideal) (e' := .f32) x (Rect.unit (s := S1x512x1024) ![0, 0, 896] ![1, 512, 128] inb_S1x512x1024_S1x512x128_0_0_896)) = stk x := by
  funext j
  idx_vars j
  pointwise [k0_pay21, k0_pay18, k0_pay19, k0_pay20, stk]
  split_ifs <;> refine stkAt_of _ _ _ _ _ _ ?_ ?_ <;> dsimp only <;> omega

/-- The stack of the gates of the rule. -/
theorem fB (x : FVec Ideal S1x512x1024 .f32) : k0_pay26 (F := Ideal) (k0_pay22 (View.ld (Val := Elt Ideal) (e' := .f32) x (Rect.unit (s := S1x512x1024) ![0, 0, 0] ![1, 512, 128] inb_S1x512x1024_S1x512x128_0_0_0))) (k0_pay23 (View.ld (Val := Elt Ideal) (e' := .f32) x (Rect.unit (s := S1x512x1024) ![0, 0, 128] ![1, 512, 128] inb_S1x512x1024_S1x512x128_0_0_128))) (k0_pay24 (View.ld (Val := Elt Ideal) (e' := .f32) x (Rect.unit (s := S1x512x1024) ![0, 0, 256] ![1, 512, 128] inb_S1x512x1024_S1x512x128_0_0_256))) (k0_pay25 (View.ld (Val := Elt Ideal) (e' := .f32) x (Rect.unit (s := S1x512x1024) ![0, 0, 384] ![1, 512, 128] inb_S1x512x1024_S1x512x128_0_0_384))) (View.ld (Val := Elt Ideal) (e' := .f32) x (Rect.unit (s := S1x512x1024) ![0, 0, 512] ![1, 512, 128] inb_S1x512x1024_S1x512x128_0_0_512)) (View.ld (Val := Elt Ideal) (e' := .f32) x (Rect.unit (s := S1x512x1024) ![0, 0, 640] ![1, 512, 128] inb_S1x512x1024_S1x512x128_0_0_640)) (View.ld (Val := Elt Ideal) (e' := .f32) x (Rect.unit (s := S1x512x1024) ![0, 0, 768] ![1, 512, 128] inb_S1x512x1024_S1x512x128_0_0_768)) (View.ld (Val := Elt Ideal) (e' := .f32) x (Rect.unit (s := S1x512x1024) ![0, 0, 896] ![1, 512, 128] inb_S1x512x1024_S1x512x128_0_0_896)) = stk x := by
  funext j
  idx_vars j
  pointwise [k0_pay26, k0_pay22, k0_pay23, k0_pay24, k0_pay25, stk]
  split_ifs <;> refine stkAt_of _ _ _ _ _ _ ?_ ?_ <;> dsimp only <;> omega

end Gdn
-- ==== Proof.Gdn.Math.lean ====
module

public import Mathlib.Analysis.SpecialFunctions.Exp
public import Mathlib.LinearAlgebra.Matrix.Notation
public import Mathlib.Data.Matrix.Mul
public import Mathlib.Tactic.NoncommRing
public import Mathlib.Tactic.Ring

@[expose] public section

noncomputable section

/-! The gated delta rule over the reals, one head of one sequence: the token recurrence, the chunked form of it that works on
64 tokens at a time, and the theorem that the two agree. -/

namespace Gdn

/-- A head's state: key dimension by value dimension. -/
abbrev St := Fin 128 → Fin 128 → ℝ

/-- The inputs of one head of one sequence, by token. -/
structure Inp where
  /-- queries -/
  q : ℕ → Fin 128 → ℝ
  /-- keys -/
  k : ℕ → Fin 128 → ℝ
  /-- values -/
  v : ℕ → Fin 128 → ℝ
  /-- write strengths -/
  be : ℕ → ℝ
  /-- log decays -/
  g : ℕ → ℝ

variable (I : Inp)

/-- The state after token `t`, of the state before it: decay, then the delta rule's rank-one write. -/
def step (t : ℕ) (S : St) : St := fun a c =>
  S a c * Real.exp (I.g t) + I.k t a * (I.be t * (I.v t c - ∑ d, I.k t d * (S d c * Real.exp (I.g t))))

/-- The state before token `t`. -/
def seqS (S0 : St) : ℕ → St
  | 0 => S0
  | t + 1 => step I t (seqS S0 t)

/-- The output at token `t`: the query against the state after the token. -/
def seqO (S0 : St) (t : ℕ) (c : Fin 128) : ℝ := ∑ a, I.q t a * seqS I S0 (t + 1) a c

/-- The log decays summed over the first `i` tokens from token `n` on. -/
def Gp (n i : ℕ) : ℝ := ∑ l ∈ Finset.range i, I.g (n + l)

theorem Gp_succ (n i : ℕ) : Gp I n (i + 1) = Gp I n i + I.g (n + i) := Finset.sum_range_succ _ _

/-- What the delta rule writes at token `n + i` solves the triangular system of its chunk; then the state `i` tokens into the chunk
is the chunk's first state decayed, plus every write so far decayed. -/
theorem seqS_chunk (S0 : St) (n : ℕ) (vn : ℕ → Fin 128 → ℝ)
    (hvn : ∀ i < 64, ∀ c, vn i c = I.be (n + i) * (I.v (n + i) c - Real.exp (Gp I n (i + 1)) * ∑ a, I.k (n + i) a * seqS I S0 n a c
      - ∑ j ∈ Finset.range i, Real.exp (Gp I n (i + 1) - Gp I n (j + 1)) * (∑ d, I.k (n + i) d * I.k (n + j) d) * vn j c)) :
    ∀ i ≤ 64, ∀ a c, seqS I S0 (n + i) a c = Real.exp (Gp I n i) * seqS I S0 n a c
      + ∑ j ∈ Finset.range i, Real.exp (Gp I n i - Gp I n (j + 1)) * I.k (n + j) a * vn j c := by
  intro i
  induction i with
  | zero => intro _ a c; simp [Gp]
  | succ i ih =>
    intro hi a c
    have ih' := ih (by omega)
    have hdec : ∀ a c, seqS I S0 (n + i) a c * Real.exp (I.g (n + i)) = Real.exp (Gp I n (i + 1)) * seqS I S0 n a c
        + ∑ j ∈ Finset.range i, Real.exp (Gp I n (i + 1) - Gp I n (j + 1)) * I.k (n + j) a * vn j c := by
      intro a c
      rw [ih', add_mul, Finset.sum_mul, Gp_succ]
      congr 1
      · rw [Real.exp_add]; ring
      · refine Finset.sum_congr rfl fun j _ => ?_
        rw [show Gp I n i + I.g (n + i) - Gp I n (j + 1) = (Gp I n i - Gp I n (j + 1)) + I.g (n + i) by ring, Real.exp_add]; ring
    have hw : I.be (n + i) * (I.v (n + i) c - ∑ d, I.k (n + i) d * (seqS I S0 (n + i) d c * Real.exp (I.g (n + i)))) = vn i c := by
      rw [hvn i (by omega)]
      congr 1
      rw [sub_sub]
      congr 1
      simp only [hdec, mul_add, Finset.sum_add_distrib, Finset.mul_sum]
      congr 1
      · exact Finset.sum_congr rfl fun d _ => by ring
      · rw [Finset.sum_comm]
        refine Finset.sum_congr rfl fun j _ => ?_
        rw [Finset.sum_mul]
        exact Finset.sum_congr rfl fun d _ => by ring
    show step I (n + i) (seqS I S0 (n + i)) a c = _
    rw [step, hw, hdec, Finset.sum_range_succ, sub_self, Real.exp_zero]
    ring

/-- One doubling step of the inverse: from `a * x = 1 - p * p` to `a * (x + x * (p * p)) = 1 - (p * p) * (p * p)`. -/
theorem double {R : Type*} [Ring R] (a x p : R) (h : a * x = 1 - p * p) :
    a * (x + x * (p * p)) = 1 - (p * p) * (p * p) := by
  rw [mul_add, ← mul_assoc a x, h]; noncomm_ring

/-- A strictly lower triangular matrix to the power `p` is zero less than `p` below its diagonal. -/
theorem pow_strict {N : ℕ} (M : Matrix (Fin N) (Fin N) ℝ) (hM : ∀ i j : Fin N, ¬ j < i → M i j = 0) :
    ∀ (p : ℕ) (i j : Fin N), i.val < j.val + p → (M ^ p) i j = 0 := by
  intro p
  induction p with
  | zero => intro i j h; rw [pow_zero, Matrix.one_apply_ne]; rintro rfl; omega
  | succ p ih =>
    intro i j h
    rw [pow_succ, Matrix.mul_apply]
    refine Finset.sum_eq_zero fun l _ => ?_
    by_cases hl : j < l
    · rw [ih i l (by have : j.val < l.val := hl; omega), zero_mul]
    · rw [hM l j hl, mul_zero]

/-- The inverse the chunk is solved with: five doublings from `1 - M`. -/
def inv (M : Matrix (Fin 64) (Fin 64) ℝ) : Matrix (Fin 64) (Fin 64) ℝ :=
  let x0 := 1 - M
  let p1 := M * M
  let x1 := x0 + x0 * p1
  let p2 := p1 * p1
  let x2 := x1 + x1 * p2
  let p3 := p2 * p2
  let x3 := x2 + x2 * p3
  let p4 := p3 * p3
  let x4 := x3 + x3 * p4
  let p5 := p4 * p4
  x4 + x4 * p5

/-- It is the inverse of `1 + M` when `M` is strictly lower triangular. -/
theorem mul_inv (M : Matrix (Fin 64) (Fin 64) ℝ) (hM : ∀ i j : Fin 64, ¬ j < i → M i j = 0) : (1 + M) * inv M = 1 := by
  have h0 : (1 + M) * (1 - M) = 1 - M * M := by noncomm_ring
  have h5 := double _ _ _ (double _ _ _ (double _ _ _ (double _ _ _ (double _ _ _ h0))))
  have hpow : ((((M * M) * (M * M)) * ((M * M) * (M * M))) * (((M * M) * (M * M)) * ((M * M) * (M * M)))) * ((((M * M) * (M * M)) * ((M * M) * (M * M))) * (((M * M) * (M * M)) * ((M * M) * (M * M))))
      * (((((M * M) * (M * M)) * ((M * M) * (M * M))) * (((M * M) * (M * M)) * ((M * M) * (M * M)))) * ((((M * M) * (M * M)) * ((M * M) * (M * M))) * (((M * M) * (M * M)) * ((M * M) * (M * M))))) = M ^ 64 := by
    simp only [← pow_two, ← pow_mul]; norm_num
  have h64 : ∀ P : Matrix (Fin 64) (Fin 64) ℝ, P = M ^ 64 → P = 0 := by
    rintro P rfl
    ext i j
    exact pow_strict M hM 64 i j (by omega)
  rw [h64 _ hpow, sub_zero] at h5
  exact h5

/-- The decay from the end of token `j` to the end of token `i` of the chunk at `n`. -/
def D (n : ℕ) (i j : Fin 64) : ℝ := if j ≤ i then Real.exp (Gp I n (i + 1) - Gp I n (j + 1)) else 0

/-- The chunk's strictly lower triangular matrix. -/
def Mat (n : ℕ) : Matrix (Fin 64) (Fin 64) ℝ := fun i j =>
  if j < i then (∑ d, I.k (n + i) d * I.be (n + i) * I.k (n + j) d) * D I n i j else 0

/-- The inverse applied to the values. -/
def U (n : ℕ) (i : Fin 64) (c : Fin 128) : ℝ := ∑ j, inv (Mat I n) i j * (I.v (n + j) c * I.be (n + j))

/-- The inverse applied to the keys. -/
def W (n : ℕ) (i : Fin 64) (a : Fin 128) : ℝ :=
  ∑ j, inv (Mat I n) i j * (I.k (n + j) a * I.be (n + j) * Real.exp (Gp I n (j + 1)))

/-- What the chunk's tokens write. -/
def Vn (n : ℕ) (S : St) (i : Fin 64) (c : Fin 128) : ℝ := U I n i c - ∑ a, W I n i a * S a c

/-- The chunk's outputs. -/
def chunkO (n : ℕ) (S : St) (i : Fin 64) (c : Fin 128) : ℝ :=
  (∑ a, I.q (n + i) a * Real.exp (Gp I n (i + 1)) * S a c) + ∑ j : Fin 64, (∑ d, I.q (n + i) d * I.k (n + j) d) * D I n i j * Vn I n S j c

/-- The state after the chunk. -/
def chunkS (n : ℕ) (S : St) : St := fun a c =>
  S a c * Real.exp (Gp I n 64) + ∑ i : Fin 64, I.k (n + i) a * Real.exp (Gp I n 64 - Gp I n (i + 1)) * Vn I n S i c

/-- A sum over the chunk below `i` as a sum over a range. -/
theorem sum_lt (f : ℕ → ℝ) (i : Fin 64) : (∑ j : Fin 64, if j < i then f j else 0) = ∑ j ∈ Finset.range i, f j := by
  refine (Fin.sum_univ_eq_sum_range (fun j => if j < i.val then f j else 0) 64).trans ?_
  rw [← Finset.sum_filter]
  refine Finset.sum_congr (by ext j; simp; omega) fun _ _ => rfl

/-- A sum over the chunk up to `i` as a sum over a range. -/
theorem sum_le (f : ℕ → ℝ) (i : Fin 64) : (∑ j : Fin 64, if j ≤ i then f j else 0) = ∑ j ∈ Finset.range (i + 1), f j := by
  refine (Fin.sum_univ_eq_sum_range (fun j => if j ≤ i.val then f j else 0) 64).trans ?_
  rw [← Finset.sum_filter]
  refine Finset.sum_congr (by ext j; simp; omega) fun _ _ => rfl

/-- What the chunk's tokens write solves the triangular system. -/
theorem Vn_eq (n : ℕ) (S : St) (i : Fin 64) (c : Fin 128) :
    Vn I n S i c = I.be (n + i) * (I.v (n + i) c - Real.exp (Gp I n (i + 1)) * ∑ a, I.k (n + i) a * S a c
      - ∑ j : Fin 64, if j < i then Real.exp (Gp I n (i + 1) - Gp I n (j + 1)) * (∑ d, I.k (n + i) d * I.k (n + j) d) * Vn I n S j c else 0) := by
  have hM : ∀ i j : Fin 64, ¬ j < i → Mat I n i j = 0 := fun i j h => by rw [Mat, if_neg h]
  let R : Matrix (Fin 64) (Fin 128) ℝ := fun j c => I.v (n + j) c * I.be (n + j) - ∑ a, I.k (n + j) a * I.be (n + j) * Real.exp (Gp I n (j + 1)) * S a c
  let V : Matrix (Fin 64) (Fin 128) ℝ := fun i c => Vn I n S i c
  have hV : V = inv (Mat I n) * R := by
    ext i c
    rw [Matrix.mul_apply]
    simp only [V, Vn, U, W, R, mul_sub, Finset.sum_sub_distrib, Finset.sum_mul, Finset.mul_sum]
    congr 1
    rw [Finset.sum_comm]
    exact Finset.sum_congr rfl fun j _ => Finset.sum_congr rfl fun a _ => by ring
  have h : (1 + Mat I n) * V = R := by
    rw [hV, ← Matrix.mul_assoc, mul_inv _ hM, Matrix.one_mul]
  have hi := congrFun (congrFun h i) c
  rw [Matrix.add_mul, Matrix.one_mul, Matrix.add_apply, Matrix.mul_apply] at hi
  show V i c = _
  rw [eq_sub_of_add_eq hi]
  simp only [R, V, mul_sub, Finset.mul_sum]
  congr 1
  · congr 1
    · ring
    · exact Finset.sum_congr rfl fun a _ => by ring
  · refine Finset.sum_congr rfl fun j _ => ?_
    unfold Mat
    split
    · rename_i hj
      rw [D, if_pos hj.le, Finset.sum_mul, Finset.sum_mul, Finset.sum_mul, Finset.mul_sum]
      exact Finset.sum_congr rfl fun d _ => by ring
    · simp

/-- The recurrence's states inside a chunk, by what the chunk's tokens write. -/
theorem seqS_mid (S0 : St) (n i : ℕ) (hi : i ≤ 64) (a c : Fin 128) :
    seqS I S0 (n + i) a c = Real.exp (Gp I n i) * seqS I S0 n a c
      + ∑ j ∈ Finset.range i, Real.exp (Gp I n i - Gp I n (j + 1)) * I.k (n + j) a * (if h : j < 64 then Vn I n (seqS I S0 n) ⟨j, h⟩ c else 0) := by
  refine seqS_chunk I S0 n (fun j c => if h : j < 64 then Vn I n (seqS I S0 n) ⟨j, h⟩ c else 0) ?_ i hi a c
  intro i hi c
  rw [dif_pos hi, Vn_eq]
  congr 2
  rw [← sum_lt (fun j => Real.exp (Gp I n (i + 1) - Gp I n (j + 1)) * (∑ d, I.k (n + i) d * I.k (n + j) d)
    * (if h : j < 64 then Vn I n (seqS I S0 n) ⟨j, h⟩ c else 0)) ⟨i, hi⟩]
  refine Finset.sum_congr rfl fun j _ => ?_
  simp only [j.isLt, dite_true]

/-- The state after a chunk is the recurrence's state 64 tokens on. -/
theorem chunkS_eq (S0 : St) (n : ℕ) : chunkS I n (seqS I S0 n) = seqS I S0 (n + 64) := by
  funext a c
  rw [seqS_mid I S0 n 64 le_rfl, chunkS, mul_comm (Real.exp _), ← Fin.sum_univ_eq_sum_range
    (fun j => Real.exp (Gp I n 64 - Gp I n (j + 1)) * I.k (n + j) a * (if h : j < 64 then Vn I n (seqS I S0 n) ⟨j, h⟩ c else 0)) 64]
  congr 1
  refine Finset.sum_congr rfl fun j _ => ?_
  simp only [j.isLt, dite_true]
  ring

/-- The chunk's outputs are the recurrence's. -/
theorem chunkO_eq (S0 : St) (n : ℕ) (i : Fin 64) (c : Fin 128) : chunkO I n (seqS I S0 n) i c = seqO I S0 (n + i) c := by
  rw [seqO]
  simp only [show n + i.val + 1 = n + (i.val + 1) by omega, seqS_mid I S0 n (i.val + 1) (by omega), mul_add, Finset.sum_add_distrib, Finset.mul_sum]
  rw [chunkO]
  congr 1
  · exact Finset.sum_congr rfl fun a _ => by ring
  · rw [Finset.sum_comm, ← sum_le (fun j => ∑ a, I.q (n + i) a * (Real.exp (Gp I n (i + 1) - Gp I n (j + 1)) * I.k (n + j) a
      * (if h : j < 64 then Vn I n (seqS I S0 n) ⟨j, h⟩ c else 0)))]
    refine Finset.sum_congr rfl fun j _ => ?_
    unfold D
    split
    · simp only [j.isLt, dite_true, Finset.sum_mul]
      exact Finset.sum_congr rfl fun d _ => by ring
    · simp

end Gdn
-- ==== Proof.Gdn.Lift.lean ====
module
public import proofs.«01_k».proof.Proof.Gdn.Chunk
public import proofs.«01_k».proof.Proof.Gdn.Math

/-! The kernel's chunk arrays read as real numbers: where the blocks' entries are real, every array the body forms holds the
    real quantity of the same name. The eight heads and eight chunks of a block are stacked: entry `b` of a stack is head
    `b / 8`, chunk `b % 8`; `J b` and `N b` are that head's inputs and that chunk's first token. -/

@[expose] public section

set_option maxRecDepth 16384

noncomputable section

namespace Gdn
open Idealize.ShloMosaic Idealize.ShloMosaic.TcCoe
open Cert.KernelIdeal Cert.KernelIdeal.Gen

/-- A sum of reals, taken among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, taken among the extended reals. -/
theorem coe_dot {n : ℕ} (f g : Fin n → ℝ) : (∑ i, (f i : EReal) * (g i : EReal)) = ((∑ i, f i * g i : ℝ) : EReal) := by
  simp only [← EReal.coe_mul]
  exact coe_sum _ _

/-- The lower triangle with its diagonal. -/
theorem cmp_ge : ∀ a b : Fin 64, IntOp.cmpi CmpIPredicate.sge (BitVec.ofNat 32 a.val) (BitVec.ofNat 32 b.val) = if b ≤ a then 1#1 else 0#1 := by
  decide +kernel

/-- The lower triangle without its diagonal. -/
theorem cmp_gt : ∀ a b : Fin 64, IntOp.cmpi CmpIPredicate.sgt (BitVec.ofNat 32 a.val) (BitVec.ofNat 32 b.val) = if b < a then 1#1 else 0#1 := by
  decide +kernel

/-- The diagonal. -/
theorem cmp_eq : ∀ a b : Fin 64, (BitVec.setWidth 32 (IntOp.cmpi CmpIPredicate.eq (BitVec.ofNat 32 a.val) (BitVec.ofNat 32 b.val))).toInt = if a = b then 1 else 0 := by
  decide +kernel

/-- The pattern of minus infinity. -/
theorem ofBits_bot : Ideal.ofBits .f32 0xFF800000#32 = (⊥ : EReal) := by
  simp [Ideal.ofBits, Ideal.ieee]

section stack

variable (J : Fin 64 → Inp) (N : Fin 64 → ℕ)
variable (Q K V G B : FVec Ideal S64x64x128 .f32) (X6 : FVec Ideal S1x8x8x1x64 .f32)

/-- The stacked blocks hold the reals of their heads and chunks. -/
structure Stacked : Prop where
  q : ∀ b i a, Q (ix3 b i a) = (((J b).q (N b + i.val) a : ℝ) : EReal)
  k : ∀ b i a, K (ix3 b i a) = (((J b).k (N b + i.val) a : ℝ) : EReal)
  v : ∀ b i a, V (ix3 b i a) = (((J b).v (N b + i.val) a : ℝ) : EReal)
  g : ∀ b i a, G (ix3 b i a) = ((Gp (J b) (N b) (i.val + 1) : ℝ) : EReal)
  be : ∀ b i a, B (ix3 b i a) = (((J b).be (N b + i.val) : ℝ) : EReal)
  gr : ∀ (b j : Fin 64), X6 (ix5 0 ⟨b.val / 8, by omega⟩ ⟨b.val % 8, by omega⟩ 0 j) = ((Gp (J b) (N b) (j.val + 1) : ℝ) : EReal)

variable {J N Q K V G B X6}

/-- The decays between the tokens of a chunk. -/
theorem de_eq (H : Stacked J N Q K V G B X6) (b i j : Fin 64) :
    k0_pay29 (F := Ideal) k0_pay4 G X6 (ix3 b i j) = ((D (J b) (N b) i j : ℝ) : EReal) := by
  pointwise [k0_pay29, k0_pay4, k0_pay27]
  rw [cmp_ge, H.g, H.gr, ofBits_bot]
  unfold D
  split_ifs with h
  · show Ideal.exp (((_ : ℝ) : EReal) - ((_ : ℝ) : EReal)) = _
    rw [← EReal.coe_sub, Ideal.exp_coe]
  · show Ideal.exp ⊥ = _
    rw [Ideal.exp_bot]; rfl

/-- The weighted keys. -/
theorem kb_eq (H : Stacked J N Q K V G B X6) (b i : Fin 64) (a : Fin 128) :
    mulf (F := Ideal) K B (ix3 b i a) = (((J b).k (N b + i.val) a * (J b).be (N b + i.val) : ℝ) : EReal) := by
  pointwise []
  rw [H.k, H.be, EReal.coe_mul]

/-- The reads of the beta block, as the body passes them on: four head slices already stacked by chunks, four raw. -/
structure Pieces (B : FVec Ideal S64x64x128 .f32) (b0 b1 b2 b3 : FVec Ideal S8x64x128 .f32) (b4 b5 b6 b7 : FVec Ideal S1x512x128 .f32) : Prop where
  eq : k0_pay26 b0 b1 b2 b3 b4 b5 b6 b7 = B

variable {b0 b1 b2 b3 : FVec Ideal S8x64x128 .f32} {b4 b5 b6 b7 : FVec Ideal S1x512x128 .f32}

/-- The strictly lower triangular matrix of a chunk. -/
theorem m_eq (H : Stacked J N Q K V G B X6) (P : Pieces B b0 b1 b2 b3 b4 b5 b6 b7) (b i j : Fin 64) :
    k0_pay31 (F := Ideal) k0_pay4 k0_pay5 K G b0 b1 b2 b3 b4 b5 b6 b7 X6 (ix3 b i j) = ((Mat (J b) (N b) i j : ℝ) : EReal) := by
  pointwise [k0_pay31, k0_pay30, k0_pay5]
  rw [cmp_gt, P.eq, de_eq H]
  simp only [H.k, H.be]
  unfold Mat
  split_ifs with h
  · show (∑ x, _ * _) * _ = _
    simp only [← EReal.coe_mul]
    rw [coe_sum, ← EReal.coe_mul]
  · rfl

/-- The square of the triangular matrix. -/
theorem p1_eq (H : Stacked J N Q K V G B X6) (P : Pieces B b0 b1 b2 b3 b4 b5 b6 b7) (b i j : Fin 64) :
    k0_pay32 (F := Ideal) k0_pay4 k0_pay5 K G b0 b1 b2 b3 b4 b5 b6 b7 X6 (ix3 b i j)
      = (((Mat (J b) (N b) * Mat (J b) (N b)) i j : ℝ) : EReal) := by
  pointwise [k0_pay32]
  simp only [m_eq H P, coe_dot]
  rfl

/-- Its fourth power. -/
theorem p2_eq (H : Stacked J N Q K V G B X6) (P : Pieces B b0 b1 b2 b3 b4 b5 b6 b7) (b i j : Fin 64) :
    k0_pay33 (F := Ideal) k0_pay4 k0_pay5 K G b0 b1 b2 b3 b4 b5 b6 b7 X6 (ix3 b i j)
      = (((Mat (J b) (N b) * Mat (J b) (N b) * (Mat (J b) (N b) * Mat (J b) (N b))) i j : ℝ) : EReal) := by
  pointwise [k0_pay33]
  simp only [p1_eq H P, coe_dot]
  rfl

/-- The identity matrix. -/
theorem eye_eq (b i j : Fin 64) : broadcastTo S64x64x64 (k0_pay6 (F := Ideal)) broadcasts_S1x64x64_S64x64x64 (ix3 b i j)
    = (((1 : Matrix (Fin 64) (Fin 64) ℝ) i j : ℝ) : EReal) := by
  pointwise [k0_pay6]
  rw [Matrix.one_apply]
  show (((BitVec.setWidth 32 (IntOp.cmpi CmpIPredicate.eq (BitVec.ofNat 32 i.val) (BitVec.ofNat 32 j.val))).toInt : ℝ) : EReal) = _
  rw [cmp_eq]
  split_ifs <;> simp

/-- One doubling: a matrix plus itself times a power. -/
theorem dbl (X P : Matrix (Fin 64) (Fin 64) ℝ) (i j : Fin 64) :
    ((X i j : ℝ) : EReal) + ∑ l : Fin 64, ((X i l : ℝ) : EReal) * ((P l j : ℝ) : EReal) = (((X + X * P) i j : ℝ) : EReal) := by
  rw [coe_dot, ← EReal.coe_add]; rfl

/-- Two doublings of the inverse. -/
theorem x2_eq (H : Stacked J N Q K V G B X6) (P : Pieces B b0 b1 b2 b3 b4 b5 b6 b7) (b i j : Fin 64) :
    k0_pay34 (F := Ideal) k0_pay4 k0_pay5 k0_pay6 K G b0 b1 b2 b3 b4 b5 b6 b7 X6 (ix3 b i j)
      = ((((1 - Mat (J b) (N b)) + (1 - Mat (J b) (N b)) * (Mat (J b) (N b) * Mat (J b) (N b))
          + ((1 - Mat (J b) (N b)) + (1 - Mat (J b) (N b)) * (Mat (J b) (N b) * Mat (J b) (N b)))
            * (Mat (J b) (N b) * Mat (J b) (N b) * (Mat (J b) (N b) * Mat (J b) (N b)))) i j : ℝ) : EReal) := by
  have e : ∀ i j : Fin 64, k0_pay6 (F := Ideal) (ix3 0 i j) = (((1 : Matrix (Fin 64) (Fin 64) ℝ) i j : ℝ) : EReal) := fun i j => by
    rw [← eye_eq b i j]; pointwise []
  have s : ∀ i j : Fin 64, k0_pay6 (F := Ideal) (ix3 0 i j) - ((Mat (J b) (N b) i j : ℝ) : EReal) = (((1 - Mat (J b) (N b)) i j : ℝ) : EReal) := fun i j => by
    rw [e, ← EReal.coe_sub]; rfl
  pointwise [k0_pay34]
  simp only [m_eq H P, p1_eq H P, p2_eq H P, s, dbl]

/-- The whole inverse. -/
theorem inv_eq (p x : FVec Ideal S64x64x64 .f32) (M : Fin 64 → Matrix (Fin 64) (Fin 64) ℝ)
    (hp : ∀ b i j, p (ix3 b i j) = (((M b * M b * (M b * M b)) i j : ℝ) : EReal))
    (hx : ∀ b i j, x (ix3 b i j) = ((((1 - M b) + (1 - M b) * (M b * M b)
          + ((1 - M b) + (1 - M b) * (M b * M b)) * (M b * M b * (M b * M b))) i j : ℝ) : EReal)) (b i j : Fin 64) :
    k0_pay35 p x (ix3 b i j) = ((inv (M b) i j : ℝ) : EReal) := by
  have mm : ∀ (X Y : Matrix (Fin 64) (Fin 64) ℝ) (i j : Fin 64), (∑ l : Fin 64, ((X i l : ℝ) : EReal) * ((Y l j : ℝ) : EReal)) = (((X * Y) i j : ℝ) : EReal) :=
    fun X Y i j => by rw [coe_dot]; rfl
  pointwise [k0_pay35]
  simp only [hp, hx]
  simp only [mm, ← EReal.coe_add, ← Matrix.add_apply]
  rfl

end stack

end Gdn
-- ==== Proof.Gdn.Step.lean ====
module
public import proofs.«01_k».proof.Proof.Gdn.Lift

/-! The arrays a chunk's step takes, read as real numbers, and the step itself: from a real state the kernel's chunk leaves the
    real state and forms the real outputs of the chunked recurrence. -/

@[expose] public section

set_option maxRecDepth 16384

noncomputable section

namespace Gdn
open Idealize.ShloMosaic Idealize.ShloMosaic.TcCoe
open Cert.KernelIdeal Cert.KernelIdeal.Gen

/-- The place of head `h`, chunk `ch` in a stack. -/
def at8 (h ch : Fin 8) : Fin 64 := ⟨h.val * 8 + ch.val, by omega⟩

section arrays
variable {J : Fin 64 → Inp} {N : Fin 64 → ℕ}
variable {Q K V G B : FVec Ideal S64x64x128 .f32} {X6 : FVec Ideal S1x8x8x1x64 .f32}
variable {kb : FVec Ideal S64x64x128 .f32} {de p x : FVec Ideal S64x64x64 .f32}

/-- The values the inverse gives. -/
theorem u_eq (H : Stacked J N Q K V G B X6) (hx : ∀ b i j, k0_pay35 p x (ix3 b i j) = ((inv (Mat (J b) (N b)) i j : ℝ) : EReal))
    (h ch : Fin 8) (i : Fin 64) (c : Fin 128) :
    k0_pay37 V B p x (ix4 h ch i c) = ((U (J (at8 h ch)) (N (at8 h ch)) i c : ℝ) : EReal) := by
  pointwise [k0_pay37]
  simp only [hx, H.v, H.be, ← EReal.coe_mul]
  rw [coe_sum]
  rfl

/-- The keys the inverse gives. -/
theorem w_eq (H : Stacked J N Q K V G B X6) (hx : ∀ b i j, k0_pay35 p x (ix3 b i j) = ((inv (Mat (J b) (N b)) i j : ℝ) : EReal))
    (hk : ∀ b i a, kb (ix3 b i a) = (((J b).k (N b + i.val) a * (J b).be (N b + i.val) : ℝ) : EReal))
    (h ch : Fin 8) (i : Fin 64) (a : Fin 128) :
    k0_pay38 G kb p x (ix4 h ch i a) = ((W (J (at8 h ch)) (N (at8 h ch)) i a : ℝ) : EReal) := by
  pointwise [k0_pay38, k0_pay36]
  simp only [hx, hk, H.g, Ideal.exp_coe, ← EReal.coe_mul]
  rw [coe_sum]
  rfl

/-- The decayed products of queries and keys. -/
theorem qk_eq (H : Stacked J N Q K V G B X6) (hd : ∀ b i j, de (ix3 b i j) = ((D (J b) (N b) i j : ℝ) : EReal))
    (h ch : Fin 8) (i j : Fin 64) :
    k0_pay39 Q K de (ix4 h ch i j) = (((∑ d, (J (at8 h ch)).q (N (at8 h ch) + i.val) d * (J (at8 h ch)).k (N (at8 h ch) + j.val) d)
      * D (J (at8 h ch)) (N (at8 h ch)) i j : ℝ) : EReal) := by
  pointwise [k0_pay39]
  simp only [hd, H.q, H.k, coe_dot, ← EReal.coe_mul]
  rfl

/-- The decayed queries. -/
theorem qg_eq (H : Stacked J N Q K V G B X6) (h ch : Fin 8) (i : Fin 64) (a : Fin 128) :
    k0_pay40 Q G (ix4 h ch i a) = (((J (at8 h ch)).q (N (at8 h ch) + i.val) a * Real.exp (Gp (J (at8 h ch)) (N (at8 h ch)) (i.val + 1)) : ℝ) : EReal) := by
  pointwise [k0_pay40, k0_pay36]
  simp only [H.q, H.g, Ideal.exp_coe, ← EReal.coe_mul]
  rfl

/-- The cumulative gate at a chunk's last token. -/
theorem gr_last (H : Stacked J N Q K V G B X6) (h ch : Fin 8) :
    X6 (ix5 0 h ch 0 63) = ((Gp (J (at8 h ch)) (N (at8 h ch)) 64 : ℝ) : EReal) := by
  have e := H.gr (at8 h ch) 63
  have h1 : (⟨(at8 h ch).val / 8, by omega⟩ : Fin 8) = h := Fin.ext (by show (h.val * 8 + ch.val) / 8 = h.val; omega)
  have h2 : (⟨(at8 h ch).val % 8, by omega⟩ : Fin 8) = ch := Fin.ext (by show (h.val * 8 + ch.val) % 8 = ch.val; omega)
  rw [h1, h2] at e
  exact e

/-- The keys decayed to the chunk's end. -/
theorem kg_eq (H : Stacked J N Q K V G B X6) (h ch : Fin 8) (i : Fin 64) (a : Fin 128) :
    k0_pay41 K G (k0_pay28 X6) (ix4 h ch i a) = (((J (at8 h ch)).k (N (at8 h ch) + i.val) a
      * Real.exp (Gp (J (at8 h ch)) (N (at8 h ch)) 64 - Gp (J (at8 h ch)) (N (at8 h ch)) (i.val + 1)) : ℝ) : EReal) := by
  pointwise [k0_pay41, k0_pay28, k0_pay27]
  simp only [H.k, H.g]
  rw [gr_last H, ← EReal.coe_sub, Ideal.exp_coe, ← EReal.coe_mul]
  rfl

/-- The decay of a whole chunk. -/
theorem gl_eq (H : Stacked J N Q K V G B X6) (h ch : Fin 8) :
    k0_pay42 (F := Ideal) (k0_pay28 X6) (ix4 h ch 0 0) = ((Real.exp (Gp (J (at8 h ch)) (N (at8 h ch)) 64) : ℝ) : EReal) := by
  pointwise [k0_pay42, k0_pay28, k0_pay27]
  rw [gr_last H, Ideal.exp_coe]

end arrays

section step
variable {I : Fin 8 → Inp} {n : ℕ} {ch : Fin 8}
variable {u w kg qg : FVec Ideal S8x8x64x128 .f32} {gl : FVec Ideal S8x8x1x1 .f32} {qk : FVec Ideal S8x8x64x64 .f32}

/-- What a chunk's step takes, as reals: head `h`'s inputs from token `n` on. -/
structure ChunkArgs (I : Fin 8 → Inp) (n : ℕ) (ch : Fin 8) (u w kg qg : FVec Ideal S8x8x64x128 .f32) (gl : FVec Ideal S8x8x1x1 .f32)
    (qk : FVec Ideal S8x8x64x64 .f32) : Prop where
  u : ∀ h i c, u (ix4 h ch i c) = ((U (I h) n i c : ℝ) : EReal)
  w : ∀ h i c, w (ix4 h ch i c) = ((W (I h) n i c : ℝ) : EReal)
  qk : ∀ h (i j : Fin 64), qk (ix4 h ch i j) = (((∑ d, (I h).q (n + i.val) d * (I h).k (n + j.val) d) * D (I h) n i j : ℝ) : EReal)
  qg : ∀ h (i : Fin 64) a, qg (ix4 h ch i a) = (((I h).q (n + i.val) a * Real.exp (Gp (I h) n (i.val + 1)) : ℝ) : EReal)
  kg : ∀ h (i : Fin 64) a, kg (ix4 h ch i a) = (((I h).k (n + i.val) a * Real.exp (Gp (I h) n 64 - Gp (I h) n (i.val + 1)) : ℝ) : EReal)
  gl : ∀ h, gl (ix4 h ch 0 0) = ((Real.exp (Gp (I h) n 64) : ℝ) : EReal)

/-- The corrected values, as reals. -/
theorem vnew_eq (A : ChunkArgs I n ch u w kg qg gl qk) (s : FVec Ideal S8x128x128 .f32) (S : Fin 8 → St)
    (hs : ∀ h a c, s (ix3 h a c) = ((S h a c : ℝ) : EReal)) (h : Fin 8) (i : Fin 64) (c : Fin 128) :
    vnew ch u w s h i c = ((Vn (I h) n (S h) i c : ℝ) : EReal) := by
  unfold vnew Vn
  simp only [A.u, A.w, hs, coe_dot, ← EReal.coe_sub]

/-- The state a chunk leaves, as reals. -/
theorem nxt_eq (A : ChunkArgs I n ch u w kg qg gl qk) (s : FVec Ideal S8x128x128 .f32) (S : Fin 8 → St)
    (hs : ∀ h a c, s (ix3 h a c) = ((S h a c : ℝ) : EReal)) (h : Fin 8) (a c : Fin 128) :
    nxt ch u w kg gl s (ix3 h a c) = ((chunkS (I h) n (S h) a c : ℝ) : EReal) := by
  unfold nxt chunkS
  simp only [ix3_0, ix3_1, ix3_2]
  simp only [A.kg, A.gl, hs, vnew_eq A s S hs, coe_dot, ← EReal.coe_mul, coe_sum, ← EReal.coe_add]

/-- The raw outputs of a chunk, as reals. -/
theorem raw_eq (A : ChunkArgs I n ch u w kg qg gl qk) (s : FVec Ideal S8x128x128 .f32) (S : Fin 8 → St)
    (hs : ∀ h a c, s (ix3 h a c) = ((S h a c : ℝ) : EReal)) (h : Fin 8) (i : Fin 64) (c : Fin 128) :
    raw ch u w qk qg s h i c = ((chunkO (I h) n (S h) i c : ℝ) : EReal) := by
  unfold raw chunkO
  simp only [A.qk, A.qg, hs, vnew_eq A s S hs, coe_dot, ← EReal.coe_mul, coe_sum, ← EReal.coe_add]

end step

end Gdn
-- ==== Proof.Gdn.Block.lean ====
module
public import proofs.«01_k».proof.Proof.Gdn.Stack
public import proofs.«01_k».proof.Proof.Gdn.Step

/-! What the body forms of the blocks of a point: the stacks' products, the state after each chunk and the gated output. -/

@[expose] public section

set_option maxRecDepth 16384

noncomputable section

namespace Gdn
open Idealize.ShloMosaic Idealize.ShloMosaic.TcCoe Idealize.SL.Sem
open Cert.KernelIdeal Cert.KernelIdeal.Gen

/-- The blocks of a point. -/
structure Blk where
  /-- queries -/
  x0 : FVec Ideal S1x512x1024 .f32
  /-- keys -/
  x1 : FVec Ideal S1x512x1024 .f32
  /-- values -/
  x2 : FVec Ideal S1x512x1024 .f32
  /-- output gates -/
  x3 : FVec Ideal S1x512x1024 .f32
  /-- cumulative gates on the lanes -/
  x4 : FVec Ideal S1x512x1024 .f32
  /-- gates of the rule on the lanes -/
  x5 : FVec Ideal S1x512x1024 .f32
  /-- cumulative gates in rows -/
  x6 : FVec Ideal S1x8x8x1x64 .f32
  /-- gain of the norm -/
  x8 : FVec Ideal S1x128 .f32

/-- The fourth power of the chunks' matrices. -/
def p2F (x1 x4 x5 : FVec Ideal S1x512x1024 .f32) (x6 : FVec Ideal S1x8x8x1x64 .f32) : FVec Ideal S64x64x64 .f32 :=
  k0_pay33 (F := Ideal) k0_pay4 k0_pay5 (stk x1) (stk x4) (k0_pay22 (View.ld (Val := Elt Ideal) (e' := .f32) x5 (Rect.unit (s := S1x512x1024) ![0, 0, 0] ![1, 512, 128] inb_S1x512x1024_S1x512x128_0_0_0))) (k0_pay23 (View.ld (Val := Elt Ideal) (e' := .f32) x5 (Rect.unit (s := S1x512x1024) ![0, 0, 128] ![1, 512, 128] inb_S1x512x1024_S1x512x128_0_0_128))) (k0_pay24 (View.ld (Val := Elt Ideal) (e' := .f32) x5 (Rect.unit (s := S1x512x1024) ![0, 0, 256] ![1, 512, 128] inb_S1x512x1024_S1x512x128_0_0_256))) (k0_pay25 (View.ld (Val := Elt Ideal) (e' := .f32) x5 (Rect.unit (s := S1x512x1024) ![0, 0, 384] ![1, 512, 128] inb_S1x512x1024_S1x512x128_0_0_384))) (View.ld (Val := Elt Ideal) (e' := .f32) x5 (Rect.unit (s := S1x512x1024) ![0, 0, 512] ![1, 512, 128] inb_S1x512x1024_S1x512x128_0_0_512)) (View.ld (Val := Elt Ideal) (e' := .f32) x5 (Rect.unit (s := S1x512x1024) ![0, 0, 640] ![1, 512, 128] inb_S1x512x1024_S1x512x128_0_0_640)) (View.ld (Val := Elt Ideal) (e' := .f32) x5 (Rect.unit (s := S1x512x1024) ![0, 0, 768] ![1, 512, 128] inb_S1x512x1024_S1x512x128_0_0_768)) (View.ld (Val := Elt Ideal) (e' := .f32) x5 (Rect.unit (s := S1x512x1024) ![0, 0, 896] ![1, 512, 128] inb_S1x512x1024_S1x512x128_0_0_896)) x6

/-- The inverse after two doublings. -/
def xmF (x1 x4 x5 : FVec Ideal S1x512x1024 .f32) (x6 : FVec Ideal S1x8x8x1x64 .f32) : FVec Ideal S64x64x64 .f32 :=
  k0_pay34 (F := Ideal) k0_pay4 k0_pay5 k0_pay6 (stk x1) (stk x4) (k0_pay22 (View.ld (Val := Elt Ideal) (e' := .f32) x5 (Rect.unit (s := S1x512x1024) ![0, 0, 0] ![1, 512, 128] inb_S1x512x1024_S1x512x128_0_0_0))) (k0_pay23 (View.ld (Val := Elt Ideal) (e' := .f32) x5 (Rect.unit (s := S1x512x1024) ![0, 0, 128] ![1, 512, 128] inb_S1x512x1024_S1x512x128_0_0_128))) (k0_pay24 (View.ld (Val := Elt Ideal) (e' := .f32) x5 (Rect.unit (s := S1x512x1024) ![0, 0, 256] ![1, 512, 128] inb_S1x512x1024_S1x512x128_0_0_256))) (k0_pay25 (View.ld (Val := Elt Ideal) (e' := .f32) x5 (Rect.unit (s := S1x512x1024) ![0, 0, 384] ![1, 512, 128] inb_S1x512x1024_S1x512x128_0_0_384))) (View.ld (Val := Elt Ideal) (e' := .f32) x5 (Rect.unit (s := S1x512x1024) ![0, 0, 512] ![1, 512, 128] inb_S1x512x1024_S1x512x128_0_0_512)) (View.ld (Val := Elt Ideal) (e' := .f32) x5 (Rect.unit (s := S1x512x1024) ![0, 0, 640] ![1, 512, 128] inb_S1x512x1024_S1x512x128_0_0_640)) (View.ld (Val := Elt Ideal) (e' := .f32) x5 (Rect.unit (s := S1x512x1024) ![0, 0, 768] ![1, 512, 128] inb_S1x512x1024_S1x512x128_0_0_768)) (View.ld (Val := Elt Ideal) (e' := .f32) x5 (Rect.unit (s := S1x512x1024) ![0, 0, 896] ![1, 512, 128] inb_S1x512x1024_S1x512x128_0_0_896)) x6

/-- Folds `p2F`. -/
theorem p2F_eq (x1 x4 x5 : FVec Ideal S1x512x1024 .f32) (x6 : FVec Ideal S1x8x8x1x64 .f32) :
    k0_pay33 (F := Ideal) k0_pay4 k0_pay5 (stk x1) (stk x4) (k0_pay22 (View.ld (Val := Elt Ideal) (e' := .f32) x5 (Rect.unit (s := S1x512x1024) ![0, 0, 0] ![1, 512, 128] inb_S1x512x1024_S1x512x128_0_0_0))) (k0_pay23 (View.ld (Val := Elt Ideal) (e' := .f32) x5 (Rect.unit (s := S1x512x1024) ![0, 0, 128] ![1, 512, 128] inb_S1x512x1024_S1x512x128_0_0_128))) (k0_pay24 (View.ld (Val := Elt Ideal) (e' := .f32) x5 (Rect.unit (s := S1x512x1024) ![0, 0, 256] ![1, 512, 128] inb_S1x512x1024_S1x512x128_0_0_256))) (k0_pay25 (View.ld (Val := Elt Ideal) (e' := .f32) x5 (Rect.unit (s := S1x512x1024) ![0, 0, 384] ![1, 512, 128] inb_S1x512x1024_S1x512x128_0_0_384))) (View.ld (Val := Elt Ideal) (e' := .f32) x5 (Rect.unit (s := S1x512x1024) ![0, 0, 512] ![1, 512, 128] inb_S1x512x1024_S1x512x128_0_0_512)) (View.ld (Val := Elt Ideal) (e' := .f32) x5 (Rect.unit (s := S1x512x1024) ![0, 0, 640] ![1, 512, 128] inb_S1x512x1024_S1x512x128_0_0_640)) (View.ld (Val := Elt Ideal) (e' := .f32) x5 (Rect.unit (s := S1x512x1024) ![0, 0, 768] ![1, 512, 128] inb_S1x512x1024_S1x512x128_0_0_768)) (View.ld (Val := Elt Ideal) (e' := .f32) x5 (Rect.unit (s := S1x512x1024) ![0, 0, 896] ![1, 512, 128] inb_S1x512x1024_S1x512x128_0_0_896)) x6 = p2F x1 x4 x5 x6 := rfl

/-- Folds `xmF`. -/
theorem xmF_eq (x1 x4 x5 : FVec Ideal S1x512x1024 .f32) (x6 : FVec Ideal S1x8x8x1x64 .f32) :
    k0_pay34 (F := Ideal) k0_pay4 k0_pay5 k0_pay6 (stk x1) (stk x4) (k0_pay22 (View.ld (Val := Elt Ideal) (e' := .f32) x5 (Rect.unit (s := S1x512x1024) ![0, 0, 0] ![1, 512, 128] inb_S1x512x1024_S1x512x128_0_0_0))) (k0_pay23 (View.ld (Val := Elt Ideal) (e' := .f32) x5 (Rect.unit (s := S1x512x1024) ![0, 0, 128] ![1, 512, 128] inb_S1x512x1024_S1x512x128_0_0_128))) (k0_pay24 (View.ld (Val := Elt Ideal) (e' := .f32) x5 (Rect.unit (s := S1x512x1024) ![0, 0, 256] ![1, 512, 128] inb_S1x512x1024_S1x512x128_0_0_256))) (k0_pay25 (View.ld (Val := Elt Ideal) (e' := .f32) x5 (Rect.unit (s := S1x512x1024) ![0, 0, 384] ![1, 512, 128] inb_S1x512x1024_S1x512x128_0_0_384))) (View.ld (Val := Elt Ideal) (e' := .f32) x5 (Rect.unit (s := S1x512x1024) ![0, 0, 512] ![1, 512, 128] inb_S1x512x1024_S1x512x128_0_0_512)) (View.ld (Val := Elt Ideal) (e' := .f32) x5 (Rect.unit (s := S1x512x1024) ![0, 0, 640] ![1, 512, 128] inb_S1x512x1024_S1x512x128_0_0_640)) (View.ld (Val := Elt Ideal) (e' := .f32) x5 (Rect.unit (s := S1x512x1024) ![0, 0, 768] ![1, 512, 128] inb_S1x512x1024_S1x512x128_0_0_768)) (View.ld (Val := Elt Ideal) (e' := .f32) x5 (Rect.unit (s := S1x512x1024) ![0, 0, 896] ![1, 512, 128] inb_S1x512x1024_S1x512x128_0_0_896)) x6 = xmF x1 x4 x5 x6 := rfl

/-- Folds the keys times the gates. -/
theorem kbF_eq (k : FVec Ideal S64x64x128 .f32) (x5 : FVec Ideal S1x512x1024 .f32) :
    k0_pay30 (F := Ideal) k (k0_pay22 (View.ld (Val := Elt Ideal) (e' := .f32) x5 (Rect.unit (s := S1x512x1024) ![0, 0, 0] ![1, 512, 128] inb_S1x512x1024_S1x512x128_0_0_0))) (k0_pay23 (View.ld (Val := Elt Ideal) (e' := .f32) x5 (Rect.unit (s := S1x512x1024) ![0, 0, 128] ![1, 512, 128] inb_S1x512x1024_S1x512x128_0_0_128))) (k0_pay24 (View.ld (Val := Elt Ideal) (e' := .f32) x5 (Rect.unit (s := S1x512x1024) ![0, 0, 256] ![1, 512, 128] inb_S1x512x1024_S1x512x128_0_0_256))) (k0_pay25 (View.ld (Val := Elt Ideal) (e' := .f32) x5 (Rect.unit (s := S1x512x1024) ![0, 0, 384] ![1, 512, 128] inb_S1x512x1024_S1x512x128_0_0_384))) (View.ld (Val := Elt Ideal) (e' := .f32) x5 (Rect.unit (s := S1x512x1024) ![0, 0, 512] ![1, 512, 128] inb_S1x512x1024_S1x512x128_0_0_512)) (View.ld (Val := Elt Ideal) (e' := .f32) x5 (Rect.unit (s := S1x512x1024) ![0, 0, 640] ![1, 512, 128] inb_S1x512x1024_S1x512x128_0_0_640)) (View.ld (Val := Elt Ideal) (e' := .f32) x5 (Rect.unit (s := S1x512x1024) ![0, 0, 768] ![1, 512, 128] inb_S1x512x1024_S1x512x128_0_0_768)) (View.ld (Val := Elt Ideal) (e' := .f32) x5 (Rect.unit (s := S1x512x1024) ![0, 0, 896] ![1, 512, 128] inb_S1x512x1024_S1x512x128_0_0_896)) = mulf k (stk x5) :=
  congrArg (mulf k) (fB x5)

/-- The values of the chunks. -/
def Blk.u (B : Blk) : FVec Ideal S8x8x64x128 .f32 :=
  k0_pay37 (stk B.x2) (stk B.x5) (p2F B.x1 B.x4 B.x5 B.x6) (xmF B.x1 B.x4 B.x5 B.x6)
/-- The keys of the chunks. -/
def Blk.w (B : Blk) : FVec Ideal S8x8x64x128 .f32 :=
  k0_pay38 (stk B.x4) (mulf (stk B.x1) (stk B.x5)) (p2F B.x1 B.x4 B.x5 B.x6) (xmF B.x1 B.x4 B.x5 B.x6)
/-- The products of queries and keys. -/
def Blk.qk (B : Blk) : FVec Ideal S8x8x64x64 .f32 := k0_pay39 (stk B.x0) (stk B.x1) (k0_pay29 k0_pay4 (stk B.x4) B.x6)
/-- The decayed queries. -/
def Blk.qg (B : Blk) : FVec Ideal S8x8x64x128 .f32 := k0_pay40 (stk B.x0) (stk B.x4)
/-- The decayed keys. -/
def Blk.kg (B : Blk) : FVec Ideal S8x8x64x128 .f32 := k0_pay41 (stk B.x1) (stk B.x4) (k0_pay28 B.x6)
/-- The decays of the chunks. -/
def Blk.gl (B : Blk) : FVec Ideal S8x8x1x1 .f32 := k0_pay42 (k0_pay28 B.x6)

/-- The state after the first `n` chunks. -/
def Blk.aft (B : Blk) (s : FVec Ideal S8x128x128 .f32) : ℕ → FVec Ideal S8x128x128 .f32
  | 0 => s
  | n + 1 => nxt (Fin.ofNat 8 n) B.u B.w B.kg B.gl (B.aft s n)

/-- The normalised output of chunk `ch`. -/
def Blk.on (B : Blk) (s : FVec Ideal S8x128x128 .f32) (ch : Fin 8) : FVec Ideal S8x64x128 .f32 :=
  onF ch B.u B.w B.qk B.qg B.x8 (B.aft s ch.val)

/-- The gated output of row `i`, column `c`. -/
def Blk.outAt (B : Blk) (s : FVec Ideal S8x128x128 .f32) (i : Fin 512) (c : Fin 1024) : EReal :=
  B.on s ⟨i.val / 64, by omega⟩ (ix3 ⟨c.val / 128, by omega⟩ ⟨i.val % 64, by omega⟩ ⟨c.val % 128, by omega⟩)
    * (B.x3 (ix3 0 i c) * Ideal.div 1 (1 + Ideal.exp (0 - B.x3 (ix3 0 i c))))

variable (m : (ℓ : Loc nD τ sig) → Buf (Elt Ideal) ℓ)

/-- The blocks of point `t`. -/
def blkAt (c : Dev nD) (t : Fin cfg0.N) : Blk :=
  ⟨iblk m c 0 t, iblk m c 1 t, iblk m c 2 t, X0_3 m c t, iblk m c 4 t, iblk m c 5 t, iblk m c 6 t, iblk m c 8 t⟩

end Gdn
-- ==== Proof.Gdn.Real.lean ====
module
public import proofs.«01_k».proof.Proof.Gdn.Block

/-! A point whose blocks are real numbers: its state and its outputs are those of the token-by-token recurrence. -/

@[expose] public section

set_option maxRecDepth 16384

noncomputable section

namespace Gdn
open Idealize.ShloMosaic Idealize.ShloMosaic.TcCoe
open Cert.KernelIdeal Cert.KernelIdeal.Gen

/-- Column `a` of head `h`. -/
def colOf (h : Fin 8) (a : Fin 128) : Fin 1024 := ⟨128 * h.val + a.val, by omega⟩

/-- The blocks hold, for each head, the real inputs of the 512 tokens from token `n` on, and the gates summed within each chunk. -/
structure RealBlk (B : Blk) (I : Fin 8 → Inp) (n : ℕ) : Prop where
  q : ∀ (i : Fin 512) h a, B.x0 (ix3 0 i (colOf h a)) = (((I h).q (n + i.val) a : ℝ) : EReal)
  k : ∀ (i : Fin 512) h a, B.x1 (ix3 0 i (colOf h a)) = (((I h).k (n + i.val) a : ℝ) : EReal)
  v : ∀ (i : Fin 512) h a, B.x2 (ix3 0 i (colOf h a)) = (((I h).v (n + i.val) a : ℝ) : EReal)
  be : ∀ (i : Fin 512) h a, B.x5 (ix3 0 i (colOf h a)) = (((I h).be (n + i.val) : ℝ) : EReal)
  g : ∀ (i : Fin 512) h a, B.x4 (ix3 0 i (colOf h a)) = ((Gp (I h) (n + 64 * (i.val / 64)) (i.val % 64 + 1) : ℝ) : EReal)
  gr : ∀ (h ch : Fin 8) (j : Fin 64), B.x6 (ix5 0 h ch 0 j) = ((Gp (I h) (n + 64 * ch.val) (j.val + 1) : ℝ) : EReal)

variable {B : Blk} {I : Fin 8 → Inp} {n : ℕ}

/-- The row of a piece. -/
def rowOf (b i : Fin 64) : Fin 512 := ⟨64 * (b.val % 8) + i.val, by omega⟩
/-- The head of a piece. -/
def headOf (b : Fin 64) : Fin 8 := ⟨b.val / 8, by omega⟩

theorem stk_at (x : FVec Ideal S1x512x1024 .f32) (b i : Fin 64) (a : Fin 128) :
    stk x (ix3 b i a) = x (ix3 0 (rowOf b i) (colOf (headOf b) a)) := rfl

/-- The stacks of such blocks, as reals. -/
theorem stacked (R : RealBlk B I n) :
    Stacked (fun b => I (headOf b)) (fun b => n + 64 * (b.val % 8)) (stk B.x0) (stk B.x1) (stk B.x2) (stk B.x4) (stk B.x5) B.x6 where
  q b i a := by rw [stk_at, R.q]; simp only [rowOf, Nat.add_assoc]
  k b i a := by rw [stk_at, R.k]; simp only [rowOf, Nat.add_assoc]
  v b i a := by rw [stk_at, R.v]; simp only [rowOf, Nat.add_assoc]
  g b i a := by
    rw [stk_at, R.g]
    have e1 : (rowOf b i).val / 64 = b.val % 8 := by show (64 * (b.val % 8) + i.val) / 64 = _; omega
    have e2 : (rowOf b i).val % 64 = i.val := by show (64 * (b.val % 8) + i.val) % 64 = _; omega
    rw [e1, e2]
  be b i a := by rw [stk_at, R.be]; simp only [rowOf, Nat.add_assoc]
  gr b j := R.gr (headOf b) ⟨b.val % 8, by omega⟩ j

/-- What the chunks' steps take, as reals. -/
theorem args (R : RealBlk B I n) (ch : Fin 8) : ChunkArgs I (n + 64 * ch.val) ch B.u B.w B.kg B.qg B.gl B.qk := by
  have H := stacked R
  have P : Pieces (stk B.x5) _ _ _ _ _ _ _ _ := ⟨fB B.x5⟩
  have hx := inv_eq (p2F B.x1 B.x4 B.x5 B.x6) (xmF B.x1 B.x4 B.x5 B.x6) (fun b => Mat (I (headOf b)) (n + 64 * (b.val % 8)))
    (p2_eq H P) (x2_eq H P)
  have e1 : ∀ h : Fin 8, headOf (at8 h ch) = h := fun h => Fin.ext (by show (h.val * 8 + ch.val) / 8 = h.val; omega)
  have e2 : ∀ h : Fin 8, (at8 h ch).val % 8 = ch.val := fun h => by show (h.val * 8 + ch.val) % 8 = ch.val; omega
  constructor
  · intro h i c
    have := u_eq H hx h ch i c
    rw [e1, e2] at this; exact this
  · intro h i c
    have := w_eq H hx (kb_eq H) h ch i c
    rw [e1, e2] at this; exact this
  · intro h i j
    have := qk_eq H (de_eq H) h ch i j
    rw [e1, e2] at this; exact this
  · intro h i a
    have := qg_eq H h ch i a
    rw [e1, e2] at this; exact this
  · intro h i a
    have := kg_eq H h ch i a
    rw [e1, e2] at this; exact this
  · intro h
    have := gl_eq H h ch
    rw [e1, e2] at this; exact this

/-- The state after `r` chunks is the recurrence's state after `64 r` more tokens. -/
theorem aft_eq (R : RealBlk B I n) (S0 : Fin 8 → St) (s : FVec Ideal S8x128x128 .f32)
    (hs : ∀ h a c, s (ix3 h a c) = ((seqS (I h) (S0 h) n a c : ℝ) : EReal)) :
    ∀ r : ℕ, r ≤ 8 → ∀ h a c, B.aft s r (ix3 h a c) = ((seqS (I h) (S0 h) (n + 64 * r) a c : ℝ) : EReal)
  | 0, _ => hs
  | r + 1, hr => fun h a c => by
    have ih := aft_eq R S0 s hs r (by omega)
    have hm : (Fin.ofNat 8 r).val = r := by show r % 8 = r; omega
    have A := args R (Fin.ofNat 8 r)
    rw [hm] at A
    refine (nxt_eq A _ (fun h => seqS (I h) (S0 h) (n + 64 * r)) ih h a c).trans ?_
    rw [chunkS_eq]
    rfl

/-- The normalisation of a row of outputs, with its gain. -/
def rms (o : Fin 128 → EReal) (gain : FVec Ideal S1x128 .f32) (c : Fin 128) : EReal :=
  o c * Ideal.rsqrt (Ideal.div (∑ c : Fin 128, o c * o c) (Ideal.ofBits .f32 0x43000000#32) + Ideal.ofBits .f32 0x358637BD#32) * gain (ix2 0 c)

/-- The gate of an output. -/
def silu (z : EReal) : EReal := z * Ideal.div 1 (1 + Ideal.exp (0 - z))

/-- The outputs of such a point are the recurrence's, normalised and gated. -/
theorem outAt_eq (R : RealBlk B I n) (S0 : Fin 8 → St) (s : FVec Ideal S8x128x128 .f32)
    (hs : ∀ h a c, s (ix3 h a c) = ((seqS (I h) (S0 h) n a c : ℝ) : EReal)) (i : Fin 512) (k : Fin 1024) :
    B.outAt s i k = rms (fun c => ((seqO (I ⟨k.val / 128, by omega⟩) (S0 ⟨k.val / 128, by omega⟩) (n + i.val) c : ℝ) : EReal)) B.x8
      ⟨k.val % 128, by omega⟩ * silu (B.x3 (ix3 0 i k)) := by
  have key : ∀ (h : Fin 8) (c : Fin 128), raw ⟨i.val / 64, by omega⟩ B.u B.w B.qk B.qg (B.aft s (i.val / 64)) h ⟨i.val % 64, by omega⟩ c
      = ((seqO (I h) (S0 h) (n + i.val) c : ℝ) : EReal) := fun h c => by
    refine (raw_eq (args R ⟨i.val / 64, by omega⟩) _ (fun h => seqS (I h) (S0 h) (n + 64 * (i.val / 64)))
      (aft_eq R S0 s hs _ (by omega)) h ⟨i.val % 64, by omega⟩ c).trans ?_
    rw [chunkO_eq]
    have e : n + 64 * (i.val / 64) + i.val % 64 = n + i.val := by omega
    simp only [e]
  unfold Blk.outAt Blk.on onF rms silu
  simp only [ix3_0, ix3_1, ix3_2]
  simp only [key]

end Gdn
-- ==== Proof.Gdn.Open.lean ====
module
public import proofs.«01_k».proof.Proof.Gen.KernelIdeal.Frame
public import proofs.«01_k».proof.Proof.Gdn.Tiles
public import proofs.«01_k».proof.Proof.Gdn.Block
public import Idealize.ShloMosaic.Lib.Pipeline.ReadBack

@[expose] public section

set_option maxRecDepth 16384

noncomputable section

namespace Gdn
open Idealize.ShloMosaic Idealize.ShloMosaic.TcCoe Idealize.SL.Sem
open Cert.KernelIdeal Cert.KernelIdeal.Gen

variable (m : (ℓ : Loc nD τ sig) → Buf (Elt Ideal) ℓ)

section fold
variable (c : Dev nD) (t : Fin cfg0.N)
/-- Folds the values of the point. -/
theorem u_at : k0_pay37 (stk (iblk m c 2 t)) (stk (iblk m c 5 t)) (p2F (iblk m c 1 t) (iblk m c 4 t) (iblk m c 5 t) (iblk m c 6 t))
    (xmF (iblk m c 1 t) (iblk m c 4 t) (iblk m c 5 t) (iblk m c 6 t)) = (blkAt m c t).u := rfl
/-- Folds the keys of the point. -/
theorem w_at : k0_pay38 (stk (iblk m c 4 t)) (mulf (stk (iblk m c 1 t)) (stk (iblk m c 5 t))) (p2F (iblk m c 1 t) (iblk m c 4 t) (iblk m c 5 t) (iblk m c 6 t))
    (xmF (iblk m c 1 t) (iblk m c 4 t) (iblk m c 5 t) (iblk m c 6 t)) = (blkAt m c t).w := rfl
/-- Folds the products of the point. -/
theorem qk_at : k0_pay39 (stk (iblk m c 0 t)) (stk (iblk m c 1 t)) (k0_pay29 k0_pay4 (stk (iblk m c 4 t)) (iblk m c 6 t)) = (blkAt m c t).qk := rfl
/-- Folds the decayed queries of the point. -/
theorem qg_at : k0_pay40 (stk (iblk m c 0 t)) (stk (iblk m c 4 t)) = (blkAt m c t).qg := rfl
/-- Folds the decayed keys of the point. -/
theorem kg_at : k0_pay41 (stk (iblk m c 1 t)) (stk (iblk m c 4 t)) (k0_pay28 (iblk m c 6 t)) = (blkAt m c t).kg := rfl
/-- Folds the decays of the point. -/
theorem gl_at : k0_pay42 (k0_pay28 (F := Ideal) (iblk m c 6 t)) = (blkAt m c t).gl := rfl
end fold

section fold2
variable (c : Dev nD) (t : Fin cfg0.N) (s : FVec Ideal S8x128x128 .f32)
/-- Folds chunk 0 of the state. -/
theorem aft0 : nxt 0 (blkAt m c t).u (blkAt m c t).w (blkAt m c t).kg (blkAt m c t).gl s = (blkAt m c t).aft s 1 := rfl
/-- Folds the output of chunk 0. -/
theorem onB0 : onF 0 (blkAt m c t).u (blkAt m c t).w (blkAt m c t).qk (blkAt m c t).qg (iblk m c 8 t) s = (blkAt m c t).on s 0 := rfl
/-- Folds chunk 1 of the state. -/
theorem aft1 : nxt 1 (blkAt m c t).u (blkAt m c t).w (blkAt m c t).kg (blkAt m c t).gl ((blkAt m c t).aft s 1) = (blkAt m c t).aft s 2 := rfl
/-- Folds the output of chunk 1. -/
theorem onB1 : onF 1 (blkAt m c t).u (blkAt m c t).w (blkAt m c t).qk (blkAt m c t).qg (iblk m c 8 t) ((blkAt m c t).aft s 1) = (blkAt m c t).on s 1 := rfl
/-- Folds chunk 2 of the state. -/
theorem aft2 : nxt 2 (blkAt m c t).u (blkAt m c t).w (blkAt m c t).kg (blkAt m c t).gl ((blkAt m c t).aft s 2) = (blkAt m c t).aft s 3 := rfl
/-- Folds the output of chunk 2. -/
theorem onB2 : onF 2 (blkAt m c t).u (blkAt m c t).w (blkAt m c t).qk (blkAt m c t).qg (iblk m c 8 t) ((blkAt m c t).aft s 2) = (blkAt m c t).on s 2 := rfl
/-- Folds chunk 3 of the state. -/
theorem aft3 : nxt 3 (blkAt m c t).u (blkAt m c t).w (blkAt m c t).kg (blkAt m c t).gl ((blkAt m c t).aft s 3) = (blkAt m c t).aft s 4 := rfl
/-- Folds the output of chunk 3. -/
theorem onB3 : onF 3 (blkAt m c t).u (blkAt m c t).w (blkAt m c t).qk (blkAt m c t).qg (iblk m c 8 t) ((blkAt m c t).aft s 3) = (blkAt m c t).on s 3 := rfl
/-- Folds chunk 4 of the state. -/
theorem aft4 : nxt 4 (blkAt m c t).u (blkAt m c t).w (blkAt m c t).kg (blkAt m c t).gl ((blkAt m c t).aft s 4) = (blkAt m c t).aft s 5 := rfl
/-- Folds the output of chunk 4. -/
theorem onB4 : onF 4 (blkAt m c t).u (blkAt m c t).w (blkAt m c t).qk (blkAt m c t).qg (iblk m c 8 t) ((blkAt m c t).aft s 4) = (blkAt m c t).on s 4 := rfl
/-- Folds chunk 5 of the state. -/
theorem aft5 : nxt 5 (blkAt m c t).u (blkAt m c t).w (blkAt m c t).kg (blkAt m c t).gl ((blkAt m c t).aft s 5) = (blkAt m c t).aft s 6 := rfl
/-- Folds the output of chunk 5. -/
theorem onB5 : onF 5 (blkAt m c t).u (blkAt m c t).w (blkAt m c t).qk (blkAt m c t).qg (iblk m c 8 t) ((blkAt m c t).aft s 5) = (blkAt m c t).on s 5 := rfl
/-- Folds chunk 6 of the state. -/
theorem aft6 : nxt 6 (blkAt m c t).u (blkAt m c t).w (blkAt m c t).kg (blkAt m c t).gl ((blkAt m c t).aft s 6) = (blkAt m c t).aft s 7 := rfl
/-- Folds the output of chunk 6. -/
theorem onB6 : onF 6 (blkAt m c t).u (blkAt m c t).w (blkAt m c t).qk (blkAt m c t).qg (iblk m c 8 t) ((blkAt m c t).aft s 6) = (blkAt m c t).on s 6 := rfl
/-- Folds chunk 7 of the state. -/
theorem aft7 : nxt 7 (blkAt m c t).u (blkAt m c t).w (blkAt m c t).kg (blkAt m c t).gl ((blkAt m c t).aft s 7) = (blkAt m c t).aft s 8 := rfl
/-- Folds the output of chunk 7. -/
theorem onB7 : onF 7 (blkAt m c t).u (blkAt m c t).w (blkAt m c t).qk (blkAt m c t).qg (iblk m c 8 t) ((blkAt m c t).aft s 7) = (blkAt m c t).on s 7 := rfl
end fold2

/-- The gated tile of chunk `ch`, head `h` is the part of the output from row `64 ch`, column `128 h` on. -/
theorem piece (B : Blk) (s : FVec Ideal S8x128x128 .f32) (ch h : Fin 8) (z : FVec Ideal S1x64x128 .f32) (x : S1x64x128.Idx) (i : Fin 512) (k : Fin 1024)
    (h1 : i.val = 64 * ch.val + (x 1).val) (h2 : k.val = 128 * h.val + (x 2).val) (hz : z x = B.x3 (ix3 0 i k)) :
    tile (B.on s ch) h z x = B.outAt s i k := by
  have b1 : (x 1).val < 64 := (x 1).isLt
  have b2 : (x 2).val < 128 := (x 2).isLt
  have e1 : (⟨i.val / 64, by omega⟩ : Fin 8) = ch := Fin.ext (by show i.val / 64 = ch.val; omega)
  have e2 : (⟨i.val % 64, by omega⟩ : Fin 64) = x 1 := Fin.ext (by show i.val % 64 = (x 1).val; omega)
  have e3 : (⟨k.val / 128, by omega⟩ : Fin 8) = h := Fin.ext (by show k.val / 128 = h.val; omega)
  have e4 : (⟨k.val % 128, by omega⟩ : Fin 128) = x 2 := Fin.ext (by show k.val % 128 = (x 2).val; omega)
  have ex : x = ix3 0 (x 1) (x 2) := by
    funext a
    fin_cases a
    · exact Subsingleton.elim (α := Fin 1) _ _
    · rfl
    · rfl
  unfold tile Blk.outAt
  have hz' : z (ix3 0 (x 1) (x 2)) = B.x3 (ix3 0 i k) := (congrArg z ex.symm).trans hz
  rw [e1, e2, e3, e4]
  exact congrArg (fun q => B.on s ch (ix3 h (x 1) (x 2)) * (q * Ideal.div 1 (1 + Ideal.exp (0 - q)))) hz'

/-- What a load of 64 rows and 128 columns reads. -/
theorem ld_at (X : FVec Ideal S1x512x1024 .f32) (a b : ℕ) (h : ∀ k, (![0, a, b] : Fin 3 → ℕ) k + (![1, 64, 128] : Fin 3 → ℕ) k ≤ S1x512x1024.size k)
    (x : S1x64x128.Idx) (i : Fin 512) (k : Fin 1024) (h1 : i.val = a + (x 1).val) (h2 : k.val = b + (x 2).val) :
    View.ld (Val := Elt Ideal) (e' := .f32) X (Rect.unit (s := S1x512x1024) ![0, a, b] ![1, 64, 128] h) x = X (ix3 0 i k) := by
  refine congrArg X (funext fun d => ?_)
  fin_cases d
  · exact Subsingleton.elim (α := Fin 1) _ _
  · exact Fin.ext (by show a + 1 * (x 1).val = i.val; omega)
  · exact Fin.ext (by show b + 1 * (x 2).val = k.val; omega)

/-- A middle point leaves the state after its eight chunks. -/
theorem state_B (c : Dev nD) (t : Fin cfg0.N) (h0 : ¬t.val % 8 = 0) (h1 : ¬t.val % 8 = 7) :
    (outsAt0 m c t.val t.isLt).2.2 = k0_pay1 ((blkAt m c t).aft (outsAt0 m c (t.val - 1) (by omega)).2.2 8) := by
  rw [outsAt0_B m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m]
  simp only [aft0 m, aft1 m, aft2 m, aft3 m, aft4 m, aft5 m, aft6 m, aft7 m]
/-- The output of a middle point. -/
theorem out_B (c : Dev nD) (t : Fin cfg0.N) (h0 : ¬t.val % 8 = 0) (h1 : ¬t.val % 8 = 7) :
    (outsAt0 m c t.val t.isLt).1 = fun y => (blkAt m c t).outAt (outsAt0 m c (t.val - 1) (by omega)).2.2 (y 1) (y 2) := by
  rw [outsAt0_B m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m,
    tile_0_0, tile_0_1, tile_0_2, tile_0_3, tile_0_4, tile_0_5, tile_0_6, tile_0_7, tile_1_0, tile_1_1, tile_1_2, tile_1_3, tile_1_4, tile_1_5, tile_1_6, tile_1_7, tile_2_0, tile_2_1, tile_2_2, tile_2_3, tile_2_4, tile_2_5, tile_2_6, tile_2_7, tile_3_0, tile_3_1, tile_3_2, tile_3_3, tile_3_4, tile_3_5, tile_3_6, tile_3_7, tile_4_0, tile_4_1, tile_4_2, tile_4_3, tile_4_4, tile_4_5, tile_4_6, tile_4_7, tile_5_0, tile_5_1, tile_5_2, tile_5_3, tile_5_4, tile_5_5, tile_5_6, tile_5_7, tile_6_0, tile_6_1, tile_6_2, tile_6_3, tile_6_4, tile_6_5, tile_6_6, tile_6_7, tile_7_0, tile_7_1, tile_7_2, tile_7_3, tile_7_4, tile_7_5, tile_7_6, tile_7_7]
  simp only [on0, on1, on2, on3, on4, on5, on6, on7, u_at m, w_at m, kg_at m, gl_at m, qk_at m, qg_at m]
  simp only [aft0 m, aft1 m, aft2 m, aft3 m, aft4 m, aft5 m, aft6 m, aft7 m, onB0 m, onB1 m, onB2 m, onB3 m, onB4 m, onB5 m, onB6 m, onB7 m]
  funext y
  canon_tiles x h
  all_goals
    refine piece _ _ _ _ _ x (y 1) (y 2) ?_ ?_ (ld_at _ _ _ _ x (y 1) (y 2) ?_ ?_) <;> dsimp only <;> omega

end Gdn
-- ==== Proof.Gdn.OpenA.lean ====
module
public import proofs.«01_k».proof.Proof.Gdn.Open
public import Idealize.ShloMosaic.Lib.Pipeline.ReadBack

@[expose] public section

set_option maxRecDepth 16384

noncomputable section

namespace Gdn
open Idealize.ShloMosaic Idealize.ShloMosaic.TcCoe Idealize.SL.Sem
open Cert.KernelIdeal Cert.KernelIdeal.Gen

variable (m : (ℓ : Loc nD τ sig) → Buf (Elt Ideal) ℓ)

/-- A first point of a sequence leaves the state after its eight chunks. -/
theorem state_A (c : Dev nD) (t : Fin cfg0.N) (h0 : t.val % 8 = 0) (h1 : ¬t.val % 8 = 7) :
    (outsAt0 m c t.val t.isLt).2.2 = k0_pay1 ((blkAt m c t).aft (k0_pay3 (iblk m c 7 t)) 8) := by
  rw [outsAt0_A m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m]
  simp only [aft0 m, aft1 m, aft2 m, aft3 m, aft4 m, aft5 m, aft6 m, aft7 m]
/-- The output of a first point of a sequence. -/
theorem out_A (c : Dev nD) (t : Fin cfg0.N) (h0 : t.val % 8 = 0) (h1 : ¬t.val % 8 = 7) :
    (outsAt0 m c t.val t.isLt).1 = fun y => (blkAt m c t).outAt (k0_pay3 (iblk m c 7 t)) (y 1) (y 2) := by
  rw [outsAt0_A m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m,
    tile_0_0, tile_0_1, tile_0_2, tile_0_3, tile_0_4, tile_0_5, tile_0_6, tile_0_7, tile_1_0, tile_1_1, tile_1_2, tile_1_3, tile_1_4, tile_1_5, tile_1_6, tile_1_7, tile_2_0, tile_2_1, tile_2_2, tile_2_3, tile_2_4, tile_2_5, tile_2_6, tile_2_7, tile_3_0, tile_3_1, tile_3_2, tile_3_3, tile_3_4, tile_3_5, tile_3_6, tile_3_7, tile_4_0, tile_4_1, tile_4_2, tile_4_3, tile_4_4, tile_4_5, tile_4_6, tile_4_7, tile_5_0, tile_5_1, tile_5_2, tile_5_3, tile_5_4, tile_5_5, tile_5_6, tile_5_7, tile_6_0, tile_6_1, tile_6_2, tile_6_3, tile_6_4, tile_6_5, tile_6_6, tile_6_7, tile_7_0, tile_7_1, tile_7_2, tile_7_3, tile_7_4, tile_7_5, tile_7_6, tile_7_7]
  simp only [on0, on1, on2, on3, on4, on5, on6, on7, u_at m, w_at m, kg_at m, gl_at m, qk_at m, qg_at m]
  simp only [aft0 m, aft1 m, aft2 m, aft3 m, aft4 m, aft5 m, aft6 m, aft7 m, onB0 m, onB1 m, onB2 m, onB3 m, onB4 m, onB5 m, onB6 m, onB7 m]
  funext y
  canon_tiles x h
  all_goals
    refine piece _ _ _ _ _ x (y 1) (y 2) ?_ ?_ (ld_at _ _ _ _ x (y 1) (y 2) ?_ ?_) <;> dsimp only <;> omega

end Gdn
-- ==== Proof.Gdn.OpenC.lean ====
module
public import proofs.«01_k».proof.Proof.Gdn.Open
public import Idealize.ShloMosaic.Lib.Pipeline.ReadBack

@[expose] public section

set_option maxRecDepth 16384

noncomputable section

namespace Gdn
open Idealize.ShloMosaic Idealize.ShloMosaic.TcCoe Idealize.SL.Sem
open Cert.KernelIdeal Cert.KernelIdeal.Gen

variable (m : (ℓ : Loc nD τ sig) → Buf (Elt Ideal) ℓ)

/-- A last point of a sequence leaves the state after its eight chunks. -/
theorem state_C (c : Dev nD) (t : Fin cfg0.N) (h0 : ¬t.val % 8 = 0) (h1 : t.val % 8 = 7) :
    (outsAt0 m c t.val t.isLt).2.2 = k0_pay1 ((blkAt m c t).aft (outsAt0 m c (t.val - 1) (by omega)).2.2 8) := by
  rw [outsAt0_C m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m]
  simp only [aft0 m, aft1 m, aft2 m, aft3 m, aft4 m, aft5 m, aft6 m, aft7 m]
/-- A last point of a sequence gives the state after its eight chunks as a result. -/
theorem last_C (c : Dev nD) (t : Fin cfg0.N) (h0 : ¬t.val % 8 = 0) (h1 : t.val % 8 = 7) :
    (outsAt0 m c t.val t.isLt).2.1 = k0_pay2 (k0_pay1 ((blkAt m c t).aft (outsAt0 m c (t.val - 1) (by omega)).2.2 8)) := by
  rw [outsAt0_C m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m]
  simp only [aft0 m, aft1 m, aft2 m, aft3 m, aft4 m, aft5 m, aft6 m, aft7 m]
/-- The output of a last point of a sequence. -/
theorem out_C (c : Dev nD) (t : Fin cfg0.N) (h0 : ¬t.val % 8 = 0) (h1 : t.val % 8 = 7) :
    (outsAt0 m c t.val t.isLt).1 = fun y => (blkAt m c t).outAt (outsAt0 m c (t.val - 1) (by omega)).2.2 (y 1) (y 2) := by
  rw [outsAt0_C m c t h0 h1]
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole, st0, st1, st2, st3, st4, st5, st6, st7, fQ, fK, fV, fG, fB, p2F_eq, xmF_eq, kbF_eq, u_at m, w_at m, kg_at m, gl_at m, qk_at m, qg_at m,
    tile_0_0, tile_0_1, tile_0_2, tile_0_3, tile_0_4, tile_0_5, tile_0_6, tile_0_7, tile_1_0, tile_1_1, tile_1_2, tile_1_3, tile_1_4, tile_1_5, tile_1_6, tile_1_7, tile_2_0, tile_2_1, tile_2_2, tile_2_3, tile_2_4, tile_2_5, tile_2_6, tile_2_7, tile_3_0, tile_3_1, tile_3_2, tile_3_3, tile_3_4, tile_3_5, tile_3_6, tile_3_7, tile_4_0, tile_4_1, tile_4_2, tile_4_3, tile_4_4, tile_4_5, tile_4_6, tile_4_7, tile_5_0, tile_5_1, tile_5_2, tile_5_3, tile_5_4, tile_5_5, tile_5_6, tile_5_7, tile_6_0, tile_6_1, tile_6_2, tile_6_3, tile_6_4, tile_6_5, tile_6_6, tile_6_7, tile_7_0, tile_7_1, tile_7_2, tile_7_3, tile_7_4, tile_7_5, tile_7_6, tile_7_7]
  simp only [on0, on1, on2, on3, on4, on5, on6, on7, u_at m, w_at m, kg_at m, gl_at m, qk_at m, qg_at m]
  simp only [aft0 m, aft1 m, aft2 m, aft3 m, aft4 m, aft5 m, aft6 m, aft7 m, onB0 m, onB1 m, onB2 m, onB3 m, onB4 m, onB5 m, onB6 m, onB7 m]
  funext y
  canon_tiles x h
  all_goals
    refine piece _ _ _ _ _ x (y 1) (y 2) ?_ ?_ (ld_at _ _ _ _ x (y 1) (y 2) ?_ ?_) <;> dsimp only <;> omega

end Gdn
-- ==== Proof.Gdn.Points.lean ====
module
public import proofs.«01_k».proof.Proof.Gdn.Real
public import proofs.«01_k».proof.Proof.Gdn.Open
public import proofs.«01_k».proof.Proof.Gdn.OpenA
public import proofs.«01_k».proof.Proof.Gdn.OpenC

/-! The points of a launch in order: the state a point leaves and the outputs it writes are the recurrence's, from the
    sequence's first token on. -/

@[expose] public section

set_option maxRecDepth 16384

noncomputable section

namespace Gdn
open Idealize.ShloMosaic Idealize.ShloMosaic.TcCoe Idealize.SL.Sem
open Cert.KernelIdeal Cert.KernelIdeal.Gen

theorem pay1_eq (x : FVec Ideal S8x128x128 .f32) : k0_pay1 x = x := by
  funext j
  idx_vars j
  pointwise [k0_pay1]

theorem pay2_at (x : FVec Ideal S8x128x128 .f32) (h : Fin 8) (a c : Fin 128) : k0_pay2 (F := Ideal) x (ix4 0 h a c) = x (ix3 h a c) := by
  pointwise [k0_pay2]

theorem pay3_at (x : FVec Ideal S1x8x128x128 .f32) (h : Fin 8) (a c : Fin 128) : k0_pay3 (F := Ideal) x (ix3 h a c) = x (ix4 0 h a c) := by
  pointwise [k0_pay3]

variable (m : (ℓ : Loc nD τ sig) → Buf (Elt Ideal) ℓ)

/-- What the region finds: real inputs `I b h` of head `h` of sequence `b`, and real first states. -/
structure Found (c : Dev nD) (I : ℕ → Fin 8 → Inp) (S0 : ℕ → Fin 8 → St) : Prop where
  blk : ∀ t : Fin cfg0.N, RealBlk (blkAt m c t) (I (t.val / 8)) (512 * (t.val % 8))
  st : ∀ t : Fin cfg0.N, ∀ h a cc, iblk m c 7 t (ix4 0 h a cc) = ((S0 (t.val / 8) h a cc : ℝ) : EReal)

variable {m} {c : Dev nD} {I : ℕ → Fin 8 → Inp} {S0 : ℕ → Fin 8 → St}

/-- The state a point starts at. -/
def startOf (m : (ℓ : Loc nD τ sig) → Buf (Elt Ideal) ℓ) (c : Dev nD) (t : Fin cfg0.N) : FVec Ideal S8x128x128 .f32 :=
  if t.val % 8 = 0 then k0_pay3 (iblk m c 7 t) else (outsAt0 m c (t.val - 1) (by omega)).2.2

/-- A point leaves its start's state after eight chunks. -/
theorem state_all (t : Fin cfg0.N) : (outsAt0 m c t.val t.isLt).2.2 = (blkAt m c t).aft (startOf m c t) 8 := by
  unfold startOf
  by_cases h0 : t.val % 8 = 0
  · rw [if_pos h0, state_A m c t h0 (by omega), pay1_eq]
  · rw [if_neg h0]
    by_cases h1 : t.val % 8 = 7
    · rw [state_C m c t h0 h1, pay1_eq]
    · rw [state_B m c t h0 h1, pay1_eq]

/-- A point's outputs. -/
theorem out_all (t : Fin cfg0.N) : (outsAt0 m c t.val t.isLt).1 = fun y => (blkAt m c t).outAt (startOf m c t) (y 1) (y 2) := by
  unfold startOf
  by_cases h0 : t.val % 8 = 0
  · rw [if_pos h0, out_A m c t h0 (by omega)]
  · rw [if_neg h0]
    by_cases h1 : t.val % 8 = 7
    · rw [out_C m c t h0 h1]
    · rw [out_B m c t h0 h1]

/-- The state a point leaves is the recurrence's after its 512 tokens, if the state it starts at is. -/
theorem state_step (H : Found m c I S0) (t : Fin cfg0.N)
    (hs : ∀ h a cc, startOf m c t (ix3 h a cc) = ((seqS (I (t.val / 8) h) (S0 (t.val / 8) h) (512 * (t.val % 8)) a cc : ℝ) : EReal)) (h : Fin 8)
    (a cc : Fin 128) :
    (outsAt0 m c t.val t.isLt).2.2 (ix3 h a cc) = ((seqS (I (t.val / 8) h) (S0 (t.val / 8) h) (512 * (t.val % 8) + 512) a cc : ℝ) : EReal) := by
  rw [state_all]
  exact aft_eq (H.blk t) (S0 (t.val / 8)) _ hs 8 le_rfl h a cc

/-- The state a point starts at is the recurrence's. -/
theorem start_eq (H : Found m c I S0) : ∀ (n : ℕ) (hn : n < cfg0.N) (h : Fin 8) (a cc : Fin 128),
    startOf m c ⟨n, hn⟩ (ix3 h a cc) = ((seqS (I (n / 8) h) (S0 (n / 8) h) (512 * (n % 8)) a cc : ℝ) : EReal) := by
  intro n
  induction n with
  | zero =>
    intro hn h a cc
    unfold startOf
    rw [if_pos (Nat.zero_mod 8), pay3_at]
    exact H.st ⟨0, hn⟩ h a cc
  | succ n ih =>
    intro hn h a cc
    unfold startOf
    by_cases h0 : (n + 1) % 8 = 0
    · rw [if_pos h0, pay3_at, H.st ⟨n + 1, hn⟩ h a cc]
      simp only [h0]
      rfl
    · rw [if_neg h0]
      have e := state_step H ⟨n, by omega⟩ (ih (by omega)) h a cc
      refine e.trans ?_
      have e1 : n / 8 = (n + 1) / 8 := by omega
      have e2 : 512 * (n % 8) + 512 = 512 * ((n + 1) % 8) := by omega
      simp only [e1, e2]

/-- A point's outputs are the recurrence's, normalised and gated. -/
theorem out_real (H : Found m c I S0) (t : Fin cfg0.N) (i : Fin 512) (k : Fin 1024) :
    (outsAt0 m c t.val t.isLt).1 (ix3 0 i k)
      = rms (fun cc => ((seqO (I (t.val / 8) ⟨k.val / 128, by omega⟩) (S0 (t.val / 8) ⟨k.val / 128, by omega⟩) (512 * (t.val % 8) + i.val) cc : ℝ) : EReal))
          (iblk m c 8 t) ⟨k.val % 128, by omega⟩ * silu (X0_3 m c t (ix3 0 i k)) := by
  rw [out_all]
  exact outAt_eq (H.blk t) (S0 (t.val / 8)) _ (start_eq H t.val t.isLt) i k

/-- The last point of a sequence writes the recurrence's last state. -/
theorem last_real (H : Found m c I S0) (t : Fin cfg0.N) (h1 : t.val % 8 = 7) (h : Fin 8) (a cc : Fin 128) :
    (outsAt0 m c t.val t.isLt).2.1 (ix4 0 h a cc) = ((seqS (I (t.val / 8) h) (S0 (t.val / 8) h) 4096 a cc : ℝ) : EReal) := by
  have h0 : ¬ t.val % 8 = 0 := by omega
  rw [last_C m c t h0 h1, pay2_at, pay1_eq]
  have e := aft_eq (H.blk t) (S0 (t.val / 8)) _ (start_eq H t.val t.isLt) 8 le_rfl h a cc
  unfold startOf at e
  rw [if_neg h0] at e
  rw [e]
  simp only [h1]

end Gdn
-- ==== Proof.Gdn.Cumsum.lean ====
module
public import proofs.«01_k».proof.Proof.Gdn.Lift

/-! The gates summed within each chunk, as the host forms them before the launch. -/

@[expose] public section

set_option maxRecDepth 16384

noncomputable section

namespace Gdn
open Idealize.ShloMosaic Idealize.ShloMosaic.TcCoe
open Cert.KernelIdeal Cert.KernelIdeal.Gen

/-- A left fold of additions is a sum. -/
theorem foldl_add {α : Type} (g : α → EReal) (l : List α) (v : EReal) : l.foldl (fun r n => r + g n) v = v + (l.map g).sum := by
  induction l generalizing v with
  | nil => simp only [List.foldl_nil, List.map_nil, List.sum_nil, add_zero]
  | cons a l ih => rw [List.foldl_cons, ih, List.map_cons, List.sum_cons, add_assoc]

/-- A window of 64 that ends at place `i` holds the entries up to `i`. -/
theorem window_sum (f : ℕ → ℝ) (i : ℕ) (hi : i < 64) :
    ∑ n ∈ Finset.range 64, (if 63 ≤ i + n then f (i + n - 63) else 0) = ∑ j ∈ Finset.range (i + 1), f j := by
  rw [← Finset.sum_filter]
  refine Finset.sum_nbij' (fun n => i + n - 63) (fun j => j + 63 - i) ?_ ?_ ?_ ?_ ?_ <;>
    simp only [Finset.mem_filter, Finset.mem_range] <;> intros <;> first | omega | rfl | trivial

/-- The window's places. -/
abbrev Wn : Shape := ⟨4, ![1, 1, 64, 1]⟩

theorem place (n : Fin Wn.numel) : (Wn.rowMajor.symm n 2).val = n.val :=
  (by decide +kernel : ∀ n : Fin Wn.numel, (Wn.rowMajor.symm n 2).val = n.val) n

/-- The host's sums of gates: place `i` of a chunk holds the sum of the chunk's gates up to and including `i`. -/
theorem cumsum_eq (x : FVec Ideal S2x64x64x8 .f32) (z : FVec Ideal S_ .f32) (hz : ∀ j, z j = 0) (f : ℕ → ℝ) (b : Fin 2) (ch i : Fin 64) (h : Fin 8)
    (hx : ∀ j : Fin 64, x (ix4 b ch j h) = ((f j.val : ℝ) : EReal)) :
    Host.reduceWindowAdd ![1, 1, 64, 1] ![1, 1, 1, 1] ![0, 0, 63, 0] ![0, 0, 0, 0] x z
      reduceWindows_S2x64x64x8_S2x64x64x8_w1s1p0_0_w1s1p0_0_w64s1p63_0_w1s1p0_0 h_S_ (ix4 b ch i h)
      = ((∑ j ∈ Finset.range (i.val + 1), f j : ℝ) : EReal) := by
  unfold Host.reduceWindowAdd
  rw [Ideal.hostReduceWindowAdd_def]
  unfold Ideal.hostReduceWindowAdd Host.reduceWindow
  refine (foldl_add _ _ _).trans ?_
  rw [hz, zero_add]
  refine (congrArg List.sum (List.map_congr_left
    (g := fun n : Fin Wn.numel => (((if 63 ≤ i.val + n.val then f (i.val + n.val - 63) else 0 : ℝ)) : EReal)) fun n _ => ?_)).trans ?_
  · have hn : n.val < 64 := lt_of_lt_of_eq n.isLt (by decide)
    have hi := i.isLt
    have p0 : (Wn.rowMajor.symm n 0).val = 0 := Nat.lt_one_iff.mp (Wn.rowMajor.symm n 0).isLt
    have p1 : (Wn.rowMajor.symm n 1).val = 0 := Nat.lt_one_iff.mp (Wn.rowMajor.symm n 1).isLt
    have p2 : (Wn.rowMajor.symm n 2).val = n.val := place n
    have p3 : (Wn.rowMajor.symm n 3).val = 0 := Nat.lt_one_iff.mp (Wn.rowMajor.symm n 3).isLt
    dsimp only
    split
    · next hin =>
      have h2 := hin 2
      change 63 ≤ i.val * 1 + (Wn.rowMajor.symm n 2).val ∧ i.val * 1 + (Wn.rowMajor.symm n 2).val - 63 < 64 at h2
      rw [p2] at h2
      rw [if_pos (by omega)]
      refine (congrArg x (funext fun a => Fin.ext ?_)).trans (hx ⟨i.val + n.val - 63, by omega⟩)
      match a with
      | ⟨0, _⟩ => show b.val * 1 + (Wn.rowMajor.symm n 0).val - 0 = b.val; omega
      | ⟨1, _⟩ => show ch.val * 1 + (Wn.rowMajor.symm n 1).val - 0 = ch.val; omega
      | ⟨2, _⟩ => show i.val * 1 + (Wn.rowMajor.symm n 2).val - 63 = i.val + n.val - 63; omega
      | ⟨3, _⟩ => show h.val * 1 + (Wn.rowMajor.symm n 3).val - 0 = h.val; omega
    · next hin =>
      rw [if_neg fun hle => hin fun a => by
        match a with
        | ⟨0, _⟩ => show 0 ≤ b.val * 1 + (Wn.rowMajor.symm n 0).val ∧ b.val * 1 + (Wn.rowMajor.symm n 0).val - 0 < 2; omega
        | ⟨1, _⟩ => show 0 ≤ ch.val * 1 + (Wn.rowMajor.symm n 1).val ∧ ch.val * 1 + (Wn.rowMajor.symm n 1).val - 0 < 64; omega
        | ⟨2, _⟩ => show 63 ≤ i.val * 1 + (Wn.rowMajor.symm n 2).val ∧ i.val * 1 + (Wn.rowMajor.symm n 2).val - 63 < 64; omega
        | ⟨3, _⟩ => show 0 ≤ h.val * 1 + (Wn.rowMajor.symm n 3).val ∧ h.val * 1 + (Wn.rowMajor.symm n 3).val - 0 < 8; omega]
      exact EReal.coe_zero.symm
  · rw [← Fin.sum_univ_def, coe_sum, Fin.sum_univ_eq_sum_range (fun n => if 63 ≤ i.val + n then f (i.val + n - 63) else 0) Wn.numel,
      show Wn.numel = 64 by decide, window_sum f i.val i.isLt]

end Gdn
-- ==== Proof.Gdn.Entry.lean ====
module
public import proofs.«01_k».proof.Proof.Gdn.Points
public import proofs.«01_k».proof.Proof.Gdn.Cumsum
public import Idealize.ShloMosaic.Lib.Claim

/-! What the region finds in its arrays and in the blocks of its points, in terms of the arguments. -/

@[expose] public section

set_option maxRecDepth 16384

noncomputable section

namespace Gdn
open Idealize.ShloMosaic Idealize.ShloMosaic.TcCoe Idealize.SL.Sem
open Cert.KernelIdeal Cert.KernelIdeal.Gen

/-- The arguments that are read as real numbers. -/
structure Args where
  /-- queries -/
  q : FVec Ideal S2x4096x1024 .f32
  /-- keys -/
  k : FVec Ideal S2x4096x1024 .f32
  /-- values -/
  v : FVec Ideal S2x4096x1024 .f32
  /-- gates of the rule -/
  be : FVec Ideal S2x4096x8 .f32
  /-- logarithms of the decays -/
  g : FVec Ideal S2x4096x8 .f32
  /-- first states -/
  s0 : FVec Ideal S2x8x128x128 .f32

/-- Every entry is a real number. -/
structure Args.Finite (A : Args) : Prop where
  q : ∀ j, ∃ r : ℝ, A.q j = (r : EReal)
  k : ∀ j, ∃ r : ℝ, A.k j = (r : EReal)
  v : ∀ j, ∃ r : ℝ, A.v j = (r : EReal)
  be : ∀ j, ∃ r : ℝ, A.be j = (r : EReal)
  g : ∀ j, ∃ r : ℝ, A.g j = (r : EReal)
  s0 : ∀ j, ∃ r : ℝ, A.s0 j = (r : EReal)

/-- An array's entry as a real number, at any token. -/
def rd (x : FVec Ideal S2x4096x1024 .f32) (b t : ℕ) (k : Fin 1024) : ℝ :=
  if h : b < 2 ∧ t < 4096 then (x (ix3 ⟨b, h.1⟩ ⟨t, h.2⟩ k)).toReal else 0
/-- A gate as a real number, at any token. -/
def rg (x : FVec Ideal S2x4096x8 .f32) (b t : ℕ) (k : Fin 8) : ℝ :=
  if h : b < 2 ∧ t < 4096 then (x (ix3 ⟨b, h.1⟩ ⟨t, h.2⟩ k)).toReal else 0
/-- A first state as real numbers. -/
def rs (x : FVec Ideal S2x8x128x128 .f32) (b : ℕ) (h : Fin 8) : St :=
  fun a c => if hb : b < 2 then (x (ix4 ⟨b, hb⟩ h a c)).toReal else 0

/-- The inputs of a head. -/
def Args.inp (A : Args) (b : ℕ) (h : Fin 8) : Inp where
  q t a := rd A.q b t (colOf h a)
  k t a := rd A.k b t (colOf h a)
  v t a := rd A.v b t (colOf h a)
  be t := rg A.be b t h
  g t := rg A.g b t h

theorem toReal_of {x : EReal} (h : ∃ r : ℝ, x = (r : EReal)) : x = ((x.toReal : ℝ) : EReal) := by
  obtain ⟨r, rfl⟩ := h
  rw [EReal.toReal_coe]

theorem rd_eq {x : FVec Ideal S2x4096x1024 .f32} (hx : ∀ j, ∃ r : ℝ, x j = (r : EReal)) (b : Fin 2) (t : Fin 4096) (k : Fin 1024) :
    x (ix3 b t k) = ((rd x b.val t.val k : ℝ) : EReal) := by
  unfold rd
  rw [dif_pos ⟨b.isLt, t.isLt⟩]
  exact toReal_of (hx _)

theorem rg_eq {x : FVec Ideal S2x4096x8 .f32} (hx : ∀ j, ∃ r : ℝ, x j = (r : EReal)) (b : Fin 2) (t : Fin 4096) (k : Fin 8) :
    x (ix3 b t k) = ((rg x b.val t.val k : ℝ) : EReal) := by
  unfold rg
  rw [dif_pos ⟨b.isLt, t.isLt⟩]
  exact toReal_of (hx _)

theorem rs_eq {x : FVec Ideal S2x8x128x128 .f32} (hx : ∀ j, ∃ r : ℝ, x j = (r : EReal)) (b : Fin 2) (h : Fin 8) (a c : Fin 128) :
    x (ix4 b h a c) = ((rs x b.val h a c : ℝ) : EReal) := by
  unfold rs
  rw [dif_pos b.isLt]
  exact toReal_of (hx _)

variable (m : (ℓ : Loc nD τ sig) → Buf (Elt Ideal) ℓ) (c : Dev nD)

/-- The batch of a point. -/
def bOf (t : Fin cfg0.N) : Fin 2 := ⟨t.val / 8, by have := lt_of_lt_of_eq t.isLt (show cfg0.N = 16 from N_0); omega⟩
/-- Row `i` of a point's tokens. -/
def tOf (t : Fin cfg0.N) (i : Fin 512) : Fin 4096 := ⟨512 * (t.val % 8) + i.val, by omega⟩

theorem idx_all : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 3] ∧ win0_4.index t = ![t.val / 8, t.val % 8, 0]
    ∧ win0_5.index t = ![t.val / 8, t.val % 8, 0] ∧ win0_6.index t = ![t.val / 8, 0, t.val % 8, 0, 0] ∧ win0_7.index t = ![t.val / 8, 0, 0, 0]
    ∧ win0_8.index t = ![0, 0] :=
  (by decide +kernel : ∀ t : Fin grid0.N, _)

/-- The arguments as the launch finds them. -/
def argsOf : Args := ⟨m (c, main_arg0), m (c, main_arg1), m (c, main_arg2), m (c, main_arg4), m (c, main_arg5), m (c, main_arg6)⟩

theorem blk0 (t : Fin cfg0.N) (i : Fin 512) (k : Fin 1024) :
    iblk m c 0 t (ix3 0 i k) = m (c, main_arg0) (ix3 (bOf t) (tOf t i) k) := by
  rw [← V_main_arg0 m c]
  blk_ext [iblk, V, (idx_all t).1, bOf, tOf]

theorem blk1 (t : Fin cfg0.N) (i : Fin 512) (k : Fin 1024) :
    iblk m c 1 t (ix3 0 i k) = m (c, main_arg1) (ix3 (bOf t) (tOf t i) k) := by
  rw [← V_main_arg1 m c]
  blk_ext [iblk, V, (idx_all t).2.1, bOf, tOf]

theorem blk2 (t : Fin cfg0.N) (i : Fin 512) (k : Fin 1024) :
    iblk m c 2 t (ix3 0 i k) = m (c, main_arg2) (ix3 (bOf t) (tOf t i) k) := by
  rw [← V_main_arg2 m c]
  blk_ext [iblk, V, (idx_all t).2.2.1, bOf, tOf]

theorem win4 (W : FVec Ideal S2x4096x1024 .f32) (t : Fin cfg0.N) (i : Fin 512) (k : Fin 1024) :
    View.read (Elt Ideal) ((cfg0.win 4).blk t).view W (ix3 0 i k) = W (ix3 (bOf t) (tOf t i) k) := by
  blk_ext [(idx_all t).2.2.2.2.1, bOf, tOf]

theorem blk4 (t : Fin cfg0.N) (i : Fin 512) (k : Fin 1024) :
    iblk m c 4 t (ix3 0 i k) = (V m c main_v7 : FVec Ideal S2x4096x1024 .f32) (ix3 (bOf t) (tOf t i) k) :=
  win4 (V m c main_v7) t i k

theorem win5 (W : FVec Ideal S2x4096x1024 .f32) (t : Fin cfg0.N) (i : Fin 512) (k : Fin 1024) :
    View.read (Elt Ideal) ((cfg0.win 5).blk t).view W (ix3 0 i k) = W (ix3 (bOf t) (tOf t i) k) := by
  blk_ext [(idx_all t).2.2.2.2.2.1, bOf, tOf]

theorem blk5 (t : Fin cfg0.N) (i : Fin 512) (k : Fin 1024) :
    iblk m c 5 t (ix3 0 i k) = (V m c main_v10 : FVec Ideal S2x4096x1024 .f32) (ix3 (bOf t) (tOf t i) k) :=
  win5 (V m c main_v10) t i k

theorem win6 (W : FVec Ideal S2x8x64x1x64 .f32) (t : Fin cfg0.N) (h ch : Fin 8) (j : Fin 64) :
    View.read (Elt Ideal) ((cfg0.win 6).blk t).view W (ix5 0 h ch 0 j) = W (ix5 (bOf t) h ⟨8 * (t.val % 8) + ch.val, by omega⟩ 0 j) := by
  blk_ext [(idx_all t).2.2.2.2.2.2.1, bOf, tOf]

theorem blk6 (t : Fin cfg0.N) (h ch : Fin 8) (j : Fin 64) :
    iblk m c 6 t (ix5 0 h ch 0 j) = (V m c main_v4 : FVec Ideal S2x8x64x1x64 .f32) (ix5 (bOf t) h ⟨8 * (t.val % 8) + ch.val, by omega⟩ 0 j) :=
  win6 (V m c main_v4) t h ch j

theorem blk7 (t : Fin cfg0.N) (h : Fin 8) (a cc : Fin 128) :
    iblk m c 7 t (ix4 0 h a cc) = m (c, main_arg6) (ix4 (bOf t) h a cc) := by
  rw [← V_main_arg6 m c]
  blk_ext [iblk, V, (idx_all t).2.2.2.2.2.2.2.1, bOf, tOf]

theorem blk8 (t : Fin cfg0.N) : iblk m c 8 t = m (c, main_arg7) := by
  rw [← V_main_arg7 m c]
  funext j
  idx_vars j
  blk_ext [iblk, V, (idx_all t).2.2.2.2.2.2.2.2, bOf, tOf]

theorem blk3 (t : Fin cfg0.N) (i : Fin 512) (k : Fin 1024) :
    X0_3 m c t (ix3 0 i k) = m (c, main_arg3) (ix3 (bOf t) (tOf t i) ⟨3072 + k.val, by omega⟩) := by
  rw [← V_main_arg3 m c]
  unfold X0_3 Pipeline.Window.fill
  rw [dif_pos (moved0_3 t _)]
  blk_ext [iblk, V, (idx_all t).2.2.2.1, bOf, tOf]

variable {m c} (H : (argsOf m c).Finite)
include H

/-- The host's sums of the gates, at a token. -/
theorem sums (b : Fin 2) (ch i : Fin 64) (h : Fin 8) (x : FVec Ideal S2x64x64x8 .f32) (z : FVec Ideal S_ .f32) (hz : ∀ j, z j = 0)
    (hx : ∀ j : Fin 64, x (ix4 b ch j h) = (argsOf m c).g (ix3 b ⟨ch.val * 64 + j.val, by omega⟩ h)) (n : ℕ) (hn : n = 64 * ch.val) :
    Host.reduceWindowAdd ![1, 1, 64, 1] ![1, 1, 1, 1] ![0, 0, 63, 0] ![0, 0, 0, 0] x z
      reduceWindows_S2x64x64x8_S2x64x64x8_w1s1p0_0_w1s1p0_0_w64s1p63_0_w1s1p0_0 h_S_ (ix4 b ch i h)
      = ((Gp ((argsOf m c).inp b.val h) n (i.val + 1) : ℝ) : EReal) := by
  subst hn
  refine cumsum_eq x z hz (fun j => rg (argsOf m c).g b.val (64 * ch.val + j) h) b ch i h fun j => ?_
  rw [hx, rg_eq H.g]
  simp only [Nat.mul_comm ch.val 64]

theorem v7 (b : Fin 2) (t : Fin 4096) (k : Fin 1024) : (V m c main_v7 : FVec Ideal S2x4096x1024 .f32) (ix3 b t k)
    = ((Gp ((argsOf m c).inp b.val ⟨k.val / 128, by omega⟩) (64 * (t.val / 64)) (t.val % 64 + 1) : ℝ) : EReal) := by
  unfold V
  simp only [hostOps0, hostOps0_1, hostOps0_2, List.flatten_cons, List.flatten_nil, List.append_nil, List.cons_append, List.nil_append]
  entry_read
  pointwise []
  refine sums H b ⟨t.val / 64, by omega⟩ ⟨t.val % 64, by omega⟩ ⟨k.val / 128, by omega⟩ _ _ (fun j => ?_) (fun j => ?_) _ rfl
  · show (broadcastInDim S_ ![] bcast_S_S_ (constant (F := Ideal) S_ .f32 0x00000000#32)) j = 0
    pointwise []
  · rfl

theorem v4 (b : Fin 2) (h : Fin 8) (ch j : Fin 64) : (V m c main_v4 : FVec Ideal S2x8x64x1x64 .f32) (ix5 b h ch 0 j)
    = ((Gp ((argsOf m c).inp b.val h) (64 * ch.val) (j.val + 1) : ℝ) : EReal) := by
  unfold V
  simp only [hostOps0, hostOps0_1, hostOps0_2, List.flatten_cons, List.flatten_nil, List.append_nil, List.cons_append, List.nil_append]
  entry_read
  pointwise []
  have e1 : (ch.val * 64 + j.val) / 64 = ch.val := by omega
  have e2 : (ch.val * 64 + j.val) % 64 = j.val := by omega
  simp only [e1, e2]
  refine sums H b ch j h _ _ (fun j => ?_) (fun j => ?_) _ rfl
  · show (broadcastInDim S_ ![] bcast_S_S_ (constant (F := Ideal) S_ .f32 0x00000000#32)) j = 0
    pointwise []
  · rfl

theorem v10 (b : Fin 2) (t : Fin 4096) (k : Fin 1024) : (V m c main_v10 : FVec Ideal S2x4096x1024 .f32) (ix3 b t k)
    = (((argsOf m c).inp b.val ⟨k.val / 128, by omega⟩).be t.val : EReal) := by
  unfold V
  simp only [hostOps0, hostOps0_1, hostOps0_2, List.flatten_cons, List.flatten_nil, List.append_nil, List.cons_append, List.nil_append]
  entry_read
  pointwise []
  exact rg_eq H.be b t ⟨k.val / 128, by omega⟩

/-- The region finds the real inputs of the arguments. -/
theorem found : Found m c (argsOf m c).inp (rs (argsOf m c).s0) where
  blk t := by
    have hh : ∀ (h : Fin 8) (a : Fin 128), (⟨(colOf h a).val / 128, by omega⟩ : Fin 8) = h := fun h a =>
      Fin.ext (by show (128 * h.val + a.val) / 128 = h.val; omega)
    constructor
    · exact fun i h a => (blk0 m c t i _).trans (rd_eq H.q (bOf t) (tOf t i) _)
    · exact fun i h a => (blk1 m c t i _).trans (rd_eq H.k (bOf t) (tOf t i) _)
    · exact fun i h a => (blk2 m c t i _).trans (rd_eq H.v (bOf t) (tOf t i) _)
    · intro i h a
      refine (blk5 m c t i _).trans ((v10 H (bOf t) (tOf t i) _).trans ?_)
      rw [hh h a]
      rfl
    · intro i h a
      refine (blk4 m c t i _).trans ((v7 H (bOf t) (tOf t i) _).trans ?_)
      rw [hh h a]
      have e1 : 64 * ((tOf t i).val / 64) = 512 * (t.val % 8) + 64 * (i.val / 64) := by
        show 64 * ((512 * (t.val % 8) + i.val) / 64) = _; omega
      have e2 : (tOf t i).val % 64 = i.val % 64 := by show (512 * (t.val % 8) + i.val) % 64 = _; omega
      rw [e1, e2]
      rfl
    · intro h ch j
      refine (blk6 m c t h ch j).trans ((v4 H (bOf t) h _ j).trans ?_)
      have e1 : 64 * (8 * (t.val % 8) + ch.val) = 512 * (t.val % 8) + 64 * ch.val := by omega
      simp only [e1]
      rfl
  st t h a cc := (blk7 m c t h a cc).trans (rs_eq H.s0 (bOf t) h a cc)

end Gdn
-- ==== Proof.Gdn.Final.lean ====
module
public import proofs.«01_k».proof.Proof.Gen.KernelIdeal.Value
public import proofs.«01_k».proof.Proof.Gdn.Entry

/-! What the launch leaves in its two result arrays. -/

@[expose] public section

set_option maxRecDepth 16384

noncomputable section

namespace Gdn
open Idealize.ShloMosaic Idealize.ShloMosaic.TcCoe Idealize.SL.Sem
open Cert.KernelIdeal Cert.KernelIdeal.Gen

/-- The layer's output at token `t`, column `k` of sequence `b`: the recurrence's output, normalised with the gain and gated. -/
def outF (A : Args) (z : FVec Ideal S2x4096x14592 .f32) (gain : FVec Ideal S1x128 .f32) (b : Fin 2) (t : Fin 4096) (k : Fin 1024) : EReal :=
  rms (fun cc => ((seqO (A.inp b.val ⟨k.val / 128, by omega⟩) (rs A.s0 b.val ⟨k.val / 128, by omega⟩) t.val cc : ℝ) : EReal)) gain
    ⟨k.val % 128, by omega⟩ * silu (z (ix3 b t ⟨3072 + k.val, by omega⟩))

/-- The state after the last token. -/
def stF (A : Args) (b : Fin 2) (h : Fin 8) (a c : Fin 128) : EReal :=
  ((seqS (A.inp b.val h) (rs A.s0 b.val h) 4096 a c : ℝ) : EReal)

variable {m : (ℓ : Loc nD τ sig) → Buf (Elt Ideal) ℓ} {c : Dev nD}

theorem idx_out : ∀ t : Fin cfg0.N, win0_9.index t = ![t.val / 8, t.val % 8, 0] ∧ win0_10.index t = ![t.val / 8, 0, 0, 0] :=
  (by decide +kernel : ∀ t : Fin grid0.N, _)

/-- The launch's first result. -/
theorem final_out (H : (argsOf m c).Finite) :
    (dats m 0 c).arrAt 9 cfg0.N = fun j => outF (argsOf m c) (m (c, main_arg3)) (m (c, main_arg7)) (j 0) (j 1) (j 2) := by
  refine (dats m 0 c).arrAt_eq_of_covers 9 _ (by decide +kernel) fun t hf y => ?_
  blk_simp
  rw [after0_9]
  have e0 : (win0_9.blk t).view.emb y 0 = bOf t := Fin.ext (by blk_simp [(idx_out t).1, bOf])
  have e1 : (win0_9.blk t).view.emb y 1 = tOf t (y 1) := Fin.ext (by blk_simp [(idx_out t).1]; simp only [tOf]; omega)
  have e2 : (win0_9.blk t).view.emb y 2 = y 2 := Fin.ext (by blk_simp [(idx_out t).1])
  have ey : y = ix3 0 (y 1) (y 2) := by
    funext a
    fin_cases a
    · exact Subsingleton.elim (α := Fin 1) _ _
    · rfl
    · rfl
  rw [e0, e1, e2]
  refine (congrArg (outsAt0 m c t.val t.isLt).1 ey).trans ?_
  refine (out_real (found H) t (y 1) (y 2)).trans ?_
  rw [blk8]
  exact congrArg (fun v => _ * silu v) (blk3 m c t (y 1) (y 2))

/-- The launch's second result. -/
theorem final_st (H : (argsOf m c).Finite) :
    (dats m 0 c).arrAt 10 cfg0.N = fun j => stF (argsOf m c) (j 0) (j 1) (j 2) (j 3) := by
  refine (dats m 0 c).arrAt_eq_of_covers 10 _ (by decide +kernel) fun t hf y => ?_
  blk_simp
  rw [after0_10]
  have h7 : t.val % 8 = 7 := (flush0_10 t).mp hf
  have e0 : (win0_10.blk t).view.emb y 0 = bOf t := Fin.ext (by blk_simp [(idx_out t).2]; have := (y 0).isLt; simp only [bOf])
  have e1 : (win0_10.blk t).view.emb y 1 = y 1 := Fin.ext (by blk_simp [(idx_out t).2])
  have e2 : (win0_10.blk t).view.emb y 2 = y 2 := Fin.ext (by blk_simp [(idx_out t).2])
  have e3 : (win0_10.blk t).view.emb y 3 = y 3 := Fin.ext (by blk_simp [(idx_out t).2])
  have ey : y = ix4 0 (y 1) (y 2) (y 3) := by
    funext a
    fin_cases a
    · exact Subsingleton.elim (α := Fin 1) _ _
    · rfl
    · rfl
    · rfl
  rw [e0, e1, e2, e3]
  refine (congrArg (outsAt0 m c t.val t.isLt).2.1 ey).trans ?_
  exact last_real (found H) t h7 (y 1) (y 2) (y 3)

end Gdn
-- ==== Proof.Gdn.RefStep.lean ====
module
public import proofs.«01_k».proof.Proof.Gdn.Final
public import proofs.«01_k».proof.Proof.Gen.ReferenceIdeal.Run
public import Idealize.ShloMosaic.Lib.DynamicIndex

/-! The reference's loop: what one trip makes of the state and of the outputs. -/

@[expose] public section

set_option maxRecDepth 16384

noncomputable section

namespace Gdn.Ref
open Idealize.ShloMosaic Idealize.ShloMosaic.TcCoe Idealize.SL.Sem
open Cert.ReferenceIdeal Cert.ReferenceIdeal.Gen Cert.ReferenceIdeal.Value

/-- A counter below the number of tokens, read as a signed number. -/
theorem toInt_ctr (n : ℕ) (hn : n < 4096) : (BitVec.ofNat 32 n).toInt = n := by
  rw [BitVec.toInt_eq_toNat_of_lt] <;> simp only [BitVec.toNat_ofNat] <;> omega

/-- The starts of a slice at a token. -/
theorem st4 (i : IVec S_ 32) (n : Fin 4096) (hi : i = fun _ => BitVec.ofNat 32 n.val) (a : Fin 4) :
    (((![i, constantI S_ 32 0#32, constantI S_ 32 0#32, constantI S_ 32 0#32] : Fin 4 → (⟨S_, .i32⟩ : BufTy).Contents (Elt Ideal))) a (Shape.Idx.first h_S_)).toInt
      = (![n.val, 0, 0, 0] a : ℕ) := by
  subst hi
  fin_cases a
  · exact toInt_ctr n.val n.isLt
  · rfl
  · rfl
  · rfl

/-- The starts of a slice at a token. -/
theorem st3 (i : IVec S_ 32) (n : Fin 4096) (hi : i = fun _ => BitVec.ofNat 32 n.val) (a : Fin 3) :
    (((![i, constantI S_ 32 0#32, constantI S_ 32 0#32] : Fin 3 → (⟨S_, .i32⟩ : BufTy).Contents (Elt Ideal))) a (Shape.Idx.first h_S_)).toInt
      = (![n.val, 0, 0] a : ℕ) := by
  subst hi
  fin_cases a
  · exact toInt_ctr n.val n.isLt
  · rfl
  · rfl

/-- The slice at a token of an array with two axes more than heads. -/
theorem slice4 {α : Type} (x : S4096x2x8x128.Idx → α) (st : Fin 4 → Int) (n : Fin 4096) (hi : ∀ a, st a = (![n.val, 0, 0, 0] a : ℕ)) :
    shapeCast S2x8x128 (Host.dynamicSlice S1x2x8x128 x st sliceFits_S4096x2x8x128_S1x2x8x128) shapeCasts_S1x2x8x128_S2x8x128
      = fun j => x (ix4 n (j 0) (j 1) (j 2)) := by
  have hs : S4096x2x8x128.Slices ![n.val, 0, 0, 0] S1x2x8x128 := ⟨rfl, fun a => by
    have := n.isLt
    fin_cases a
    · show n.val + 1 ≤ 4096; omega
    · show 0 + 2 ≤ 2; omega
    · show 0 + 8 ≤ 8; omega
    · show 0 + 128 ≤ 128; omega⟩
  rw [Host.dynamicSlice_eq_extractStridedSlice _ _ _ ![n.val, 0, 0, 0] _ hs hi]
  funext j
  idx_vars j
  pointwise []

/-- The slice at a token of an array with heads as its last axis. -/
theorem slice3 {α : Type} (x : S4096x2x8.Idx → α) (st : Fin 3 → Int) (n : Fin 4096) (hi : ∀ a, st a = (![n.val, 0, 0] a : ℕ)) :
    shapeCast S2x8 (Host.dynamicSlice S1x2x8 x st sliceFits_S4096x2x8_S1x2x8) shapeCasts_S1x2x8_S2x8
      = fun j => x (ix3 n (j 0) (j 1)) := by
  have hs : S4096x2x8.Slices ![n.val, 0, 0] S1x2x8 := ⟨rfl, fun a => by
    have := n.isLt
    fin_cases a
    · show n.val + 1 ≤ 4096; omega
    · show 0 + 2 ≤ 2; omega
    · show 0 + 8 ≤ 8; omega⟩
  rw [Host.dynamicSlice_eq_extractStridedSlice _ _ _ ![n.val, 0, 0] _ hs hi]
  funext j
  idx_vars j
  pointwise []

/-- The outputs with a token's row replaced. -/
theorem upd4 {α : Type} (o : S4096x2x8x128.Idx → α) (u : S1x2x8x128.Idx → α) (st : Fin 4 → Int) (n : Fin 4096) (hi : ∀ a, st a = (![n.val, 0, 0, 0] a : ℕ))
    (t : Fin 4096) (b : Fin 2) (h : Fin 8) (c : Fin 128) :
    Host.dynamicUpdateSlice o u st updateFits_S4096x2x8x128_S1x2x8x128 (ix4 t b h c) = if t = n then u (ix4 0 b h c) else o (ix4 t b h c) := by
  have hn := n.isLt
  have hs : S4096x2x8x128.Slices ![n.val, 0, 0, 0] S1x2x8x128 := ⟨rfl, fun a => by
    fin_cases a
    · show n.val + 1 ≤ 4096; omega
    · show 0 + 2 ≤ 2; omega
    · show 0 + 8 ≤ 8; omega
    · show 0 + 128 ≤ 128; omega⟩
  rw [Host.dynamicUpdateSlice_eq_updateSlice o u st updateFits_S4096x2x8x128_S1x2x8x128 ![n.val, 0, 0, 0] (fun a => by
    have h2 := hs.2 a
    rw [hi a]; omega) hs]
  by_cases e : t = n
  · subst e
    rw [updateSlice_apply, dif_pos (fun a => by
      fin_cases a
      · show t.val ≤ t.val ∧ t.val < t.val + 1; omega
      · show 0 ≤ b.val ∧ b.val < 0 + 2; omega
      · show 0 ≤ h.val ∧ h.val < 0 + 8; omega
      · show 0 ≤ c.val ∧ c.val < 0 + 128; omega), if_pos rfl]
    refine congrArg u ((Shape.Idx.norm_def _).trans (funext fun a => ?_))
    fin_cases a
    · exact Subsingleton.elim (α := Fin 1) _ _
    · rfl
    · rfl
    · rfl
  · rw [updateSlice_apply, dif_neg (fun H => e (Fin.ext (by
      have h0 : n.val ≤ t.val ∧ t.val < n.val + 1 := H 0
      omega))), if_neg e]

/-- The arrays that a trip reads. -/
structure Rd (V : Valuation τ sig (Elt Ideal)) (q k v : FVec Ideal S4096x2x8x128 .f32) (be g : FVec Ideal S4096x2x8 .f32) : Prop where
  q : V (Proc.devRef .tc main_v9_0) = q
  k : V (Proc.devRef .tc main_v9_1) = k
  v : V (Proc.devRef .tc main_v9_2) = v
  be : V (Proc.devRef .tc main_v9_3) = be
  g : V (Proc.devRef .tc main_v9_4) = g

section
variable {V : Valuation τ sig (Elt Ideal)} {q k v : FVec Ideal S4096x2x8x128 .f32} {be g : FVec Ideal S4096x2x8 .f32}
variable (R : Rd V q k v be g) (n : Fin 4096) (hi : V (Proc.devRef .tc main_v9_5) = fun _ : S_.Idx => BitVec.ofNat 32 n.val)
include R hi

/-- The decayed state at an index. -/
theorem v39_eq (s : FVec Ideal S2x8x128x128 .f32) (hs : V (Proc.devRef .tc main_v9_6) = s) (b : Fin 2) (h : Fin 8) (a c : Fin 128) :
    (res_main_while0b_v39 V : FVec Ideal S2x8x128x128 .f32) (ix4 b h a c) = s (ix4 b h a c) * Ideal.exp (g (ix3 n b h)) := by
  unfold res_main_while0b_v39
  rw [hs, R.g, slice3 g _ n]
  swap; · exact st3 _ n hi
  pointwise []

/-- The next state at an index. -/
theorem v50_eq (W : FVec Ideal S2x8x128x128 .f32) (hW : res_main_while0b_v39 V = W) (b : Fin 2) (h : Fin 8) (a c : Fin 128) :
    (res_main_while0b_v50 V : FVec Ideal S2x8x128x128 .f32) (ix4 b h a c)
      = W (ix4 b h a c) + k (ix4 n b h a) * (be (ix3 n b h) * (v (ix4 n b h c) - ∑ d : Fin 128, k (ix4 n b h d) * W (ix4 b h d c))) := by
  unfold res_main_while0b_v50 res_main_while0b_v32
  rw [hW, R.k, R.v, R.be, slice3 be _ n, slice4 k _ n, slice4 v _ n]
  rotate_left; · exact st4 _ n hi
  · exact st4 _ n hi
  · exact st3 _ n hi
  pointwise []

/-- The next outputs at an index. -/
theorem out_eq (o : FVec Ideal S4096x2x8x128 .f32) (ho : V (Proc.devRef .tc main_v9_7) = o) (W : FVec Ideal S2x8x128x128 .f32) (hW : res_main_while0b_v50 V = W)
    (t : Fin 4096) (b : Fin 2) (h : Fin 8) (c : Fin 128) :
    (step_main_v9_7 V : FVec Ideal S4096x2x8x128 .f32) (ix4 t b h c)
      = if t = n then ∑ d : Fin 128, q (ix4 n b h d) * W (ix4 b h d c) else o (ix4 t b h c) := by
  unfold step_main_v9_7
  rw [ho, hW, R.q, slice4 q _ n]
  swap; · exact st4 _ n hi
  refine (upd4 _ _ _ n (st4 _ n hi) t b h c).trans ?_
  split
  · pointwise []
  · rfl

end

end Gdn.Ref
-- ==== Proof.Gdn.RefLoop.lean ====
module
public import proofs.«01_k».proof.Proof.Gdn.RefStep

/-! The reference's loop runs the recurrence. -/

@[expose] public section

set_option maxRecDepth 16384

noncomputable section

namespace Gdn.Ref
open Idealize.ShloMosaic Idealize.ShloMosaic.TcCoe Idealize.SL.Sem
open Idealize.ShloMosaic.StableHlo
open Cert.ReferenceIdeal Cert.ReferenceIdeal.Gen Cert.ReferenceIdeal.Value

/-- A projection with the tokens first and the heads split off. -/
def toks (x : FVec Ideal S2x4096x1024 .f32) : FVec Ideal S4096x2x8x128 .f32 := fun j => x (ix3 (j 1) (j 0) (colOf (j 2) (j 3)))
/-- A gate with the tokens first. -/
def gates (x : FVec Ideal S2x4096x8 .f32) : FVec Ideal S4096x2x8 .f32 := fun j => x (ix3 (j 1) (j 0) (j 2))

/-- The contents of the loop's buffers before trip `n`. -/
structure At (A : Args) (V : Valuation τ sig (Elt Ideal)) (n : ℕ) : Prop where
  rd : Rd V (toks A.q) (toks A.k) (toks A.v) (gates A.be) (gates A.g)
  ctr : V (Proc.devRef .tc main_v9_5) = fun _ : S_.Idx => BitVec.ofNat 32 n
  st : V (Proc.devRef .tc main_v9_6) = fun j : S2x8x128x128.Idx => ((seqS (A.inp (j 0).val (j 1)) (rs A.s0 (j 0).val (j 1)) n (j 2) (j 3) : ℝ) : EReal)
  out : ∀ (t : Fin 4096) (b : Fin 2) (h : Fin 8) (c : Fin 128), t.val < n →
    (V (Proc.devRef .tc main_v9_7) : FVec Ideal S4096x2x8x128 .f32) (ix4 t b h c) = ((seqO (A.inp b.val h) (rs A.s0 b.val h) t.val c : ℝ) : EReal)

/-- One trip. -/
theorem at_step {A : Args} (H : A.Finite) {V : Valuation τ sig (Elt Ideal)} {n : ℕ} (hn : n < 4096) (h : At A V n) : At A (STEP V) (n + 1) := by
  have e39 : ∀ b hh a c, (res_main_while0b_v39 V : FVec Ideal S2x8x128x128 .f32) (ix4 b hh a c)
      = ((seqS (A.inp b.val hh) (rs A.s0 b.val hh) n a c * Real.exp ((A.inp b.val hh).g n) : ℝ) : EReal) := fun b hh a c => by
    refine (v39_eq h.rd ⟨n, hn⟩ h.ctr _ h.st b hh a c).trans ?_
    show _ * Ideal.exp (A.g (ix3 b ⟨n, hn⟩ hh)) = _
    rw [rg_eq H.g]
    show ((_ : ℝ) : EReal) * ((Real.exp _ : ℝ) : EReal) = _
    rw [← EReal.coe_mul]
    rfl
  have e50 : ∀ b hh a c, (res_main_while0b_v50 V : FVec Ideal S2x8x128x128 .f32) (ix4 b hh a c)
      = ((seqS (A.inp b.val hh) (rs A.s0 b.val hh) (n + 1) a c : ℝ) : EReal) := fun b hh a c => by
    refine (v50_eq h.rd ⟨n, hn⟩ h.ctr _ rfl b hh a c).trans ?_
    rw [e39]
    simp only [e39]
    show _ + A.k (ix3 b ⟨n, hn⟩ (colOf hh a)) * (A.be (ix3 b ⟨n, hn⟩ hh) * (A.v (ix3 b ⟨n, hn⟩ (colOf hh c)) - ∑ d : Fin 128, A.k (ix3 b ⟨n, hn⟩ (colOf hh d)) * _)) = _
    simp only [rd_eq H.k, rd_eq H.v, rg_eq H.be]
    rw [coe_dot, ← EReal.coe_sub, ← EReal.coe_mul, ← EReal.coe_mul, ← EReal.coe_add]
    rfl
  refine ⟨⟨?_, ?_, ?_, ?_, ?_⟩, ?_, ?_, ?_⟩
  · rw [STEP_main_v9_0, h.rd.q]
  · rw [STEP_main_v9_1, h.rd.k]
  · rw [STEP_main_v9_2, h.rd.v]
  · rw [STEP_main_v9_3, h.rd.be]
  · rw [STEP_main_v9_4, h.rd.g]
  · rw [STEP_main_v9_5]
    unfold step_main_v9_5
    rw [h.ctr]
    funext _
    show BitVec.ofNat 32 n + 1#32 = BitVec.ofNat 32 (n + 1)
    rw [BitVec.ofNat_add]
  · rw [STEP_main_v9_6]
    unfold step_main_v9_6
    funext j
    have ej : j = ix4 (j 0) (j 1) (j 2) (j 3) := by funext a; fin_cases a <;> rfl
    exact (congrArg (res_main_while0b_v50 V) ej).trans (e50 _ _ _ _)
  · intro t b hh c ht
    rw [STEP_main_v9_7]
    refine (out_eq h.rd ⟨n, hn⟩ h.ctr _ rfl _ rfl t b hh c).trans ?_
    by_cases e : t = ⟨n, hn⟩
    · subst e
      rw [if_pos rfl]
      simp only [e50]
      show (∑ d : Fin 128, A.q (ix3 b ⟨n, hn⟩ (colOf hh d)) * _) = _
      simp only [rd_eq H.q]
      rw [coe_dot]
      rfl
    · rw [if_neg e]
      exact h.out t b hh c (by
        have : t.val ≠ n := fun h' => e (Fin.ext h')
        omega)

variable (m : (ℓ : Loc nD τ sig) → Buf (Elt Ideal) ℓ) (c : Dev nD)

/-- The arguments as the launch finds them. -/
def argsR : Args := ⟨m (c, main_arg0), m (c, main_arg1), m (c, main_arg2), m (c, main_arg4), m (c, main_arg5), m (c, main_arg6)⟩

/-- What the loop finds in its buffer 0. -/
theorem entry_v9_0 : entryContents preI m c (Proc.devRef .tc main_v9_0) = toks (argsR m c).q := by
  simp only [entryContents, afterL_cons, afterL_nil]
  after_reads_simp
  simp only [id_eq]
  funext j
  idx_vars j
  pointwise [toks]
  exact congrArg (fun k => (argsR m c).q (ix3 j1 j0 k)) (Fin.ext (by simp only [colOf]; omega))

/-- What the loop finds in its buffer 1. -/
theorem entry_v9_1 : entryContents preI m c (Proc.devRef .tc main_v9_1) = toks (argsR m c).k := by
  simp only [entryContents, afterL_cons, afterL_nil]
  after_reads_simp
  simp only [id_eq]
  funext j
  idx_vars j
  pointwise [toks]
  exact congrArg (fun k => (argsR m c).k (ix3 j1 j0 k)) (Fin.ext (by simp only [colOf]; omega))

/-- What the loop finds in its buffer 2. -/
theorem entry_v9_2 : entryContents preI m c (Proc.devRef .tc main_v9_2) = toks (argsR m c).v := by
  simp only [entryContents, afterL_cons, afterL_nil]
  after_reads_simp
  simp only [id_eq]
  funext j
  idx_vars j
  pointwise [toks]
  exact congrArg (fun k => (argsR m c).v (ix3 j1 j0 k)) (Fin.ext (by simp only [colOf]; omega))

/-- What the loop finds in its buffer 3. -/
theorem entry_v9_3 : entryContents preI m c (Proc.devRef .tc main_v9_3) = gates (argsR m c).be := by
  simp only [entryContents, afterL_cons, afterL_nil]
  after_reads_simp
  simp only [id_eq]
  funext j
  idx_vars j
  pointwise [gates]
  rfl

/-- What the loop finds in its buffer 4. -/
theorem entry_v9_4 : entryContents preI m c (Proc.devRef .tc main_v9_4) = gates (argsR m c).g := by
  simp only [entryContents, afterL_cons, afterL_nil]
  after_reads_simp
  simp only [id_eq]
  funext j
  idx_vars j
  pointwise [gates]
  rfl

/-- What the loop finds in its buffer 6. -/
theorem entry_v9_6 : entryContents preI m c (Proc.devRef .tc main_v9_6) = (argsR m c).s0 := by
  simp only [entryContents, afterL_cons, afterL_nil]
  after_reads_simp
  rfl

/-- The loop's entry. -/
theorem at_entry (H : (argsR m c).Finite) : At (argsR m c) (entryContents preI m c) 0 where
  rd := ⟨entry_v9_0 m c, entry_v9_1 m c, entry_v9_2 m c, entry_v9_3 m c, entry_v9_4 m c⟩
  ctr := ctr_entry m c
  st := by
    rw [entry_v9_6]
    funext j
    have ej : j = ix4 (j 0) (j 1) (j 2) (j 3) := by funext a; fin_cases a <;> rfl
    exact (congrArg (argsR m c).s0 ej).trans (rs_eq H.s0 (j 0) (j 1) (j 2) (j 3))
  out _ _ _ _ h := absurd h (Nat.not_lt_zero _)

/-- The loop's buffers after `n` trips. -/
theorem at_iter (H : (argsR m c).Finite) : ∀ n, n ≤ 4096 → At (argsR m c) (STEP^[n] (entryContents preI m c)) n
  | 0, _ => at_entry m c H
  | n + 1, hn => by
    rw [Function.iterate_succ_apply']
    exact at_step H (by omega) (at_iter H n (by omega))

/-- The reference's last state. -/
theorem ref_st (H : (argsR m c).Finite) : (STEP^[4096] (entryContents preI m c)) (Proc.devRef .tc main_v9_6)
    = fun j : S2x8x128x128.Idx => stF (argsR m c) (j 0) (j 1) (j 2) (j 3) := (at_iter m c H 4096 (le_refl _)).st

/-- The reference's gated output. -/
theorem ref_out (H : (argsR m c).Finite) : out_main_v30 (STEP^[4096] (entryContents preI m c))
    = fun j : S2x4096x1024.Idx => outF (argsR m c) (m (c, main_arg3)) (m (c, main_arg7)) (j 0) (j 1) (j 2) := by
  have h := at_iter m c H 4096 (le_refl _)
  have h3 := iter_main_arg3 m c 4096
  have h7 := iter_main_arg7 m c 4096
  generalize STEP^[4096] (entryContents preI m c) = V at h h3 h7
  have ho : ∀ t b hh cc, (V (Proc.devRef .tc main_v9_7) : FVec Ideal S4096x2x8x128 .f32) (ix4 t b hh cc)
      = ((seqO ((argsR m c).inp b.val hh) (rs (argsR m c).s0 b.val hh) t.val cc : ℝ) : EReal) := fun t b hh cc => h.out t b hh cc t.isLt
  unfold out_main_v30
  rw [h3, h7]
  have hz : (m (c.tc.loc main_arg3) : FVec Ideal S2x4096x14592 .f32) = m (c, main_arg3) := rfl
  have hg : (m (c.tc.loc main_arg7) : FVec Ideal S1x128 .f32) = m (c, main_arg7) := rfl
  generalize (m (c, main_arg3) : FVec Ideal S2x4096x14592 .f32) = z at hz
  generalize (m (c, main_arg7) : FVec Ideal S1x128 .f32) = gain at hg
  rw [hz, hg]
  generalize (V (Proc.devRef .tc main_v9_7) : FVec Ideal S4096x2x8x128 .f32) = o at ho
  funext j
  idx_vars j
  pointwise []
  simp only [ho]
  unfold outF rms silu
  rw [zero_sub]

end Gdn.Ref
-- ==== Proof.Gdn.Pre.lean ====
module
public import proofs.«01_k».proof.Proof.Gdn.Final
public import proofs.«01_k».proof.Defs
public import Idealize.ShloMosaic.Lib.ReduceAll

/-! The precondition: the arguments of the recurrence hold real numbers. -/

@[expose] public section

set_option maxRecDepth 16384

noncomputable section

namespace Gdn.Pre
open Idealize.ShloMosaic Idealize.ShloMosaic.TcCoe Idealize.SL.Sem
open Cert.Pre_gdn_finite

/-- The side conditions of the precondition. -/
theorem facts : Cert.Pre_gdn_finite.Facts where
  bcast_S_S2x4096x1024 := by decide
  reducesTo_S2x4096x1024_S_d0_1_2 := by decide
  h_S_ := by decide
  bcast_S_S2x4096x8 := by decide
  reducesTo_S2x4096x8_S_d0_1_2 := by decide
  bcast_S_S2x8x128x128 := by decide
  reducesTo_S2x8x128x128_S_d0_1_2_3 := by decide

/-- The bits of positive infinity. -/
theorem ofBits_top : Ideal.ofBits .f32 0x7F800000#32 = (⊤ : EReal) := by
  simp [Ideal.ofBits, Ideal.ieee]

/-- An extended real whose absolute value is below infinity is a real number. -/
theorem real_of_abs {x : EReal} (h : max x (-x) < ⊤) : ∃ r : ℝ, x = (r : EReal) := by
  induction x with
  | bot => simp at h
  | top => simp at h
  | coe r => exact ⟨r, rfl⟩

/-- One test of an array: if every entry passes, every entry is a real number. -/
theorem test {s : Shape} {axes : List (Fin s.rank)} (x : FVec Ideal s .f32) (hb : S_.BroadcastsInDim s (![] : Fin 0 → Fin s.rank)) (h : s.ReducesTo axes S_)
    (hu : 0 < S_.numel) (i : S_.Idx)
    (e : Host.reduce IntOp.andi (cmpf .olt (Host.absf x) (broadcastInDim s ![] hb (constant S_ .f32 0x7F800000#32))) (constantI S_ 1 1#1) h hu i = 1#1) (j : s.Idx) :
    ∃ r : ℝ, x j = (r : EReal) := by
  have : Subsingleton S_.Idx := ⟨fun a b => funext fun k => k.elim0⟩
  have hj := Host.reduce_andi_all _ _ h hu _ e j
  refine real_of_abs ?_
  rw [← ofBits_top]
  have hc : Ideal.cmp .olt (max (x j) (-(x j))) (Ideal.ofBits .f32 0x7F800000#32) = 1#1 := hj
  unfold Ideal.cmp at hc
  by_contra hn
  simp [hn] at hc

/-- The precondition in words: six arrays of real numbers. -/
theorem finite_of_fn [Cert.Pre_gdn_finite.Facts] (A : Args) (z : FVec Ideal S2x4096x14592 .f32) (gain : FVec Ideal S1x128 .f32)
    (e : ∀ i : S_.Idx, fn (F := Ideal) A.q A.k A.v z A.be A.g A.s0 gain i = 1#1) : A.Finite := by
  let i0 : S_.Idx := fun a => a.elim0
  have h := e i0
  simp only [fn, fn_part1, andi] at h

  rw [IntOp.andi_eq_one, IntOp.andi_eq_one, IntOp.andi_eq_one, IntOp.andi_eq_one, IntOp.andi_eq_one] at h
  obtain ⟨⟨⟨⟨⟨hq, hk⟩, hv⟩, hb⟩, hg⟩, hs⟩ := h
  exact ⟨test _ _ _ _ _ hq, test _ _ _ _ _ hk, test _ _ _ _ _ hv, test _ _ _ _ _ hb, test _ _ _ _ _ hg, test _ _ _ _ _ hs⟩

end Gdn.Pre
-- ==== Proof.Lay.Rms.lean ====
module
public import Idealize.ShloMosaic.PureOps.Ideal
public import Idealize.ShloMosaic.PureOps.IdealRules

/-! The root-mean-square normalisation of a row of 2048 extended reals, and the logistic function. -/

@[expose] public section

noncomputable section

namespace Lay
open Idealize.ShloMosaic

/-- A row divided by the root of its mean square (plus the layer's small constant), times a gain. -/
def rms (x g : Fin 2048 → EReal) (k : Fin 2048) : EReal :=
  x k * Ideal.rsqrt (Ideal.div (∑ d : Fin 2048, x d * x d) (Ideal.ofBits .f32 0x45000000#32) + Ideal.ofBits .f32 0x358637BD#32) * g k

/-- The logistic function. -/
def sig (z : EReal) : EReal := Ideal.div 1 (1 + Ideal.exp (0 - z))

end Lay
-- ==== Proof.InProj.Points.lean ====
module
public import proofs.«01_k».proof.Proof.Gen.InProjIdeal.Frame
public import proofs.«01_k».proof.Proof.Lay.Rms
public import Idealize.ShloMosaic.Lib.Pipeline.Value
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! The input projection's points: the scratch holds the normalised rows of the point's block of rows from the block's first
    point on, and a point's output is their product with the point's block of columns. -/

@[expose] public section

set_option maxRecDepth 16384

noncomputable section

namespace InProj
open Idealize.ShloMosaic Idealize.ShloMosaic.TcCoe Idealize.SL.Sem
open Cert.InProjIdeal Cert.InProjIdeal.Gen

/-- The normalised rows, at an index. -/
theorem pay1_at (x : FVec Ideal S1024x2048 .f32) (g : FVec Ideal S1x2048 .f32) (i : Fin 1024) (k : Fin 2048) :
    (k0_pay1 (F := Ideal) x g : FVec Ideal S1024x2048 .bf16) (ix2 i k) = Lay.rms (fun d => x (ix2 i d)) (fun d => g (ix2 0 d)) k := by
  unfold Lay.rms
  pointwise [k0_pay1]

/-- The product, at an index. -/
theorem pay2_at (h : FVec Ideal S1024x2048 .bf16) (w : FVec Ideal S2048x768 .bf16) (i : Fin 1024) (j : Fin 768) :
    (k0_pay2 (F := Ideal) h w : FVec Ideal S1024x768 .f32) (ix2 i j) = (∑ d : Fin 2048, (h (ix2 i d) * w (ix2 d j) : EReal)) := by
  pointwise [k0_pay2]

variable (m : (ℓ : Loc nD τ sig) → Buf (Elt Ideal) ℓ) (c : Dev nD)

/-- The scratch after a first point of a block of rows. -/
theorem scr_A (t : Fin cfg0.N) (h0 : t.val % 19 = 0) : (outsAt0 m c t.val t.isLt).2 = k0_pay1 (iblk m c 0 t) (iblk m c 1 t) := by
  rw [outsAt0_A m c t h0]
  frame_out

/-- The output of a first point of a block of rows. -/
theorem out_A (t : Fin cfg0.N) (h0 : t.val % 19 = 0) :
    (outsAt0 m c t.val t.isLt).1 = k0_pay2 (k0_pay1 (iblk m c 0 t) (iblk m c 1 t)) (iblk m c 2 t) := by
  rw [outsAt0_A m c t h0]
  frame_out

/-- Another point leaves the scratch as it was. -/
theorem scr_B (t : Fin cfg0.N) (h0 : ¬t.val % 19 = 0) :
    (outsAt0 m c t.val t.isLt).2 = (outsAt0 m c (t.val - 1) (by omega)).2 := by
  rw [outsAt0_B m c t h0]
  rfl

/-- The output of another point. -/
theorem out_B (t : Fin cfg0.N) (h0 : ¬t.val % 19 = 0) :
    (outsAt0 m c t.val t.isLt).1 = k0_pay2 (outsAt0 m c (t.val - 1) (by omega)).2 (iblk m c 2 t) := by
  rw [outsAt0_B m c t h0]
  frame_out
  rw [read_unread_whole]

/-- The blocks that the windows stage at a point. -/
theorem idx_all : ∀ t : Fin cfg0.N, win0_0.index t = ![t.val / 19, 0] ∧ win0_1.index t = ![0, 0] ∧ win0_2.index t = ![0, t.val % 19]
    ∧ win0_3.index t = ![t.val / 19, t.val % 19] :=
  (by decide +kernel : ∀ t : Fin grid0.N, _)

/-- Row `i` of the point numbered `n`. -/
def rowOf (n : ℕ) (hn : n < cfg0.N) (i : Fin 1024) : Fin 8192 :=
  ⟨1024 * (n / 19) + i.val, by have := lt_of_lt_of_eq hn (show cfg0.N = 152 from N_0); omega⟩
/-- Column `j` of a point. -/
def colOf (t : Fin cfg0.N) (j : Fin 768) : Fin 14592 := ⟨768 * (t.val % 19) + j.val, by omega⟩

theorem win0 (W : FVec Ideal S8192x2048 .f32) (t : Fin cfg0.N) (i : Fin 1024) (k : Fin 2048) :
    View.read (Elt Ideal) ((cfg0.win 0).blk t).view W (ix2 i k) = W (ix2 (rowOf t.val t.isLt i) k) := by
  blk_ext [(idx_all t).1, rowOf]

theorem win1 (W : FVec Ideal S1x2048 .f32) (t : Fin cfg0.N) (k : Fin 2048) :
    View.read (Elt Ideal) ((cfg0.win 1).blk t).view W (ix2 0 k) = W (ix2 0 k) := by
  blk_ext [(idx_all t).2.1]

theorem win2 (W : FVec Ideal S2048x14592 .bf16) (t : Fin cfg0.N) (k : Fin 2048) (j : Fin 768) :
    View.read (Elt Ideal) ((cfg0.win 2).blk t).view W (ix2 k j) = W (ix2 k (colOf t j)) := by
  blk_ext [(idx_all t).2.2.1, colOf]

/-- The block of rows, normalised, at a point. -/
theorem pay1_blk (t : Fin cfg0.N) (i : Fin 1024) (k : Fin 2048) :
    (k0_pay1 (F := Ideal) (iblk m c 0 t) (iblk m c 1 t) : FVec Ideal S1024x2048 .bf16) (ix2 i k)
      = Lay.rms (fun d => (V m c main_v0 : FVec Ideal S8192x2048 .f32) (ix2 (rowOf t.val t.isLt i) d))
          (fun d => (V m c main_v1 : FVec Ideal S1x2048 .f32) (ix2 0 d)) k := by
  rw [pay1_at]
  exact congrArg₂ (fun x g => Lay.rms x g k) (funext fun d => win0 (V m c main_v0) t i d) (funext fun d => win1 (V m c main_v1) t d)

/-- The scratch holds the normalised rows of the point's block. -/
theorem scr_all : ∀ (n : ℕ) (hn : n < cfg0.N) (i : Fin 1024) (k : Fin 2048),
    (outsAt0 m c n hn).2 (ix2 i k)
      = Lay.rms (fun d => (V m c main_v0 : FVec Ideal S8192x2048 .f32) (ix2 (rowOf n hn i) d))
          (fun d => (V m c main_v1 : FVec Ideal S1x2048 .f32) (ix2 0 d)) k := by
  intro n
  induction n with
  | zero =>
    intro hn i k
    rw [scr_A m c ⟨0, hn⟩ (Nat.zero_mod 19)]
    exact pay1_blk m c ⟨0, hn⟩ i k
  | succ n ih =>
    intro hn i k
    by_cases h0 : (n + 1) % 19 = 0
    · rw [scr_A m c ⟨n + 1, hn⟩ h0]
      exact pay1_blk m c ⟨n + 1, hn⟩ i k
    · rw [scr_B m c ⟨n + 1, hn⟩ h0]
      refine (ih (by omega) i k).trans ?_
      have e : rowOf n (by omega) i = rowOf (n + 1) hn i := Fin.ext (by simp only [rowOf]; omega)
      rw [e]

/-- A point's output. -/
theorem out_all (t : Fin cfg0.N) (i : Fin 1024) (j : Fin 768) :
    (outsAt0 m c t.val t.isLt).1 (ix2 i j)
      = (∑ d : Fin 2048, (Lay.rms (fun d => (V m c main_v0 : FVec Ideal S8192x2048 .f32) (ix2 (rowOf t.val t.isLt i) d))
          (fun d => (V m c main_v1 : FVec Ideal S1x2048 .f32) (ix2 0 d)) d * (V m c main_arg2 : FVec Ideal S2048x14592 .bf16) (ix2 d (colOf t j)) : EReal)) := by
  by_cases h0 : t.val % 19 = 0
  · rw [out_A m c t h0, pay2_at]
    refine Finset.sum_congr rfl fun d _ => ?_
    rw [pay1_blk]
    exact congrArg (_ * ·) (win2 (V m c main_arg2) t d j)
  · rw [out_B m c t h0, pay2_at]
    refine Finset.sum_congr rfl fun d _ => ?_
    rw [scr_all]
    refine congrArg₂ (· * ·) ?_ (win2 (V m c main_arg2) t d j)
    have e : rowOf (t.val - 1) (by omega) i = rowOf t.val t.isLt i := Fin.ext (by simp only [rowOf]; omega)
    rw [e]

end InProj
-- ==== Proof.InProj.Final.lean ====
module
public import proofs.«01_k».proof.Proof.InProj.Points

/-! What the input projection leaves in its array, in terms of the arguments. -/

@[expose] public section

set_option maxRecDepth 16384

noncomputable section

namespace InProj
open Idealize.ShloMosaic Idealize.ShloMosaic.TcCoe Idealize.SL.Sem Idealize.ShloMosaic.StableHlo
open Cert.InProjIdeal Cert.InProjIdeal.Gen

/-- The projection of token `r % 4096` of sequence `r / 4096`, at column `j`: the token's normalised row times the column. -/
def zF (x : FVec Ideal S2x4096x2048 .f32) (g : FVec Ideal S2048 .f32) (w : FVec Ideal S2048x14592 .bf16) (r : Fin 8192) (j : Fin 14592) : EReal :=
  ∑ d : Fin 2048, (Lay.rms (fun d => x (ix3 ⟨r.val / 4096, by omega⟩ ⟨r.val % 4096, by omega⟩ d)) (fun d => g (ix1 d)) d * w (ix2 d j) : EReal)

variable (m : (ℓ : Loc nD τ sig) → Buf (Elt Ideal) ℓ) (c : Dev nD)

/-- The rows that the region finds. -/
theorem entry_x (r : Fin 8192) (d : Fin 2048) :
    (V m c main_v0 : FVec Ideal S8192x2048 .f32) (ix2 r d)
      = (m (c, main_arg0) : FVec Ideal S2x4096x2048 .f32) (ix3 ⟨r.val / 4096, by omega⟩ ⟨r.val % 4096, by omega⟩ d) := by
  unfold V V0
  simp only [hostOps0, List.flatten_cons, List.flatten_nil, List.append_nil, List.cons_append, List.nil_append]
  entry_read
  pointwise []

/-- The gain that the region finds. -/
theorem entry_g (d : Fin 2048) :
    (V m c main_v1 : FVec Ideal S1x2048 .f32) (ix2 0 d) = (m (c, main_arg1) : FVec Ideal S2048 .f32) (ix1 d) := by
  unfold V V0
  simp only [hostOps0, List.flatten_cons, List.flatten_nil, List.append_nil, List.cons_append, List.nil_append]
  entry_read
  pointwise []

/-- The launch's result. -/
theorem final : (dats m 0 c).arrAt 3 cfg0.N = fun j => zF (m (c, main_arg0)) (m (c, main_arg1)) (m (c, main_arg2)) (j 0) (j 1) := by
  refine (dats m 0 c).arrAt_eq_of_covers 3 _ (by decide +kernel) fun t hf y => ?_
  blk_simp
  rw [after0_3]
  have e0 : (win0_3.blk t).view.emb y 0 = rowOf t.val t.isLt (y 0) := Fin.ext (by blk_simp [(idx_all t).2.2.2]; simp only [rowOf]; omega)
  have e1 : (win0_3.blk t).view.emb y 1 = colOf t (y 1) := Fin.ext (by blk_simp [(idx_all t).2.2.2]; simp only [colOf]; omega)
  have ey : y = ix2 (y 0) (y 1) := by
    funext a
    fin_cases a
    · rfl
    · rfl
  rw [e0, e1]
  refine (congrArg (outsAt0 m c t.val t.isLt).1 ey).trans ?_
  refine (out_all m c t (y 0) (y 1)).trans ?_
  unfold zF
  refine Finset.sum_congr rfl fun d _ => ?_
  refine congrArg₂ (· * ·) (congrArg₂ (fun x g => Lay.rms x g d) (funext fun d => entry_x m c _ d) (funext fun d => entry_g m c d)) ?_
  rw [V_main_arg2 m c]

end InProj
-- ==== Proof.InProj.Run.lean ====
module
public import proofs.«01_k».proof.Proof.InProj.Final

/-! The input projection's run: its array, and the last three rows of each sequence that the host cuts out of it. -/

@[expose] public section

set_option maxRecDepth 16384

noncomputable section

namespace InProj
open Idealize.ShloMosaic Idealize.ShloMosaic.TcCoe Idealize.SL.Sem Idealize.ShloMosaic.StableHlo
open Cert.InProjIdeal Cert.InProjIdeal.Gen

variable (m : (ℓ : Loc nD τ sig) → Buf (Elt Ideal) ℓ) (c : Dev nD)

/-- The lines after the region, from any contents: the cut of the region's array. -/
theorem tail_cut (W : Valuation τ sig (Elt Ideal)) :
    after (List.flatten [hostOps1]) W (Proc.devRef .tc main_v4)
      = extractStridedSlice S2x3x3072 ![0, 4093, 0]
          (shapeCast S2x4096x14592 (W (Proc.devRef .tc main_v2) : FVec Ideal S8192x14592 .f32) shapeCasts_S8192x14592_S2x4096x14592)
          slices_S2x4096x14592_S2x3x3072_0_4093_0 := by
  simp only [hostOps1, List.flatten_cons, List.flatten_nil, List.append_nil, List.cons_append, List.nil_append]
  after_results <;> rfl

/-- What the region leaves in its array is what the lines after it read. -/
theorem exit_z : Pipeline.withArrays cfg0.spec c (V0 m c) (fun w => (dats m 0 c).arrAt w cfg0.N) (Proc.devRef .tc main_v2)
    = (dats m 0 c).arrAt 3 cfg0.N :=
  Pipeline.withArrays_arr cfg0.spec launch0.win.arr_inj c (V0 m c) (fun w => (dats m 0 c).arrAt w cfg0.N) 3

/-- The last three rows of every sequence, at the first 3072 columns. -/
def cutF (x : FVec Ideal S2x4096x2048 .f32) (g : FVec Ideal S2048 .f32) (w : FVec Ideal S2048x14592 .bf16) (b : Fin 2) (i : Fin 3) (k : Fin 3072) :
    EReal := zF x g w ⟨b.val * 4096 + (4093 + i.val), by omega⟩ ⟨k.val, by omega⟩

/-- The cut, in terms of the arguments. -/
theorem final_cut : Pipeline.afterTail₀ cfgs (dats m) 0 (V0 m) [hostOps1] c main_v4
    = fun j : S2x3x3072.Idx => cutF (m (c, main_arg0)) (m (c, main_arg1)) (m (c, main_arg2)) (j 0) (j 1) (j 2) := by
  refine (tail_cut _).trans ?_
  rw [exit_z m c, final m c]
  funext j
  idx_vars j
  unfold cutF
  pointwise []

/-- The run: the array, the cut, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2) = (fun j : S8192x14592.Idx => zF (m (c, main_arg0)) (m (c, main_arg1)) (m (c, main_arg2)) (j 0) (j 1))
      ∧ r.2.mem ((c : Thread nD τ).loc main_v4)
        = (fun j : S2x3x3072.Idx => cutF (m (c, main_arg0)) (m (c, main_arg1)) (m (c, main_arg2)) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_v4 (Pipeline.mem_restRefs_of main_v4 (by decide) (by decide))).trans (final_cut m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end InProj
-- ==== Proof.InProj.Ref.lean ====
module
public import proofs.«01_k».proof.Proof.InProj.Run
public import proofs.«01_k».proof.Proof.Gen.InProjRefIdeal.Run

/-! What the plain projection leaves in its two results. -/

@[expose] public section

set_option maxRecDepth 16384

noncomputable section

namespace InProj.Ref
open Idealize.ShloMosaic Idealize.ShloMosaic.TcCoe Idealize.SL.Sem Idealize.ShloMosaic.StableHlo
open Cert.InProjRefIdeal Cert.InProjRefIdeal.Gen

/-- The reference's result is the projection. -/
theorem ref_eq (x : FVec Ideal S2x4096x2048 .f32) (g : FVec Ideal S2048 .f32) (w : FVec Ideal S2048x14592 .bf16) :
    (shapeCast S8192x14592 (Host.dotGeneral dot_S2x4096x2048_S2048x14592_S2x4096x14592_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))) (extf .f32 w bitsLt_bf16_f32)) shapeCasts_S2x4096x14592_S8192x14592 : FVec Ideal S8192x14592 .f32)
      = fun j => zF x g w (j 0) (j 1) := by
  funext j
  idx_vars j
  unfold zF Lay.rms
  pointwise []

/-- The reference's second result is the cut of the projection. -/
theorem ref_cut (x : FVec Ideal S2x4096x2048 .f32) (g : FVec Ideal S2048 .f32) (w : FVec Ideal S2048x14592 .bf16) :
    (extractStridedSlice S2x3x3072 ![0, 4093, 0] (Host.dotGeneral dot_S2x4096x2048_S2048x14592_S2x4096x14592_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))) (extf .f32 w bitsLt_bf16_f32)) slices_S2x4096x14592_S2x3x3072_0_4093_0 : FVec Ideal S2x3x3072 .f32)
      = fun j => cutF x g w (j 0) (j 1) (j 2) := by
  funext j
  idx_vars j
  unfold cutF zF Lay.rms
  pointwise []
  simp only [show (j0.val * 4096 + (4093 + j1.val)) / 4096 = j0.val by omega, show (j0.val * 4096 + (4093 + j1.val)) % 4096 = 4093 + j1.val by omega]

end InProj.Ref
-- ==== Proof.Lay.Tail.lean ====
module
public import proofs.«01_k».proof.Proof.Lay.Rms

/-! The end of the layer for one token: the gated sum of the two mixers' projections, the output projection, and the
    gated per-layer embedding. -/

@[expose] public section

noncomputable section

namespace Lay
open Idealize.ShloMosaic

/-- What the end of the layer reads of one token. -/
structure Tok where
  /-- the first mixer's output -/
  oa : Fin 1024 → EReal
  /-- the second mixer's output -/
  ob : Fin 1024 → EReal
  /-- the first gate -/
  ga : Fin 2048 → EReal
  /-- the second gate -/
  gb : Fin 2048 → EReal
  /-- the residual stream -/
  x : Fin 2048 → EReal
  /-- the per-layer embedding -/
  p : Fin 256 → EReal

/-- The weights of the end of the layer. -/
structure Wts where
  /-- the first mixer's projection -/
  wa : Fin 1024 → Fin 2048 → EReal
  /-- the second mixer's projection -/
  wb : Fin 1024 → Fin 2048 → EReal
  /-- the output projection -/
  wo : Fin 2048 → Fin 2048 → EReal
  /-- the gain of the norm -/
  pn : Fin 2048 → EReal
  /-- the embedding's gate -/
  wg : Fin 2048 → Fin 2048 → EReal
  /-- the embedding's projection -/
  wp : Fin 256 → Fin 2048 → EReal

/-- The gated sum of the mixers' projections. -/
def merged (T : Tok) (W : Wts) (k : Fin 2048) : EReal :=
  sig (T.ga k) * (∑ d : Fin 1024, T.oa d * W.wa d k) + sig (T.gb k) * (∑ d : Fin 1024, T.ob d * W.wb d k)

/-- The residual stream after the output projection. -/
def mid (T : Tok) (W : Wts) (k : Fin 2048) : EReal := T.x k + ∑ d : Fin 2048, merged T W d * W.wo d k

/-- The residual stream after the gated embedding. -/
def fin (T : Tok) (W : Wts) (k : Fin 2048) : EReal :=
  mid T W k + sig (∑ d : Fin 2048, rms (mid T W) W.pn d * W.wg d k) * ∑ d : Fin 256, T.p d * W.wp d k

end Lay
-- ==== Proof.Tail.Points.lean ====
module
public import proofs.«01_k».proof.Proof.Gen.TailIdeal.Value
public import proofs.«01_k».proof.Proof.Lay.Tail
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! What a point of the layer's end computes from its blocks. -/

@[expose] public section

set_option maxRecDepth 16384

noncomputable section

namespace Tail
open Idealize.ShloMosaic Idealize.ShloMosaic.TcCoe Idealize.SL.Sem
open Cert.TailIdeal Cert.TailIdeal.Gen

/-- Row `i` of a block's inputs. -/
def tokOf (oa ob : FVec Ideal S256x1024 .bf16) (ga gb x : FVec Ideal S256x2048 .f32) (p : FVec Ideal S256x256 .f32) (i : Fin 256) : Lay.Tok :=
  ⟨fun d => oa (ix2 i d), fun d => ob (ix2 i d), fun d => ga (ix2 i d), fun d => gb (ix2 i d), fun d => x (ix2 i d), fun d => p (ix2 i d)⟩

/-- The weights, as a point reads them. -/
def wtsOf (wa wb : FVec Ideal S1024x2048 .bf16) (wo : FVec Ideal S2048x2048 .bf16) (pn : FVec Ideal S1x2048 .f32) (wg : FVec Ideal S2048x2048 .bf16)
    (wp : FVec Ideal S256x2048 .bf16) : Lay.Wts :=
  ⟨fun d k => wa (ix2 d k), fun d k => wb (ix2 d k), fun d k => wo (ix2 d k), fun k => pn (ix2 0 k), fun d k => wg (ix2 d k), fun d k => wp (ix2 d k)⟩

/-- The gated sum, at an index. -/
theorem pay3_at (oa ob : FVec Ideal S256x1024 .bf16) (ga gb : FVec Ideal S256x2048 .f32) (wa wb : FVec Ideal S1024x2048 .bf16) (i : Fin 256) (k : Fin 2048) :
    (k0_pay3 (F := Ideal) oa wa ob wb ga gb : FVec Ideal S256x2048 .bf16) (ix2 i k)
      = (Lay.sig (ga (ix2 i k)) * (∑ d : Fin 1024, (oa (ix2 i d) * wa (ix2 d k) : EReal))
        + Lay.sig (gb (ix2 i k)) * (∑ d : Fin 1024, (ob (ix2 i d) * wb (ix2 d k) : EReal)) : EReal) := by
  unfold Lay.sig
  pointwise [k0_pay3]

/-- The end of the layer over a block whose gated sum is `mg`, at an index. -/
theorem pay1_at (x : FVec Ideal S256x2048 .f32) (mg : FVec Ideal S256x2048 .bf16) (wo : FVec Ideal S2048x2048 .bf16) (pn : FVec Ideal S1x2048 .f32)
    (wg : FVec Ideal S2048x2048 .bf16) (p : FVec Ideal S256x256 .f32) (wp : FVec Ideal S256x2048 .bf16) (i : Fin 256) (k : Fin 2048)
    (y : Fin 2048 → EReal) (hy : ∀ k, y k = x (ix2 i k) + (∑ d : Fin 2048, (mg (ix2 i d) * wo (ix2 d k) : EReal))) :
    (k0_pay1 (F := Ideal) x mg wo pn wg p wp : FVec Ideal S256x2048 .f32) (ix2 i k)
      = (y k + Lay.sig (∑ d : Fin 2048, Lay.rms y (fun d => pn (ix2 0 d)) d * (wg (ix2 d k) : EReal))
          * (∑ d : Fin 256, (p (ix2 i d) * wp (ix2 d k) : EReal)) : EReal) := by
  unfold Lay.sig Lay.rms
  simp only [hy]
  pointwise [k0_pay1]

theorem pay2_eq (x : FVec Ideal S256x2048 .f32) : k0_pay2 (F := Ideal) x = x := by
  funext j
  idx_vars j
  pointwise [k0_pay2]

variable (m : (ℓ : Loc nD τ sig) → Buf (Elt Ideal) ℓ) (c : Dev nD)

/-- A point's output, as the payloads of its blocks. -/
theorem out_eq (t : Fin cfg0.N) :
    outsAt0 m c t = k0_pay1 (F := Ideal) (k0_pay2 (F := Ideal) (iblk m c 4 t)) (k0_pay3 (F := Ideal) (iblk m c 0 t) (iblk m c 6 t) (iblk m c 1 t) (iblk m c 7 t) (X0_2 m c t) (X0_3 m c t))
      (iblk m c 8 t) (iblk m c 9 t) (iblk m c 10 t) (iblk m c 5 t) (iblk m c 11 t) := by
  unfold outsAt0
  frame_out

end Tail
-- ==== Proof.Tail.Final.lean ====
module
public import proofs.«01_k».proof.Proof.Tail.Points

/-! What the layer's end leaves in its array, in terms of the arguments. -/

@[expose] public section

set_option maxRecDepth 16384

noncomputable section

namespace Tail
open Idealize.ShloMosaic Idealize.ShloMosaic.TcCoe Idealize.SL.Sem Idealize.ShloMosaic.StableHlo
open Cert.TailIdeal Cert.TailIdeal.Gen

/-- Token `r % 4096` of sequence `r / 4096`, as the end of the layer reads it. -/
def argTok (oa ob : FVec Ideal S2x4096x1024 .bf16) (z : FVec Ideal S2x4096x14592 .f32) (x : FVec Ideal S2x4096x2048 .f32) (p : FVec Ideal S2x4096x256 .f32)
    (r : Fin 8192) : Lay.Tok :=
  ⟨fun d => oa (ix3 ⟨r.val / 4096, by omega⟩ ⟨r.val % 4096, by omega⟩ d), fun d => ob (ix3 ⟨r.val / 4096, by omega⟩ ⟨r.val % 4096, by omega⟩ d),
    fun d => z (ix3 ⟨r.val / 4096, by omega⟩ ⟨r.val % 4096, by omega⟩ ⟨10240 + d.val, by omega⟩),
    fun d => z (ix3 ⟨r.val / 4096, by omega⟩ ⟨r.val % 4096, by omega⟩ ⟨12288 + d.val, by omega⟩),
    fun d => x (ix3 ⟨r.val / 4096, by omega⟩ ⟨r.val % 4096, by omega⟩ d), fun d => p (ix3 ⟨r.val / 4096, by omega⟩ ⟨r.val % 4096, by omega⟩ d)⟩

/-- The weights as given. -/
def argWts (wa wb : FVec Ideal S1024x2048 .f32) (wo : FVec Ideal S2048x2048 .f32) (pn : FVec Ideal S2048 .f32) (wg : FVec Ideal S2048x2048 .f32)
    (wp : FVec Ideal S256x2048 .f32) : Lay.Wts :=
  ⟨fun d k => wa (ix2 d k), fun d k => wb (ix2 d k), fun d k => wo (ix2 d k), fun k => pn (ix1 k), fun d k => wg (ix2 d k), fun d k => wp (ix2 d k)⟩

/-- The blocks that the windows stage at a point. -/
theorem idx_all : ∀ t : Fin cfg0.N, win0_0.index t = ![t.val, 0] ∧ win0_1.index t = ![t.val, 0] ∧ win0_2.index t = ![t.val, 5] ∧ win0_3.index t = ![t.val, 6]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- Row `i` of a point. -/
def rowOf (t : Fin cfg0.N) (i : Fin 256) : Fin 8192 :=
  ⟨256 * t.val + i.val, by have := lt_of_lt_of_eq t.isLt (show cfg0.N = 32 from N_0); omega⟩

theorem win0 (W : FVec Ideal S8192x1024 .bf16) (t : Fin cfg0.N) (i : Fin 256) (k : Fin 1024) :
    View.read (Elt Ideal) ((cfg0.win 0).blk t).view W (ix2 i k) = W (ix2 (rowOf t i) k) := by
  blk_ext [(idx_all t).1, rowOf]

theorem win1 (W : FVec Ideal S8192x1024 .bf16) (t : Fin cfg0.N) (i : Fin 256) (k : Fin 1024) :
    View.read (Elt Ideal) ((cfg0.win 1).blk t).view W (ix2 i k) = W (ix2 (rowOf t i) k) := by
  blk_ext [(idx_all t).2.1, rowOf]

theorem win4 (W : FVec Ideal S8192x2048 .f32) (t : Fin cfg0.N) (i : Fin 256) (k : Fin 2048) :
    View.read (Elt Ideal) ((cfg0.win 4).blk t).view W (ix2 i k) = W (ix2 (rowOf t i) k) := by
  blk_ext [(idx_all t).2.2.2.2.1, rowOf]

theorem win5 (W : FVec Ideal S8192x256 .f32) (t : Fin cfg0.N) (i : Fin 256) (k : Fin 256) :
    View.read (Elt Ideal) ((cfg0.win 5).blk t).view W (ix2 i k) = W (ix2 (rowOf t i) k) := by
  blk_ext [(idx_all t).2.2.2.2.2.1, rowOf]

theorem win6 (W : FVec Ideal S1024x2048 .bf16) (t : Fin cfg0.N) (i : Fin 1024) (k : Fin 2048) :
    View.read (Elt Ideal) ((cfg0.win 6).blk t).view W (ix2 i k) = W (ix2 i k) := by
  blk_ext [(idx_all t).2.2.2.2.2.2.1]

theorem win7 (W : FVec Ideal S1024x2048 .bf16) (t : Fin cfg0.N) (i : Fin 1024) (k : Fin 2048) :
    View.read (Elt Ideal) ((cfg0.win 7).blk t).view W (ix2 i k) = W (ix2 i k) := by
  blk_ext [(idx_all t).2.2.2.2.2.2.2.1]

theorem win8 (W : FVec Ideal S2048x2048 .bf16) (t : Fin cfg0.N) (i : Fin 2048) (k : Fin 2048) :
    View.read (Elt Ideal) ((cfg0.win 8).blk t).view W (ix2 i k) = W (ix2 i k) := by
  blk_ext [(idx_all t).2.2.2.2.2.2.2.2.1]

theorem win10 (W : FVec Ideal S2048x2048 .bf16) (t : Fin cfg0.N) (i : Fin 2048) (k : Fin 2048) :
    View.read (Elt Ideal) ((cfg0.win 10).blk t).view W (ix2 i k) = W (ix2 i k) := by
  blk_ext [(idx_all t).2.2.2.2.2.2.2.2.2.2.1]

theorem win11 (W : FVec Ideal S256x2048 .bf16) (t : Fin cfg0.N) (i : Fin 256) (k : Fin 2048) :
    View.read (Elt Ideal) ((cfg0.win 11).blk t).view W (ix2 i k) = W (ix2 i k) := by
  blk_ext [(idx_all t).2.2.2.2.2.2.2.2.2.2.2.1]

theorem win9 (W : FVec Ideal S1x2048 .f32) (t : Fin cfg0.N) (k : Fin 2048) :
    View.read (Elt Ideal) ((cfg0.win 9).blk t).view W (ix2 0 k) = W (ix2 0 k) := by
  blk_ext [(idx_all t).2.2.2.2.2.2.2.2.2.1]

variable (m : (ℓ : Loc nD τ sig) → Buf (Elt Ideal) ℓ) (c : Dev nD)

theorem win2 (t : Fin cfg0.N) (i : Fin 256) (k : Fin 2048) :
    X0_2 m c t (ix2 i k) = (V m c main_v7 : FVec Ideal S8192x14592 .f32) (ix2 (rowOf t i) ⟨10240 + k.val, by omega⟩) := by
  unfold X0_2 Pipeline.Window.fill
  rw [dif_pos (moved0_2 t _)]
  blk_ext [iblk, (idx_all t).2.2.1, rowOf]

theorem win3 (t : Fin cfg0.N) (i : Fin 256) (k : Fin 2048) :
    X0_3 m c t (ix2 i k) = (V m c main_v7 : FVec Ideal S8192x14592 .f32) (ix2 (rowOf t i) ⟨12288 + k.val, by omega⟩) := by
  unfold X0_3 Pipeline.Window.fill
  rw [dif_pos (moved0_3 t _)]
  blk_ext [iblk, (idx_all t).2.2.2.1, rowOf]

theorem entry_v5 (r : Fin 8192) (d : Fin 1024) :
    (V m c main_v5 : FVec Ideal S8192x1024 .bf16) (ix2 r d)
      = (m (c, main_arg0) : FVec Ideal S2x4096x1024 .bf16) (ix3 ⟨r.val / 4096, by omega⟩ ⟨r.val % 4096, by omega⟩ d) := by
  unfold V
  simp only [hostOps0, List.flatten_cons, List.flatten_nil, List.append_nil, List.cons_append, List.nil_append]
  entry_read
  pointwise []

theorem entry_v6 (r : Fin 8192) (d : Fin 1024) :
    (V m c main_v6 : FVec Ideal S8192x1024 .bf16) (ix2 r d)
      = (m (c, main_arg1) : FVec Ideal S2x4096x1024 .bf16) (ix3 ⟨r.val / 4096, by omega⟩ ⟨r.val % 4096, by omega⟩ d) := by
  unfold V
  simp only [hostOps0, List.flatten_cons, List.flatten_nil, List.append_nil, List.cons_append, List.nil_append]
  entry_read
  pointwise []

theorem entry_v7 (r : Fin 8192) (d : Fin 14592) :
    (V m c main_v7 : FVec Ideal S8192x14592 .f32) (ix2 r d)
      = (m (c, main_arg2) : FVec Ideal S2x4096x14592 .f32) (ix3 ⟨r.val / 4096, by omega⟩ ⟨r.val % 4096, by omega⟩ d) := by
  unfold V
  simp only [hostOps0, List.flatten_cons, List.flatten_nil, List.append_nil, List.cons_append, List.nil_append]
  entry_read
  pointwise []

theorem entry_v8 (r : Fin 8192) (d : Fin 2048) :
    (V m c main_v8 : FVec Ideal S8192x2048 .f32) (ix2 r d)
      = (m (c, main_arg3) : FVec Ideal S2x4096x2048 .f32) (ix3 ⟨r.val / 4096, by omega⟩ ⟨r.val % 4096, by omega⟩ d) := by
  unfold V
  simp only [hostOps0, List.flatten_cons, List.flatten_nil, List.append_nil, List.cons_append, List.nil_append]
  entry_read
  pointwise []

theorem entry_v9 (r : Fin 8192) (d : Fin 256) :
    (V m c main_v9 : FVec Ideal S8192x256 .f32) (ix2 r d)
      = (m (c, main_arg4) : FVec Ideal S2x4096x256 .f32) (ix3 ⟨r.val / 4096, by omega⟩ ⟨r.val % 4096, by omega⟩ d) := by
  unfold V
  simp only [hostOps0, List.flatten_cons, List.flatten_nil, List.append_nil, List.cons_append, List.nil_append]
  entry_read
  pointwise []

theorem entry_v0 (i : Fin 1024) (k : Fin 2048) :
    (V m c main_v0 : FVec Ideal S1024x2048 .bf16) (ix2 i k) = (m (c, main_arg5) : FVec Ideal S1024x2048 .f32) (ix2 i k) := by
  unfold V
  simp only [hostOps0, List.flatten_cons, List.flatten_nil, List.append_nil, List.cons_append, List.nil_append]
  entry_read
  pointwise []

theorem entry_v1 (i : Fin 1024) (k : Fin 2048) :
    (V m c main_v1 : FVec Ideal S1024x2048 .bf16) (ix2 i k) = (m (c, main_arg6) : FVec Ideal S1024x2048 .f32) (ix2 i k) := by
  unfold V
  simp only [hostOps0, List.flatten_cons, List.flatten_nil, List.append_nil, List.cons_append, List.nil_append]
  entry_read
  pointwise []

theorem entry_v2 (i : Fin 2048) (k : Fin 2048) :
    (V m c main_v2 : FVec Ideal S2048x2048 .bf16) (ix2 i k) = (m (c, main_arg7) : FVec Ideal S2048x2048 .f32) (ix2 i k) := by
  unfold V
  simp only [hostOps0, List.flatten_cons, List.flatten_nil, List.append_nil, List.cons_append, List.nil_append]
  entry_read
  pointwise []

theorem entry_v3 (i : Fin 2048) (k : Fin 2048) :
    (V m c main_v3 : FVec Ideal S2048x2048 .bf16) (ix2 i k) = (m (c, main_arg9) : FVec Ideal S2048x2048 .f32) (ix2 i k) := by
  unfold V
  simp only [hostOps0, List.flatten_cons, List.flatten_nil, List.append_nil, List.cons_append, List.nil_append]
  entry_read
  pointwise []

theorem entry_v4 (i : Fin 256) (k : Fin 2048) :
    (V m c main_v4 : FVec Ideal S256x2048 .bf16) (ix2 i k) = (m (c, main_arg10) : FVec Ideal S256x2048 .f32) (ix2 i k) := by
  unfold V
  simp only [hostOps0, List.flatten_cons, List.flatten_nil, List.append_nil, List.cons_append, List.nil_append]
  entry_read
  pointwise []

theorem entry_v10 (k : Fin 2048) : (V m c main_v10 : FVec Ideal S1x2048 .f32) (ix2 0 k) = (m (c, main_arg8) : FVec Ideal S2048 .f32) (ix1 k) := by
  unfold V
  simp only [hostOps0, List.flatten_cons, List.flatten_nil, List.append_nil, List.cons_append, List.nil_append]
  entry_read
  pointwise []

/-- What a row of a point reads is its token. -/
theorem tok_eq (t : Fin cfg0.N) (i : Fin 256) :
    tokOf (iblk m c 0 t) (iblk m c 1 t) (X0_2 m c t) (X0_3 m c t) (iblk m c 4 t) (iblk m c 5 t) i
      = argTok (m (c, main_arg0)) (m (c, main_arg1)) (m (c, main_arg2)) (m (c, main_arg3)) (m (c, main_arg4)) (rowOf t i) :=
  (Lay.Tok.mk.injEq ..).mpr
    ⟨funext fun d => (win0 (V m c main_v5) t i d).trans (entry_v5 m c _ d), funext fun d => (win1 (V m c main_v6) t i d).trans (entry_v6 m c _ d),
      funext fun d => (win2 m c t i d).trans (entry_v7 m c _ _), funext fun d => (win3 m c t i d).trans (entry_v7 m c _ _),
      funext fun d => (win4 (V m c main_v8) t i d).trans (entry_v8 m c _ d), funext fun d => (win5 (V m c main_v9) t i d).trans (entry_v9 m c _ d)⟩

/-- The weights that a point reads are the given ones. -/
theorem wts_eq (t : Fin cfg0.N) :
    wtsOf (iblk m c 6 t) (iblk m c 7 t) (iblk m c 8 t) (iblk m c 9 t) (iblk m c 10 t) (iblk m c 11 t)
      = argWts (m (c, main_arg5)) (m (c, main_arg6)) (m (c, main_arg7)) (m (c, main_arg8)) (m (c, main_arg9)) (m (c, main_arg10)) :=
  (Lay.Wts.mk.injEq ..).mpr
    ⟨funext fun d => funext fun k => (win6 (V m c main_v0) t d k).trans (entry_v0 m c d k),
      funext fun d => funext fun k => (win7 (V m c main_v1) t d k).trans (entry_v1 m c d k),
      funext fun d => funext fun k => (win8 (V m c main_v2) t d k).trans (entry_v2 m c d k),
      funext fun k => (win9 (V m c main_v10) t k).trans (entry_v10 m c k),
      funext fun d => funext fun k => (win10 (V m c main_v3) t d k).trans (entry_v3 m c d k),
      funext fun d => funext fun k => (win11 (V m c main_v4) t d k).trans (entry_v4 m c d k)⟩

/-- A point's output is the end of the layer of its tokens. -/
theorem out_at (t : Fin cfg0.N) (i : Fin 256) (k : Fin 2048) :
    outsAt0 m c t (ix2 i k)
      = Lay.fin (argTok (m (c, main_arg0)) (m (c, main_arg1)) (m (c, main_arg2)) (m (c, main_arg3)) (m (c, main_arg4)) (rowOf t i))
          (argWts (m (c, main_arg5)) (m (c, main_arg6)) (m (c, main_arg7)) (m (c, main_arg8)) (m (c, main_arg9)) (m (c, main_arg10))) k := by
  rw [← tok_eq m c t i, ← wts_eq m c t, out_eq, pay2_eq]
  refine pay1_at _ _ _ _ _ _ _ i k
    (Lay.mid (tokOf (iblk m c 0 t) (iblk m c 1 t) (X0_2 m c t) (X0_3 m c t) (iblk m c 4 t) (iblk m c 5 t) i)
      (wtsOf (iblk m c 6 t) (iblk m c 7 t) (iblk m c 8 t) (iblk m c 9 t) (iblk m c 10 t) (iblk m c 11 t))) fun k => ?_
  unfold Lay.mid
  refine congrArg (_ + ·) (Finset.sum_congr rfl fun d _ => ?_)
  rw [pay3_at]
  rfl

/-- The launch's result. -/
theorem final : (dats m 0 c).arrAt 12 cfg0.N = fun j =>
    Lay.fin (argTok (m (c, main_arg0)) (m (c, main_arg1)) (m (c, main_arg2)) (m (c, main_arg3)) (m (c, main_arg4)) (j 0))
      (argWts (m (c, main_arg5)) (m (c, main_arg6)) (m (c, main_arg7)) (m (c, main_arg8)) (m (c, main_arg9)) (m (c, main_arg10))) (j 1) := by
  refine (dats m 0 c).arrAt_eq_of_covers 12 _ (by decide +kernel) fun t hf y => ?_
  blk_simp
  rw [after0_12]
  have e0 : (win0_12.blk t).view.emb y 0 = rowOf t (y 0) := Fin.ext (by blk_simp [(idx_all t).2.2.2.2.2.2.2.2.2.2.2.2]; simp only [rowOf]; omega)
  have e1 : (win0_12.blk t).view.emb y 1 = y 1 := Fin.ext (by blk_simp [(idx_all t).2.2.2.2.2.2.2.2.2.2.2.2])
  have ey : y = ix2 (y 0) (y 1) := by
    funext a
    fin_cases a
    · rfl
    · rfl
  rw [e0, e1]
  exact (congrArg (outsAt0 m c t) ey).trans (out_at m c t (y 0) (y 1))

end Tail
-- ==== Proof.Tail.Ref.lean ====
module
public import proofs.«01_k».proof.Proof.Tail.Final
public import proofs.«01_k».proof.Proof.Gen.TailRefIdeal.Run

/-! What the plain end of the layer leaves in its array. -/

@[expose] public section

set_option maxRecDepth 16384

noncomputable section

namespace Tail.Ref
open Idealize.ShloMosaic Idealize.ShloMosaic.TcCoe Idealize.SL.Sem Idealize.ShloMosaic.StableHlo
open Cert.TailRefIdeal Cert.TailRefIdeal.Gen

/-- The gated sum, at an index. -/
theorem merged_at (oa ob : FVec Ideal S2x4096x1024 .bf16) (z : FVec Ideal S2x4096x14592 .f32) (wa wb : FVec Ideal S1024x2048 .f32) (b : Fin 2) (t : Fin 4096)
    (k : Fin 2048) :
    ((addf (mulf (Host.divf (broadcastInDim S2x4096x2048 ![] bcast_S_S2x4096x2048 (constant (F := Ideal) S_ .f32 0x3F800000#32)) (addf (broadcastInDim S2x4096x2048 ![] bcast_S_S2x4096x2048 (constant (F := Ideal) S_ .f32 0x3F800000#32)) (Host.exp (Host.negf (extractStridedSlice S2x4096x2048 ![0, 0, 10240] z slices_S2x4096x14592_S2x4096x2048_0_0_10240))))) (Host.dotGeneral dot_S2x4096x1024_S1024x2048_S2x4096x2048_2_0_01_1_n_n none (extf .f32 oa bitsLt_bf16_f32) wa)) (mulf (Host.divf (broadcastInDim S2x4096x2048 ![] bcast_S_S2x4096x2048 (constant (F := Ideal) S_ .f32 0x3F800000#32)) (addf (broadcastInDim S2x4096x2048 ![] bcast_S_S2x4096x2048 (constant (F := Ideal) S_ .f32 0x3F800000#32)) (Host.exp (Host.negf (extractStridedSlice S2x4096x2048 ![0, 0, 12288] z slices_S2x4096x14592_S2x4096x2048_0_0_12288))))) (Host.dotGeneral dot_S2x4096x1024_S1024x2048_S2x4096x2048_2_0_01_1_n_n none (extf .f32 ob bitsLt_bf16_f32) wb))) : FVec Ideal S2x4096x2048 .f32) (ix3 b t k)
      = (Lay.sig (z (ix3 b t ⟨10240 + k.val, by omega⟩)) * (∑ d : Fin 1024, (oa (ix3 b t d) * wa (ix2 d k) : EReal))
        + Lay.sig (z (ix3 b t ⟨12288 + k.val, by omega⟩)) * (∑ d : Fin 1024, (ob (ix3 b t d) * wb (ix2 d k) : EReal)) : EReal) := by
  unfold Lay.sig
  pointwise []
  simp only [zero_sub]

/-- The residual stream after the output projection, at an index. -/
theorem mid_at (M : FVec Ideal S2x4096x2048 .f32) (x : FVec Ideal S2x4096x2048 .f32) (wo : FVec Ideal S2048x2048 .f32) (b : Fin 2) (t : Fin 4096)
    (k : Fin 2048) (h : Fin 2048 → EReal) (hM : ∀ d, M (ix3 b t d) = h d) :
    ((addf x (Host.dotGeneral dot_S2x4096x2048_S2048x2048_S2x4096x2048_2_0_01_1_n_n none M wo)) : FVec Ideal S2x4096x2048 .f32) (ix3 b t k)
      = (x (ix3 b t k) + (∑ d : Fin 2048, h d * (wo (ix2 d k) : EReal)) : EReal) := by
  obtain rfl : (fun d => M (ix3 b t d)) = h := funext hM
  pointwise []

/-- The result over the residual stream `Y`, at an index. -/
theorem fin_at (Y : FVec Ideal S2x4096x2048 .f32) (p : FVec Ideal S2x4096x256 .f32) (pn : FVec Ideal S2048 .f32) (wg : FVec Ideal S2048x2048 .f32)
    (wp : FVec Ideal S256x2048 .f32) (r : Fin 8192) (k : Fin 2048)
    (y : Fin 2048 → EReal) (hY : ∀ k, Y (ix3 ⟨r.val / 4096, by omega⟩ ⟨r.val % 4096, by omega⟩ k) = y k) :
    (shapeCast S8192x2048 (addf Y (mulf (Host.divf (broadcastInDim S2x4096x2048 ![] bcast_S_S2x4096x2048 (constant (F := Ideal) S_ .f32 0x3F800000#32)) (addf (broadcastInDim S2x4096x2048 ![] bcast_S_S2x4096x2048 (constant (F := Ideal) S_ .f32 0x3F800000#32)) (Host.exp (Host.negf (Host.dotGeneral dot_S2x4096x2048_S2048x2048_S2x4096x2048_2_0_01_1_n_n none (mulf (mulf Y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf Y Y) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 pn))) wg))))) (Host.dotGeneral dot_S2x4096x256_S256x2048_S2x4096x2048_2_0_01_1_n_n none p wp))) shapeCasts_S2x4096x2048_S8192x2048 : FVec Ideal S8192x2048 .f32) (ix2 r k)
      = (y k
          + Lay.sig (∑ d : Fin 2048, Lay.rms y (fun d => pn (ix1 d)) d * (wg (ix2 d k) : EReal))
          * (∑ d : Fin 256, (p (ix3 ⟨r.val / 4096, by omega⟩ ⟨r.val % 4096, by omega⟩ d) * wp (ix2 d k) : EReal)) : EReal) := by
  obtain rfl : (fun k => Y (ix3 ⟨r.val / 4096, by omega⟩ ⟨r.val % 4096, by omega⟩ k)) = y := funext hY
  unfold Lay.sig Lay.rms
  pointwise []
  simp only [zero_sub]

variable (m : (ℓ : Loc nD τ sig) → Buf (Elt Ideal) ℓ) (c : Dev nD)

/-- The reference's result is the end of the layer, token by token. -/
theorem ref_eq : Cert.TailRefIdeal.Value.res_main_v46 m c = fun j =>
    Lay.fin (argTok (m (c, main_arg0)) (m (c, main_arg1)) (m (c, main_arg2)) (m (c, main_arg3)) (m (c, main_arg4)) (j 0))
      (argWts (m (c, main_arg5)) (m (c, main_arg6)) (m (c, main_arg7)) (m (c, main_arg8)) (m (c, main_arg9)) (m (c, main_arg10))) (j 1) := by
  funext j
  idx_vars j
  unfold Cert.TailRefIdeal.Value.res_main_v46
  refine fin_at _ (m (c, main_arg4)) (m (c, main_arg8)) (m (c, main_arg9)) (m (c, main_arg10)) j0 j1
    (Lay.mid (argTok (m (c, main_arg0)) (m (c, main_arg1)) (m (c, main_arg2)) (m (c, main_arg3)) (m (c, main_arg4)) j0)
      (argWts (m (c, main_arg5)) (m (c, main_arg6)) (m (c, main_arg7)) (m (c, main_arg8)) (m (c, main_arg9)) (m (c, main_arg10)))) fun k => ?_
  exact mid_at _ (m (c, main_arg3)) (m (c, main_arg7)) _ _ k _ fun d =>
    merged_at (m (c, main_arg0)) (m (c, main_arg1)) (m (c, main_arg2)) (m (c, main_arg5)) (m (c, main_arg6)) _ _ d

end Tail.Ref
-- ==== Proof.Lay.Rope.lean ====
module
public import Idealize.ShloMosaic.PureOps.Ideal

/-! The rotary embedding of one head and the normalisation before it, as plain formulas over the extended reals. -/

@[expose] public section

noncomputable section

namespace Lay
open Idealize.ShloMosaic

/-- The angle of coordinate `k` at position `p`. -/
def ang (p : EReal) (k : ℕ) : EReal :=
  p * Ideal.pow (Ideal.ofBits .f32 1176256512#32)
    (Ideal.div (-(FloatOps.sitofp (F := Ideal) .f32 (BitVec.ofNat 32 k) : EReal) * Ideal.ofBits .f32 1073741824#32) (Ideal.ofBits .f32 1124073472#32))

/-- A head's row rotated for position `p`: coordinates `k` and `k + 64` turn together. -/
def rot (p : EReal) (x : Fin 128 → EReal) (k : Fin 128) : EReal :=
  if h : k.val < 64 then x k * Ideal.cos (ang p k.val) - x ⟨k.val + 64, by omega⟩ * Ideal.sin (ang p k.val)
  else x k * Ideal.cos (ang p (k.val - 64)) + x ⟨k.val - 64, by omega⟩ * Ideal.sin (ang p (k.val - 64))

/-- A head's row normalised, with a gain. -/
def rmsHead (x g : Fin 128 → EReal) (k : Fin 128) : EReal :=
  x k * Ideal.rsqrt (Ideal.div (∑ d : Fin 128, x d * x d) (Ideal.ofBits .f32 1124073472#32) + Ideal.ofBits .f32 897988541#32) * g k

/-- The cosines of a position over the whole head. -/
def cosRow (p : EReal) (k : Fin 128) : EReal := if _h : k.val < 64 then Ideal.cos (ang p k.val) else Ideal.cos (ang p (k.val - 64))

/-- The sines of a position over the whole head, the first half negated. -/
def sinRow (p : EReal) (k : Fin 128) : EReal := if _h : k.val < 64 then -Ideal.sin (ang p k.val) else Ideal.sin (ang p (k.val - 64))

/-- A row times a row of cosines plus the row turned by half times a row of sines. -/
def turn (cs sn x : Fin 128 → EReal) (k : Fin 128) : EReal := x k * cs k + x ⟨(k.val + 128 - 64) % 128, Nat.mod_lt _ (by decide)⟩ * sn k

/-- Over a position's tables that is the rotation. -/
theorem turn_eq (p : EReal) (x : Fin 128 → EReal) : turn (cosRow p) (sinRow p) x = rot p x := by
  funext k
  unfold turn rot cosRow sinRow
  split
  · rename_i h
    have e : (⟨(k.val + 128 - 64) % 128, Nat.mod_lt _ (by decide)⟩ : Fin 128) = ⟨k.val + 64, by omega⟩ := Fin.ext (by show _ % 128 = k.val + 64; omega)
    rw [e, mul_neg, sub_eq_add_neg]
  · rename_i h
    have e : (⟨(k.val + 128 - 64) % 128, Nat.mod_lt _ (by decide)⟩ : Fin 128) = ⟨k.val - 64, by omega⟩ := Fin.ext (by show _ % 128 = k.val - 64; omega)
    rw [e]

end Lay
-- ==== Proof.AttPrep.Points.lean ====
module
public import proofs.«01_k».proof.Proof.Gen.AttPrepIdeal.Value
public import proofs.«01_k».proof.Proof.Lay.Rope
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

@[expose] public section

set_option maxRecDepth 16384

noncomputable section

namespace AttPrep
open Idealize.ShloMosaic Idealize.ShloMosaic.TcCoe Idealize.SL.Sem Idealize.ShloMosaic.StableHlo
open Cert.AttPrepIdeal Cert.AttPrepIdeal.Gen

/-- A rotated tile of one head, as the body computes it. -/
def rotTile (C Sn : FVec Ideal S256x128 .f32) (z : FVec Ideal S1x256x128 .f32) : FVec Ideal S1x256x128 .bf16 :=
  k0_pay75 (F := Ideal) (k0_pay2 (F := Ideal) C) (k0_pay3 (F := Ideal) Sn) z

/-- A normalised and rotated tile of one head, as the body computes it. -/
def keyTile (C Sn : FVec Ideal S256x128 .f32) (g : FVec Ideal S1x128 .f32) (z : FVec Ideal S1x256x128 .f32) : FVec Ideal S1x256x128 .f32 :=
  k0_pay8 (F := Ideal) (k0_pay2 (F := Ideal) C) (k0_pay3 (F := Ideal) Sn) (k0_pay5 (F := Ideal) z) (k0_pay6 (F := Ideal) z) (FloatOps.ofBits .f32 0x43000000#32) g

/-- The rotated tile, at an index. -/
theorem rotTile_at (C Sn : FVec Ideal S256x128 .f32) (z : FVec Ideal S1x256x128 .f32) (i : Fin 256) (k : Fin 128) :
    rotTile C Sn z (ix3 0 i k) = Lay.turn (fun d => C (ix2 i d)) (fun d => Sn (ix2 i d)) (fun d => z (ix3 0 i d)) k := by
  unfold rotTile Lay.turn
  pointwise [k0_pay75, k0_pay2, k0_pay3]

/-- The tile of keys, at an index. -/
theorem keyTile_at (C Sn : FVec Ideal S256x128 .f32) (g : FVec Ideal S1x128 .f32) (z : FVec Ideal S1x256x128 .f32) (i : Fin 256) (k : Fin 128) :
    keyTile C Sn g z (ix3 0 i k)
      = Lay.turn (fun d => C (ix2 i d)) (fun d => Sn (ix2 i d)) (Lay.rmsHead (fun d => z (ix3 0 i d)) (fun d => g (ix2 0 d))) k := by
  unfold keyTile Lay.turn Lay.rmsHead
  pointwise [k0_pay8, k0_pay7, k0_pay6, k0_pay5, k0_pay2, k0_pay3]

/-- The head's row of which column `k` is a part. -/
def head {n : ℕ} (X : Fin n → EReal) (k : Fin n) (h : 128 ∣ n) : Fin 128 → EReal :=
  fun d => X ⟨k.val / 128 * 128 + d.val, by obtain ⟨q, rfl⟩ := h; omega⟩

/-- What a load of one head's columns reads, of 1024 columns. -/
theorem ld8 (X : FVec Ideal S1x256x1024 .f32) (a : ℕ) (h : ∀ k, (![0, 0, a] : Fin 3 → ℕ) k + (![1, 256, 128] : Fin 3 → ℕ) k ≤ S1x256x1024.size k)
    (i : Fin 256) (d : Fin 128) (k : Fin 1024) (hk : k.val = a + d.val) :
    View.ld (Val := Elt Ideal) (e' := .f32) X (Rect.unit (s := S1x256x1024) ![0, 0, a] ![1, 256, 128] h) (ix3 0 i d) = X (ix3 0 i k) := by
  refine congrArg X (funext fun e => ?_)
  fin_cases e
  · exact Subsingleton.elim (α := Fin 1) _ _
  · exact Fin.ext (by show 0 + 1 * i.val = i.val; omega)
  · exact Fin.ext (by show a + 1 * d.val = k.val; omega)

/-- What a load of one head's columns reads, of 2048 columns. -/
theorem ld16 (X : FVec Ideal S1x256x2048 .f32) (a : ℕ) (h : ∀ k, (![0, 0, a] : Fin 3 → ℕ) k + (![1, 256, 128] : Fin 3 → ℕ) k ≤ S1x256x2048.size k)
    (i : Fin 256) (d : Fin 128) (k : Fin 2048) (hk : k.val = a + d.val) :
    View.ld (Val := Elt Ideal) (e' := .f32) X (Rect.unit (s := S1x256x2048) ![0, 0, a] ![1, 256, 128] h) (ix3 0 i d) = X (ix3 0 i k) := by
  refine congrArg X (funext fun e => ?_)
  fin_cases e
  · exact Subsingleton.elim (α := Fin 1) _ _
  · exact Fin.ext (by show 0 + 1 * i.val = i.val; omega)
  · exact Fin.ext (by show a + 1 * d.val = k.val; omega)

/-- An index of a tile. -/
theorem tile_idx (x : S1x256x128.Idx) : x = ix3 0 (x 1) (x 2) := by
  funext a
  fin_cases a
  · exact Subsingleton.elim (α := Fin 1) _ _
  · rfl
  · rfl

/-- A key tile at offset `a` is the keys' part from column `a` on. -/
theorem key_piece (C Sn : FVec Ideal S256x128 .f32) (g : FVec Ideal S1x128 .f32) (X : FVec Ideal S1x256x1024 .f32) (a : ℕ)
    (h : ∀ k, (![0, 0, a] : Fin 3 → ℕ) k + (![1, 256, 128] : Fin 3 → ℕ) k ≤ S1x256x1024.size k) (x : S1x256x128.Idx) (i : Fin 256) (k : Fin 1024)
    (h1 : i.val = 0 + (x 1).val) (h2 : k.val = a + (x 2).val) (ha : a % 128 = 0) :
    keyTile C Sn g (View.ld (Val := Elt Ideal) (e' := .f32) X (Rect.unit (s := S1x256x1024) ![0, 0, a] ![1, 256, 128] h)) x
      = Lay.turn (fun d => C (ix2 i d)) (fun d => Sn (ix2 i d))
          (Lay.rmsHead (head (fun d => X (ix3 0 i d)) k (by decide)) (fun d => g (ix2 0 d))) ⟨k.val % 128, by omega⟩ := by
  have b2 : (x 2).val < 128 := (x 2).isLt
  obtain rfl : i = x 1 := Fin.ext (by omega)
  have e2 : (⟨k.val % 128, by omega⟩ : Fin 128) = x 2 := Fin.ext (by show k.val % 128 = (x 2).val; omega)
  have hz : (fun d : Fin 128 => View.ld (Val := Elt Ideal) (e' := .f32) X (Rect.unit (s := S1x256x1024) ![0, 0, a] ![1, 256, 128] h) (ix3 0 (x 1) d))
      = head (fun d => X (ix3 0 (x 1) d)) k (by decide) :=
    funext fun d => ld8 X a h (x 1) d _ (by show k.val / 128 * 128 + d.val = a + d.val; omega)
  rw [e2, ← hz]
  exact (congrArg (keyTile C Sn g _) (tile_idx x)).trans (keyTile_at C Sn g _ (x 1) (x 2))

/-- A rotated tile at offset `a` is the rotated rows' part from column `a` on. -/
theorem rot_piece (C Sn : FVec Ideal S256x128 .f32) (X : FVec Ideal S1x256x2048 .f32) (a : ℕ)
    (h : ∀ k, (![0, 0, a] : Fin 3 → ℕ) k + (![1, 256, 128] : Fin 3 → ℕ) k ≤ S1x256x2048.size k) (x : S1x256x128.Idx) (i : Fin 256) (k : Fin 2048)
    (h1 : i.val = 0 + (x 1).val) (h2 : k.val = a + (x 2).val) (ha : a % 128 = 0) :
    rotTile C Sn (View.ld (Val := Elt Ideal) (e' := .f32) X (Rect.unit (s := S1x256x2048) ![0, 0, a] ![1, 256, 128] h)) x
      = Lay.turn (fun d => C (ix2 i d)) (fun d => Sn (ix2 i d)) (head (fun d => X (ix3 0 i d)) k (by decide)) ⟨k.val % 128, by omega⟩ := by
  have b2 : (x 2).val < 128 := (x 2).isLt
  obtain rfl : i = x 1 := Fin.ext (by omega)
  have e2 : (⟨k.val % 128, by omega⟩ : Fin 128) = x 2 := Fin.ext (by show k.val % 128 = (x 2).val; omega)
  have hz : (fun d : Fin 128 => View.ld (Val := Elt Ideal) (e' := .f32) X (Rect.unit (s := S1x256x2048) ![0, 0, a] ![1, 256, 128] h) (ix3 0 (x 1) d))
      = head (fun d => X (ix3 0 (x 1) d)) k (by decide) :=
    funext fun d => ld16 X a h (x 1) d _ (by show k.val / 128 * 128 + d.val = a + d.val; omega)
  rw [e2, ← hz]
  exact (congrArg (rotTile C Sn _) (tile_idx x)).trans (rotTile_at C Sn _ (x 1) (x 2))

/-- A value tile at offset `a` is the values' part from column `a` on. -/
theorem val_piece (X : FVec Ideal S1x256x1024 .f32) (a : ℕ)
    (h : ∀ k, (![0, 0, a] : Fin 3 → ℕ) k + (![1, 256, 128] : Fin 3 → ℕ) k ≤ S1x256x1024.size k) (x : S1x256x128.Idx) (i : Fin 256) (k : Fin 1024)
    (h1 : i.val = 0 + (x 1).val) (h2 : k.val = a + (x 2).val) :
    k0_pay10 (F := Ideal) (View.ld (Val := Elt Ideal) (e' := .f32) X (Rect.unit (s := S1x256x1024) ![0, 0, a] ![1, 256, 128] h)) x = X (ix3 0 i k) := by
  obtain rfl : i = x 1 := Fin.ext (by omega)
  have e : ∀ z : FVec Ideal S1x256x128 .f32, k0_pay10 (F := Ideal) z (ix3 0 (x 1) (x 2)) = z (ix3 0 (x 1) (x 2)) := fun z => by
    pointwise [k0_pay10, k0_pay9]
  exact ((congrArg (k0_pay10 (F := Ideal) _) (tile_idx x)).trans (e _)).trans (ld8 X a h (x 1) (x 2) k h2)

variable (m : (ℓ : Loc nD τ sig) → Buf (Elt Ideal) ℓ) (c : Dev nD)

/-- The keys that a point stores. -/
theorem key_out (t : Fin cfg0.N) :
    (outsAt0 m c t).2.1 = fun y => Lay.turn (fun d => (iblk m c 6 t : FVec Ideal S256x128 .f32) (ix2 (y 1) d)) (fun d => (iblk m c 7 t : FVec Ideal S256x128 .f32) (ix2 (y 1) d))
      (Lay.rmsHead (head (fun d => X0_1 m c t (ix3 0 (y 1) d)) (y 2) (by decide)) (fun d => (iblk m c 9 t : FVec Ideal S1x128 .f32) (ix2 0 d))) ⟨(y 2).val % 128, Nat.mod_lt _ (by decide)⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine key_piece _ _ _ (X0_1 m c t) _ _ x (y 1) (y 2) ?_ ?_ ?_ <;> dsimp only <;> omega

/-- The rotated index queries that a point stores. -/
theorem rot_out (t : Fin cfg0.N) :
    (outsAt0 m c t).2.2.2.2.2.1 = fun y => Lay.turn (fun d => (iblk m c 6 t : FVec Ideal S256x128 .f32) (ix2 (y 1) d)) (fun d => (iblk m c 7 t : FVec Ideal S256x128 .f32) (ix2 (y 1) d))
      (head (fun d => X0_3 m c t (ix3 0 (y 1) d)) (y 2) (by decide)) ⟨(y 2).val % 128, Nat.mod_lt _ (by decide)⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine rot_piece _ _ (X0_3 m c t) _ _ x (y 1) (y 2) ?_ ?_ ?_ <;> dsimp only <;> omega

/-- The values that a point stores. -/
theorem val_out (t : Fin cfg0.N) : (outsAt0 m c t).2.2.1 = fun y => X0_2 m c t (ix3 0 (y 1) (y 2)) := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine val_piece (X0_2 m c t) _ _ x (y 1) (y 2) ?_ ?_ <;> dsimp only <;> omega

/-- The index keys that a point stores. -/
theorem ikey_out (t : Fin cfg0.N) (i : Fin 256) (k : Fin 128) :
    ((outsAt0 m c t).2.2.2.2.2.2.1 : FVec Ideal S1x256x128 .f32) (ix3 0 i k)
      = Lay.turn (fun d => (iblk m c 6 t : FVec Ideal S256x128 .f32) (ix2 i d)) (fun d => (iblk m c 7 t : FVec Ideal S256x128 .f32) (ix2 i d))
          (fun d => (iblk m c 4 t : FVec Ideal S1x256x128 .f32) (ix3 0 i d)) k := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  generalize (iblk m c 6 t : FVec Ideal S256x128 .f32) = C
  generalize (iblk m c 7 t : FVec Ideal S256x128 .f32) = Sn
  generalize (iblk m c 4 t : FVec Ideal S1x256x128 .f32) = z
  unfold Lay.turn
  pointwise [k0_pay98, k0_pay97, k0_pay2, k0_pay3]

end AttPrep
-- ==== Proof.AttPrep.Final.lean ====
module
public import proofs.«01_k».proof.Proof.AttPrep.Points

/-! What the attention's preparation leaves in its arrays, in terms of the arguments. -/

@[expose] public section

set_option maxRecDepth 16384

noncomputable section

namespace AttPrep
open Idealize.ShloMosaic Idealize.ShloMosaic.TcCoe Idealize.SL.Sem Idealize.ShloMosaic.StableHlo
open Cert.AttPrepIdeal Cert.AttPrepIdeal.Gen

/-- Position `p` as a real. -/
def posOf (p : ℕ) : EReal := (FloatOps.sitofp (F := Ideal) .f32 (BitVec.ofNat 32 p) : EReal)

/-- Row `p` of sequence `b`, head by head from column `o` on: the head of column `k`. -/
def headOf (z : FVec Ideal S2x4096x14592 .f32) (o n : ℕ) (ho : o + n ≤ 14592) (hn : 128 ∣ n) (b : Fin 2) (p : Fin 4096) (k : Fin n) : Fin 128 → EReal :=
  head (fun d : Fin n => z (ix3 b p ⟨o + d.val, by omega⟩)) k hn

/-- The keys: each head normalised and rotated. -/
def keyF (z : FVec Ideal S2x4096x14592 .f32) (kn : FVec Ideal S128 .f32) (b : Fin 2) (p : Fin 4096) (k : Fin 1024) : EReal :=
  Lay.rot (posOf p.val) (Lay.rmsHead (headOf z 5120 1024 (by decide) (by decide) b p k) (fun d => kn (ix1 d))) ⟨k.val % 128, Nat.mod_lt _ (by decide)⟩

/-- The values. -/
def valF (z : FVec Ideal S2x4096x14592 .f32) (b : Fin 2) (p : Fin 4096) (k : Fin 1024) : EReal := z (ix3 b p ⟨6144 + k.val, by omega⟩)

/-- The index queries: each head rotated. -/
def idxqF (z : FVec Ideal S2x4096x14592 .f32) (b : Fin 2) (p : Fin 4096) (k : Fin 2048) : EReal :=
  Lay.rot (posOf p.val) (headOf z 8192 2048 (by decide) (by decide) b p k) ⟨k.val % 128, Nat.mod_lt _ (by decide)⟩

/-- The index keys: the one head rotated. -/
def idxkF (z : FVec Ideal S2x4096x14592 .f32) (b : Fin 2) (p : Fin 4096) (k : Fin 128) : EReal :=
  Lay.rot (posOf p.val) (fun d => z (ix3 b p ⟨14336 + d.val, by omega⟩)) k

/-- The blocks that the windows stage at a point. -/
theorem idx_all : ∀ t : Fin cfg0.N, win0_1.index t = ![t.val / 16, t.val % 16, 5] ∧ win0_2.index t = ![t.val / 16, t.val % 16, 6]
    ∧ win0_3.index t = ![t.val / 16, t.val % 16, 4] ∧ win0_4.index t = ![t.val / 16, t.val % 16, 112] ∧ win0_6.index t = ![t.val % 16, 0]
    ∧ win0_7.index t = ![t.val % 16, 0] ∧ win0_9.index t = ![0, 0] ∧ win0_11.index t = ![t.val / 16, t.val % 16, 0]
    ∧ win0_12.index t = ![t.val / 16, t.val % 16, 0] ∧ win0_15.index t = ![t.val / 16, t.val % 16, 0] ∧ win0_16.index t = ![t.val / 16, t.val % 16, 0] :=
  (by decide +kernel : ∀ t : Fin grid0.N, _)

/-- The sequence of a point. -/
def seqOf (t : Fin cfg0.N) : Fin 2 := ⟨t.val / 16, by have := lt_of_lt_of_eq t.isLt (show cfg0.N = 32 from N_0); omega⟩

/-- Row `i` of a point, in its sequence. -/
def rowOf (t : Fin cfg0.N) (i : Fin 256) : Fin 4096 := ⟨256 * (t.val % 16) + i.val, by omega⟩

/-- The index keys' window. -/
theorem win4 (W : FVec Ideal S2x4096x14592 .f32) (t : Fin cfg0.N) (i : Fin 256) (k : Fin 128) :
    View.read (Elt Ideal) ((cfg0.win 4).blk t).view W (ix3 0 i k) = W (ix3 (seqOf t) (rowOf t i) ⟨14336 + k.val, by omega⟩) := by
  blk_ext [(idx_all t).2.2.2.1, rowOf, seqOf]

/-- The cosines' window. -/
theorem win6 (W : FVec Ideal S4096x128 .f32) (t : Fin cfg0.N) (i : Fin 256) (k : Fin 128) :
    View.read (Elt Ideal) ((cfg0.win 6).blk t).view W (ix2 i k) = W (ix2 (rowOf t i) k) := by
  blk_ext [(idx_all t).2.2.2.2.1, rowOf]

/-- The sines' window. -/
theorem win7 (W : FVec Ideal S4096x128 .f32) (t : Fin cfg0.N) (i : Fin 256) (k : Fin 128) :
    View.read (Elt Ideal) ((cfg0.win 7).blk t).view W (ix2 i k) = W (ix2 (rowOf t i) k) := by
  blk_ext [(idx_all t).2.2.2.2.2.1, rowOf]

/-- The keys' gain. -/
theorem win9 (W : FVec Ideal S1x128 .f32) (t : Fin cfg0.N) (k : Fin 128) :
    View.read (Elt Ideal) ((cfg0.win 9).blk t).view W (ix2 0 k) = W (ix2 0 k) := by
  blk_ext [(idx_all t).2.2.2.2.2.2.1]

variable (m : (ℓ : Loc nD τ sig) → Buf (Elt Ideal) ℓ) (c : Dev nD)

/-- The projection's array is an argument. -/
theorem entry_z : V m c main_arg0 = m (c, main_arg0) := by
  unfold V
  simp only [hostOps0, List.flatten_cons, List.flatten_nil, List.append_nil, List.cons_append, List.nil_append]
  entry_read
  rfl

/-- The keys' columns. -/
theorem win1 (t : Fin cfg0.N) (i : Fin 256) (k : Fin 1024) :
    X0_1 m c t (ix3 0 i k) = (m (c, main_arg0) : FVec Ideal S2x4096x14592 .f32) (ix3 (seqOf t) (rowOf t i) ⟨5120 + k.val, by omega⟩) := by
  rw [← entry_z m c]
  unfold X0_1 Pipeline.Window.fill
  rw [dif_pos (moved0_1 t _)]
  blk_ext [iblk, (idx_all t).1, rowOf, seqOf]

/-- The values' columns. -/
theorem win2 (t : Fin cfg0.N) (i : Fin 256) (k : Fin 1024) :
    X0_2 m c t (ix3 0 i k) = (m (c, main_arg0) : FVec Ideal S2x4096x14592 .f32) (ix3 (seqOf t) (rowOf t i) ⟨6144 + k.val, by omega⟩) := by
  rw [← entry_z m c]
  unfold X0_2 Pipeline.Window.fill
  rw [dif_pos (moved0_2 t _)]
  blk_ext [iblk, (idx_all t).2.1, rowOf, seqOf]

/-- The index queries' columns. -/
theorem win3 (t : Fin cfg0.N) (i : Fin 256) (k : Fin 2048) :
    X0_3 m c t (ix3 0 i k) = (m (c, main_arg0) : FVec Ideal S2x4096x14592 .f32) (ix3 (seqOf t) (rowOf t i) ⟨8192 + k.val, by omega⟩) := by
  rw [← entry_z m c]
  unfold X0_3 Pipeline.Window.fill
  rw [dif_pos (moved0_3 t _)]
  blk_ext [iblk, (idx_all t).2.2.1, rowOf, seqOf]

/-- The table of cosines that the host makes. -/
theorem entry_cos (p : Fin 4096) (k : Fin 128) : (V m c main_v17 : FVec Ideal S4096x128 .f32) (ix2 p k) = Lay.cosRow (posOf p.val) k := by
  unfold V
  simp only [hostOps0, List.flatten_cons, List.flatten_nil, List.append_nil, List.cons_append, List.nil_append]
  entry_read
  unfold Lay.cosRow Lay.ang posOf
  pointwise []

/-- The table of signed sines that the host makes. -/
theorem entry_sin (p : Fin 4096) (k : Fin 128) : (V m c main_v19 : FVec Ideal S4096x128 .f32) (ix2 p k) = Lay.sinRow (posOf p.val) k := by
  unfold V
  simp only [hostOps0, List.flatten_cons, List.flatten_nil, List.append_nil, List.cons_append, List.nil_append]
  entry_read
  unfold Lay.sinRow Lay.ang posOf
  pointwise []

/-- The gain, as a row. -/
theorem entry_gain (k : Fin 128) : (V m c main_v21 : FVec Ideal S1x128 .f32) (ix2 0 k) = (m (c, main_arg2) : FVec Ideal S128 .f32) (ix1 k) := by
  unfold V
  simp only [hostOps0, List.flatten_cons, List.flatten_nil, List.append_nil, List.cons_append, List.nil_append]
  entry_read
  pointwise []

/-- The cosines that a row of a point reads. -/
theorem cos_at (t : Fin cfg0.N) (i : Fin 256) : (fun d => (iblk m c 6 t : FVec Ideal S256x128 .f32) (ix2 i d)) = Lay.cosRow (posOf (rowOf t i).val) :=
  funext fun d => (win6 (V m c main_v17) t i d).trans (entry_cos m c _ d)

/-- The sines that a row of a point reads. -/
theorem sin_at (t : Fin cfg0.N) (i : Fin 256) : (fun d => (iblk m c 7 t : FVec Ideal S256x128 .f32) (ix2 i d)) = Lay.sinRow (posOf (rowOf t i).val) :=
  funext fun d => (win7 (V m c main_v19) t i d).trans (entry_sin m c _ d)

/-- The gain that a point reads. -/
theorem gain_at (t : Fin cfg0.N) : (fun d => (iblk m c 9 t : FVec Ideal S1x128 .f32) (ix2 0 d)) = fun d => (m (c, main_arg2) : FVec Ideal S128 .f32) (ix1 d) :=
  funext fun d => (win9 (V m c main_v21) t d).trans (entry_gain m c d)

/-- The keys of a row of a point. -/
theorem key_at (t : Fin cfg0.N) (i : Fin 256) (k : Fin 1024) :
    Lay.turn (fun d => (iblk m c 6 t : FVec Ideal S256x128 .f32) (ix2 i d)) (fun d => (iblk m c 7 t : FVec Ideal S256x128 .f32) (ix2 i d))
        (Lay.rmsHead (head (fun d => X0_1 m c t (ix3 0 i d)) k (by decide)) (fun d => (iblk m c 9 t : FVec Ideal S1x128 .f32) (ix2 0 d)))
        ⟨k.val % 128, Nat.mod_lt _ (by decide)⟩
      = keyF (m (c, main_arg0)) (m (c, main_arg2)) (seqOf t) (rowOf t i) k := by
  rw [cos_at, sin_at, gain_at, Lay.turn_eq]
  unfold keyF headOf
  simp only [win1]

/-- The index queries of a row of a point. -/
theorem idxq_at (t : Fin cfg0.N) (i : Fin 256) (k : Fin 2048) :
    Lay.turn (fun d => (iblk m c 6 t : FVec Ideal S256x128 .f32) (ix2 i d)) (fun d => (iblk m c 7 t : FVec Ideal S256x128 .f32) (ix2 i d))
        (head (fun d => X0_3 m c t (ix3 0 i d)) k (by decide)) ⟨k.val % 128, Nat.mod_lt _ (by decide)⟩
      = idxqF (m (c, main_arg0)) (seqOf t) (rowOf t i) k := by
  rw [cos_at, sin_at, Lay.turn_eq]
  unfold idxqF headOf
  simp only [win3]

/-- The index keys of a row of a point. -/
theorem idxk_at (t : Fin cfg0.N) (i : Fin 256) (k : Fin 128) :
    ((outsAt0 m c t).2.2.2.2.2.2.1 : FVec Ideal S1x256x128 .f32) (ix3 0 i k) = idxkF (m (c, main_arg0)) (seqOf t) (rowOf t i) k := by
  rw [ikey_out, cos_at, sin_at, Lay.turn_eq]
  unfold idxkF
  exact congrArg (fun x => Lay.rot _ x k) (funext fun d => (win4 (V m c main_arg0) t i d).trans (congrFun (entry_z m c) _))

/-- The keys' array. -/
theorem final_key : (dats m 0 c).arrAt 11 cfg0.N = fun j => keyF (m (c, main_arg0)) (m (c, main_arg2)) (j 0) (j 1) (j 2) := by
  refine (dats m 0 c).arrAt_eq_of_covers 11 _ (by decide +kernel) fun t hf y => ?_
  blk_simp
  rw [after0_11]
  have e0 : (win0_11.blk t).view.emb y 0 = seqOf t := Fin.ext (by blk_simp [(idx_all t).2.2.2.2.2.2.2.1]; simp only [seqOf])
  have e1 : (win0_11.blk t).view.emb y 1 = rowOf t (y 1) := Fin.ext (by blk_simp [(idx_all t).2.2.2.2.2.2.2.1]; simp only [rowOf]; omega)
  have e2 : (win0_11.blk t).view.emb y 2 = y 2 := Fin.ext (by blk_simp [(idx_all t).2.2.2.2.2.2.2.1])
  rw [e0, e1, e2]
  exact (congrFun (key_out m c t) y).trans (key_at m c t (y 1) (y 2))

/-- The values' array. -/
theorem final_val : (dats m 0 c).arrAt 12 cfg0.N = fun j => valF (m (c, main_arg0)) (j 0) (j 1) (j 2) := by
  refine (dats m 0 c).arrAt_eq_of_covers 12 _ (by decide +kernel) fun t hf y => ?_
  blk_simp
  rw [after0_12]
  have e0 : (win0_12.blk t).view.emb y 0 = seqOf t := Fin.ext (by blk_simp [(idx_all t).2.2.2.2.2.2.2.2.1]; simp only [seqOf])
  have e1 : (win0_12.blk t).view.emb y 1 = rowOf t (y 1) := Fin.ext (by blk_simp [(idx_all t).2.2.2.2.2.2.2.2.1]; simp only [rowOf]; omega)
  have e2 : (win0_12.blk t).view.emb y 2 = y 2 := Fin.ext (by blk_simp [(idx_all t).2.2.2.2.2.2.2.2.1])
  rw [e0, e1, e2]
  exact (congrFun (val_out m c t) y).trans (win2 m c t (y 1) (y 2))

/-- The index queries' array. -/
theorem final_idxq : (dats m 0 c).arrAt 15 cfg0.N = fun j => idxqF (m (c, main_arg0)) (j 0) (j 1) (j 2) := by
  refine (dats m 0 c).arrAt_eq_of_covers 15 _ (by decide +kernel) fun t hf y => ?_
  blk_simp
  rw [after0_15]
  have e0 : (win0_15.blk t).view.emb y 0 = seqOf t := Fin.ext (by blk_simp [(idx_all t).2.2.2.2.2.2.2.2.2.1]; simp only [seqOf])
  have e1 : (win0_15.blk t).view.emb y 1 = rowOf t (y 1) := Fin.ext (by blk_simp [(idx_all t).2.2.2.2.2.2.2.2.2.1]; simp only [rowOf]; omega)
  have e2 : (win0_15.blk t).view.emb y 2 = y 2 := Fin.ext (by blk_simp [(idx_all t).2.2.2.2.2.2.2.2.2.1])
  rw [e0, e1, e2]
  exact (congrFun (rot_out m c t) y).trans (idxq_at m c t (y 1) (y 2))

/-- The index keys' array. -/
theorem final_idxk : (dats m 0 c).arrAt 16 cfg0.N = fun j => idxkF (m (c, main_arg0)) (j 0) (j 1) (j 2) := by
  refine (dats m 0 c).arrAt_eq_of_covers 16 _ (by decide +kernel) fun t hf y => ?_
  blk_simp
  rw [after0_16]
  have e0 : (win0_16.blk t).view.emb y 0 = seqOf t := Fin.ext (by blk_simp [(idx_all t).2.2.2.2.2.2.2.2.2.2]; simp only [seqOf])
  have e1 : (win0_16.blk t).view.emb y 1 = rowOf t (y 1) := Fin.ext (by blk_simp [(idx_all t).2.2.2.2.2.2.2.2.2.2]; simp only [rowOf]; omega)
  have e2 : (win0_16.blk t).view.emb y 2 = y 2 := Fin.ext (by blk_simp [(idx_all t).2.2.2.2.2.2.2.2.2.2])
  rw [e0, e1, e2]
  exact (congrArg (outsAt0 m c t).2.2.2.2.2.2.1 (tile_idx y)).trans (idxk_at m c t (y 1) (y 2))

end AttPrep
-- ==== Proof.AttPrep.RefPoints.lean ====
module
public import proofs.«01_k».proof.Proof.AttPrep.Final
public import proofs.«01_k».proof.Proof.Gen.AttPrepRefIdeal.Run

/-! The pieces of the plain preparation of the attention, at an index. -/

@[expose] public section

set_option maxRecDepth 16384

noncomputable section

namespace AttPrep.Ref
open Idealize.ShloMosaic Idealize.ShloMosaic.TcCoe Idealize.SL.Sem Idealize.ShloMosaic.StableHlo
open Cert.AttPrepRefIdeal Cert.AttPrepRefIdeal.Gen

/-- The angles of every position. -/
def angT : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32))))))

/-- The angles, at an index. -/
theorem ang_at (t : Fin 4096) (k : Fin 64) : angT (ix2 t k) = Lay.ang (posOf t.val) k.val := by
  unfold angT Lay.ang posOf
  pointwise []

/-- Eight heads rotated, at an index. -/
theorem rot8_at (Y : FVec Ideal S2x4096x8x128 .f32) (b : Fin 2) (t : Fin 4096) (k : Fin 1024) :
    ((shapeCast S2x4096x1024 (concatenate S2x4096x8x128 3 [⟨S2x4096x8x64, (subf (mulf (extractStridedSlice S2x4096x8x64 ![0, 0, 0, 0] Y slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x8x64 ![0, 0, 0, 64] Y slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩,
      ⟨S2x4096x8x64, (addf (mulf (extractStridedSlice S2x4096x8x64 ![0, 0, 0, 64] Y slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x8x64 ![0, 0, 0, 0] Y slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩] concatenates_S2x4096x8x64_S2x4096x8x64_S2x4096x8x128_d3) shapeCasts_S2x4096x8x128_S2x4096x1024 : FVec Ideal S2x4096x1024 .f32)) (ix3 b t k)
      = Lay.rot (posOf t.val) (fun d => Y (ix4 b t ⟨k.val / 128, by omega⟩ d)) ⟨k.val % 128, Nat.mod_lt _ (by decide)⟩ := by
  unfold Lay.rot
  pointwise []
  simp only [ang_at]
  split <;> rename_i h
  · simp only [Nat.add_comm 64]
  · simp only [show 64 + (k.val % 128 - 64) = k.val % 128 by omega]

/-- Sixteen heads rotated, at an index. -/
theorem rot16_at (Y : FVec Ideal S2x4096x16x128 .f32) (b : Fin 2) (t : Fin 4096) (k : Fin 2048) :
    ((shapeCast S2x4096x2048 (concatenate S2x4096x16x128 3 [⟨S2x4096x16x64, (subf (mulf (extractStridedSlice S2x4096x16x64 ![0, 0, 0, 0] Y slices_S2x4096x16x128_S2x4096x16x64_0_0_0_0) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x16x64 ![0, 0, 0, 64] Y slices_S2x4096x16x128_S2x4096x16x64_0_0_0_64) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩,
      ⟨S2x4096x16x64, (addf (mulf (extractStridedSlice S2x4096x16x64 ![0, 0, 0, 64] Y slices_S2x4096x16x128_S2x4096x16x64_0_0_0_64) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x16x64 ![0, 0, 0, 0] Y slices_S2x4096x16x128_S2x4096x16x64_0_0_0_0) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩] concatenates_S2x4096x16x64_S2x4096x16x64_S2x4096x16x128_d3) shapeCasts_S2x4096x16x128_S2x4096x2048 : FVec Ideal S2x4096x2048 .f32)) (ix3 b t k)
      = Lay.rot (posOf t.val) (fun d => Y (ix4 b t ⟨k.val / 128, by omega⟩ d)) ⟨k.val % 128, Nat.mod_lt _ (by decide)⟩ := by
  unfold Lay.rot
  pointwise []
  simp only [ang_at]
  split <;> rename_i h
  · simp only [Nat.add_comm 64]
  · simp only [show 64 + (k.val % 128 - 64) = k.val % 128 by omega]

/-- One head rotated, at an index. -/
theorem rot1_at (Y : FVec Ideal S2x4096x1x128 .f32) (b : Fin 2) (t : Fin 4096) (k : Fin 128) :
    ((shapeCast S2x4096x128 (concatenate S2x4096x1x128 3 [⟨S2x4096x1x64, (subf (mulf (extractStridedSlice S2x4096x1x64 ![0, 0, 0, 0] Y slices_S2x4096x1x128_S2x4096x1x64_0_0_0_0) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x1x64 ![0, 0, 0, 64] Y slices_S2x4096x1x128_S2x4096x1x64_0_0_0_64) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩,
      ⟨S2x4096x1x64, (addf (mulf (extractStridedSlice S2x4096x1x64 ![0, 0, 0, 64] Y slices_S2x4096x1x128_S2x4096x1x64_0_0_0_64) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 (Host.cos angT))))) (mulf (extractStridedSlice S2x4096x1x64 ![0, 0, 0, 0] Y slices_S2x4096x1x128_S2x4096x1x64_0_0_0_0) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 (Host.sin angT))))))⟩] concatenates_S2x4096x1x64_S2x4096x1x64_S2x4096x1x128_d3) shapeCasts_S2x4096x1x128_S2x4096x128 : FVec Ideal S2x4096x128 .f32)) (ix3 b t k)
      = Lay.rot (posOf t.val) (fun d => Y (ix4 b t 0 d)) k := by
  unfold Lay.rot
  pointwise []
  simp only [ang_at]
  split <;> rename_i h
  · simp only [Nat.add_comm 64]
  · simp only [show 64 + (k.val - 64) = k.val by omega, Fin.eta]

/-- The keys' heads normalised. -/
def normT (z : FVec Ideal S2x4096x14592 .f32) (kn : FVec Ideal S128 .f32) : FVec Ideal S2x4096x8x128 .f32 :=
  mulf (mulf (shapeCast S2x4096x8x128 (extractStridedSlice S2x4096x1024 ![0, 0, 5120] z slices_S2x4096x14592_S2x4096x1024_0_0_5120) shapeCasts_S2x4096x1024_S2x4096x8x128) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (shapeCast S2x4096x8x128 (extractStridedSlice S2x4096x1024 ![0, 0, 5120] z slices_S2x4096x14592_S2x4096x1024_0_0_5120) shapeCasts_S2x4096x1024_S2x4096x8x128) (shapeCast S2x4096x8x128 (extractStridedSlice S2x4096x1024 ![0, 0, 5120] z slices_S2x4096x14592_S2x4096x1024_0_0_5120) shapeCasts_S2x4096x1024_S2x4096x8x128)) (constant (F := Ideal) S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 kn))

/-- The keys' heads normalised, at an index. -/
theorem rms_at (z : FVec Ideal S2x4096x14592 .f32) (kn : FVec Ideal S128 .f32) (b : Fin 2) (t : Fin 4096) (k : Fin 1024) (d : Fin 128) :
    normT z kn (ix4 b t ⟨k.val / 128, by omega⟩ d)
      = Lay.rmsHead (headOf z 5120 1024 (by decide) (by decide) b t k) (fun d => kn (ix1 d)) d := by
  unfold normT Lay.rmsHead headOf head
  pointwise []

/-- The index queries' heads, at an index. -/
theorem iq_at (z : FVec Ideal S2x4096x14592 .f32) (b : Fin 2) (t : Fin 4096) (k : Fin 2048) (d : Fin 128) :
    (shapeCast S2x4096x16x128 (extractStridedSlice S2x4096x2048 ![0, 0, 8192] z slices_S2x4096x14592_S2x4096x2048_0_0_8192) shapeCasts_S2x4096x2048_S2x4096x16x128 : FVec Ideal S2x4096x16x128 .f32) (ix4 b t ⟨k.val / 128, by omega⟩ d)
      = headOf z 8192 2048 (by decide) (by decide) b t k d := by
  unfold headOf head
  pointwise []

/-- The index key's head, at an index. -/
theorem ik_at (z : FVec Ideal S2x4096x14592 .f32) (b : Fin 2) (t : Fin 4096) (d : Fin 128) :
    (broadcastInDim S2x4096x1x128 ![0, 1, 3] bcast_S2x4096x128_S2x4096x1x128_0_1_3 (extractStridedSlice S2x4096x128 ![0, 0, 14336] z slices_S2x4096x14592_S2x4096x128_0_0_14336) : FVec Ideal S2x4096x1x128 .f32) (ix4 b t 0 d)
      = z (ix3 b t ⟨14336 + d.val, by omega⟩) := by
  pointwise []

/-- The cast of the index queries keeps their reals. -/
theorem cast_at (x : FVec Ideal S2x4096x2048 .f32) (i : S2x4096x2048.Idx) : (truncf .bf16 x bitsLt_bf16_f32 : FVec Ideal S2x4096x2048 .bf16) i = x i := rfl

end AttPrep.Ref
-- ==== Proof.AttPrep.Ref.lean ====
module
public import proofs.«01_k».proof.Proof.AttPrep.RefPoints
public import proofs.«01_k».proof.Proof.Gen.AttPrepRefIdeal.Run

/-! What the plain preparation of the attention leaves in its arrays. -/

@[expose] public section

set_option maxRecDepth 16384

noncomputable section

namespace AttPrep.Ref
open Idealize.ShloMosaic Idealize.ShloMosaic.TcCoe Idealize.SL.Sem Idealize.ShloMosaic.StableHlo
open Cert.AttPrepRefIdeal Cert.AttPrepRefIdeal.Gen

variable (m : (ℓ : Loc nD τ sig) → Buf (Elt Ideal) ℓ) (c : Dev nD)

/-- The reference's keys. -/
theorem ref_key : Cert.AttPrepRefIdeal.Value.res_main_v130 m c = fun j => keyF (m (c, main_arg0)) (m (c, main_arg2)) (j 0) (j 1) (j 2) := by
  funext j
  idx_vars j
  unfold Cert.AttPrepRefIdeal.Value.res_main_v130
  refine (rot8_at (normT (m (c, main_arg0)) (m (c, main_arg2))) j0 j1 j2).trans ?_
  unfold keyF
  exact congrArg (fun x => Lay.rot _ x _) (funext fun d => rms_at (m (c, main_arg0)) (m (c, main_arg2)) j0 j1 j2 d)

/-- The reference's index queries. -/
theorem ref_idxq : Cert.AttPrepRefIdeal.Value.res_main_v133 m c = fun j => idxqF (m (c, main_arg0)) (j 0) (j 1) (j 2) := by
  funext j
  idx_vars j
  unfold Cert.AttPrepRefIdeal.Value.res_main_v133
  refine (cast_at _ _).trans ((rot16_at _ j0 j1 j2).trans ?_)
  unfold idxqF
  exact congrArg (fun x => Lay.rot _ x _) (funext fun d => iq_at (m (c, main_arg0)) j0 j1 j2 d)

/-- The reference's index keys. -/
theorem ref_idxk : Cert.AttPrepRefIdeal.Value.res_main_v129 m c = fun j => idxkF (m (c, main_arg0)) (j 0) (j 1) (j 2) := by
  funext j
  idx_vars j
  unfold Cert.AttPrepRefIdeal.Value.res_main_v129
  refine (rot1_at _ j0 j1 j2).trans ?_
  unfold idxkF
  exact congrArg (fun x => Lay.rot _ x _) (funext fun d => ik_at (m (c, main_arg0)) j0 j1 d)

/-- The reference's values, which it reshapes to heads and back. -/
theorem ref_val (z : FVec Ideal S2x4096x14592 .f32) :
    (shapeCast S2x4096x1024 (shapeCast S2x4096x8x128 (extractStridedSlice S2x4096x1024 ![0, 0, 6144] z slices_S2x4096x14592_S2x4096x1024_0_0_6144) shapeCasts_S2x4096x1024_S2x4096x8x128) shapeCasts_S2x4096x8x128_S2x4096x1024 : FVec Ideal S2x4096x1024 .f32)
      = fun j => valF z (j 0) (j 1) (j 2) := by
  funext j
  idx_vars j
  unfold valF
  pointwise []

end AttPrep.Ref
-- ==== Proof.Lay.Step.lean ====
module
public import Idealize.ShloMosaic.PureOps.Ideal
public import proofs.«01_k».proof.Proof.Lay.Rope

/-! One step of the delta rule for one head, as it is written plainly and as the decoding kernel writes it. -/

@[expose] public section

noncomputable section

namespace Lay
open Idealize.ShloMosaic

/-- What one head of one sequence brings to a step: query, key, value, log decay, gate and state. -/
structure Head where
  q : Fin 128 → EReal
  k : Fin 128 → EReal
  v : Fin 128 → EReal
  g : EReal
  b : EReal
  s : Fin 128 → Fin 128 → EReal

/-- All of them are real numbers. -/
structure Head.Finite (H : Head) : Prop where
  q : ∀ i, ∃ r : ℝ, H.q i = (r : EReal)
  k : ∀ i, ∃ r : ℝ, H.k i = (r : EReal)
  v : ∀ i, ∃ r : ℝ, H.v i = (r : EReal)
  g : ∃ r : ℝ, H.g = (r : EReal)
  b : ∃ r : ℝ, H.b = (r : EReal)
  s : ∀ i j, ∃ r : ℝ, H.s i j = (r : EReal)

variable (H : Head)

/-- The state decayed. -/
def Head.dec (i j : Fin 128) : EReal := H.s i j * Ideal.exp H.g

/-- The state after the step. -/
def Head.next (i j : Fin 128) : EReal := H.dec i j + H.k i * (H.b * (H.v j - ∑ a : Fin 128, H.k a * H.dec a j))

/-- The output of the step. -/
def Head.out (j : Fin 128) : EReal := ∑ a : Fin 128, H.q a * H.next a j

/-- The correction, as the kernel writes it: the prediction is made from the state before its decay. -/
def Head.vnew (j : Fin 128) : EReal := H.b * H.v j - H.b * Ideal.exp H.g * ∑ a : Fin 128, H.k a * H.s a j

/-- The state after the step, as the kernel writes it. -/
def Head.nextK (i j : Fin 128) : EReal := H.s i j * Ideal.exp H.g + H.k i * H.vnew j

/-- The output of the step, as the kernel writes it. -/
def Head.outK (j : Fin 128) : EReal :=
  Ideal.exp H.g * (∑ a : Fin 128, H.q a * H.s a j) + (∑ a : Fin 128, H.q a * H.k a) * H.vnew j

/-- An output row normalised, with a gain, and gated by silu. -/
def gated (o g z : Fin 128 → EReal) (j : Fin 128) : EReal :=
  rmsHead o g j * (z j * Ideal.div (Ideal.ofBits .f32 1065353216#32) (Ideal.ofBits .f32 1065353216#32 + Ideal.exp (-z j)))

/-- A sum of reals, taken among the extended reals. -/
theorem sum_coe (f : Fin 128 → ℝ) : (∑ i, ((f i : ℝ) : EReal)) = ((∑ i, f i : ℝ) : EReal) := by
  have h : ∀ s : Finset (Fin 128), (∑ i ∈ s, ((f i : ℝ) : EReal)) = ((∑ i ∈ s, f i : ℝ) : EReal) := fun s => by
    classical
    induction s using Finset.induction_on with
    | empty => simp
    | insert a s ha ih => rw [Finset.sum_insert ha, Finset.sum_insert ha, ih, EReal.coe_add]
  exact h _

/-- Over real numbers both ways of writing the step agree. -/
theorem Head.agree (hH : H.Finite) : H.nextK = H.next ∧ H.outK = H.out := by
  obtain ⟨q, k, v, g, b, s⟩ := H
  choose q' hq using hH.q
  choose k' hk using hH.k
  choose v' hv using hH.v
  obtain ⟨g', hg⟩ := hH.g
  obtain ⟨b', hb⟩ := hH.b
  choose s' hs using hH.s
  dsimp only at hq hk hv hg hb hs
  obtain rfl : q = fun i => (q' i : EReal) := funext hq
  obtain rfl : k = fun i => (k' i : EReal) := funext hk
  obtain rfl : v = fun i => (v' i : EReal) := funext hv
  obtain rfl : s = fun i j => (s' i j : EReal) := funext fun i => funext fun j => hs i j
  subst hg hb
  have e : ∀ j, Head.vnew ⟨fun i => (q' i : EReal), fun i => (k' i : EReal), fun i => (v' i : EReal), (g' : EReal), (b' : EReal), fun i j => (s' i j : EReal)⟩ j
      = ((b' * (v' j - ∑ a, k' a * (s' a j * Real.exp g')) : ℝ) : EReal) := fun j => by
    unfold Head.vnew
    simp only [Ideal.exp_coe, ← EReal.coe_mul, sum_coe, ← EReal.coe_sub]
    congr 1
    rw [mul_sub, Finset.mul_sum, Finset.mul_sum]
    congr 1
    exact Finset.sum_congr rfl fun a _ => by ring
  have e' : Head.nextK ⟨fun i => (q' i : EReal), fun i => (k' i : EReal), fun i => (v' i : EReal), (g' : EReal), (b' : EReal), fun i j => (s' i j : EReal)⟩
      = Head.next ⟨fun i => (q' i : EReal), fun i => (k' i : EReal), fun i => (v' i : EReal), (g' : EReal), (b' : EReal), fun i j => (s' i j : EReal)⟩ := by
    funext i j
    unfold Head.nextK Head.next Head.dec
    rw [e]
    simp only [Ideal.exp_coe, ← EReal.coe_mul, sum_coe, ← EReal.coe_sub]
  refine ⟨e', ?_⟩
  funext j
  unfold Head.outK Head.out
  rw [← e', e]
  unfold Head.nextK
  simp only [e]
  simp only [Ideal.exp_coe, ← EReal.coe_mul, sum_coe, ← EReal.coe_add]
  congr 1
  rw [Finset.mul_sum, Finset.sum_mul, ← Finset.sum_add_distrib]
  exact Finset.sum_congr rfl fun a _ => by ring

end Lay
-- ==== Proof.Step.Tiles.lean ====
module
public import proofs.«01_k».proof.Proof.Gen.StepIdeal.Skeleton
public import proofs.«01_k».proof.Proof.Lay.Step
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! The two tiles that the decoding step makes for one head of one sequence. -/

@[expose] public section

set_option maxRecDepth 16384

noncomputable section

namespace Step
open Idealize.ShloMosaic Idealize.ShloMosaic.TcCoe Idealize.SL.Sem Idealize.ShloMosaic.StableHlo
open Cert.StepIdeal Cert.StepIdeal.Gen

/-- A head's new state, as the body computes it. -/
def stTile (k v : FVec Ideal S1x128 .f32) (g b : FVec Ideal S1x1 .f32) (s : FVec Ideal S1x1x128x128 .f32) : FVec Ideal S1x1x128x128 .f32 :=
  k0_pay22 (F := Ideal) (k0_pay1 (F := Ideal) k) (k0_pay18 (F := Ideal) s) v (k0_pay19 (F := Ideal) g) b (k0_pay20 (F := Ideal) (k0_pay1 (F := Ideal) k) s)

/-- A head's output row, as the body computes it. -/
def outTile (q k v z gain : FVec Ideal S1x128 .f32) (g b : FVec Ideal S1x1 .f32) (s : FVec Ideal S1x1x128x128 .f32) : FVec Ideal S1x128 .f32 :=
  k0_pay25 (F := Ideal) (k0_pay23 (F := Ideal) (k0_pay2 (F := Ideal) q) (k0_pay18 (F := Ideal) s) q k v (k0_pay19 (F := Ideal) g) b
    (k0_pay20 (F := Ideal) (k0_pay1 (F := Ideal) k) s) gain) z (k0_pay24 (F := Ideal) z)

/-- The head that a tile's loads hold. -/
def tileHead (q k v : FVec Ideal S1x128 .f32) (g b : FVec Ideal S1x1 .f32) (s : FVec Ideal S1x1x128x128 .f32) : Lay.Head :=
  ⟨fun d => q (ix2 0 d), fun d => k (ix2 0 d), fun d => v (ix2 0 d), g (ix2 0 0), b (ix2 0 0), fun i j => s (ix4 0 0 i j)⟩

/-- The new state, at an index. -/
theorem stTile_at (q k v : FVec Ideal S1x128 .f32) (g b : FVec Ideal S1x1 .f32) (s : FVec Ideal S1x1x128x128 .f32) (i j : Fin 128) :
    stTile k v g b s (ix4 0 0 i j) = (tileHead q k v g b s).nextK i j := by
  unfold stTile tileHead Lay.Head.nextK Lay.Head.vnew
  pointwise [k0_pay22, k0_pay21, k0_pay20, k0_pay19, k0_pay18, k0_pay1]

/-- The output row, at an index. -/
theorem outTile_at (q k v z gain : FVec Ideal S1x128 .f32) (g b : FVec Ideal S1x1 .f32) (s : FVec Ideal S1x1x128x128 .f32) (j : Fin 128) :
    outTile q k v z gain g b s (ix2 0 j) = Lay.gated (tileHead q k v g b s).outK (fun d => gain (ix2 0 d)) (fun d => z (ix2 0 d)) j := by
  unfold outTile tileHead Lay.gated Lay.rmsHead Lay.Head.outK Lay.Head.vnew
  pointwise [k0_pay25, k0_pay24, k0_pay23, k0_pay21, k0_pay20, k0_pay19, k0_pay18, k0_pay1, k0_pay2]
  simp only [zero_sub]

end Step
-- ==== Proof.Step.Pieces.lean ====
module
public import proofs.«01_k».proof.Proof.Step.Tiles

/-! A tile as a part of the block that a point stores. -/

@[expose] public section

set_option maxRecDepth 16384

noncomputable section

namespace Step
open Idealize.ShloMosaic Idealize.ShloMosaic.TcCoe Idealize.SL.Sem Idealize.ShloMosaic.StableHlo
open Cert.StepIdeal Cert.StepIdeal.Gen

/-- Head `h` of sequence `r` of a point's blocks. -/
def blockHead (Q K V : FVec Ideal S8x1024 .f32) (B : FVec Ideal S8x128 .f32) (S : FVec Ideal S8x8x128x128 .f32) (r h : Fin 8) : Lay.Head :=
  ⟨fun d => Q (ix2 r ⟨128 * h.val + d.val, by omega⟩), fun d => K (ix2 r ⟨128 * h.val + d.val, by omega⟩),
    fun d => V (ix2 r ⟨128 * h.val + d.val, by omega⟩), B (ix2 r ⟨h.val, by omega⟩), B (ix2 r ⟨8 + h.val, by omega⟩), fun i j => S (ix4 r h i j)⟩

/-- The output of sequence `r` of a point's blocks, at column `k`. -/
def outRow (Q K V Z : FVec Ideal S8x1024 .f32) (B : FVec Ideal S8x128 .f32) (S : FVec Ideal S8x8x128x128 .f32) (G : FVec Ideal S1x128 .f32) (r : Fin 8) (k : Fin 1024) : EReal :=
  Lay.gated (blockHead Q K V B S r ⟨k.val / 128, by omega⟩).outK (fun d => G (ix2 0 d)) (fun d => Z (ix2 r ⟨128 * (k.val / 128) + d.val, by omega⟩))
    ⟨k.val % 128, Nat.mod_lt _ (by decide)⟩

/-- What a load of one head's columns reads. -/
theorem ld_row (X : FVec Ideal S8x1024 .f32) (r a : ℕ) (h : ∀ k, (![r, a] : Fin 2 → ℕ) k + (![1, 128] : Fin 2 → ℕ) k ≤ S8x1024.size k) (d : Fin 128)
    (i : Fin 8) (k : Fin 1024) (hi : i.val = r) (hk : k.val = a + d.val) :
    View.ld (Val := Elt Ideal) (e' := .f32) X (Rect.unit (s := S8x1024) ![r, a] ![1, 128] h) (ix2 0 d) = X (ix2 i k) := by
  refine congrArg X (funext fun e => ?_)
  fin_cases e
  · exact Fin.ext (by show r + 1 * 0 = i.val; omega)
  · exact Fin.ext (by show a + 1 * d.val = k.val; omega)

/-- What a load of one gate reads. -/
theorem ld_gate (X : FVec Ideal S8x128 .f32) (r a : ℕ) (h : ∀ k, (![r, a] : Fin 2 → ℕ) k + (![1, 1] : Fin 2 → ℕ) k ≤ S8x128.size k)
    (i : Fin 8) (k : Fin 128) (hi : i.val = r) (hk : k.val = a) :
    View.ld (Val := Elt Ideal) (e' := .f32) X (Rect.unit (s := S8x128) ![r, a] ![1, 1] h) (ix2 0 0) = X (ix2 i k) := by
  refine congrArg X (funext fun e => ?_)
  fin_cases e
  · exact Fin.ext (by show r + 1 * 0 = i.val; omega)
  · exact Fin.ext (by show a + 1 * 0 = k.val; omega)

/-- What a load of one head's state reads. -/
theorem ld_state (X : FVec Ideal S8x8x128x128 .f32) (r a : ℕ) (h : ∀ k, (![r, a, 0, 0] : Fin 4 → ℕ) k + (![1, 1, 128, 128] : Fin 4 → ℕ) k ≤ S8x8x128x128.size k)
    (i k : Fin 8) (u w : Fin 128) (hi : i.val = r) (hk : k.val = a) :
    View.ld (Val := Elt Ideal) (e' := .f32) X (Rect.unit (s := S8x8x128x128) ![r, a, 0, 0] ![1, 1, 128, 128] h) (ix4 0 0 u w) = X (ix4 i k u w) := by
  refine congrArg X (funext fun e => ?_)
  fin_cases e
  · exact Fin.ext (by show r + 1 * 0 = i.val; omega)
  · exact Fin.ext (by show a + 1 * 0 = k.val; omega)
  · exact Fin.ext (by show 0 + 1 * u.val = u.val; omega)
  · exact Fin.ext (by show 0 + 1 * w.val = w.val; omega)

/-- The loads of one head hold that head of the blocks. -/
theorem head_eq (Q K V : FVec Ideal S8x1024 .f32) (B : FVec Ideal S8x128 .f32) (S : FVec Ideal S8x8x128x128 .f32) (r a hh b : ℕ)
    (h1 : ∀ k, (![r, a] : Fin 2 → ℕ) k + (![1, 128] : Fin 2 → ℕ) k ≤ S8x1024.size k) (h2 : ∀ k, (![r, hh] : Fin 2 → ℕ) k + (![1, 1] : Fin 2 → ℕ) k ≤ S8x128.size k)
    (h3 : ∀ k, (![r, b] : Fin 2 → ℕ) k + (![1, 1] : Fin 2 → ℕ) k ≤ S8x128.size k)
    (h4 : ∀ k, (![r, hh, 0, 0] : Fin 4 → ℕ) k + (![1, 1, 128, 128] : Fin 4 → ℕ) k ≤ S8x8x128x128.size k)
    (i k : Fin 8) (hi : i.val = r) (hk : k.val = hh) (ha : a = 128 * hh) (hb : b = 8 + hh) :
    tileHead (View.ld (Val := Elt Ideal) (e' := .f32) Q (Rect.unit (s := S8x1024) ![r, a] ![1, 128] h1)) (View.ld (Val := Elt Ideal) (e' := .f32) K (Rect.unit (s := S8x1024) ![r, a] ![1, 128] h1))
        (View.ld (Val := Elt Ideal) (e' := .f32) V (Rect.unit (s := S8x1024) ![r, a] ![1, 128] h1)) (View.ld (Val := Elt Ideal) (e' := .f32) B (Rect.unit (s := S8x128) ![r, hh] ![1, 1] h2))
        (View.ld (Val := Elt Ideal) (e' := .f32) B (Rect.unit (s := S8x128) ![r, b] ![1, 1] h3)) (View.ld (Val := Elt Ideal) (e' := .f32) S (Rect.unit (s := S8x8x128x128) ![r, hh, 0, 0] ![1, 1, 128, 128] h4))
      = blockHead Q K V B S i k :=
  (Lay.Head.mk.injEq ..).mpr ⟨funext fun d => ld_row Q r a h1 d i _ hi (by show 128 * k.val + d.val = a + d.val; omega),
    funext fun d => ld_row K r a h1 d i _ hi (by show 128 * k.val + d.val = a + d.val; omega),
    funext fun d => ld_row V r a h1 d i _ hi (by show 128 * k.val + d.val = a + d.val; omega),
    ld_gate B r hh h2 i _ hi (by show k.val = hh; omega), ld_gate B r b h3 i _ hi (by show 8 + k.val = b; omega),
    funext fun u => funext fun w => ld_state S r hh h4 i k u w hi hk⟩

/-- An index of a tile of states. -/
theorem st_idx (x : S1x1x128x128.Idx) : x = ix4 0 0 (x 2) (x 3) := by
  funext a
  fin_cases a
  · exact Subsingleton.elim (α := Fin 1) _ _
  · exact Subsingleton.elim (α := Fin 1) _ _
  · rfl
  · rfl

/-- An index of an output tile. -/
theorem row_idx (x : S1x128.Idx) : x = ix2 0 (x 1) := by
  funext a
  fin_cases a
  · exact Subsingleton.elim (α := Fin 1) _ _
  · rfl

/-- A tile of states is the part of head `hh` of sequence `r`. -/
theorem st_piece (Q K V : FVec Ideal S8x1024 .f32) (B : FVec Ideal S8x128 .f32) (S : FVec Ideal S8x8x128x128 .f32) (r a hh b : ℕ)
    (h1 : ∀ k, (![r, a] : Fin 2 → ℕ) k + (![1, 128] : Fin 2 → ℕ) k ≤ S8x1024.size k) (h2 : ∀ k, (![r, hh] : Fin 2 → ℕ) k + (![1, 1] : Fin 2 → ℕ) k ≤ S8x128.size k)
    (h3 : ∀ k, (![r, b] : Fin 2 → ℕ) k + (![1, 1] : Fin 2 → ℕ) k ≤ S8x128.size k)
    (h4 : ∀ k, (![r, hh, 0, 0] : Fin 4 → ℕ) k + (![1, 1, 128, 128] : Fin 4 → ℕ) k ≤ S8x8x128x128.size k)
    (x : S1x1x128x128.Idx) (i k : Fin 8) (u w : Fin 128)
    (e0 : i.val = r + (x 0).val) (e1 : k.val = hh + (x 1).val) (e2 : u.val = 0 + (x 2).val) (e3 : w.val = 0 + (x 3).val) (ha : a = 128 * hh) (hb : b = 8 + hh) :
    stTile (View.ld (Val := Elt Ideal) (e' := .f32) K (Rect.unit (s := S8x1024) ![r, a] ![1, 128] h1))
        (View.ld (Val := Elt Ideal) (e' := .f32) V (Rect.unit (s := S8x1024) ![r, a] ![1, 128] h1)) (View.ld (Val := Elt Ideal) (e' := .f32) B (Rect.unit (s := S8x128) ![r, hh] ![1, 1] h2))
        (View.ld (Val := Elt Ideal) (e' := .f32) B (Rect.unit (s := S8x128) ![r, b] ![1, 1] h3)) (View.ld (Val := Elt Ideal) (e' := .f32) S (Rect.unit (s := S8x8x128x128) ![r, hh, 0, 0] ![1, 1, 128, 128] h4)) x
      = (blockHead Q K V B S i k).nextK u w := by
  have b0 : (x 0).val < 1 := (x 0).isLt
  have b1 : (x 1).val < 1 := (x 1).isLt
  obtain rfl : u = x 2 := Fin.ext (by omega)
  obtain rfl : w = x 3 := Fin.ext (by omega)
  rw [← head_eq Q K V B S r a hh b h1 h2 h3 h4 i k (by omega) (by omega) ha hb]
  exact (congrArg (stTile _ _ _ _ _) (st_idx x)).trans (stTile_at _ _ _ _ _ _ (x 2) (x 3))

/-- An output tile is the part of head `hh` of sequence `r`. -/
theorem out_piece (Q K V Z : FVec Ideal S8x1024 .f32) (B : FVec Ideal S8x128 .f32) (S : FVec Ideal S8x8x128x128 .f32) (G : FVec Ideal S1x128 .f32) (r a hh b : ℕ)
    (h1 : ∀ k, (![r, a] : Fin 2 → ℕ) k + (![1, 128] : Fin 2 → ℕ) k ≤ S8x1024.size k) (h2 : ∀ k, (![r, hh] : Fin 2 → ℕ) k + (![1, 1] : Fin 2 → ℕ) k ≤ S8x128.size k)
    (h3 : ∀ k, (![r, b] : Fin 2 → ℕ) k + (![1, 1] : Fin 2 → ℕ) k ≤ S8x128.size k)
    (h4 : ∀ k, (![r, hh, 0, 0] : Fin 4 → ℕ) k + (![1, 1, 128, 128] : Fin 4 → ℕ) k ≤ S8x8x128x128.size k)
    (x : S1x128.Idx) (i : Fin 8) (k : Fin 1024)
    (e0 : i.val = r + (x 0).val) (e1 : k.val = a + (x 1).val) (ha : a = 128 * hh) (hb : b = 8 + hh) :
    outTile (View.ld (Val := Elt Ideal) (e' := .f32) Q (Rect.unit (s := S8x1024) ![r, a] ![1, 128] h1)) (View.ld (Val := Elt Ideal) (e' := .f32) K (Rect.unit (s := S8x1024) ![r, a] ![1, 128] h1))
        (View.ld (Val := Elt Ideal) (e' := .f32) V (Rect.unit (s := S8x1024) ![r, a] ![1, 128] h1)) (View.ld (Val := Elt Ideal) (e' := .f32) Z (Rect.unit (s := S8x1024) ![r, a] ![1, 128] h1)) G
        (View.ld (Val := Elt Ideal) (e' := .f32) B (Rect.unit (s := S8x128) ![r, hh] ![1, 1] h2))
        (View.ld (Val := Elt Ideal) (e' := .f32) B (Rect.unit (s := S8x128) ![r, b] ![1, 1] h3)) (View.ld (Val := Elt Ideal) (e' := .f32) S (Rect.unit (s := S8x8x128x128) ![r, hh, 0, 0] ![1, 1, 128, 128] h4)) x
      = outRow Q K V Z B S G i k := by
  have b0 : (x 0).val < 1 := (x 0).isLt
  have b1 : (x 1).val < 128 := (x 1).isLt
  unfold outRow
  have e2 : (⟨k.val % 128, Nat.mod_lt _ (by decide)⟩ : Fin 128) = x 1 := Fin.ext (by show k.val % 128 = (x 1).val; omega)
  have hz : (fun d : Fin 128 => View.ld (Val := Elt Ideal) (e' := .f32) Z (Rect.unit (s := S8x1024) ![r, a] ![1, 128] h1) (ix2 0 d))
      = fun d => Z (ix2 i ⟨128 * (k.val / 128) + d.val, by omega⟩) :=
    funext fun d => ld_row Z r a h1 d i _ (by omega) (by show 128 * (k.val / 128) + d.val = a + d.val; omega)
  rw [e2, ← hz, ← head_eq Q K V B S r a hh b h1 h2 h3 h4 i ⟨k.val / 128, by omega⟩ (by omega) (by show k.val / 128 = hh; omega) ha hb]
  exact (congrArg (outTile _ _ _ _ _ _ _ _) (row_idx x)).trans (outTile_at _ _ _ _ _ _ _ _ (x 1))

end Step
-- ==== Proof.Step.Points.lean ====
module
public import proofs.«01_k».proof.Proof.Gen.StepIdeal.Value
public import proofs.«01_k».proof.Proof.Step.Pieces

/-! The states that a point of the decoding step stores, head by head. -/

@[expose] public section

set_option maxRecDepth 16384

noncomputable section

namespace Step
open Idealize.ShloMosaic Idealize.ShloMosaic.TcCoe Idealize.SL.Sem Idealize.ShloMosaic.StableHlo
open Cert.StepIdeal Cert.StepIdeal.Gen

variable (m : (ℓ : Loc nD τ sig) → Buf (Elt Ideal) ℓ) (c : Dev nD)

set_option maxHeartbeats 16000000 in
/-- The states that a point stores. -/
theorem st_out (t : Fin cfg0.N) :
    (outsAt0 m c t).2 = fun y => (blockHead (iblk m c 0 t) (iblk m c 1 t) (iblk m c 2 t) (iblk m c 4 t) (iblk m c 5 t) (y 0) (y 1)).nextK (y 2) (y 3) := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine st_piece (iblk m c 0 t) (iblk m c 1 t) (iblk m c 2 t) (iblk m c 4 t) (iblk m c 5 t) _ _ _ _ _ _ _ _ x (y 0) (y 1) (y 2) (y 3) ?_ ?_ ?_ ?_ ?_ ?_ <;> dsimp only <;> omega

end Step
-- ==== Proof.Step.PointsO.lean ====
module
public import proofs.«01_k».proof.Proof.Gen.StepIdeal.Value
public import proofs.«01_k».proof.Proof.Step.Pieces

/-! The output rows that a point of the decoding step stores, head by head. -/

@[expose] public section

set_option maxRecDepth 16384

noncomputable section

namespace Step
open Idealize.ShloMosaic Idealize.ShloMosaic.TcCoe Idealize.SL.Sem Idealize.ShloMosaic.StableHlo
open Cert.StepIdeal Cert.StepIdeal.Gen

variable (m : (ℓ : Loc nD τ sig) → Buf (Elt Ideal) ℓ) (c : Dev nD)

set_option maxHeartbeats 16000000 in
/-- The output rows that a point stores. -/
theorem o_out (t : Fin cfg0.N) :
    (outsAt0 m c t).1 = fun y => outRow (iblk m c 0 t) (iblk m c 1 t) (iblk m c 2 t) (X0_3 m c t) (iblk m c 4 t) (iblk m c 5 t) (iblk m c 6 t) (y 0) (y 1) := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine out_piece (iblk m c 0 t) (iblk m c 1 t) (iblk m c 2 t) (X0_3 m c t) (iblk m c 4 t) (iblk m c 5 t) (iblk m c 6 t) _ _ _ _ _ _ _ _ x (y 0) (y 1) ?_ ?_ ?_ ?_ <;> dsimp only <;> omega

end Step
-- ==== Proof.Step.Pre.lean ====
module
public import proofs.«01_k».proof.Proof.Gdn.Pre

/-! The precondition of the decoding step: the arguments hold real numbers. -/

@[expose] public section

set_option maxRecDepth 16384

noncomputable section

namespace Step.Pre
open Idealize.ShloMosaic Idealize.ShloMosaic.TcCoe Idealize.SL.Sem Idealize.ShloMosaic.StableHlo
open Cert.Pre_step_finite

/-- The side conditions of the precondition. -/
theorem facts : Cert.Pre_step_finite.Facts where
  bcast_S_S32x1024 := by decide
  reducesTo_S32x1024_S_d0_1 := by decide
  h_S_ := by decide
  slices_S32x128_S32x16_0_0 := by decide
  bcast_S_S32x16 := by decide
  reducesTo_S32x16_S_d0_1 := by decide
  bcast_S_S32x8x128x128 := by decide
  reducesTo_S32x8x128x128_S_d0_1_2_3 := by decide

/-- The arrays of a step hold real numbers; of the gates' array that is said of the 16 columns that hold gates. -/
structure Reals (q k v : FVec Ideal S32x1024 .f32) (b : FVec Ideal S32x128 .f32) (s : FVec Ideal S32x8x128x128 .f32) : Prop where
  q : ∀ j, ∃ r : ℝ, q j = (r : EReal)
  k : ∀ j, ∃ r : ℝ, k j = (r : EReal)
  v : ∀ j, ∃ r : ℝ, v j = (r : EReal)
  b : ∀ (n : Fin 32) (j : Fin 16), ∃ r : ℝ, b (ix2 n ⟨j.val, by omega⟩) = (r : EReal)
  s : ∀ j, ∃ r : ℝ, s j = (r : EReal)

/-- A column of the slice of gates. -/
theorem gate_at (b : FVec Ideal S32x128 .f32) (h : S32x128.Slices ![0, 0] S32x16) (n : Fin 32) (j : Fin 16) :
    (extractStridedSlice S32x16 ![0, 0] b h : FVec Ideal S32x16 .f32) (ix2 n j) = b (ix2 n ⟨j.val, by omega⟩) := by
  pointwise []

/-- The precondition in words. -/
theorem reals_of_fn [Cert.Pre_step_finite.Facts] (q k v : FVec Ideal S32x1024 .f32) (z : FVec Ideal S32x14592 .f32) (b : FVec Ideal S32x128 .f32)
    (s : FVec Ideal S32x8x128x128 .f32) (g : FVec Ideal S128 .f32) (e : ∀ i : S_.Idx, fn (F := Ideal) q k v z b s g i = 1#1) : Reals q k v b s := by
  let i0 : S_.Idx := fun a => a.elim0
  have h := e i0
  simp only [fn, fn_part1, andi] at h
  rw [IntOp.andi_eq_one, IntOp.andi_eq_one, IntOp.andi_eq_one, IntOp.andi_eq_one] at h
  obtain ⟨⟨⟨⟨hq, hk⟩, hv⟩, hb⟩, hs⟩ := h
  exact ⟨Gdn.Pre.test _ _ _ _ _ hq, Gdn.Pre.test _ _ _ _ _ hk, Gdn.Pre.test _ _ _ _ _ hv,
    fun n j => by rw [← gate_at b Facts.slices_S32x128_S32x16_0_0]; exact Gdn.Pre.test _ _ _ _ _ hb _, Gdn.Pre.test _ _ _ _ _ hs⟩

end Step.Pre
-- ==== Proof.Step.Final.lean ====
module
public import proofs.«01_k».proof.Proof.Step.Points
public import proofs.«01_k».proof.Proof.Step.PointsO
public import proofs.«01_k».proof.Proof.Step.Pre

/-! What the decoding step leaves in its arrays, in terms of the arguments. -/

@[expose] public section

set_option maxRecDepth 16384

noncomputable section

namespace Step
open Idealize.ShloMosaic Idealize.ShloMosaic.TcCoe Idealize.SL.Sem Idealize.ShloMosaic.StableHlo
open Cert.StepIdeal Cert.StepIdeal.Gen

/-- Head `h` of sequence `r` of the whole arrays. -/
def argHead (Q K V : FVec Ideal S32x1024 .f32) (B : FVec Ideal S32x128 .f32) (S : FVec Ideal S32x8x128x128 .f32) (r : Fin 32) (h : Fin 8) : Lay.Head :=
  ⟨fun d => Q (ix2 r ⟨128 * h.val + d.val, by omega⟩), fun d => K (ix2 r ⟨128 * h.val + d.val, by omega⟩),
    fun d => V (ix2 r ⟨128 * h.val + d.val, by omega⟩), B (ix2 r ⟨h.val, by omega⟩), B (ix2 r ⟨8 + h.val, by omega⟩), fun i j => S (ix4 r h i j)⟩

/-- The state after the step. -/
def stateF (Q K V : FVec Ideal S32x1024 .f32) (B : FVec Ideal S32x128 .f32) (S : FVec Ideal S32x8x128x128 .f32) (r : Fin 32) (h : Fin 8) (i j : Fin 128) : EReal :=
  (argHead Q K V B S r h).next i j

/-- The gated, normalised output of the step. -/
def outF (Q K V : FVec Ideal S32x1024 .f32) (Z : FVec Ideal S32x14592 .f32) (B : FVec Ideal S32x128 .f32) (S : FVec Ideal S32x8x128x128 .f32) (G : FVec Ideal S128 .f32)
    (r : Fin 32) (k : Fin 1024) : EReal :=
  Lay.gated (argHead Q K V B S r ⟨k.val / 128, by omega⟩).out (fun d => G (ix1 d)) (fun d => Z (ix2 r ⟨3072 + (128 * (k.val / 128) + d.val), by omega⟩))
    ⟨k.val % 128, Nat.mod_lt _ (by decide)⟩

/-- Under the precondition a head holds real numbers. -/
theorem argHead_finite (Q K V : FVec Ideal S32x1024 .f32) (B : FVec Ideal S32x128 .f32) (S : FVec Ideal S32x8x128x128 .f32) (hR : Pre.Reals Q K V B S) (r : Fin 32) (h : Fin 8) :
    (argHead Q K V B S r h).Finite where
  q _ := hR.q _
  k _ := hR.k _
  v _ := hR.v _
  g := hR.b r ⟨h.val, by omega⟩
  b := hR.b r ⟨8 + h.val, by omega⟩
  s _ _ := hR.s _

/-- The blocks that the windows stage at a point. -/
theorem idx_all : ∀ t : Fin cfg0.N, win0_0.index t = ![t.val, 0] ∧ win0_1.index t = ![t.val, 0] ∧ win0_2.index t = ![t.val, 0] ∧ win0_3.index t = ![t.val, 3]
    ∧ win0_4.index t = ![t.val, 0] ∧ win0_5.index t = ![t.val, 0, 0, 0] ∧ win0_6.index t = ![0, 0] ∧ win0_7.index t = ![t.val, 0] ∧ win0_8.index t = ![t.val, 0, 0, 0] :=
  (by decide +kernel : ∀ t : Fin grid0.N, _)

/-- Row `i` of a point among all sequences. -/
def rowOf (t : Fin cfg0.N) (i : Fin 8) : Fin 32 := ⟨8 * t.val + i.val, by have := lt_of_lt_of_eq t.isLt (show cfg0.N = 4 from N_0); omega⟩

/-- The queries' window. -/
theorem win0 (W : FVec Ideal S32x1024 .f32) (t : Fin cfg0.N) (i : Fin 8) (k : Fin 1024) :
    View.read (Elt Ideal) ((cfg0.win 0).blk t).view W (ix2 i k) = W (ix2 (rowOf t i) k) := by
  blk_ext [(idx_all t).1, rowOf]

/-- The keys' window. -/
theorem win1 (W : FVec Ideal S32x1024 .f32) (t : Fin cfg0.N) (i : Fin 8) (k : Fin 1024) :
    View.read (Elt Ideal) ((cfg0.win 1).blk t).view W (ix2 i k) = W (ix2 (rowOf t i) k) := by
  blk_ext [(idx_all t).2.1, rowOf]

/-- The values' window. -/
theorem win2 (W : FVec Ideal S32x1024 .f32) (t : Fin cfg0.N) (i : Fin 8) (k : Fin 1024) :
    View.read (Elt Ideal) ((cfg0.win 2).blk t).view W (ix2 i k) = W (ix2 (rowOf t i) k) := by
  blk_ext [(idx_all t).2.2.1, rowOf]

/-- The gates' window. -/
theorem win4 (W : FVec Ideal S32x128 .f32) (t : Fin cfg0.N) (i : Fin 8) (k : Fin 128) :
    View.read (Elt Ideal) ((cfg0.win 4).blk t).view W (ix2 i k) = W (ix2 (rowOf t i) k) := by
  blk_ext [(idx_all t).2.2.2.2.1, rowOf]

/-- The states' window. -/
theorem win5 (W : FVec Ideal S32x8x128x128 .f32) (t : Fin cfg0.N) (i h : Fin 8) (u w : Fin 128) :
    View.read (Elt Ideal) ((cfg0.win 5).blk t).view W (ix4 i h u w) = W (ix4 (rowOf t i) h u w) := by
  blk_ext [(idx_all t).2.2.2.2.2.1, rowOf]

/-- The gain's window. -/
theorem win6 (W : FVec Ideal S1x128 .f32) (t : Fin cfg0.N) (k : Fin 128) :
    View.read (Elt Ideal) ((cfg0.win 6).blk t).view W (ix2 0 k) = W (ix2 0 k) := by
  blk_ext [(idx_all t).2.2.2.2.2.2.1]

variable (m : (ℓ : Loc nD τ sig) → Buf (Elt Ideal) ℓ) (c : Dev nD)

/-- The arrays that the windows read are the arguments. -/
theorem entry_args : V m c main_arg0 = m (c, main_arg0) ∧ V m c main_arg1 = m (c, main_arg1) ∧ V m c main_arg2 = m (c, main_arg2)
    ∧ V m c main_arg3 = m (c, main_arg3) ∧ V m c main_arg4 = m (c, main_arg4) ∧ V m c main_arg5 = m (c, main_arg5) := by
  refine ⟨?_, ?_, ?_, ?_, ?_, ?_⟩ <;>
  · unfold V
    simp only [hostOps0, List.flatten_cons, List.flatten_nil, List.append_nil, List.cons_append, List.nil_append]
    entry_read
    rfl

/-- The gain, as a row. -/
theorem entry_gain (k : Fin 128) : (V m c main_v0 : FVec Ideal S1x128 .f32) (ix2 0 k) = (m (c, main_arg6) : FVec Ideal S128 .f32) (ix1 k) := by
  unfold V
  simp only [hostOps0, List.flatten_cons, List.flatten_nil, List.append_nil, List.cons_append, List.nil_append]
  entry_read
  pointwise []

/-- The gate's columns. -/
theorem win3 (t : Fin cfg0.N) (i : Fin 8) (k : Fin 1024) :
    X0_3 m c t (ix2 i k) = (m (c, main_arg3) : FVec Ideal S32x14592 .f32) (ix2 (rowOf t i) ⟨3072 + k.val, by omega⟩) := by
  rw [← (entry_args m c).2.2.2.1]
  unfold X0_3 Pipeline.Window.fill
  rw [dif_pos (moved0_3 t _)]
  blk_ext [iblk, (idx_all t).2.2.2.1, rowOf]

/-- A head of a point's blocks is that head of the whole arrays. -/
theorem head_at (t : Fin cfg0.N) (i h : Fin 8) :
    blockHead (iblk m c 0 t) (iblk m c 1 t) (iblk m c 2 t) (iblk m c 4 t) (iblk m c 5 t) i h
      = argHead (m (c, main_arg0)) (m (c, main_arg1)) (m (c, main_arg2)) (m (c, main_arg4)) (m (c, main_arg5)) (rowOf t i) h := by
  obtain ⟨a0, a1, a2, a3, a4, a5⟩ := entry_args m c
  exact (Lay.Head.mk.injEq ..).mpr ⟨funext fun d => (win0 (V m c main_arg0) t i _).trans (congrFun a0 _), funext fun d => (win1 (V m c main_arg1) t i _).trans (congrFun a1 _),
    funext fun d => (win2 (V m c main_arg2) t i _).trans (congrFun a2 _), (win4 (V m c main_arg4) t i _).trans (congrFun a4 _), (win4 (V m c main_arg4) t i _).trans (congrFun a4 _),
    funext fun u => funext fun w => (win5 (V m c main_arg5) t i h u w).trans (congrFun a5 _)⟩

/-- The gain that a point reads. -/
theorem gain_at (t : Fin cfg0.N) : (fun d => (iblk m c 6 t : FVec Ideal S1x128 .f32) (ix2 0 d)) = fun d => (m (c, main_arg6) : FVec Ideal S128 .f32) (ix1 d) :=
  funext fun d => (win6 (V m c main_v0) t d).trans (entry_gain m c d)

variable (hR : Pre.Reals (m (c, main_arg0)) (m (c, main_arg1)) (m (c, main_arg2)) (m (c, main_arg4)) (m (c, main_arg5)))
include hR

/-- The states of a point. -/
theorem state_at (t : Fin cfg0.N) (i h : Fin 8) (u w : Fin 128) :
    (blockHead (iblk m c 0 t) (iblk m c 1 t) (iblk m c 2 t) (iblk m c 4 t) (iblk m c 5 t) i h).nextK u w
      = stateF (m (c, main_arg0)) (m (c, main_arg1)) (m (c, main_arg2)) (m (c, main_arg4)) (m (c, main_arg5)) (rowOf t i) h u w := by
  rw [head_at, (Lay.Head.agree _ (argHead_finite _ _ _ _ _ hR (rowOf t i) h)).1]
  rfl

/-- The output rows of a point. -/
theorem out_at (t : Fin cfg0.N) (i : Fin 8) (k : Fin 1024) :
    outRow (iblk m c 0 t) (iblk m c 1 t) (iblk m c 2 t) (X0_3 m c t) (iblk m c 4 t) (iblk m c 5 t) (iblk m c 6 t) i k
      = outF (m (c, main_arg0)) (m (c, main_arg1)) (m (c, main_arg2)) (m (c, main_arg3)) (m (c, main_arg4)) (m (c, main_arg5)) (m (c, main_arg6)) (rowOf t i) k := by
  unfold outRow outF
  rw [head_at, (Lay.Head.agree _ (argHead_finite _ _ _ _ _ hR (rowOf t i) _)).2, gain_at]
  simp only [win3]

/-- The output's array. -/
theorem final_out : (dats m 0 c).arrAt 7 cfg0.N
    = fun j => outF (m (c, main_arg0)) (m (c, main_arg1)) (m (c, main_arg2)) (m (c, main_arg3)) (m (c, main_arg4)) (m (c, main_arg5)) (m (c, main_arg6)) (j 0) (j 1) := by
  refine (dats m 0 c).arrAt_eq_of_covers 7 _ (by decide +kernel) fun t hf y => ?_
  blk_simp
  rw [after0_7]
  have e0 : (win0_7.blk t).view.emb y 0 = rowOf t (y 0) := Fin.ext (by blk_simp [(idx_all t).2.2.2.2.2.2.2.1]; simp only [rowOf]; omega)
  have e1 : (win0_7.blk t).view.emb y 1 = y 1 := Fin.ext (by blk_simp [(idx_all t).2.2.2.2.2.2.2.1])
  rw [e0, e1]
  exact (congrFun (o_out m c t) y).trans (out_at m c hR t (y 0) (y 1))

/-- The states' array. -/
theorem final_state : (dats m 0 c).arrAt 8 cfg0.N
    = fun j => stateF (m (c, main_arg0)) (m (c, main_arg1)) (m (c, main_arg2)) (m (c, main_arg4)) (m (c, main_arg5)) (j 0) (j 1) (j 2) (j 3) := by
  refine (dats m 0 c).arrAt_eq_of_covers 8 _ (by decide +kernel) fun t hf y => ?_
  blk_simp
  rw [after0_8]
  have e0 : (win0_8.blk t).view.emb y 0 = rowOf t (y 0) := Fin.ext (by blk_simp [(idx_all t).2.2.2.2.2.2.2.2]; simp only [rowOf]; omega)
  have e1 : (win0_8.blk t).view.emb y 1 = y 1 := Fin.ext (by blk_simp [(idx_all t).2.2.2.2.2.2.2.2])
  have e2 : (win0_8.blk t).view.emb y 2 = y 2 := Fin.ext (by blk_simp [(idx_all t).2.2.2.2.2.2.2.2])
  have e3 : (win0_8.blk t).view.emb y 3 = y 3 := Fin.ext (by blk_simp [(idx_all t).2.2.2.2.2.2.2.2])
  rw [e0, e1, e2, e3]
  exact (congrFun (st_out m c t) y).trans (state_at m c hR t (y 0) (y 1) (y 2) (y 3))

end Step
-- ==== Proof.Step.Ref.lean ====
module
public import proofs.«01_k».proof.Proof.Step.Final
public import proofs.«01_k».proof.Proof.Gen.StepRefIdeal.Run

/-! What the plain step of the delta rule leaves in its arrays. -/

@[expose] public section

set_option maxRecDepth 16384

noncomputable section

namespace Step.Ref
open Idealize.ShloMosaic Idealize.ShloMosaic.TcCoe Idealize.SL.Sem Idealize.ShloMosaic.StableHlo
open Cert.StepRefIdeal Cert.StepRefIdeal.Gen

/-- The states decayed. -/
def decT (B : FVec Ideal S32x128 .f32) (S : FVec Ideal S32x8x128x128 .f32) : FVec Ideal S32x8x128x128 .f32 :=
  mulf S (broadcastInDim S32x8x128x128 ![0, 1, 2, 3] bcast_S32x8x1x1_S32x8x128x128_0_1_2_3 (broadcastInDim S32x8x1x1 ![0, 1] bcast_S32x8_S32x8x1x1_0_1 (Host.exp (extractStridedSlice S32x8 ![0, 0] B slices_S32x128_S32x8_0_0))))

/-- The states decayed, at an index. -/
theorem dec_at (Q K V : FVec Ideal S32x1024 .f32) (B : FVec Ideal S32x128 .f32) (S : FVec Ideal S32x8x128x128 .f32) (r : Fin 32) (h : Fin 8) (i j : Fin 128) :
    decT B S (ix4 r h i j) = (argHead Q K V B S r h).dec i j := by
  unfold decT Lay.Head.dec argHead
  pointwise []

/-- A row of every head against that head's matrix. -/
def dotT (X : FVec Ideal S32x1024 .f32) (M : FVec Ideal S32x8x128x128 .f32) : FVec Ideal S32x8x128 .f32 :=
  Host.dotGeneral dot_S32x8x128_S32x8x128x128_S32x8x128_2_2_n_3_01_01 none (shapeCast S32x8x128 X shapeCasts_S32x1024_S32x8x128) M

/-- A row of a head against that head's matrix, at an index. -/
theorem dot_at (X : FVec Ideal S32x1024 .f32) (M : FVec Ideal S32x8x128x128 .f32) (r : Fin 32) (h : Fin 8) (j : Fin 128) :
    dotT X M (ix3 r h j) = ∑ a : Fin 128, X (ix2 r ⟨128 * h.val + a.val, by omega⟩) * M (ix4 r h a j) := by
  unfold dotT
  pointwise []
  simp only [Nat.mul_comm 128]

/-- The states corrected, from their decay and the prediction. -/
def corrT (K V : FVec Ideal S32x1024 .f32) (B : FVec Ideal S32x128 .f32) (D : FVec Ideal S32x8x128x128 .f32) (P : FVec Ideal S32x8x128 .f32) : FVec Ideal S32x8x128x128 .f32 :=
  addf D (mulf (broadcastInDim S32x8x128x128 ![0, 1, 2, 3] bcast_S32x8x128x1_S32x8x128x128_0_1_2_3 (broadcastInDim S32x8x128x1 ![0, 1, 2] bcast_S32x8x128_S32x8x128x1_0_1_2 (shapeCast S32x8x128 K shapeCasts_S32x1024_S32x8x128))) (broadcastInDim S32x8x128x128 ![0, 1, 2, 3] bcast_S32x8x1x128_S32x8x128x128_0_1_2_3 (broadcastInDim S32x8x1x128 ![0, 1, 3] bcast_S32x8x128_S32x8x1x128_0_1_3 (mulf (broadcastInDim S32x8x128 ![0, 1, 2] bcast_S32x8x1_S32x8x128_0_1_2 (broadcastInDim S32x8x1 ![0, 1] bcast_S32x8_S32x8x1_0_1 (extractStridedSlice S32x8 ![0, 8] B slices_S32x128_S32x8_0_8))) (subf (shapeCast S32x8x128 V shapeCasts_S32x1024_S32x8x128) P)))))

/-- The states corrected, at an index. -/
theorem corr_at (K V : FVec Ideal S32x1024 .f32) (B : FVec Ideal S32x128 .f32) (D : FVec Ideal S32x8x128x128 .f32) (P : FVec Ideal S32x8x128 .f32)
    (r : Fin 32) (h : Fin 8) (i j : Fin 128) :
    corrT K V B D P (ix4 r h i j) = D (ix4 r h i j) + K (ix2 r ⟨128 * h.val + i.val, by omega⟩)
      * (B (ix2 r ⟨8 + h.val, by omega⟩) * (V (ix2 r ⟨128 * h.val + j.val, by omega⟩) - P (ix3 r h j))) := by
  unfold corrT
  pointwise []
  simp only [Nat.mul_comm 128]

/-- The states after the step. -/
def nextT (K V : FVec Ideal S32x1024 .f32) (B : FVec Ideal S32x128 .f32) (S : FVec Ideal S32x8x128x128 .f32) : FVec Ideal S32x8x128x128 .f32 :=
  corrT K V B (decT B S) (dotT K (decT B S))

/-- The states after the step, at an index. -/
theorem next_at (Q K V : FVec Ideal S32x1024 .f32) (B : FVec Ideal S32x128 .f32) (S : FVec Ideal S32x8x128x128 .f32) (r : Fin 32) (h : Fin 8) (i j : Fin 128) :
    nextT K V B S (ix4 r h i j) = stateF Q K V B S r h i j := by
  unfold nextT stateF Lay.Head.next
  simp only [corr_at, dot_at, dec_at Q K V B S]
  rfl

/-- The output of the step, normalised and gated. -/
def gatedT (Z : FVec Ideal S32x14592 .f32) (G : FVec Ideal S128 .f32) (Y : FVec Ideal S32x8x128 .f32) : FVec Ideal S32x1024 .f32 :=
  shapeCast S32x1024 (mulf (mulf (mulf Y (broadcastInDim S32x8x128 ![0, 1, 2] bcast_S32x8x1_S32x8x128_0_1_2 (Host.rsqrt (addf (Host.divf (broadcastInDim S32x8x1 ![0, 1] bcast_S32x8_S32x8x1_0_1 (Host.reduceAdd (mulf Y Y) (constant (F := Ideal) S_ .f32 0x00000000#32) reducesTo_S32x8x128_S32x8_d2 h_S_)) (broadcastInDim S32x8x1 ![] bcast_S_S32x8x1 (constant (F := Ideal) S_ .f32 0x43000000#32))) (broadcastInDim S32x8x1 ![] bcast_S_S32x8x1 (constant (F := Ideal) S_ .f32 0x358637BD#32)))))) (broadcastInDim S32x8x128 ![0, 1, 2] bcast_S1x1x128_S32x8x128_0_1_2 (broadcastInDim S1x1x128 ![2] bcast_S128_S1x1x128_2 G))) (mulf (shapeCast S32x8x128 (extractStridedSlice S32x1024 ![0, 3072] Z slices_S32x14592_S32x1024_0_3072) shapeCasts_S32x1024_S32x8x128) (Host.divf (broadcastInDim S32x8x128 ![] bcast_S_S32x8x128 (constant (F := Ideal) S_ .f32 0x3F800000#32)) (addf (broadcastInDim S32x8x128 ![] bcast_S_S32x8x128 (constant (F := Ideal) S_ .f32 0x3F800000#32)) (Host.exp (Host.negf (shapeCast S32x8x128 (extractStridedSlice S32x1024 ![0, 3072] Z slices_S32x14592_S32x1024_0_3072) shapeCasts_S32x1024_S32x8x128))))))) shapeCasts_S32x8x128_S32x1024

/-- The output of the step, normalised and gated, at an index. -/
theorem gated_at (Z : FVec Ideal S32x14592 .f32) (G : FVec Ideal S128 .f32) (Y : FVec Ideal S32x8x128 .f32) (r : Fin 32) (k : Fin 1024) :
    gatedT Z G Y (ix2 r k)
      = Lay.gated (fun d => Y (ix3 r ⟨k.val / 128, by omega⟩ d)) (fun d => G (ix1 d)) (fun d => Z (ix2 r ⟨3072 + (128 * (k.val / 128) + d.val), by omega⟩))
        ⟨k.val % 128, Nat.mod_lt _ (by decide)⟩ := by
  unfold gatedT Lay.gated Lay.rmsHead
  pointwise []
  simp only [Nat.div_add_mod]

/-- The output of the whole step, at an index. -/
theorem outT_at (Q K V : FVec Ideal S32x1024 .f32) (Z : FVec Ideal S32x14592 .f32) (B : FVec Ideal S32x128 .f32) (S : FVec Ideal S32x8x128x128 .f32) (G : FVec Ideal S128 .f32)
    (r : Fin 32) (k : Fin 1024) : gatedT Z G (dotT Q (nextT K V B S)) (ix2 r k) = outF Q K V Z B S G r k := by
  rw [gated_at]
  unfold outF
  refine congrArg (fun x => Lay.gated x _ _ _) (funext fun d => ?_)
  rw [dot_at]
  simp only [next_at Q K V B S]
  rfl

variable (m : (ℓ : Loc nD τ sig) → Buf (Elt Ideal) ℓ) (c : Dev nD)

/-- The reference's output. -/
theorem ref_out : Cert.StepRefIdeal.Value.res_main_v38 m c
    = fun j => outF (m (c, main_arg0)) (m (c, main_arg1)) (m (c, main_arg2)) (m (c, main_arg3)) (m (c, main_arg4)) (m (c, main_arg5)) (m (c, main_arg6)) (j 0) (j 1) := by
  funext j
  idx_vars j
  unfold Cert.StepRefIdeal.Value.res_main_v38
  exact outT_at (m (c, main_arg0)) (m (c, main_arg1)) (m (c, main_arg2)) (m (c, main_arg3)) (m (c, main_arg4)) (m (c, main_arg5)) (m (c, main_arg6)) j0 j1

/-- The reference's states. -/
theorem ref_state (Q K V : FVec Ideal S32x1024 .f32) (B : FVec Ideal S32x128 .f32) (S : FVec Ideal S32x8x128x128 .f32) :
    (addf (mulf S (broadcastInDim S32x8x128x128 ![0, 1, 2, 3] bcast_S32x8x1x1_S32x8x128x128_0_1_2_3 (broadcastInDim S32x8x1x1 ![0, 1] bcast_S32x8_S32x8x1x1_0_1 (Host.exp (extractStridedSlice S32x8 ![0, 0] B slices_S32x128_S32x8_0_0))))) (mulf (broadcastInDim S32x8x128x128 ![0, 1, 2, 3] bcast_S32x8x128x1_S32x8x128x128_0_1_2_3 (broadcastInDim S32x8x128x1 ![0, 1, 2] bcast_S32x8x128_S32x8x128x1_0_1_2 (shapeCast S32x8x128 K shapeCasts_S32x1024_S32x8x128))) (broadcastInDim S32x8x128x128 ![0, 1, 2, 3] bcast_S32x8x1x128_S32x8x128x128_0_1_2_3 (broadcastInDim S32x8x1x128 ![0, 1, 3] bcast_S32x8x128_S32x8x1x128_0_1_3 (mulf (broadcastInDim S32x8x128 ![0, 1, 2] bcast_S32x8x1_S32x8x128_0_1_2 (broadcastInDim S32x8x1 ![0, 1] bcast_S32x8_S32x8x1_0_1 (extractStridedSlice S32x8 ![0, 8] B slices_S32x128_S32x8_0_8))) (subf (shapeCast S32x8x128 V shapeCasts_S32x1024_S32x8x128) (Host.dotGeneral dot_S32x8x128_S32x8x128x128_S32x8x128_2_2_n_3_01_01 none (shapeCast S32x8x128 K shapeCasts_S32x1024_S32x8x128) (mulf S (broadcastInDim S32x8x128x128 ![0, 1, 2, 3] bcast_S32x8x1x1_S32x8x128x128_0_1_2_3 (broadcastInDim S32x8x1x1 ![0, 1] bcast_S32x8_S32x8x1x1_0_1 (Host.exp (extractStridedSlice S32x8 ![0, 0] B slices_S32x128_S32x8_0_0))))))))))) : FVec Ideal S32x8x128x128 .f32)
      = fun j => stateF Q K V B S (j 0) (j 1) (j 2) (j 3) := by
  funext j
  idx_vars j
  exact next_at Q K V B S j0 j1 j2 j3

end Step.Ref
-- ==== Proof.Lay.Conv.lean ====
module
public import proofs.«01_k».proof.Proof.Lay.Rope

/-! The short convolution's channels, the unit rows of its heads, and the gates, in words. -/

@[expose] public section

noncomputable section

namespace Lay
open Idealize.ShloMosaic

/-- Four taps of a channel, weighted. -/
def taps (x w : Fin 4 → EReal) : EReal := x 0 * w 0 + x 1 * w 1 + x 2 * w 2 + x 3 * w 3

/-- A number times its logistic. -/
def silu (z : EReal) : EReal := z * Ideal.div (Ideal.ofBits .f32 0x3F800000#32) (Ideal.ofBits .f32 0x3F800000#32 + Ideal.exp (-z))

/-- A head's row divided by its length. -/
def unitRow (x : Fin 128 → EReal) (k : Fin 128) : EReal :=
  x k * Ideal.rsqrt (∑ d : Fin 128, x d * x d + Ideal.ofBits .f32 0x358637BD#32)

/-- The soft threshold, as a maximum and a logarithm. -/
def softplus (z : EReal) : EReal := max z 0 + Ideal.log1p (Ideal.exp (-max z (-z)))

/-- A decay's logarithm. -/
def decay (a d z : EReal) : EReal := -Ideal.exp a * softplus (z + d)

end Lay
-- ==== Proof.PrepS.Tiles.lean ====
module
public import proofs.«01_k».proof.Proof.Gen.PrepSIdeal.Value
public import proofs.«01_k».proof.Proof.Lay.Conv
public import proofs.«01_k».proof.Proof.Lay.Rms
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! The tiles that the sample batch's convolution stores, one head at a time. -/

@[expose] public section

set_option maxRecDepth 16384

noncomputable section

namespace PrepS
open Idealize.ShloMosaic Idealize.ShloMosaic.TcCoe Idealize.SL.Sem Idealize.ShloMosaic.StableHlo
open Cert.PrepSIdeal Cert.PrepSIdeal.Gen

/-- A channel's convolution with its gate, of row `r` and column `k`. -/
def chan (X0 X1 X2 X3 : FVec Ideal S32x3072 .f32) (W : FVec Ideal S4x3072 .f32) (r : Fin 32) (k : Fin 3072) : EReal :=
  Lay.silu (Lay.taps ![X0 (ix2 r k), X1 (ix2 r k), X2 (ix2 r k), X3 (ix2 r k)] ![W (ix2 0 k), W (ix2 1 k), W (ix2 2 k), W (ix2 3 k)])

/-- Place `d` of the head in which column `k` lies, of the 1024 columns from `o` on. -/
def col (o : ℕ) (ho : o + 1024 ≤ 3072) (k : Fin 1024) (d : Fin 128) : Fin 3072 := ⟨o + (128 * (k.val / 128) + d.val), by omega⟩

/-- A tile of queries, as the body computes it. -/
def qTile (A0 : FVec Ideal S32x128 .f32) (W0 : FVec Ideal S1x128 .f32) (A1 : FVec Ideal S32x128 .f32) (W1 : FVec Ideal S1x128 .f32)
    (A2 : FVec Ideal S32x128 .f32) (W2 : FVec Ideal S1x128 .f32) (A3 : FVec Ideal S32x128 .f32) (W3 : FVec Ideal S1x128 .f32) : FVec Ideal S32x128 .f32 :=
  k0_pay3 (F := Ideal) (k0_pay2 (F := Ideal) A0 W0 A1 W1 A2 W2 A3 W3)

/-- A tile of keys, as the body computes it. -/
def kTile (A0 : FVec Ideal S32x128 .f32) (W0 : FVec Ideal S1x128 .f32) (A1 : FVec Ideal S32x128 .f32) (W1 : FVec Ideal S1x128 .f32)
    (A2 : FVec Ideal S32x128 .f32) (W2 : FVec Ideal S1x128 .f32) (A3 : FVec Ideal S32x128 .f32) (W3 : FVec Ideal S1x128 .f32) : FVec Ideal S32x128 .f32 :=
  k0_pay33 (F := Ideal) A0 W0 A1 W1 A2 W2 A3 W3

/-- A tile of values, as the body computes it. -/
def vTile (A0 : FVec Ideal S32x128 .f32) (W0 : FVec Ideal S1x128 .f32) (A1 : FVec Ideal S32x128 .f32) (W1 : FVec Ideal S1x128 .f32)
    (A2 : FVec Ideal S32x128 .f32) (W2 : FVec Ideal S1x128 .f32) (A3 : FVec Ideal S32x128 .f32) (W3 : FVec Ideal S1x128 .f32) : FVec Ideal S32x128 .f32 :=
  k0_pay56 (F := Ideal) (k0_pay55 (F := Ideal) A0 W0 A1 W1) A2 W2 A3 W3

/-- A tile's channel. -/
def tchan (A0 : FVec Ideal S32x128 .f32) (W0 : FVec Ideal S1x128 .f32) (A1 : FVec Ideal S32x128 .f32) (W1 : FVec Ideal S1x128 .f32)
    (A2 : FVec Ideal S32x128 .f32) (W2 : FVec Ideal S1x128 .f32) (A3 : FVec Ideal S32x128 .f32) (W3 : FVec Ideal S1x128 .f32) (i : Fin 32) (k : Fin 128) : EReal :=
  Lay.silu (Lay.taps ![A0 (ix2 i k), A1 (ix2 i k), A2 (ix2 i k), A3 (ix2 i k)] ![W0 (ix2 0 k), W1 (ix2 0 k), W2 (ix2 0 k), W3 (ix2 0 k)])

section
variable (A0 A1 A2 A3 : FVec Ideal S32x128 .f32) (W0 W1 W2 W3 : FVec Ideal S1x128 .f32) (i : Fin 32) (k : Fin 128)

/-- The tile of values, at an index. -/
theorem vTile_at : vTile A0 W0 A1 W1 A2 W2 A3 W3 (ix2 i k) = tchan A0 W0 A1 W1 A2 W2 A3 W3 i k := by
  unfold vTile tchan Lay.silu Lay.taps
  pointwise [k0_pay55, k0_pay56]
  simp only [zero_sub]

/-- The tile of keys, at an index. -/
theorem kTile_at : kTile A0 W0 A1 W1 A2 W2 A3 W3 (ix2 i k) = Lay.unitRow (tchan A0 W0 A1 W1 A2 W2 A3 W3 i) k := by
  unfold kTile Lay.unitRow tchan Lay.silu Lay.taps
  pointwise [k0_pay33]
  simp only [zero_sub]

/-- The tile of queries, at an index. -/
theorem qTile_at : qTile A0 W0 A1 W1 A2 W2 A3 W3 (ix2 i k) = Lay.unitRow (tchan A0 W0 A1 W1 A2 W2 A3 W3 i) k * Ideal.ofBits .f32 0x3DB504F3#32 := by
  unfold qTile Lay.unitRow tchan Lay.silu Lay.taps
  pointwise [k0_pay2, k0_pay3]
  simp only [zero_sub]
end

/-- What a load of one head's columns reads. -/
theorem ldX (X : FVec Ideal S32x3072 .f32) (a : ℕ) (h : ∀ k, (![0, a] : Fin 2 → ℕ) k + (![32, 128] : Fin 2 → ℕ) k ≤ S32x3072.size k)
    (i : Fin 32) (d : Fin 128) (k : Fin 3072) (hk : k.val = a + d.val) :
    View.ld (Val := Elt Ideal) (e' := .f32) X (Rect.unit (s := S32x3072) ![0, a] ![32, 128] h) (ix2 i d) = X (ix2 i k) := by
  refine congrArg X (funext fun e => ?_)
  fin_cases e
  · exact Fin.ext (by show 0 + 1 * i.val = i.val; omega)
  · exact Fin.ext (by show a + 1 * d.val = k.val; omega)

/-- What a load of one head's weights of a tap reads. -/
theorem ldW (W : FVec Ideal S4x3072 .f32) (q a : ℕ) (h : ∀ k, (![q, a] : Fin 2 → ℕ) k + (![1, 128] : Fin 2 → ℕ) k ≤ S4x3072.size k)
    (d : Fin 128) (j : Fin 4) (k : Fin 3072) (hj : j.val = q) (hk : k.val = a + d.val) :
    View.ld (Val := Elt Ideal) (e' := .f32) W (Rect.unit (s := S4x3072) ![q, a] ![1, 128] h) (ix2 0 d) = W (ix2 j k) := by
  refine congrArg W (funext fun e => ?_)
  fin_cases e
  · exact Fin.ext (by show q + 1 * 0 = j.val; omega)
  · exact Fin.ext (by show a + 1 * d.val = k.val; omega)

section
variable (X0 X1 X2 X3 : FVec Ideal S32x3072 .f32) (W : FVec Ideal S4x3072 .f32) (a o : ℕ) (ho : o + 1024 ≤ 3072)
  (h : ∀ k, (![0, a] : Fin 2 → ℕ) k + (![32, 128] : Fin 2 → ℕ) k ≤ S32x3072.size k)
  (h0 : ∀ k, (![0, a] : Fin 2 → ℕ) k + (![1, 128] : Fin 2 → ℕ) k ≤ S4x3072.size k)
  (h1 : ∀ k, (![1, a] : Fin 2 → ℕ) k + (![1, 128] : Fin 2 → ℕ) k ≤ S4x3072.size k)
  (h2 : ∀ k, (![2, a] : Fin 2 → ℕ) k + (![1, 128] : Fin 2 → ℕ) k ≤ S4x3072.size k)
  (h3 : ∀ k, (![3, a] : Fin 2 → ℕ) k + (![1, 128] : Fin 2 → ℕ) k ≤ S4x3072.size k)

/-- The channel of a tile of loads is the channel of the whole rows. -/
theorem tchan_ld (i : Fin 32) (d : Fin 128) (k : Fin 3072) (hk : k.val = a + d.val) :
    tchan (View.ld (Val := Elt Ideal) (e' := .f32) X0 (Rect.unit (s := S32x3072) ![0, a] ![32, 128] h)) (View.ld (Val := Elt Ideal) (e' := .f32) W (Rect.unit (s := S4x3072) ![0, a] ![1, 128] h0))
      (View.ld (Val := Elt Ideal) (e' := .f32) X1 (Rect.unit (s := S32x3072) ![0, a] ![32, 128] h)) (View.ld (Val := Elt Ideal) (e' := .f32) W (Rect.unit (s := S4x3072) ![1, a] ![1, 128] h1))
      (View.ld (Val := Elt Ideal) (e' := .f32) X2 (Rect.unit (s := S32x3072) ![0, a] ![32, 128] h)) (View.ld (Val := Elt Ideal) (e' := .f32) W (Rect.unit (s := S4x3072) ![2, a] ![1, 128] h2))
      (View.ld (Val := Elt Ideal) (e' := .f32) X3 (Rect.unit (s := S32x3072) ![0, a] ![32, 128] h)) (View.ld (Val := Elt Ideal) (e' := .f32) W (Rect.unit (s := S4x3072) ![3, a] ![1, 128] h3)) i d
      = chan X0 X1 X2 X3 W i k := by
  unfold tchan chan
  rw [ldX X0 a h i d k hk, ldX X1 a h i d k hk, ldX X2 a h i d k hk, ldX X3 a h i d k hk,
    ldW W 0 a h0 d 0 k rfl hk, ldW W 1 a h1 d 1 k rfl hk, ldW W 2 a h2 d 2 k rfl hk, ldW W 3 a h3 d 3 k rfl hk]

/-- An index of a tile. -/
theorem tile_idx (x : S32x128.Idx) : x = ix2 (x 0) (x 1) := by
  funext e
  fin_cases e <;> rfl

/-- A tile of queries is the queries' part from column `a` on. -/
theorem q_piece (x : S32x128.Idx) (i : Fin 32) (k : Fin 1024) (hi : i.val = 0 + (x 0).val) (hk : o + k.val = a + (x 1).val) (ha : a % 128 = 0) (h' : o % 128 = 0) :
    qTile (View.ld (Val := Elt Ideal) (e' := .f32) X0 (Rect.unit (s := S32x3072) ![0, a] ![32, 128] h)) (View.ld (Val := Elt Ideal) (e' := .f32) W (Rect.unit (s := S4x3072) ![0, a] ![1, 128] h0))
      (View.ld (Val := Elt Ideal) (e' := .f32) X1 (Rect.unit (s := S32x3072) ![0, a] ![32, 128] h)) (View.ld (Val := Elt Ideal) (e' := .f32) W (Rect.unit (s := S4x3072) ![1, a] ![1, 128] h1))
      (View.ld (Val := Elt Ideal) (e' := .f32) X2 (Rect.unit (s := S32x3072) ![0, a] ![32, 128] h)) (View.ld (Val := Elt Ideal) (e' := .f32) W (Rect.unit (s := S4x3072) ![2, a] ![1, 128] h2))
      (View.ld (Val := Elt Ideal) (e' := .f32) X3 (Rect.unit (s := S32x3072) ![0, a] ![32, 128] h)) (View.ld (Val := Elt Ideal) (e' := .f32) W (Rect.unit (s := S4x3072) ![3, a] ![1, 128] h3)) x
      = Lay.unitRow (fun d => chan X0 X1 X2 X3 W i (col o ho k d)) ⟨k.val % 128, Nat.mod_lt _ (by decide)⟩ * Ideal.ofBits .f32 0x3DB504F3#32 := by
  have b : (x 1).val < 128 := (x 1).isLt
  obtain rfl : i = x 0 := Fin.ext (by omega)
  have e : (⟨k.val % 128, Nat.mod_lt _ (by decide)⟩ : Fin 128) = x 1 := Fin.ext (by show k.val % 128 = (x 1).val; omega)
  rw [e, ← funext fun d => tchan_ld X0 X1 X2 X3 W a h h0 h1 h2 h3 (x 0) d (col o ho k d) (by show o + (128 * (k.val / 128) + d.val) = a + d.val; omega)]
  exact (congrArg (qTile _ _ _ _ _ _ _ _) (tile_idx x)).trans (qTile_at _ _ _ _ _ _ _ _ (x 0) (x 1))

/-- A tile of keys is the keys' part from column `a` on. -/
theorem k_piece (x : S32x128.Idx) (i : Fin 32) (k : Fin 1024) (hi : i.val = 0 + (x 0).val) (hk : o + k.val = a + (x 1).val) (ha : a % 128 = 0) (h' : o % 128 = 0) :
    kTile (View.ld (Val := Elt Ideal) (e' := .f32) X0 (Rect.unit (s := S32x3072) ![0, a] ![32, 128] h)) (View.ld (Val := Elt Ideal) (e' := .f32) W (Rect.unit (s := S4x3072) ![0, a] ![1, 128] h0))
      (View.ld (Val := Elt Ideal) (e' := .f32) X1 (Rect.unit (s := S32x3072) ![0, a] ![32, 128] h)) (View.ld (Val := Elt Ideal) (e' := .f32) W (Rect.unit (s := S4x3072) ![1, a] ![1, 128] h1))
      (View.ld (Val := Elt Ideal) (e' := .f32) X2 (Rect.unit (s := S32x3072) ![0, a] ![32, 128] h)) (View.ld (Val := Elt Ideal) (e' := .f32) W (Rect.unit (s := S4x3072) ![2, a] ![1, 128] h2))
      (View.ld (Val := Elt Ideal) (e' := .f32) X3 (Rect.unit (s := S32x3072) ![0, a] ![32, 128] h)) (View.ld (Val := Elt Ideal) (e' := .f32) W (Rect.unit (s := S4x3072) ![3, a] ![1, 128] h3)) x
      = Lay.unitRow (fun d => chan X0 X1 X2 X3 W i (col o ho k d)) ⟨k.val % 128, Nat.mod_lt _ (by decide)⟩ := by
  have b : (x 1).val < 128 := (x 1).isLt
  obtain rfl : i = x 0 := Fin.ext (by omega)
  have e : (⟨k.val % 128, Nat.mod_lt _ (by decide)⟩ : Fin 128) = x 1 := Fin.ext (by show k.val % 128 = (x 1).val; omega)
  rw [e, ← funext fun d => tchan_ld X0 X1 X2 X3 W a h h0 h1 h2 h3 (x 0) d (col o ho k d) (by show o + (128 * (k.val / 128) + d.val) = a + d.val; omega)]
  exact (congrArg (kTile _ _ _ _ _ _ _ _) (tile_idx x)).trans (kTile_at _ _ _ _ _ _ _ _ (x 0) (x 1))

/-- A tile of values is the values' part from column `a` on. -/
theorem v_piece (x : S32x128.Idx) (i : Fin 32) (k : Fin 1024) (hi : i.val = 0 + (x 0).val) (hk : 2048 + k.val = a + (x 1).val) :
    vTile (View.ld (Val := Elt Ideal) (e' := .f32) X0 (Rect.unit (s := S32x3072) ![0, a] ![32, 128] h)) (View.ld (Val := Elt Ideal) (e' := .f32) W (Rect.unit (s := S4x3072) ![0, a] ![1, 128] h0))
      (View.ld (Val := Elt Ideal) (e' := .f32) X1 (Rect.unit (s := S32x3072) ![0, a] ![32, 128] h)) (View.ld (Val := Elt Ideal) (e' := .f32) W (Rect.unit (s := S4x3072) ![1, a] ![1, 128] h1))
      (View.ld (Val := Elt Ideal) (e' := .f32) X2 (Rect.unit (s := S32x3072) ![0, a] ![32, 128] h)) (View.ld (Val := Elt Ideal) (e' := .f32) W (Rect.unit (s := S4x3072) ![2, a] ![1, 128] h2))
      (View.ld (Val := Elt Ideal) (e' := .f32) X3 (Rect.unit (s := S32x3072) ![0, a] ![32, 128] h)) (View.ld (Val := Elt Ideal) (e' := .f32) W (Rect.unit (s := S4x3072) ![3, a] ![1, 128] h3)) x
      = chan X0 X1 X2 X3 W i ⟨2048 + k.val, by omega⟩ := by
  obtain rfl : i = x 0 := Fin.ext (by omega)
  rw [← tchan_ld X0 X1 X2 X3 W a h h0 h1 h2 h3 (x 0) (x 1) ⟨2048 + k.val, by omega⟩ hk]
  exact (congrArg (vTile _ _ _ _ _ _ _ _) (tile_idx x)).trans (vTile_at _ _ _ _ _ _ _ _ (x 0) (x 1))
end

/-- The test for the first eight lanes. -/
theorem lane_lt : ∀ k : Fin 128, IntOp.cmpi CmpIPredicate.slt (BitVec.ofNat 32 k.val) 8#32 = if k.val < 8 then 1#1 else 0#1 := by
  decide +kernel

/-- The gates' tile, at an index. -/
theorem gate_at (S : FVec Ideal S32x128 .f32) (A D : FVec Ideal S1x128 .f32) (i : Fin 32) (k : Fin 128) :
    k0_pay1 (F := Ideal) (k0_pay62 (F := Ideal) S A D) (k0_pay63) (k0_pay64 (F := Ideal) S) (ix2 i k)
      = if k.val < 8 then Lay.decay (A (ix2 0 k)) (D (ix2 0 k)) (S (ix2 i k)) else Lay.sig (S (ix2 i k)) := by
  unfold Lay.decay Lay.softplus Lay.sig
  pointwise [k0_pay1, k0_pay62, k0_pay63, k0_pay64]
  simp only [zero_sub, lane_lt]
  by_cases h : k.val < 8
  · rw [if_pos h, if_pos h]
    rfl
  · rw [if_neg h, if_neg h]
    rfl

end PrepS
-- ==== Proof.PrepS.Points.lean ====
module
public import proofs.«01_k».proof.Proof.PrepS.Tiles

/-! What a run of the sample batch's convolution stores. -/

@[expose] public section

set_option maxRecDepth 16384

noncomputable section

namespace PrepS
open Idealize.ShloMosaic Idealize.ShloMosaic.TcCoe Idealize.SL.Sem Idealize.ShloMosaic.StableHlo
open Cert.PrepSIdeal Cert.PrepSIdeal.Gen

variable (m : (ℓ : Loc nD τ sig) → Buf (Elt Ideal) ℓ) (c : Dev nD)

/-- A channel of the blocks that a point reads. -/
def bchan (t : Fin cfg0.N) (r : Fin 32) (k : Fin 3072) : EReal :=
  chan (iblk m c 1 t) (iblk m c 2 t) (iblk m c 3 t) (X0_0 m c t) (iblk m c 4 t) r k

set_option maxHeartbeats 16000000 in
/-- The queries that a point stores. -/
theorem q_out (t : Fin cfg0.N) :
    (outsAt0 m c t).1 = fun y => Lay.unitRow (fun d => bchan m c t (y 0) (col 0 (by decide) (y 1) d)) ⟨(y 1).val % 128, Nat.mod_lt _ (by decide)⟩ * Ideal.ofBits .f32 0x3DB504F3#32 := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine q_piece _ _ _ (X0_0 m c t) _ _ 0 _ _ _ _ _ _ x (y 0) (y 1) ?_ ?_ ?_ ?_ <;> dsimp only <;> omega

set_option maxHeartbeats 16000000 in
/-- The keys that a point stores. -/
theorem k_out (t : Fin cfg0.N) :
    (outsAt0 m c t).2.1 = fun y => Lay.unitRow (fun d => bchan m c t (y 0) (col 1024 (by decide) (y 1) d)) ⟨(y 1).val % 128, Nat.mod_lt _ (by decide)⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine k_piece _ _ _ (X0_0 m c t) _ _ 1024 _ _ _ _ _ _ x (y 0) (y 1) ?_ ?_ ?_ ?_ <;> dsimp only <;> omega

set_option maxHeartbeats 16000000 in
/-- The values that a point stores. -/
theorem v_out (t : Fin cfg0.N) :
    (outsAt0 m c t).2.2.1 = fun y => bchan m c t (y 0) ⟨2048 + (y 1).val, by have h : (y 1).val < 1024 := (y 1).isLt; omega⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine v_piece (iblk m c 1 t) (iblk m c 2 t) (iblk m c 3 t) (X0_0 m c t) (iblk m c 4 t) _ 0 _ _ _ _ _ x (y 0) (y 1) ?_ ?_ <;> dsimp only <;> omega

/-- The gates that a point stores. -/
theorem b_out (t : Fin cfg0.N) :
    (outsAt0 m c t).2.2.2 = fun y => if (y 1).val < 8 then Lay.decay ((iblk m c 6 t : FVec Ideal S1x128 .f32) (ix2 0 (y 1))) ((iblk m c 7 t : FVec Ideal S1x128 .f32) (ix2 0 (y 1))) ((iblk m c 5 t : FVec Ideal S32x128 .f32) (ix2 (y 0) (y 1)))
      else Lay.sig ((iblk m c 5 t : FVec Ideal S32x128 .f32) (ix2 (y 0) (y 1))) := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  exact (congrArg (k0_pay1 (F := Ideal) _ _ _) (tile_idx y)).trans (gate_at _ _ _ (y 0) (y 1))

end PrepS
-- ==== Proof.Lay.Lane.lean ====
module
public import proofs.«01_k».proof.Proof.Lay.Rope
public import Idealize.ShloMosaic.Lib.Routing.OpsOne
public import Idealize.ShloMosaic.Lib.Routing.OpsSet

/-! A row of lanes whose first places are set to the entries of a vector. -/

@[expose] public section

noncomputable section

namespace Lay
open Idealize.ShloMosaic Idealize.ShloMosaic.ValueIdx Idealize.ShloMosaic.Routing

/-- Entry `k` of a vector set into a row at two start words lands where the words say, `k` places on. -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- A vector set into the start of a row: a place among the first holds the vector's entry. -/
theorem row_at {α : Type} {C U w : Nat} (d : ScatterDims (shape2 1 C) (shape1 2) (shape1 U)) (hiw : d.insertedWindowDims = [0]) (hsd : d.scatterDimsToOperandDims = [0, 1])
    (hivd : d.indexVectorDim = 0) (x0 : (shape2 1 C).Idx → α) (idx : IVec (shape1 2) w) (h0 : ∀ q : Fin 2, idx (ix1 q) = 0#w) (upd : (shape1 U).Idx → α) (k : Fin U) (c : Fin C)
    (hc : k.val = c.val) : Host.scatter d (fun _ b => b) x0 idx upd (ix2 0 c) = upd (ix1 k) := by
  have z : ∀ q : Fin 2, (idx (ix1 q)).toInt = 0 := fun q => by rw [h0 q]; exact BitVec.toInt_zero
  refine scatter_set_hit d x0 idx upd _ _ (fun k' hk' => ?_) (ix1 k) ((lands_row d hiw hsd hivd idx k 0 c).2 ⟨by rw [z]; rfl, by rw [z]; omega⟩)
  have q := ((lands_row d hiw hsd hivd idx (k' 0) 0 c).1 ((congrArg (fun t => d.resultIdx? t idx) (eq_ix1 k').symm).trans hk')).2
  rw [z] at q
  rw [eq_ix1 k']
  exact congrArg (fun e => upd (ix1 e)) (Fin.ext (by show (k' 0).val = k.val; omega))

end Lay
-- ==== Proof.PrepS.Final.lean ====
module
public import proofs.«01_k».proof.Proof.PrepS.Points
public import proofs.«01_k».proof.Proof.Lay.Lane

/-! What the sample batch's convolution leaves in its arrays, in terms of the arguments. -/

@[expose] public section

set_option maxRecDepth 16384

noncomputable section

namespace PrepS
open Idealize.ShloMosaic Idealize.ShloMosaic.TcCoe Idealize.SL.Sem Idealize.ShloMosaic.StableHlo
open Cert.PrepSIdeal Cert.PrepSIdeal.Gen

/-- A channel of the whole arrays: three rows of the state and the new row. -/
def achan (Z : FVec Ideal S32x14592 .f32) (S : FVec Ideal S32x3x3072 .f32) (W : FVec Ideal S4x3072 .f32) (r : Fin 32) (k : Fin 3072) : EReal :=
  Lay.silu (Lay.taps ![S (ix3 r 0 k), S (ix3 r 1 k), S (ix3 r 2 k), Z (ix2 r ⟨k.val, by omega⟩)] ![W (ix2 0 k), W (ix2 1 k), W (ix2 2 k), W (ix2 3 k)])

/-- The queries. -/
def qF (Z : FVec Ideal S32x14592 .f32) (S : FVec Ideal S32x3x3072 .f32) (W : FVec Ideal S4x3072 .f32) (r : Fin 32) (k : Fin 1024) : EReal :=
  Lay.unitRow (fun d => achan Z S W r (col 0 (by decide) k d)) ⟨k.val % 128, Nat.mod_lt _ (by decide)⟩ * Ideal.ofBits .f32 0x3DB504F3#32

/-- The keys. -/
def kF (Z : FVec Ideal S32x14592 .f32) (S : FVec Ideal S32x3x3072 .f32) (W : FVec Ideal S4x3072 .f32) (r : Fin 32) (k : Fin 1024) : EReal :=
  Lay.unitRow (fun d => achan Z S W r (col 1024 (by decide) k d)) ⟨k.val % 128, Nat.mod_lt _ (by decide)⟩

/-- The values. -/
def vF (Z : FVec Ideal S32x14592 .f32) (S : FVec Ideal S32x3x3072 .f32) (W : FVec Ideal S4x3072 .f32) (r : Fin 32) (k : Fin 1024) : EReal :=
  achan Z S W r ⟨2048 + k.val, by omega⟩

/-- The gates: eight decays, then the logistic of the other columns. -/
def bF (Z : FVec Ideal S32x14592 .f32) (A D : FVec Ideal S8 .f32) (r : Fin 32) (k : Fin 128) : EReal :=
  if h : k.val < 8 then Lay.decay (A (ix1 ⟨k.val, h⟩)) (D (ix1 ⟨k.val, h⟩)) (Z (ix2 r ⟨14464 + k.val, by omega⟩)) else Lay.sig (Z (ix2 r ⟨14464 + k.val, by omega⟩))

/-- The blocks that the windows stage. -/
theorem idx_all : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 113] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- The window of the state's oldest row. -/
theorem win1 (W : FVec Ideal S32x3072 .f32) (t : Fin cfg0.N) (i : Fin 32) (k : Fin 3072) : View.read (Elt Ideal) ((cfg0.win 1).blk t).view W (ix2 i k) = W (ix2 i k) := by
  blk_ext [(idx_all t).2.1]

/-- The window of the state's middle row. -/
theorem win2 (W : FVec Ideal S32x3072 .f32) (t : Fin cfg0.N) (i : Fin 32) (k : Fin 3072) : View.read (Elt Ideal) ((cfg0.win 2).blk t).view W (ix2 i k) = W (ix2 i k) := by
  blk_ext [(idx_all t).2.2.1]

/-- The window of the state's newest row. -/
theorem win3 (W : FVec Ideal S32x3072 .f32) (t : Fin cfg0.N) (i : Fin 32) (k : Fin 3072) : View.read (Elt Ideal) ((cfg0.win 3).blk t).view W (ix2 i k) = W (ix2 i k) := by
  blk_ext [(idx_all t).2.2.2.1]

/-- The taps' window. -/
theorem win4 (W : FVec Ideal S4x3072 .f32) (t : Fin cfg0.N) (i : Fin 4) (k : Fin 3072) : View.read (Elt Ideal) ((cfg0.win 4).blk t).view W (ix2 i k) = W (ix2 i k) := by
  blk_ext [(idx_all t).2.2.2.2.1]

/-- The gates' window. -/
theorem win5 (W : FVec Ideal S32x14592 .f32) (t : Fin cfg0.N) (i : Fin 32) (k : Fin 128) :
    View.read (Elt Ideal) ((cfg0.win 5).blk t).view W (ix2 i k) = W (ix2 i ⟨14464 + k.val, by omega⟩) := by
  blk_ext [(idx_all t).2.2.2.2.2.1]

/-- The decay rates' window. -/
theorem win6 (W : FVec Ideal S1x128 .f32) (t : Fin cfg0.N) (k : Fin 128) : View.read (Elt Ideal) ((cfg0.win 6).blk t).view W (ix2 0 k) = W (ix2 0 k) := by
  blk_ext [(idx_all t).2.2.2.2.2.2.1]

/-- The offsets' window. -/
theorem win7 (W : FVec Ideal S1x128 .f32) (t : Fin cfg0.N) (k : Fin 128) : View.read (Elt Ideal) ((cfg0.win 7).blk t).view W (ix2 0 k) = W (ix2 0 k) := by
  blk_ext [(idx_all t).2.2.2.2.2.2.2.1]

variable (m : (ℓ : Loc nD τ sig) → Buf (Elt Ideal) ℓ) (c : Dev nD)

/-- The arrays that the windows read as they come. -/
theorem entry_args : V m c main_arg0 = m (c, main_arg0) ∧ V m c main_arg2 = m (c, main_arg2) := by
  refine ⟨?_, ?_⟩ <;>
  · unfold V
    simp only [hostOps0, List.flatten_cons, List.flatten_nil, List.append_nil, List.cons_append, List.nil_append]
    entry_read
    rfl

/-- The state's rows. -/
theorem entry_state (i : Fin 32) (k : Fin 3072) : (V m c main_v1 : FVec Ideal S32x3072 .f32) (ix2 i k) = (m (c, main_arg1) : FVec Ideal S32x3x3072 .f32) (ix3 i 0 k)
    ∧ (V m c main_v3 : FVec Ideal S32x3072 .f32) (ix2 i k) = (m (c, main_arg1) : FVec Ideal S32x3x3072 .f32) (ix3 i 1 k)
    ∧ (V m c main_v5 : FVec Ideal S32x3072 .f32) (ix2 i k) = (m (c, main_arg1) : FVec Ideal S32x3x3072 .f32) (ix3 i 2 k) := by
  refine ⟨?_, ?_, ?_⟩ <;>
  · unfold V
    simp only [hostOps0, List.flatten_cons, List.flatten_nil, List.append_nil, List.cons_append, List.nil_append]
    entry_read
    pointwise []

/-- The two start words of a row of lanes are zero. -/
theorem start_zero (q : Fin 2) :
    (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) (ix1 q) = 0#32 := by
  fin_cases q <;> rfl

/-- The decay rates' row of lanes. -/
theorem entry_a (k : Fin 128) (h : k.val < 8) : (V m c main_v10 : FVec Ideal S1x128 .f32) (ix2 0 k) = (m (c, main_arg3) : FVec Ideal S8 .f32) (ix1 ⟨k.val, h⟩) := by
  unfold V
  simp only [hostOps0, List.flatten_cons, List.flatten_nil, List.append_nil, List.cons_append, List.nil_append]
  entry_read
  exact Lay.row_at scatter_S1x128_S2_S8_0_0_01_0 rfl rfl rfl _ _ start_zero _ ⟨k.val, h⟩ k rfl

/-- The offsets' row of lanes. -/
theorem entry_d (k : Fin 128) (h : k.val < 8) : (V m c main_v15 : FVec Ideal S1x128 .f32) (ix2 0 k) = (m (c, main_arg4) : FVec Ideal S8 .f32) (ix1 ⟨k.val, h⟩) := by
  unfold V
  simp only [hostOps0, List.flatten_cons, List.flatten_nil, List.append_nil, List.cons_append, List.nil_append]
  entry_read
  exact Lay.row_at scatter_S1x128_S2_S8_0_0_01_0 rfl rfl rfl _ _ start_zero _ ⟨k.val, h⟩ k rfl

/-- The new row's channels. -/
theorem win0 (t : Fin cfg0.N) (i : Fin 32) (k : Fin 3072) :
    X0_0 m c t (ix2 i k) = (m (c, main_arg0) : FVec Ideal S32x14592 .f32) (ix2 i ⟨k.val, by omega⟩) := by
  rw [← (entry_args m c).1]
  unfold X0_0 Pipeline.Window.fill
  rw [dif_pos (moved0_0 t _)]
  blk_ext [iblk, (idx_all t).1]

/-- A channel of a point's blocks is that channel of the whole arrays. -/
theorem bchan_at (t : Fin cfg0.N) : bchan m c t = achan (m (c, main_arg0)) (m (c, main_arg1)) (m (c, main_arg2)) := by
  funext r k
  have w := fun j => (win4 (V m c main_arg2) t j k).trans (congrFun (entry_args m c).2 _)
  unfold bchan chan achan
  rw [win0]
  refine congrArg Lay.silu (congrArg₂ Lay.taps ?_ ?_)
  · exact congrArg₂ (fun a b => ![a, b.1, b.2, _]) ((win1 (V m c main_v1) t r k).trans (entry_state m c r k).1)
      (Prod.ext ((win2 (V m c main_v3) t r k).trans (entry_state m c r k).2.1) ((win3 (V m c main_v5) t r k).trans (entry_state m c r k).2.2) : (_, _) = (_, _))
  · exact congrArg (fun f : Fin 4 → EReal => ![f 0, f 1, f 2, f 3]) (funext w)

/-- The queries' array. -/
theorem final_q : (dats m 0 c).arrAt 8 cfg0.N = fun j => qF (m (c, main_arg0)) (m (c, main_arg1)) (m (c, main_arg2)) (j 0) (j 1) := by
  refine (dats m 0 c).arrAt_eq_of_covers 8 _ (by decide +kernel) fun t hf y => ?_
  blk_simp
  rw [after0_8]
  have e0 : (win0_8.blk t).view.emb y 0 = y 0 := Fin.ext (by blk_simp [(idx_all t).2.2.2.2.2.2.2.2.1])
  have e1 : (win0_8.blk t).view.emb y 1 = y 1 := Fin.ext (by blk_simp [(idx_all t).2.2.2.2.2.2.2.2.1])
  rw [e0, e1]
  refine (congrFun (q_out m c t) y).trans ?_
  rw [bchan_at]
  rfl

/-- The keys' array. -/
theorem final_k : (dats m 0 c).arrAt 9 cfg0.N = fun j => kF (m (c, main_arg0)) (m (c, main_arg1)) (m (c, main_arg2)) (j 0) (j 1) := by
  refine (dats m 0 c).arrAt_eq_of_covers 9 _ (by decide +kernel) fun t hf y => ?_
  blk_simp
  rw [after0_9]
  have e0 : (win0_9.blk t).view.emb y 0 = y 0 := Fin.ext (by blk_simp [(idx_all t).2.2.2.2.2.2.2.2.2.1])
  have e1 : (win0_9.blk t).view.emb y 1 = y 1 := Fin.ext (by blk_simp [(idx_all t).2.2.2.2.2.2.2.2.2.1])
  rw [e0, e1]
  refine (congrFun (k_out m c t) y).trans ?_
  rw [bchan_at]
  rfl

/-- The values' array. -/
theorem final_v : (dats m 0 c).arrAt 10 cfg0.N = fun j => vF (m (c, main_arg0)) (m (c, main_arg1)) (m (c, main_arg2)) (j 0) (j 1) := by
  refine (dats m 0 c).arrAt_eq_of_covers 10 _ (by decide +kernel) fun t hf y => ?_
  blk_simp
  rw [after0_10]
  have e0 : (win0_10.blk t).view.emb y 0 = y 0 := Fin.ext (by blk_simp [(idx_all t).2.2.2.2.2.2.2.2.2.2.1])
  have e1 : (win0_10.blk t).view.emb y 1 = y 1 := Fin.ext (by blk_simp [(idx_all t).2.2.2.2.2.2.2.2.2.2.1])
  rw [e0, e1]
  refine (congrFun (v_out m c t) y).trans ?_
  rw [bchan_at]
  rfl

/-- The gates of a point. -/
theorem gates_at (t : Fin cfg0.N) (i : Fin 32) (k : Fin 128) :
    (if k.val < 8 then Lay.decay ((iblk m c 6 t : FVec Ideal S1x128 .f32) (ix2 0 k)) ((iblk m c 7 t : FVec Ideal S1x128 .f32) (ix2 0 k)) ((iblk m c 5 t : FVec Ideal S32x128 .f32) (ix2 i k))
      else Lay.sig ((iblk m c 5 t : FVec Ideal S32x128 .f32) (ix2 i k))) = bF (m (c, main_arg0)) (m (c, main_arg3)) (m (c, main_arg4)) i k := by
  have e5 : (iblk m c 5 t : FVec Ideal S32x128 .f32) (ix2 i k) = (m (c, main_arg0) : FVec Ideal S32x14592 .f32) (ix2 i ⟨14464 + k.val, by omega⟩) :=
    (win5 (V m c main_arg0) t i k).trans (congrFun (entry_args m c).1 _)
  unfold bF
  by_cases h : k.val < 8
  · have e6 : (iblk m c 6 t : FVec Ideal S1x128 .f32) (ix2 0 k) = _ := (win6 (V m c main_v10) t k).trans (entry_a m c k h)
    have e7 : (iblk m c 7 t : FVec Ideal S1x128 .f32) (ix2 0 k) = _ := (win7 (V m c main_v15) t k).trans (entry_d m c k h)
    rw [if_pos h, dif_pos h, e5, e6, e7]
  · rw [if_neg h, dif_neg h, e5]

/-- The gates' array. -/
theorem final_b : (dats m 0 c).arrAt 11 cfg0.N = fun j => bF (m (c, main_arg0)) (m (c, main_arg3)) (m (c, main_arg4)) (j 0) (j 1) := by
  refine (dats m 0 c).arrAt_eq_of_covers 11 _ (by decide +kernel) fun t hf y => ?_
  blk_simp
  rw [after0_11]
  have e0 : (win0_11.blk t).view.emb y 0 = y 0 := Fin.ext (by blk_simp [(idx_all t).2.2.2.2.2.2.2.2.2.2.2])
  have e1 : (win0_11.blk t).view.emb y 1 = y 1 := Fin.ext (by blk_simp [(idx_all t).2.2.2.2.2.2.2.2.2.2.2])
  rw [e0, e1]
  exact (congrFun (b_out m c t) y).trans (gates_at m c t (y 0) (y 1))

end PrepS
-- ==== Proof.PrepS.Ref.lean ====
module
public import proofs.«01_k».proof.Proof.PrepS.Final
public import proofs.«01_k».proof.Proof.Gen.PrepSRefIdeal.Run

/-! What the plain convolution of the sample batch leaves in its arrays. -/

@[expose] public section

set_option maxRecDepth 16384

noncomputable section

namespace PrepS.Ref
open Idealize.ShloMosaic Idealize.ShloMosaic.TcCoe Idealize.SL.Sem Idealize.ShloMosaic.StableHlo
open Cert.PrepSRefIdeal Cert.PrepSRefIdeal.Gen

/-- The state's rows, then the new row. -/
def padT (Z : FVec Ideal S32x14592 .f32) (S : FVec Ideal S32x3x3072 .f32) : FVec Ideal S32x4x3072 .f32 :=
  concatenate S32x4x3072 1 [⟨S32x3x3072, S⟩, ⟨S32x1x3072, (extractStridedSlice S32x1x3072 ![0, 0, 0] (broadcastInDim S32x1x14592 ![0, 2] bcast_S32x14592_S32x1x14592_0_2 Z) slices_S32x1x14592_S32x1x3072_0_0_0)⟩] concatenates_S32x3x3072_S32x1x3072_S32x4x3072_d1

/-- The convolution of the padded rows. -/
def convT (P : FVec Ideal S32x4x3072 .f32) (W : FVec Ideal S4x3072 .f32) : FVec Ideal S32x1x3072 .f32 :=
  addf (addf (addf (addf (broadcastInDim S32x1x3072 ![] bcast_S_S32x1x3072 (constant (F := Ideal) S_ .f32 0x00000000#32)) (mulf (extractStridedSlice S32x1x3072 ![0, 0, 0] P slices_S32x4x3072_S32x1x3072_0_0_0) (broadcastInDim S32x1x3072 ![0, 1, 2] bcast_S1x1x3072_S32x1x3072_0_1_2 (broadcastInDim S1x1x3072 ![2] bcast_S3072_S1x1x3072_2 (shapeCast S3072 (extractStridedSlice S1x3072 ![0, 0] W slices_S4x3072_S1x3072_0_0) shapeCasts_S1x3072_S3072))))) (mulf (extractStridedSlice S32x1x3072 ![0, 1, 0] P slices_S32x4x3072_S32x1x3072_0_1_0) (broadcastInDim S32x1x3072 ![0, 1, 2] bcast_S1x1x3072_S32x1x3072_0_1_2 (broadcastInDim S1x1x3072 ![2] bcast_S3072_S1x1x3072_2 (shapeCast S3072 (extractStridedSlice S1x3072 ![1, 0] W slices_S4x3072_S1x3072_1_0) shapeCasts_S1x3072_S3072))))) (mulf (extractStridedSlice S32x1x3072 ![0, 2, 0] P slices_S32x4x3072_S32x1x3072_0_2_0) (broadcastInDim S32x1x3072 ![0, 1, 2] bcast_S1x1x3072_S32x1x3072_0_1_2 (broadcastInDim S1x1x3072 ![2] bcast_S3072_S1x1x3072_2 (shapeCast S3072 (extractStridedSlice S1x3072 ![2, 0] W slices_S4x3072_S1x3072_2_0) shapeCasts_S1x3072_S3072))))) (mulf (extractStridedSlice S32x1x3072 ![0, 3, 0] P slices_S32x4x3072_S32x1x3072_0_3_0) (broadcastInDim S32x1x3072 ![0, 1, 2] bcast_S1x1x3072_S32x1x3072_0_1_2 (broadcastInDim S1x1x3072 ![2] bcast_S3072_S1x1x3072_2 (shapeCast S3072 (extractStridedSlice S1x3072 ![3, 0] W slices_S4x3072_S1x3072_3_0) shapeCasts_S1x3072_S3072))))

/-- The convolution gated. -/
def siluT (C : FVec Ideal S32x1x3072 .f32) : FVec Ideal S32x1x3072 .f32 :=
  mulf C (Host.divf (broadcastInDim S32x1x3072 ![] bcast_S_S32x1x3072 (constant (F := Ideal) S_ .f32 0x3F800000#32)) (addf (broadcastInDim S32x1x3072 ![] bcast_S_S32x1x3072 (constant (F := Ideal) S_ .f32 0x3F800000#32)) (Host.exp (Host.negf C))))

/-- The values' part. -/
def vT (X : FVec Ideal S32x1x3072 .f32) : FVec Ideal S32x1024 .f32 :=
  shapeCast S32x1024 (extractStridedSlice S32x1x1024 ![0, 0, 2048] X slices_S32x1x3072_S32x1x1024_0_0_2048) shapeCasts_S32x1x1024_S32x1024

/-- The keys' part, its heads of length one. -/
def kT (X : FVec Ideal S32x1x3072 .f32) : FVec Ideal S32x1024 .f32 :=
  shapeCast S32x1024 (shapeCast S32x1x1024 (mulf (shapeCast S32x1x8x128 (extractStridedSlice S32x1x1024 ![0, 0, 1024] X slices_S32x1x3072_S32x1x1024_0_0_1024) shapeCasts_S32x1x1024_S32x1x8x128) (broadcastInDim S32x1x8x128 ![0, 1, 2, 3] bcast_S32x1x8x1_S32x1x8x128_0_1_2_3 (Host.rsqrt (addf (broadcastInDim S32x1x8x1 ![0, 1, 2] bcast_S32x1x8_S32x1x8x1_0_1_2 (Host.reduceAdd (mulf (shapeCast S32x1x8x128 (extractStridedSlice S32x1x1024 ![0, 0, 1024] X slices_S32x1x3072_S32x1x1024_0_0_1024) shapeCasts_S32x1x1024_S32x1x8x128) (shapeCast S32x1x8x128 (extractStridedSlice S32x1x1024 ![0, 0, 1024] X slices_S32x1x3072_S32x1x1024_0_0_1024) shapeCasts_S32x1x1024_S32x1x8x128)) (constant (F := Ideal) S_ .f32 0x00000000#32) reducesTo_S32x1x8x128_S32x1x8_d3 h_S_)) (broadcastInDim S32x1x8x1 ![] bcast_S_S32x1x8x1 (constant (F := Ideal) S_ .f32 0x358637BD#32)))))) shapeCasts_S32x1x8x128_S32x1x1024) shapeCasts_S32x1x1024_S32x1024

/-- The queries' part, its heads of length one and scaled. -/
def qT (X : FVec Ideal S32x1x3072 .f32) : FVec Ideal S32x1024 .f32 :=
  shapeCast S32x1024 (shapeCast S32x1x1024 (mulf (mulf (shapeCast S32x1x8x128 (extractStridedSlice S32x1x1024 ![0, 0, 0] X slices_S32x1x3072_S32x1x1024_0_0_0) shapeCasts_S32x1x1024_S32x1x8x128) (broadcastInDim S32x1x8x128 ![0, 1, 2, 3] bcast_S32x1x8x1_S32x1x8x128_0_1_2_3 (Host.rsqrt (addf (broadcastInDim S32x1x8x1 ![0, 1, 2] bcast_S32x1x8_S32x1x8x1_0_1_2 (Host.reduceAdd (mulf (shapeCast S32x1x8x128 (extractStridedSlice S32x1x1024 ![0, 0, 0] X slices_S32x1x3072_S32x1x1024_0_0_0) shapeCasts_S32x1x1024_S32x1x8x128) (shapeCast S32x1x8x128 (extractStridedSlice S32x1x1024 ![0, 0, 0] X slices_S32x1x3072_S32x1x1024_0_0_0) shapeCasts_S32x1x1024_S32x1x8x128)) (constant (F := Ideal) S_ .f32 0x00000000#32) reducesTo_S32x1x8x128_S32x1x8_d3 h_S_)) (broadcastInDim S32x1x8x1 ![] bcast_S_S32x1x8x1 (constant (F := Ideal) S_ .f32 0x358637BD#32)))))) (broadcastInDim S32x1x8x128 ![] bcast_S_S32x1x8x128 (constant (F := Ideal) S_ .f32 0x3DB504F3#32))) shapeCasts_S32x1x8x128_S32x1x1024) shapeCasts_S32x1x1024_S32x1024

/-- The decay's argument. -/
def argT (Z : FVec Ideal S32x14592 .f32) (D : FVec Ideal S8 .f32) : FVec Ideal S32x1x8 .f32 :=
  addf (extractStridedSlice S32x1x8 ![0, 0, 14464] (broadcastInDim S32x1x14592 ![0, 2] bcast_S32x14592_S32x1x14592_0_2 Z) slices_S32x1x14592_S32x1x8_0_0_14464) (broadcastInDim S32x1x8 ![0, 1, 2] bcast_S1x1x8_S32x1x8_0_1_2 (broadcastInDim S1x1x8 ![2] bcast_S8_S1x1x8_2 D))

/-- The gates. -/
def bT (Z : FVec Ideal S32x14592 .f32) (A : FVec Ideal S8 .f32) (Y : FVec Ideal S32x1x8 .f32) : FVec Ideal S32x128 .f32 :=
  shapeCast S32x128 (concatenate S32x1x128 2 [⟨S32x1x8, (mulf (broadcastInDim S32x1x8 ![0, 1, 2] bcast_S1x1x8_S32x1x8_0_1_2 (broadcastInDim S1x1x8 ![2] bcast_S8_S1x1x8_2 (Host.negf (Host.exp A)))) (select (cmpf .une (subf Y (broadcastInDim S32x1x8 ![] bcast_S_S32x1x8 (constant (F := Ideal) S_ .f32 0x00000000#32))) (subf Y (broadcastInDim S32x1x8 ![] bcast_S_S32x1x8 (constant (F := Ideal) S_ .f32 0x00000000#32)))) (addf Y (broadcastInDim S32x1x8 ![] bcast_S_S32x1x8 (constant (F := Ideal) S_ .f32 0x00000000#32))) (addf (maximumf Y (broadcastInDim S32x1x8 ![] bcast_S_S32x1x8 (constant (F := Ideal) S_ .f32 0x00000000#32))) (Host.log1p (Host.exp (Host.negf (Host.absf (subf Y (broadcastInDim S32x1x8 ![] bcast_S_S32x1x8 (constant (F := Ideal) S_ .f32 0x00000000#32))))))))))⟩, ⟨S32x1x120, (Host.divf (broadcastInDim S32x1x120 ![] bcast_S_S32x1x120 (constant (F := Ideal) S_ .f32 0x3F800000#32)) (addf (broadcastInDim S32x1x120 ![] bcast_S_S32x1x120 (constant (F := Ideal) S_ .f32 0x3F800000#32)) (Host.exp (Host.negf (extractStridedSlice S32x1x120 ![0, 0, 14472] (broadcastInDim S32x1x14592 ![0, 2] bcast_S32x14592_S32x1x14592_0_2 Z) slices_S32x1x14592_S32x1x120_0_0_14472)))))⟩] concatenates_S32x1x8_S32x1x120_S32x1x128_d2) shapeCasts_S32x1x128_S32x128

/-- The padded rows, at an index. -/
theorem pad_at (Z : FVec Ideal S32x14592 .f32) (S : FVec Ideal S32x3x3072 .f32) (r : Fin 32) (k : Fin 3072) :
    padT Z S (ix3 r 0 k) = S (ix3 r 0 k) ∧ padT Z S (ix3 r 1 k) = S (ix3 r 1 k) ∧ padT Z S (ix3 r 2 k) = S (ix3 r 2 k) ∧ padT Z S (ix3 r 3 k) = Z (ix2 r ⟨k.val, by omega⟩) := by
  unfold padT
  refine ⟨?_, ?_, ?_, ?_⟩ <;> pointwise []

/-- The convolution, at an index. -/
theorem conv_at (P : FVec Ideal S32x4x3072 .f32) (W : FVec Ideal S4x3072 .f32) (r : Fin 32) (k : Fin 3072) :
    convT P W (ix3 r 0 k) = Lay.taps ![P (ix3 r 0 k), P (ix3 r 1 k), P (ix3 r 2 k), P (ix3 r 3 k)] ![W (ix2 0 k), W (ix2 1 k), W (ix2 2 k), W (ix2 3 k)] := by
  unfold convT Lay.taps
  pointwise []

/-- The gated convolution, at an index. -/
theorem silu_at (C : FVec Ideal S32x1x3072 .f32) (r : Fin 32) (k : Fin 3072) : siluT C (ix3 r 0 k) = Lay.silu (C (ix3 r 0 k)) := by
  unfold siluT Lay.silu
  pointwise []

/-- The channels, at an index. -/
theorem chan_at (Z : FVec Ideal S32x14592 .f32) (S : FVec Ideal S32x3x3072 .f32) (W : FVec Ideal S4x3072 .f32) (r : Fin 32) (k : Fin 3072) :
    siluT (convT (padT Z S) W) (ix3 r 0 k) = achan Z S W r k := by
  obtain ⟨e0, e1, e2, e3⟩ := pad_at Z S r k
  rw [silu_at, conv_at, e0, e1, e2, e3]
  rfl

/-- The values, at an index. -/
theorem v_at (X : FVec Ideal S32x1x3072 .f32) (r : Fin 32) (k : Fin 1024) : vT X (ix2 r k) = X (ix3 r 0 ⟨2048 + k.val, by omega⟩) := by
  unfold vT
  pointwise []

/-- The keys, at an index. -/
theorem k_at (X : FVec Ideal S32x1x3072 .f32) (r : Fin 32) (k : Fin 1024) :
    kT X (ix2 r k) = Lay.unitRow (fun d => X (ix3 r 0 (col 1024 (by decide) k d))) ⟨k.val % 128, Nat.mod_lt _ (by decide)⟩ := by
  unfold kT Lay.unitRow col
  pointwise []
  simp only [Nat.mul_comm _ 128, Nat.div_add_mod]

/-- The queries, at an index. -/
theorem q_at (X : FVec Ideal S32x1x3072 .f32) (r : Fin 32) (k : Fin 1024) :
    qT X (ix2 r k) = Lay.unitRow (fun d => X (ix3 r 0 (col 0 (by decide) k d))) ⟨k.val % 128, Nat.mod_lt _ (by decide)⟩ * Ideal.ofBits .f32 0x3DB504F3#32 := by
  unfold qT Lay.unitRow col
  pointwise []
  simp only [Nat.mul_comm _ 128, Nat.div_add_mod]

/-- The decay's argument, at an index. -/
theorem arg_at (Z : FVec Ideal S32x14592 .f32) (D : FVec Ideal S8 .f32) (r : Fin 32) (h : Fin 8) :
    argT Z D (ix3 r 0 h) = Z (ix2 r ⟨14464 + h.val, by omega⟩) + D (ix1 h) := by
  unfold argT
  pointwise []

/-- The gates, at an index. -/
theorem b_at (Z : FVec Ideal S32x14592 .f32) (A D : FVec Ideal S8 .f32) (r : Fin 32) (k : Fin 128) : bT Z A (argT Z D) (ix2 r k) = bF Z A D r k := by
  unfold bT bF Lay.decay Lay.softplus Lay.sig
  by_cases h : k.val < 8
  · rw [dif_pos h, ← arg_at Z D r ⟨k.val, h⟩]
    generalize argT Z D = Y
    pointwise [h]
    rw [if_neg fun e => e rfl]
    rfl
  · rw [dif_neg h]
    pointwise [h]
    simp only [zero_sub]
    refine congrArg (fun e : Fin 14592 => Ideal.div 1 (1 + Ideal.exp (-Z (ix2 r e)))) (Fin.ext ?_)
    show 14472 + (k.val - 8) = 14464 + k.val
    omega

variable (m : (ℓ : Loc nD τ sig) → Buf (Elt Ideal) ℓ) (c : Dev nD)

/-- The reference's queries. -/
theorem ref_q : Cert.PrepSRefIdeal.Value.res_main_v75 m c = fun j => qF (m (c, main_arg0)) (m (c, main_arg1)) (m (c, main_arg2)) (j 0) (j 1) := by
  funext j
  idx_vars j
  unfold Cert.PrepSRefIdeal.Value.res_main_v75 qF
  refine (q_at (siluT (convT (padT (m (c, main_arg0)) (m (c, main_arg1))) (m (c, main_arg2)))) j0 j1).trans ?_
  simp only [chan_at]

/-- The reference's keys. -/
theorem ref_k : Cert.PrepSRefIdeal.Value.res_main_v76 m c = fun j => kF (m (c, main_arg0)) (m (c, main_arg1)) (m (c, main_arg2)) (j 0) (j 1) := by
  funext j
  idx_vars j
  unfold Cert.PrepSRefIdeal.Value.res_main_v76 kF
  refine (k_at (siluT (convT (padT (m (c, main_arg0)) (m (c, main_arg1))) (m (c, main_arg2)))) j0 j1).trans ?_
  simp only [chan_at]

/-- The reference's values. -/
theorem ref_v : Cert.PrepSRefIdeal.Value.res_main_v77 m c = fun j => vF (m (c, main_arg0)) (m (c, main_arg1)) (m (c, main_arg2)) (j 0) (j 1) := by
  funext j
  idx_vars j
  unfold Cert.PrepSRefIdeal.Value.res_main_v77 vF
  exact (v_at (siluT (convT (padT (m (c, main_arg0)) (m (c, main_arg1))) (m (c, main_arg2)))) j0 j1).trans (chan_at _ _ _ _ _)

/-- The reference's gates. -/
theorem ref_b (Z : FVec Ideal S32x14592 .f32) (A D : FVec Ideal S8 .f32) : bT Z A (argT Z D) = fun j => bF Z A D (j 0) (j 1) := by
  funext j
  idx_vars j
  exact b_at Z A D j0 j1

end PrepS.Ref
-- ==== Proof.InProjS.Points.lean ====
module
public import proofs.«01_k».proof.Proof.Gen.InProjSIdeal.Frame
public import proofs.«01_k».proof.Proof.Lay.Rms
public import Idealize.ShloMosaic.Lib.Pipeline.Value
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! The sample batch's input projection's points: the scratch holds the normalised rows of the point's block of rows from the block's first
    point on, and a point's output is their product with the point's block of columns. -/

@[expose] public section

set_option maxRecDepth 16384

noncomputable section

namespace InProjS
open Idealize.ShloMosaic Idealize.ShloMosaic.TcCoe Idealize.SL.Sem
open Cert.InProjSIdeal Cert.InProjSIdeal.Gen

/-- The normalised rows, at an index. -/
theorem pay1_at (x : FVec Ideal S32x2048 .f32) (g : FVec Ideal S1x2048 .f32) (i : Fin 32) (k : Fin 2048) :
    (k0_pay1 (F := Ideal) x g : FVec Ideal S32x2048 .bf16) (ix2 i k) = Lay.rms (fun d => x (ix2 i d)) (fun d => g (ix2 0 d)) k := by
  unfold Lay.rms
  pointwise [k0_pay1]

/-- The product, at an index. -/
theorem pay2_at (h : FVec Ideal S32x2048 .bf16) (w : FVec Ideal S2048x2432 .bf16) (i : Fin 32) (j : Fin 2432) :
    (k0_pay2 (F := Ideal) h w : FVec Ideal S32x2432 .f32) (ix2 i j) = (∑ d : Fin 2048, (h (ix2 i d) * w (ix2 d j) : EReal)) := by
  pointwise [k0_pay2]

variable (m : (ℓ : Loc nD τ sig) → Buf (Elt Ideal) ℓ) (c : Dev nD)

/-- The scratch after a first point of a block of rows. -/
theorem scr_A (t : Fin cfg0.N) (h0 : t.val % 6 = 0) : (outsAt0 m c t.val t.isLt).2 = k0_pay1 (iblk m c 0 t) (iblk m c 1 t) := by
  rw [outsAt0_A m c t h0]
  frame_out

/-- The output of a first point of a block of rows. -/
theorem out_A (t : Fin cfg0.N) (h0 : t.val % 6 = 0) :
    (outsAt0 m c t.val t.isLt).1 = k0_pay2 (k0_pay1 (iblk m c 0 t) (iblk m c 1 t)) (iblk m c 2 t) := by
  rw [outsAt0_A m c t h0]
  frame_out

/-- Another point leaves the scratch as it was. -/
theorem scr_B (t : Fin cfg0.N) (h0 : ¬t.val % 6 = 0) :
    (outsAt0 m c t.val t.isLt).2 = (outsAt0 m c (t.val - 1) (by omega)).2 := by
  rw [outsAt0_B m c t h0]
  rfl

/-- The output of another point. -/
theorem out_B (t : Fin cfg0.N) (h0 : ¬t.val % 6 = 0) :
    (outsAt0 m c t.val t.isLt).1 = k0_pay2 (outsAt0 m c (t.val - 1) (by omega)).2 (iblk m c 2 t) := by
  rw [outsAt0_B m c t h0]
  frame_out
  rw [read_unread_whole]

/-- The blocks that the windows stage at a point. -/
theorem idx_all : ∀ t : Fin cfg0.N, win0_0.index t = ![t.val / 6, 0] ∧ win0_1.index t = ![0, 0] ∧ win0_2.index t = ![0, t.val % 6]
    ∧ win0_3.index t = ![t.val / 6, t.val % 6] :=
  (by decide +kernel : ∀ t : Fin grid0.N, _)

/-- Row `i` of the point numbered `n`. -/
def rowOf (n : ℕ) (hn : n < cfg0.N) (i : Fin 32) : Fin 32 :=
  ⟨32 * (n / 6) + i.val, by have := lt_of_lt_of_eq hn (show cfg0.N = 6 from N_0); omega⟩
/-- Column `j` of a point. -/
def colOf (t : Fin cfg0.N) (j : Fin 2432) : Fin 14592 := ⟨2432 * (t.val % 6) + j.val, by omega⟩

theorem win0 (W : FVec Ideal S32x2048 .f32) (t : Fin cfg0.N) (i : Fin 32) (k : Fin 2048) :
    View.read (Elt Ideal) ((cfg0.win 0).blk t).view W (ix2 i k) = W (ix2 (rowOf t.val t.isLt i) k) := by
  blk_ext [(idx_all t).1, rowOf]

theorem win1 (W : FVec Ideal S1x2048 .f32) (t : Fin cfg0.N) (k : Fin 2048) :
    View.read (Elt Ideal) ((cfg0.win 1).blk t).view W (ix2 0 k) = W (ix2 0 k) := by
  blk_ext [(idx_all t).2.1]

theorem win2 (W : FVec Ideal S2048x14592 .bf16) (t : Fin cfg0.N) (k : Fin 2048) (j : Fin 2432) :
    View.read (Elt Ideal) ((cfg0.win 2).blk t).view W (ix2 k j) = W (ix2 k (colOf t j)) := by
  blk_ext [(idx_all t).2.2.1, colOf]

/-- The block of rows, normalised, at a point. -/
theorem pay1_blk (t : Fin cfg0.N) (i : Fin 32) (k : Fin 2048) :
    (k0_pay1 (F := Ideal) (iblk m c 0 t) (iblk m c 1 t) : FVec Ideal S32x2048 .bf16) (ix2 i k)
      = Lay.rms (fun d => (V m c main_v0 : FVec Ideal S32x2048 .f32) (ix2 (rowOf t.val t.isLt i) d))
          (fun d => (V m c main_v1 : FVec Ideal S1x2048 .f32) (ix2 0 d)) k := by
  rw [pay1_at]
  exact congrArg₂ (fun x g => Lay.rms x g k) (funext fun d => win0 (V m c main_v0) t i d) (funext fun d => win1 (V m c main_v1) t d)

/-- The scratch holds the normalised rows of the point's block. -/
theorem scr_all : ∀ (n : ℕ) (hn : n < cfg0.N) (i : Fin 32) (k : Fin 2048),
    (outsAt0 m c n hn).2 (ix2 i k)
      = Lay.rms (fun d => (V m c main_v0 : FVec Ideal S32x2048 .f32) (ix2 (rowOf n hn i) d))
          (fun d => (V m c main_v1 : FVec Ideal S1x2048 .f32) (ix2 0 d)) k := by
  intro n
  induction n with
  | zero =>
    intro hn i k
    rw [scr_A m c ⟨0, hn⟩ (Nat.zero_mod 6)]
    exact pay1_blk m c ⟨0, hn⟩ i k
  | succ n ih =>
    intro hn i k
    by_cases h0 : (n + 1) % 6 = 0
    · rw [scr_A m c ⟨n + 1, hn⟩ h0]
      exact pay1_blk m c ⟨n + 1, hn⟩ i k
    · rw [scr_B m c ⟨n + 1, hn⟩ h0]
      refine (ih (by omega) i k).trans ?_
      have e : rowOf n (by omega) i = rowOf (n + 1) hn i := Fin.ext (by simp only [rowOf]; omega)
      rw [e]

/-- A point's output. -/
theorem out_all (t : Fin cfg0.N) (i : Fin 32) (j : Fin 2432) :
    (outsAt0 m c t.val t.isLt).1 (ix2 i j)
      = (∑ d : Fin 2048, (Lay.rms (fun d => (V m c main_v0 : FVec Ideal S32x2048 .f32) (ix2 (rowOf t.val t.isLt i) d))
          (fun d => (V m c main_v1 : FVec Ideal S1x2048 .f32) (ix2 0 d)) d * (V m c main_arg2 : FVec Ideal S2048x14592 .bf16) (ix2 d (colOf t j)) : EReal)) := by
  by_cases h0 : t.val % 6 = 0
  · rw [out_A m c t h0, pay2_at]
    refine Finset.sum_congr rfl fun d _ => ?_
    rw [pay1_blk]
    exact congrArg (_ * ·) (win2 (V m c main_arg2) t d j)
  · rw [out_B m c t h0, pay2_at]
    refine Finset.sum_congr rfl fun d _ => ?_
    rw [scr_all]
    refine congrArg₂ (· * ·) ?_ (win2 (V m c main_arg2) t d j)
    have e : rowOf (t.val - 1) (by omega) i = rowOf t.val t.isLt i := Fin.ext (by simp only [rowOf]; omega)
    rw [e]

end InProjS
-- ==== Proof.InProjS.Final.lean ====
module
public import proofs.«01_k».proof.Proof.InProjS.Points

/-! What the sample batch's input projection leaves in its array, in terms of the arguments. -/

@[expose] public section

set_option maxRecDepth 16384

noncomputable section

namespace InProjS
open Idealize.ShloMosaic Idealize.ShloMosaic.TcCoe Idealize.SL.Sem Idealize.ShloMosaic.StableHlo
open Cert.InProjSIdeal Cert.InProjSIdeal.Gen

/-- The projection of sequence `r`'s token, at column `j`: the token's normalised row times the column. -/
def zF (x : FVec Ideal S32x1x2048 .f32) (g : FVec Ideal S2048 .f32) (w : FVec Ideal S2048x14592 .bf16) (r : Fin 32) (j : Fin 14592) : EReal :=
  ∑ d : Fin 2048, (Lay.rms (fun d => x (ix3 r 0 d)) (fun d => g (ix1 d)) d * w (ix2 d j) : EReal)

variable (m : (ℓ : Loc nD τ sig) → Buf (Elt Ideal) ℓ) (c : Dev nD)

/-- The rows that the region finds. -/
theorem entry_x (r : Fin 32) (d : Fin 2048) :
    (V m c main_v0 : FVec Ideal S32x2048 .f32) (ix2 r d)
      = (m (c, main_arg0) : FVec Ideal S32x1x2048 .f32) (ix3 r 0 d) := by
  unfold V V0
  simp only [hostOps0, List.flatten_cons, List.flatten_nil, List.append_nil, List.cons_append, List.nil_append]
  entry_read
  pointwise []

/-- The gain that the region finds. -/
theorem entry_g (d : Fin 2048) :
    (V m c main_v1 : FVec Ideal S1x2048 .f32) (ix2 0 d) = (m (c, main_arg1) : FVec Ideal S2048 .f32) (ix1 d) := by
  unfold V V0
  simp only [hostOps0, List.flatten_cons, List.flatten_nil, List.append_nil, List.cons_append, List.nil_append]
  entry_read
  pointwise []

/-- The launch's result. -/
theorem final : (dats m 0 c).arrAt 3 cfg0.N = fun j => zF (m (c, main_arg0)) (m (c, main_arg1)) (m (c, main_arg2)) (j 0) (j 1) := by
  refine (dats m 0 c).arrAt_eq_of_covers 3 _ (by decide +kernel) fun t hf y => ?_
  blk_simp
  rw [after0_3]
  have e0 : (win0_3.blk t).view.emb y 0 = rowOf t.val t.isLt (y 0) := Fin.ext (by blk_simp [(idx_all t).2.2.2]; simp only [rowOf]; omega)
  have e1 : (win0_3.blk t).view.emb y 1 = colOf t (y 1) := Fin.ext (by blk_simp [(idx_all t).2.2.2]; simp only [colOf]; omega)
  have ey : y = ix2 (y 0) (y 1) := by
    funext a
    fin_cases a
    · rfl
    · rfl
  rw [e0, e1]
  refine (congrArg (outsAt0 m c t.val t.isLt).1 ey).trans ?_
  refine (out_all m c t (y 0) (y 1)).trans ?_
  unfold zF
  refine Finset.sum_congr rfl fun d _ => ?_
  refine congrArg₂ (· * ·) (congrArg₂ (fun x g => Lay.rms x g d) (funext fun d => entry_x m c _ d) (funext fun d => entry_g m c d)) ?_
  rw [V_main_arg2 m c]

end InProjS
-- ==== Proof.InProjS.Run.lean ====
module
public import proofs.«01_k».proof.Proof.InProjS.Final

/-! The run of the sample batch's input projection: its array, and the convolution's next state that the host makes of it. -/

@[expose] public section

set_option maxRecDepth 16384

noncomputable section

namespace InProjS
open Idealize.ShloMosaic Idealize.ShloMosaic.TcCoe Idealize.SL.Sem Idealize.ShloMosaic.StableHlo
open Cert.InProjSIdeal Cert.InProjSIdeal.Gen

variable (m : (ℓ : Loc nD τ sig) → Buf (Elt Ideal) ℓ) (c : Dev nD)

/-- The lines after the region, from any contents: the state's last two rows and the region's array as the third. -/
theorem tail_next (W : Valuation τ sig (Elt Ideal)) :
    after (List.flatten [hostOps1]) W (Proc.devRef .tc main_v6)
      = concatenate S32x3x3072 1
          [⟨S32x2x3072, extractStridedSlice S32x2x3072 ![0, 1, 0] (W (Proc.devRef .tc main_arg3) : FVec Ideal S32x3x3072 .f32) slices_S32x3x3072_S32x2x3072_0_1_0⟩,
            ⟨S32x1x3072, broadcastInDim S32x1x3072 ![0, 2] bcast_S32x3072_S32x1x3072_0_2
              (extractStridedSlice S32x3072 ![0, 0] (W (Proc.devRef .tc main_v2) : FVec Ideal S32x14592 .f32) slices_S32x14592_S32x3072_0_0)⟩]
          concatenates_S32x2x3072_S32x1x3072_S32x3x3072_d1 := by
  simp only [hostOps1, List.flatten_cons, List.flatten_nil, List.append_nil, List.cons_append, List.nil_append]
  after_results <;> rfl

/-- What the region leaves in its array is what the lines after it read. -/
theorem exit_z : Pipeline.withArrays cfg0.spec c (V0 m c) (fun w => (dats m 0 c).arrAt w cfg0.N) (Proc.devRef .tc main_v2)
    = (dats m 0 c).arrAt 3 cfg0.N :=
  Pipeline.withArrays_arr cfg0.spec launch0.win.arr_inj c (V0 m c) (fun w => (dats m 0 c).arrAt w cfg0.N) 3

/-- The state that the lines after the region read is the one given. -/
theorem exit_s : Pipeline.withArrays cfg0.spec c (V0 m c) (fun w => (dats m 0 c).arrAt w cfg0.N) (Proc.devRef .tc main_arg3)
    = m (c, main_arg3) :=
  (Pipeline.withArrays_of_ne _ c (V0 m c) _ main_arg3 (by exact (by decide : ∀ w, Pipeline.arrRef spec0 w ≠ main_arg3))).trans (V_main_arg3 m c)

/-- The convolution's next state: the last two rows of the given state `s`, then the projection's row, at the first 3072 columns. -/
def nextF (x : FVec Ideal S32x1x2048 .f32) (g : FVec Ideal S2048 .f32) (w : FVec Ideal S2048x14592 .bf16) (s : FVec Ideal S32x3x3072 .f32) (b : Fin 32)
    (i : Fin 3) (k : Fin 3072) : EReal :=
  ![(s (ix3 b 1 k) : EReal), s (ix3 b 2 k), zF x g w b ⟨k.val, by omega⟩] i

/-- The next state, in terms of the arguments. -/
theorem final_next : Pipeline.afterTail₀ cfgs (dats m) 0 (V0 m) [hostOps1] c main_v6
    = fun j : S32x3x3072.Idx => nextF (m (c, main_arg0)) (m (c, main_arg1)) (m (c, main_arg2)) (m (c, main_arg3)) (j 0) (j 1) (j 2) := by
  refine (tail_next _).trans ?_
  rw [exit_z m c, exit_s m c, final m c]
  funext j
  idx_vars j
  unfold nextF
  fin_cases j1 <;> pointwise []

/-- The run: the array, the next state, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2) = (fun j : S32x14592.Idx => zF (m (c, main_arg0)) (m (c, main_arg1)) (m (c, main_arg2)) (j 0) (j 1))
      ∧ r.2.mem ((c : Thread nD τ).loc main_v6)
        = (fun j : S32x3x3072.Idx => nextF (m (c, main_arg0)) (m (c, main_arg1)) (m (c, main_arg2)) (m (c, main_arg3)) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_v6 (Pipeline.mem_restRefs_of main_v6 (by decide) (by decide))).trans (final_next m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end InProjS
-- ==== Proof.InProjS.Ref.lean ====
module
public import proofs.«01_k».proof.Proof.InProjS.Run
public import proofs.«01_k».proof.Proof.Gen.InProjSRefIdeal.Run

/-! What the plain projection of the sample batch leaves in its two results. -/

@[expose] public section

set_option maxRecDepth 16384

noncomputable section

namespace InProjS.Ref
open Idealize.ShloMosaic Idealize.ShloMosaic.TcCoe Idealize.SL.Sem Idealize.ShloMosaic.StableHlo
open Cert.InProjSRefIdeal Cert.InProjSRefIdeal.Gen

/-- The reference's result is the projection. -/
theorem ref_eq (x : FVec Ideal S32x1x2048 .f32) (g : FVec Ideal S2048 .f32) (w : FVec Ideal S2048x14592 .bf16) :
    (shapeCast S32x14592 (Host.dotGeneral dot_S32x1x2048_S2048x14592_S32x1x14592_2_0_01_1_n_n none (mulf (mulf x (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf x x) (constant (F := Ideal) S_ .f32 0x00000000#32) reducesTo_S32x1x2048_S32x1_d2 h_S_)) (broadcastInDim S32x1x1 ![] bcast_S_S32x1x1 (constant (F := Ideal) S_ .f32 0x45000000#32))) (broadcastInDim S32x1x1 ![] bcast_S_S32x1x1 (constant (F := Ideal) S_ .f32 0x358637BD#32)))))) (broadcastInDim S32x1x2048 ![0, 1, 2] bcast_S1x1x2048_S32x1x2048_0_1_2 (broadcastInDim S1x1x2048 ![2] bcast_S2048_S1x1x2048_2 g))) (extf .f32 w bitsLt_bf16_f32)) shapeCasts_S32x1x14592_S32x14592 : FVec Ideal S32x14592 .f32)
      = fun j => zF x g w (j 0) (j 1) := by
  funext j
  idx_vars j
  unfold zF Lay.rms
  pointwise []

/-- The reference's second result is the convolution's next state. -/
theorem ref_next (x : FVec Ideal S32x1x2048 .f32) (g : FVec Ideal S2048 .f32) (w : FVec Ideal S2048x14592 .bf16) (s : FVec Ideal S32x3x3072 .f32) :
    (extractStridedSlice S32x3x3072 ![0, 1, 0] (concatenate S32x4x3072 1 [⟨S32x3x3072, s⟩, ⟨S32x1x3072, (extractStridedSlice S32x1x3072 ![0, 0, 0] (Host.dotGeneral dot_S32x1x2048_S2048x14592_S32x1x14592_2_0_01_1_n_n none (mulf (mulf x (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf x x) (constant (F := Ideal) S_ .f32 0x00000000#32) reducesTo_S32x1x2048_S32x1_d2 h_S_)) (broadcastInDim S32x1x1 ![] bcast_S_S32x1x1 (constant (F := Ideal) S_ .f32 0x45000000#32))) (broadcastInDim S32x1x1 ![] bcast_S_S32x1x1 (constant (F := Ideal) S_ .f32 0x358637BD#32)))))) (broadcastInDim S32x1x2048 ![0, 1, 2] bcast_S1x1x2048_S32x1x2048_0_1_2 (broadcastInDim S1x1x2048 ![2] bcast_S2048_S1x1x2048_2 g))) (extf .f32 w bitsLt_bf16_f32)) slices_S32x1x14592_S32x1x3072_0_0_0)⟩] concatenates_S32x3x3072_S32x1x3072_S32x4x3072_d1) slices_S32x4x3072_S32x3x3072_0_1_0 : FVec Ideal S32x3x3072 .f32)
      = fun j => nextF x g w s (j 0) (j 1) (j 2) := by
  funext j
  idx_vars j
  unfold nextF zF Lay.rms
  fin_cases j1 <;> pointwise []

end InProjS.Ref
-- ==== Proof.AttPrepS.Points.lean ====
module
public import proofs.«01_k».proof.Proof.Gen.AttPrepSIdeal.Value
public import proofs.«01_k».proof.Proof.Lay.Rope
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

@[expose] public section

set_option maxRecDepth 16384

noncomputable section

namespace AttPrepS
open Idealize.ShloMosaic Idealize.ShloMosaic.TcCoe Idealize.SL.Sem Idealize.ShloMosaic.StableHlo
open Cert.AttPrepSIdeal Cert.AttPrepSIdeal.Gen

/-- A rotated tile of one head, as the body computes it. -/
def rotTile (C Sn : FVec Ideal S32x128 .f32) (z : FVec Ideal S1x32x128 .f32) : FVec Ideal S1x32x128 .bf16 :=
  k0_pay46 (F := Ideal) (k0_pay3 (F := Ideal) C) (k0_pay4 (F := Ideal) Sn) z

/-- A normalised and rotated tile of one head, as the body computes it. -/
def keyTile (C Sn : FVec Ideal S32x128 .f32) (g : FVec Ideal S1x128 .f32) (z : FVec Ideal S1x32x128 .f32) : FVec Ideal S1x32x128 .f32 :=
  k0_pay14 (F := Ideal) (k0_pay3 (F := Ideal) C) (k0_pay4 (F := Ideal) Sn) z g

/-- The rotated tile, at an index. -/
theorem rotTile_at (C Sn : FVec Ideal S32x128 .f32) (z : FVec Ideal S1x32x128 .f32) (i : Fin 32) (k : Fin 128) :
    rotTile C Sn z (ix3 0 i k) = Lay.turn (fun d => C (ix2 i d)) (fun d => Sn (ix2 i d)) (fun d => z (ix3 0 i d)) k := by
  unfold rotTile Lay.turn
  pointwise [k0_pay46, k0_pay3, k0_pay4]

/-- The tile of keys, at an index. -/
theorem keyTile_at (C Sn : FVec Ideal S32x128 .f32) (g : FVec Ideal S1x128 .f32) (z : FVec Ideal S1x32x128 .f32) (i : Fin 32) (k : Fin 128) :
    keyTile C Sn g z (ix3 0 i k)
      = Lay.turn (fun d => C (ix2 i d)) (fun d => Sn (ix2 i d)) (Lay.rmsHead (fun d => z (ix3 0 i d)) (fun d => g (ix2 0 d))) k := by
  unfold keyTile Lay.turn Lay.rmsHead
  pointwise [k0_pay14, k0_pay3, k0_pay4]

/-- The head's row of which column `k` is a part. -/
def head {n : ℕ} (X : Fin n → EReal) (k : Fin n) (h : 128 ∣ n) : Fin 128 → EReal :=
  fun d => X ⟨k.val / 128 * 128 + d.val, by obtain ⟨q, rfl⟩ := h; omega⟩

/-- What a load of one head's columns reads, of 1024 columns. -/
theorem ld8 (X : FVec Ideal S1x32x1024 .f32) (a : ℕ) (h : ∀ k, (![0, 0, a] : Fin 3 → ℕ) k + (![1, 32, 128] : Fin 3 → ℕ) k ≤ S1x32x1024.size k)
    (i : Fin 32) (d : Fin 128) (k : Fin 1024) (hk : k.val = a + d.val) :
    View.ld (Val := Elt Ideal) (e' := .f32) X (Rect.unit (s := S1x32x1024) ![0, 0, a] ![1, 32, 128] h) (ix3 0 i d) = X (ix3 0 i k) := by
  refine congrArg X (funext fun e => ?_)
  fin_cases e
  · exact Subsingleton.elim (α := Fin 1) _ _
  · exact Fin.ext (by show 0 + 1 * i.val = i.val; omega)
  · exact Fin.ext (by show a + 1 * d.val = k.val; omega)

/-- What a load of one head's columns reads, of 2048 columns. -/
theorem ld16 (X : FVec Ideal S1x32x2048 .f32) (a : ℕ) (h : ∀ k, (![0, 0, a] : Fin 3 → ℕ) k + (![1, 32, 128] : Fin 3 → ℕ) k ≤ S1x32x2048.size k)
    (i : Fin 32) (d : Fin 128) (k : Fin 2048) (hk : k.val = a + d.val) :
    View.ld (Val := Elt Ideal) (e' := .f32) X (Rect.unit (s := S1x32x2048) ![0, 0, a] ![1, 32, 128] h) (ix3 0 i d) = X (ix3 0 i k) := by
  refine congrArg X (funext fun e => ?_)
  fin_cases e
  · exact Subsingleton.elim (α := Fin 1) _ _
  · exact Fin.ext (by show 0 + 1 * i.val = i.val; omega)
  · exact Fin.ext (by show a + 1 * d.val = k.val; omega)

/-- An index of a tile. -/
theorem tile_idx (x : S1x32x128.Idx) : x = ix3 0 (x 1) (x 2) := by
  funext a
  fin_cases a
  · exact Subsingleton.elim (α := Fin 1) _ _
  · rfl
  · rfl

/-- A key tile at offset `a` is the keys' part from column `a` on. -/
theorem key_piece (C Sn : FVec Ideal S32x128 .f32) (g : FVec Ideal S1x128 .f32) (X : FVec Ideal S1x32x1024 .f32) (a : ℕ)
    (h : ∀ k, (![0, 0, a] : Fin 3 → ℕ) k + (![1, 32, 128] : Fin 3 → ℕ) k ≤ S1x32x1024.size k) (x : S1x32x128.Idx) (i : Fin 32) (k : Fin 1024)
    (h1 : i.val = 0 + (x 1).val) (h2 : k.val = a + (x 2).val) (ha : a % 128 = 0) :
    keyTile C Sn g (View.ld (Val := Elt Ideal) (e' := .f32) X (Rect.unit (s := S1x32x1024) ![0, 0, a] ![1, 32, 128] h)) x
      = Lay.turn (fun d => C (ix2 i d)) (fun d => Sn (ix2 i d))
          (Lay.rmsHead (head (fun d => X (ix3 0 i d)) k (by decide)) (fun d => g (ix2 0 d))) ⟨k.val % 128, by omega⟩ := by
  have b2 : (x 2).val < 128 := (x 2).isLt
  obtain rfl : i = x 1 := Fin.ext (by omega)
  have e2 : (⟨k.val % 128, by omega⟩ : Fin 128) = x 2 := Fin.ext (by show k.val % 128 = (x 2).val; omega)
  have hz : (fun d : Fin 128 => View.ld (Val := Elt Ideal) (e' := .f32) X (Rect.unit (s := S1x32x1024) ![0, 0, a] ![1, 32, 128] h) (ix3 0 (x 1) d))
      = head (fun d => X (ix3 0 (x 1) d)) k (by decide) :=
    funext fun d => ld8 X a h (x 1) d _ (by show k.val / 128 * 128 + d.val = a + d.val; omega)
  rw [e2, ← hz]
  exact (congrArg (keyTile C Sn g _) (tile_idx x)).trans (keyTile_at C Sn g _ (x 1) (x 2))

/-- A rotated tile at offset `a` is the rotated rows' part from column `a` on. -/
theorem rot_piece (C Sn : FVec Ideal S32x128 .f32) (X : FVec Ideal S1x32x2048 .f32) (a : ℕ)
    (h : ∀ k, (![0, 0, a] : Fin 3 → ℕ) k + (![1, 32, 128] : Fin 3 → ℕ) k ≤ S1x32x2048.size k) (x : S1x32x128.Idx) (i : Fin 32) (k : Fin 2048)
    (h1 : i.val = 0 + (x 1).val) (h2 : k.val = a + (x 2).val) (ha : a % 128 = 0) :
    rotTile C Sn (View.ld (Val := Elt Ideal) (e' := .f32) X (Rect.unit (s := S1x32x2048) ![0, 0, a] ![1, 32, 128] h)) x
      = Lay.turn (fun d => C (ix2 i d)) (fun d => Sn (ix2 i d)) (head (fun d => X (ix3 0 i d)) k (by decide)) ⟨k.val % 128, by omega⟩ := by
  have b2 : (x 2).val < 128 := (x 2).isLt
  obtain rfl : i = x 1 := Fin.ext (by omega)
  have e2 : (⟨k.val % 128, by omega⟩ : Fin 128) = x 2 := Fin.ext (by show k.val % 128 = (x 2).val; omega)
  have hz : (fun d : Fin 128 => View.ld (Val := Elt Ideal) (e' := .f32) X (Rect.unit (s := S1x32x2048) ![0, 0, a] ![1, 32, 128] h) (ix3 0 (x 1) d))
      = head (fun d => X (ix3 0 (x 1) d)) k (by decide) :=
    funext fun d => ld16 X a h (x 1) d _ (by show k.val / 128 * 128 + d.val = a + d.val; omega)
  rw [e2, ← hz]
  exact (congrArg (rotTile C Sn _) (tile_idx x)).trans (rotTile_at C Sn _ (x 1) (x 2))

/-- A value tile at offset `a` is the values' part from column `a` on. -/
theorem val_piece (X : FVec Ideal S1x32x1024 .f32) (a : ℕ)
    (h : ∀ k, (![0, 0, a] : Fin 3 → ℕ) k + (![1, 32, 128] : Fin 3 → ℕ) k ≤ S1x32x1024.size k) (x : S1x32x128.Idx) (i : Fin 32) (k : Fin 1024)
    (h1 : i.val = 0 + (x 1).val) (h2 : k.val = a + (x 2).val) :
    k0_pay10 (F := Ideal) (View.ld (Val := Elt Ideal) (e' := .f32) X (Rect.unit (s := S1x32x1024) ![0, 0, a] ![1, 32, 128] h)) x = X (ix3 0 i k) := by
  obtain rfl : i = x 1 := Fin.ext (by omega)
  have e : ∀ z : FVec Ideal S1x32x128 .f32, k0_pay10 (F := Ideal) z (ix3 0 (x 1) (x 2)) = z (ix3 0 (x 1) (x 2)) := fun z => by
    pointwise [k0_pay10]
  exact ((congrArg (k0_pay10 (F := Ideal) _) (tile_idx x)).trans (e _)).trans (ld8 X a h (x 1) (x 2) k h2)

variable (m : (ℓ : Loc nD τ sig) → Buf (Elt Ideal) ℓ) (c : Dev nD)

/-- The keys that a point stores. -/
theorem key_out (t : Fin cfg0.N) :
    (outsAt0 m c t).2.1 = fun y => Lay.turn (fun d => (iblk m c 6 t : FVec Ideal S32x128 .f32) (ix2 (y 1) d)) (fun d => (iblk m c 7 t : FVec Ideal S32x128 .f32) (ix2 (y 1) d))
      (Lay.rmsHead (head (fun d => X0_1 m c t (ix3 0 (y 1) d)) (y 2) (by decide)) (fun d => (iblk m c 9 t : FVec Ideal S1x128 .f32) (ix2 0 d))) ⟨(y 2).val % 128, Nat.mod_lt _ (by decide)⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine key_piece _ _ _ (X0_1 m c t) _ _ x (y 1) (y 2) ?_ ?_ ?_ <;> dsimp only <;> omega

/-- The rotated index queries that a point stores. -/
theorem rot_out (t : Fin cfg0.N) :
    (outsAt0 m c t).2.2.2.1 = fun y => Lay.turn (fun d => (iblk m c 6 t : FVec Ideal S32x128 .f32) (ix2 (y 1) d)) (fun d => (iblk m c 7 t : FVec Ideal S32x128 .f32) (ix2 (y 1) d))
      (head (fun d => X0_3 m c t (ix3 0 (y 1) d)) (y 2) (by decide)) ⟨(y 2).val % 128, Nat.mod_lt _ (by decide)⟩ := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine rot_piece _ _ (X0_3 m c t) _ _ x (y 1) (y 2) ?_ ?_ ?_ <;> dsimp only <;> omega

/-- The values that a point stores. -/
theorem val_out (t : Fin cfg0.N) : (outsAt0 m c t).2.2.1 = fun y => X0_2 m c t (ix3 0 (y 1) (y 2)) := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  funext y
  canon_tiles x h
  all_goals refine val_piece (X0_2 m c t) _ _ x (y 1) (y 2) ?_ ?_ <;> dsimp only <;> omega

/-- The index keys that a point stores. -/
theorem ikey_out (t : Fin cfg0.N) (i : Fin 32) (k : Fin 128) :
    ((outsAt0 m c t).2.2.2.2.1 : FVec Ideal S1x32x128 .f32) (ix3 0 i k)
      = Lay.turn (fun d => (iblk m c 6 t : FVec Ideal S32x128 .f32) (ix2 i d)) (fun d => (iblk m c 7 t : FVec Ideal S32x128 .f32) (ix2 i d))
          (fun d => (iblk m c 4 t : FVec Ideal S1x32x128 .f32) (ix3 0 i d)) k := by
  unfold outsAt0
  frame_open
  simp (disch := decide) only [View.read_writes_junk_eq_canon, View.canon_cons_unit_lit',
        View.ld_unit_lit', View.readCov_unit_lit', View.readCov_cons_unit_lit', View.readAt_eq_ld,
        Memref.IsWhole.read_unread, read_unread_whole]
  generalize (iblk m c 6 t : FVec Ideal S32x128 .f32) = C
  generalize (iblk m c 7 t : FVec Ideal S32x128 .f32) = Sn
  generalize (iblk m c 4 t : FVec Ideal S1x32x128 .f32) = z
  unfold Lay.turn
  pointwise [k0_pay1, k0_pay65, k0_pay3, k0_pay4]

end AttPrepS
-- ==== Proof.AttPrepS.Final.lean ====
module
public import proofs.«01_k».proof.Proof.AttPrepS.Points

/-! What the attention's preparation of the sample batch leaves in its arrays, in terms of the arguments. -/

@[expose] public section

set_option maxRecDepth 16384

noncomputable section

namespace AttPrepS
open Idealize.ShloMosaic Idealize.ShloMosaic.TcCoe Idealize.SL.Sem Idealize.ShloMosaic.StableHlo
open Cert.AttPrepSIdeal Cert.AttPrepSIdeal.Gen

/-- The position of every row, as a real: the length of the past. -/
def pos : EReal := (FloatOps.sitofp (F := Ideal) .f32 16384#32 : EReal)

/-- A row's heads from column `o` on: the head of column `k`. -/
def headOf (z : Fin 14592 → EReal) (o n : ℕ) (ho : o + n ≤ 14592) (hn : 128 ∣ n) (k : Fin n) : Fin 128 → EReal :=
  head (fun d : Fin n => z ⟨o + d.val, by omega⟩) k hn

/-- Row `i` of the projection's array. -/
def row (z : FVec Ideal S32x14592 .f32) (i : Fin 32) : Fin 14592 → EReal := fun n => z (ix2 i n)

/-- The keys: each head normalised and rotated. -/
def keyF (z : FVec Ideal S32x14592 .f32) (kn : FVec Ideal S128 .f32) (i : Fin 32) (k : Fin 1024) : EReal :=
  Lay.rot pos (Lay.rmsHead (headOf (row z i) 5120 1024 (by decide) (by decide) k) (fun d => kn (ix1 d))) ⟨k.val % 128, Nat.mod_lt _ (by decide)⟩

/-- The values. -/
def valF (z : FVec Ideal S32x14592 .f32) (i : Fin 32) (k : Fin 1024) : EReal := z (ix2 i ⟨6144 + k.val, by omega⟩)

/-- The index queries: each head rotated. -/
def idxqF (z : FVec Ideal S32x14592 .f32) (i : Fin 32) (k : Fin 2048) : EReal :=
  Lay.rot pos (headOf (row z i) 8192 2048 (by decide) (by decide) k) ⟨k.val % 128, Nat.mod_lt _ (by decide)⟩

/-- The index keys: the one head rotated. -/
def idxkF (z : FVec Ideal S32x14592 .f32) (i : Fin 32) (k : Fin 128) : EReal :=
  Lay.rot pos (fun d => z (ix2 i ⟨14336 + d.val, by omega⟩)) k

/-- The blocks that the windows stage at the one point. -/
theorem idx_all : ∀ t : Fin cfg0.N, win0_1.index t = ![0, 0, 5] ∧ win0_2.index t = ![0, 0, 6]
    ∧ win0_3.index t = ![0, 0, 4] ∧ win0_4.index t = ![0, 0, 112] ∧ win0_6.index t = ![0, 0]
    ∧ win0_7.index t = ![0, 0] ∧ win0_9.index t = ![0, 0] ∧ win0_11.index t = ![0, 0, 0]
    ∧ win0_12.index t = ![0, 0, 0] ∧ win0_13.index t = ![0, 0, 0] ∧ win0_14.index t = ![0, 0, 0] :=
  (by decide +kernel : ∀ t : Fin grid0.N, _)

/-- The index keys' window. -/
theorem win4 (W : FVec Ideal S1x32x14592 .f32) (t : Fin cfg0.N) (i : Fin 32) (k : Fin 128) :
    View.read (Elt Ideal) ((cfg0.win 4).blk t).view W (ix3 0 i k) = W (ix3 0 i ⟨14336 + k.val, by omega⟩) := by
  blk_ext [(idx_all t).2.2.2.1]

/-- The cosines' window. -/
theorem win6 (W : FVec Ideal S32x128 .f32) (t : Fin cfg0.N) (i : Fin 32) (k : Fin 128) :
    View.read (Elt Ideal) ((cfg0.win 6).blk t).view W (ix2 i k) = W (ix2 i k) := by
  blk_ext [(idx_all t).2.2.2.2.1]

/-- The sines' window. -/
theorem win7 (W : FVec Ideal S32x128 .f32) (t : Fin cfg0.N) (i : Fin 32) (k : Fin 128) :
    View.read (Elt Ideal) ((cfg0.win 7).blk t).view W (ix2 i k) = W (ix2 i k) := by
  blk_ext [(idx_all t).2.2.2.2.2.1]

/-- The keys' gain. -/
theorem win9 (W : FVec Ideal S1x128 .f32) (t : Fin cfg0.N) (k : Fin 128) :
    View.read (Elt Ideal) ((cfg0.win 9).blk t).view W (ix2 0 k) = W (ix2 0 k) := by
  blk_ext [(idx_all t).2.2.2.2.2.2.1]

variable (m : (ℓ : Loc nD τ sig) → Buf (Elt Ideal) ℓ) (c : Dev nD)

/-- The projection's array, as the host hands it over. -/
theorem entry_z (i : Fin 32) (n : Fin 14592) : (V m c main_v20 : FVec Ideal S1x32x14592 .f32) (ix3 0 i n) = (m (c, main_arg0) : FVec Ideal S32x14592 .f32) (ix2 i n) := by
  unfold V
  simp only [hostOps0, List.flatten_cons, List.flatten_nil, List.append_nil, List.cons_append, List.nil_append]
  entry_read
  pointwise []

/-- The keys' columns. -/
theorem win1 (t : Fin cfg0.N) (i : Fin 32) (k : Fin 1024) :
    X0_1 m c t (ix3 0 i k) = (m (c, main_arg0) : FVec Ideal S32x14592 .f32) (ix2 i ⟨5120 + k.val, by omega⟩) := by
  rw [← entry_z m c]
  unfold X0_1 Pipeline.Window.fill
  rw [dif_pos (moved0_1 t _)]
  blk_ext [iblk, (idx_all t).1]

/-- The values' columns. -/
theorem win2 (t : Fin cfg0.N) (i : Fin 32) (k : Fin 1024) :
    X0_2 m c t (ix3 0 i k) = (m (c, main_arg0) : FVec Ideal S32x14592 .f32) (ix2 i ⟨6144 + k.val, by omega⟩) := by
  rw [← entry_z m c]
  unfold X0_2 Pipeline.Window.fill
  rw [dif_pos (moved0_2 t _)]
  blk_ext [iblk, (idx_all t).2.1]

/-- The index queries' columns. -/
theorem win3 (t : Fin cfg0.N) (i : Fin 32) (k : Fin 2048) :
    X0_3 m c t (ix3 0 i k) = (m (c, main_arg0) : FVec Ideal S32x14592 .f32) (ix2 i ⟨8192 + k.val, by omega⟩) := by
  rw [← entry_z m c]
  unfold X0_3 Pipeline.Window.fill
  rw [dif_pos (moved0_3 t _)]
  blk_ext [iblk, (idx_all t).2.2.1]

/-- The table of cosines that the host makes. -/
theorem entry_cos (p : Fin 32) (k : Fin 128) : (V m c main_v17 : FVec Ideal S32x128 .f32) (ix2 p k) = Lay.cosRow pos k := by
  unfold V
  simp only [hostOps0, List.flatten_cons, List.flatten_nil, List.append_nil, List.cons_append, List.nil_append]
  entry_read
  unfold Lay.cosRow Lay.ang pos
  pointwise []

/-- The table of signed sines that the host makes. -/
theorem entry_sin (p : Fin 32) (k : Fin 128) : (V m c main_v19 : FVec Ideal S32x128 .f32) (ix2 p k) = Lay.sinRow pos k := by
  unfold V
  simp only [hostOps0, List.flatten_cons, List.flatten_nil, List.append_nil, List.cons_append, List.nil_append]
  entry_read
  unfold Lay.sinRow Lay.ang pos
  pointwise []

/-- The gain, as a row. -/
theorem entry_gain (k : Fin 128) : (V m c main_v22 : FVec Ideal S1x128 .f32) (ix2 0 k) = (m (c, main_arg2) : FVec Ideal S128 .f32) (ix1 k) := by
  unfold V
  simp only [hostOps0, List.flatten_cons, List.flatten_nil, List.append_nil, List.cons_append, List.nil_append]
  entry_read
  pointwise []

/-- The cosines that a row reads. -/
theorem cos_at (t : Fin cfg0.N) (i : Fin 32) : (fun d => (iblk m c 6 t : FVec Ideal S32x128 .f32) (ix2 i d)) = Lay.cosRow pos :=
  funext fun d => (win6 (V m c main_v17) t i d).trans (entry_cos m c _ d)

/-- The sines that a row reads. -/
theorem sin_at (t : Fin cfg0.N) (i : Fin 32) : (fun d => (iblk m c 7 t : FVec Ideal S32x128 .f32) (ix2 i d)) = Lay.sinRow pos :=
  funext fun d => (win7 (V m c main_v19) t i d).trans (entry_sin m c _ d)

/-- The gain that the point reads. -/
theorem gain_at (t : Fin cfg0.N) : (fun d => (iblk m c 9 t : FVec Ideal S1x128 .f32) (ix2 0 d)) = fun d => (m (c, main_arg2) : FVec Ideal S128 .f32) (ix1 d) :=
  funext fun d => (win9 (V m c main_v22) t d).trans (entry_gain m c d)

/-- The keys of a row. -/
theorem key_at (t : Fin cfg0.N) (i : Fin 32) (k : Fin 1024) :
    Lay.turn (fun d => (iblk m c 6 t : FVec Ideal S32x128 .f32) (ix2 i d)) (fun d => (iblk m c 7 t : FVec Ideal S32x128 .f32) (ix2 i d))
        (Lay.rmsHead (head (fun d => X0_1 m c t (ix3 0 i d)) k (by decide)) (fun d => (iblk m c 9 t : FVec Ideal S1x128 .f32) (ix2 0 d)))
        ⟨k.val % 128, Nat.mod_lt _ (by decide)⟩
      = keyF (m (c, main_arg0)) (m (c, main_arg2)) i k := by
  rw [cos_at, sin_at, gain_at, Lay.turn_eq]
  unfold keyF headOf row
  simp only [win1]

/-- The index queries of a row. -/
theorem idxq_at (t : Fin cfg0.N) (i : Fin 32) (k : Fin 2048) :
    Lay.turn (fun d => (iblk m c 6 t : FVec Ideal S32x128 .f32) (ix2 i d)) (fun d => (iblk m c 7 t : FVec Ideal S32x128 .f32) (ix2 i d))
        (head (fun d => X0_3 m c t (ix3 0 i d)) k (by decide)) ⟨k.val % 128, Nat.mod_lt _ (by decide)⟩
      = idxqF (m (c, main_arg0)) i k := by
  rw [cos_at, sin_at, Lay.turn_eq]
  unfold idxqF headOf row
  simp only [win3]

/-- The index keys of a row. -/
theorem idxk_at (t : Fin cfg0.N) (i : Fin 32) (k : Fin 128) :
    ((outsAt0 m c t).2.2.2.2.1 : FVec Ideal S1x32x128 .f32) (ix3 0 i k) = idxkF (m (c, main_arg0)) i k := by
  rw [ikey_out, cos_at, sin_at, Lay.turn_eq]
  unfold idxkF
  exact congrArg (fun x => Lay.rot _ x k) (funext fun d => (win4 (V m c main_v20) t i d).trans (entry_z m c i _))

/-- The keys' array. -/
theorem final_key : (dats m 0 c).arrAt 11 cfg0.N = fun j => keyF (m (c, main_arg0)) (m (c, main_arg2)) (j 1) (j 2) := by
  refine (dats m 0 c).arrAt_eq_of_covers 11 _ (by decide +kernel) fun t hf y => ?_
  blk_simp
  rw [after0_11]
  have e1 : (win0_11.blk t).view.emb y 1 = y 1 := Fin.ext (by blk_simp [(idx_all t).2.2.2.2.2.2.2.1])
  have e2 : (win0_11.blk t).view.emb y 2 = y 2 := Fin.ext (by blk_simp [(idx_all t).2.2.2.2.2.2.2.1])
  rw [e1, e2]
  exact (congrFun (key_out m c t) y).trans (key_at m c t (y 1) (y 2))

/-- The values' array. -/
theorem final_val : (dats m 0 c).arrAt 12 cfg0.N = fun j => valF (m (c, main_arg0)) (j 1) (j 2) := by
  refine (dats m 0 c).arrAt_eq_of_covers 12 _ (by decide +kernel) fun t hf y => ?_
  blk_simp
  rw [after0_12]
  have e1 : (win0_12.blk t).view.emb y 1 = y 1 := Fin.ext (by blk_simp [(idx_all t).2.2.2.2.2.2.2.2.1])
  have e2 : (win0_12.blk t).view.emb y 2 = y 2 := Fin.ext (by blk_simp [(idx_all t).2.2.2.2.2.2.2.2.1])
  rw [e1, e2]
  exact (congrFun (val_out m c t) y).trans (win2 m c t (y 1) (y 2))

/-- The index queries' array. -/
theorem final_idxq : (dats m 0 c).arrAt 13 cfg0.N = fun j => idxqF (m (c, main_arg0)) (j 1) (j 2) := by
  refine (dats m 0 c).arrAt_eq_of_covers 13 _ (by decide +kernel) fun t hf y => ?_
  blk_simp
  rw [after0_13]
  have e1 : (win0_13.blk t).view.emb y 1 = y 1 := Fin.ext (by blk_simp [(idx_all t).2.2.2.2.2.2.2.2.2.1])
  have e2 : (win0_13.blk t).view.emb y 2 = y 2 := Fin.ext (by blk_simp [(idx_all t).2.2.2.2.2.2.2.2.2.1])
  rw [e1, e2]
  exact (congrFun (rot_out m c t) y).trans (idxq_at m c t (y 1) (y 2))

/-- The index keys' array. -/
theorem final_idxk : (dats m 0 c).arrAt 14 cfg0.N = fun j => idxkF (m (c, main_arg0)) (j 1) (j 2) := by
  refine (dats m 0 c).arrAt_eq_of_covers 14 _ (by decide +kernel) fun t hf y => ?_
  blk_simp
  rw [after0_14]
  have e1 : (win0_14.blk t).view.emb y 1 = y 1 := Fin.ext (by blk_simp [(idx_all t).2.2.2.2.2.2.2.2.2.2])
  have e2 : (win0_14.blk t).view.emb y 2 = y 2 := Fin.ext (by blk_simp [(idx_all t).2.2.2.2.2.2.2.2.2.2])
  rw [e1, e2]
  exact (congrArg (outsAt0 m c t).2.2.2.2.1 (tile_idx y)).trans (idxk_at m c t (y 1) (y 2))

end AttPrepS
-- ==== Proof.AttPrepS.RefPoints.lean ====
module
public import proofs.«01_k».proof.Proof.AttPrepS.Final
public import proofs.«01_k».proof.Proof.Gen.AttPrepSRefIdeal.Run

/-! The pieces of the plain preparation of the sample batch, at an index. -/

@[expose] public section

set_option maxRecDepth 16384

noncomputable section

namespace AttPrepS.Ref
open Idealize.ShloMosaic Idealize.ShloMosaic.TcCoe Idealize.SL.Sem Idealize.ShloMosaic.StableHlo
open Cert.AttPrepSRefIdeal Cert.AttPrepSRefIdeal.Gen

/-- The angles of the one position. -/
def angT : FVec Ideal S1x64 .f32 :=
  mulf (broadcastInDim S1x64 ![0, 1] bcast_S1x1_S1x64_0_1 (broadcastInDim S1x1 ![0] bcast_S1_S1x1_0 (sitofp .f32 (addi (broadcastInDim S1 ![] bcast_S_S1 (constantI S_ 32 16384#32)) (iotaInDim S1 32 0))))) (broadcastInDim S1x64 ![1] bcast_S64_S1x64_1 (Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))))

/-- The angles, at an index. -/
theorem ang_at (k : Fin 64) : angT (ix2 0 k) = Lay.ang pos k.val := by
  unfold angT Lay.ang pos
  pointwise []
  rw [show IntOp.addi (16384#32) (0#32) = 16384#32 from rfl]

/-- Eight heads rotated, at an index. -/
theorem rot8_at (Y : FVec Ideal S32x1x8x128 .f32) (b : Fin 32) (k : Fin 1024) :
    ((shapeCast S1x32x1024 (shapeCast S32x1x1024 (concatenate S32x1x8x128 3 [⟨S32x1x8x64, (subf (mulf (extractStridedSlice S32x1x8x64 ![0, 0, 0, 0] Y slices_S32x1x8x128_S32x1x8x64_0_0_0_0) (broadcastInDim S32x1x8x64 ![0, 1, 2, 3] bcast_S1x1x1x64_S32x1x8x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x8x64 ![0, 0, 0, 64] Y slices_S32x1x8x128_S32x1x8x64_0_0_0_64) (broadcastInDim S32x1x8x64 ![0, 1, 2, 3] bcast_S1x1x1x64_S32x1x8x64_0_1_2_3 (broadcastInDim S1x1x1x64 ![1, 2, 3] bcast_S1x1x64_S1x1x1x64_1_2_3 (broadcastInDim S1x1x64 ![0, 2] bcast_S1x64_S1x1x64_0_2 (Host.sin angT))))))⟩,
      ⟨S32x1x8x64, (addf (mulf (extractStridedSlice S32x1x8x64 ![0, 0, 0, 64] Y slices_S32x1x8x128_S32x1x8x64_0_0_0_64) (broadcastInDim S32x1x8x64 ![0, 1, 2, 3] bcast_S1x1x1x64_S32x1x8x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x8x64 ![0, 0, 0, 0] Y slices_S32x1x8x128_S32x1x8x64_0_0_0_0) (broadcastInDim S32x1x8x64 ![0, 1, 2, 3] bcast_S1x1x1x64_S32x1x8x64_0_1_2_3 (broadcastInDim S1x1x1x64 ![1, 2, 3] bcast_S1x1x64_S1x1x1x64_1_2_3 (broadcastInDim S1x1x64 ![0, 2] bcast_S1x64_S1x1x64_0_2 (Host.sin angT))))))⟩] concatenates_S32x1x8x64_S32x1x8x64_S32x1x8x128_d3) shapeCasts_S32x1x8x128_S32x1x1024) shapeCasts_S32x1x1024_S1x32x1024 : FVec Ideal S1x32x1024 .f32)) (ix3 0 b k)
      = Lay.rot pos (fun d => Y (ix4 b 0 ⟨k.val / 128, by omega⟩ d)) ⟨k.val % 128, Nat.mod_lt _ (by decide)⟩ := by
  unfold Lay.rot
  pointwise []
  simp only [ang_at]
  split <;> rename_i h
  · simp only [Nat.add_comm 64]
  · simp only [show 64 + (k.val % 128 - 64) = k.val % 128 by omega]

/-- Sixteen heads rotated, at an index. -/
theorem rot16_at (Y : FVec Ideal S32x1x16x128 .f32) (b : Fin 32) (k : Fin 2048) :
    ((shapeCast S1x32x2048 (truncf .bf16 (shapeCast S32x1x2048 (concatenate S32x1x16x128 3 [⟨S32x1x16x64, (subf (mulf (extractStridedSlice S32x1x16x64 ![0, 0, 0, 0] Y slices_S32x1x16x128_S32x1x16x64_0_0_0_0) (broadcastInDim S32x1x16x64 ![0, 1, 2, 3] bcast_S1x1x1x64_S32x1x16x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x16x64 ![0, 0, 0, 64] Y slices_S32x1x16x128_S32x1x16x64_0_0_0_64) (broadcastInDim S32x1x16x64 ![0, 1, 2, 3] bcast_S1x1x1x64_S32x1x16x64_0_1_2_3 (broadcastInDim S1x1x1x64 ![1, 2, 3] bcast_S1x1x64_S1x1x1x64_1_2_3 (broadcastInDim S1x1x64 ![0, 2] bcast_S1x64_S1x1x64_0_2 (Host.sin angT))))))⟩,
      ⟨S32x1x16x64, (addf (mulf (extractStridedSlice S32x1x16x64 ![0, 0, 0, 64] Y slices_S32x1x16x128_S32x1x16x64_0_0_0_64) (broadcastInDim S32x1x16x64 ![0, 1, 2, 3] bcast_S1x1x1x64_S32x1x16x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x16x64 ![0, 0, 0, 0] Y slices_S32x1x16x128_S32x1x16x64_0_0_0_0) (broadcastInDim S32x1x16x64 ![0, 1, 2, 3] bcast_S1x1x1x64_S32x1x16x64_0_1_2_3 (broadcastInDim S1x1x1x64 ![1, 2, 3] bcast_S1x1x64_S1x1x1x64_1_2_3 (broadcastInDim S1x1x64 ![0, 2] bcast_S1x64_S1x1x64_0_2 (Host.sin angT))))))⟩] concatenates_S32x1x16x64_S32x1x16x64_S32x1x16x128_d3) shapeCasts_S32x1x16x128_S32x1x2048 : FVec Ideal S32x1x2048 .f32) bitsLt_bf16_f32) shapeCasts_S32x1x2048_S1x32x2048 : FVec Ideal S1x32x2048 .bf16)) (ix3 0 b k)
      = Lay.rot pos (fun d => Y (ix4 b 0 ⟨k.val / 128, by omega⟩ d)) ⟨k.val % 128, Nat.mod_lt _ (by decide)⟩ := by
  unfold Lay.rot
  pointwise []
  simp only [ang_at]
  split <;> rename_i h
  · simp only [Nat.add_comm 64]
  · simp only [show 64 + (k.val % 128 - 64) = k.val % 128 by omega]

/-- One head rotated, at an index. -/
theorem rot1_at (Y : FVec Ideal S32x1x1x128 .f32) (b : Fin 32) (k : Fin 128) :
    ((shapeCast S1x32x128 (shapeCast S32x1x128 (concatenate S32x1x1x128 3 [⟨S32x1x1x64, (subf (mulf (extractStridedSlice S32x1x1x64 ![0, 0, 0, 0] Y slices_S32x1x1x128_S32x1x1x64_0_0_0_0) (broadcastInDim S32x1x1x64 ![0, 1, 2, 3] bcast_S1x1x1x64_S32x1x1x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x1x64 ![0, 0, 0, 64] Y slices_S32x1x1x128_S32x1x1x64_0_0_0_64) (broadcastInDim S32x1x1x64 ![0, 1, 2, 3] bcast_S1x1x1x64_S32x1x1x64_0_1_2_3 (broadcastInDim S1x1x1x64 ![1, 2, 3] bcast_S1x1x64_S1x1x1x64_1_2_3 (broadcastInDim S1x1x64 ![0, 2] bcast_S1x64_S1x1x64_0_2 (Host.sin angT))))))⟩,
      ⟨S32x1x1x64, (addf (mulf (extractStridedSlice S32x1x1x64 ![0, 0, 0, 64] Y slices_S32x1x1x128_S32x1x1x64_0_0_0_64) (broadcastInDim S32x1x1x64 ![0, 1, 2, 3] bcast_S1x1x1x64_S32x1x1x64_0_1_2_3 (broadcastInDim S1x1x1x64 ![1, 2, 3] bcast_S1x1x64_S1x1x1x64_1_2_3 (broadcastInDim S1x1x64 ![0, 2] bcast_S1x64_S1x1x64_0_2 (Host.cos angT))))) (mulf (extractStridedSlice S32x1x1x64 ![0, 0, 0, 0] Y slices_S32x1x1x128_S32x1x1x64_0_0_0_0) (broadcastInDim S32x1x1x64 ![0, 1, 2, 3] bcast_S1x1x1x64_S32x1x1x64_0_1_2_3 (broadcastInDim S1x1x1x64 ![1, 2, 3] bcast_S1x1x64_S1x1x1x64_1_2_3 (broadcastInDim S1x1x64 ![0, 2] bcast_S1x64_S1x1x64_0_2 (Host.sin angT))))))⟩] concatenates_S32x1x1x64_S32x1x1x64_S32x1x1x128_d3) shapeCasts_S32x1x1x128_S32x1x128) shapeCasts_S32x1x128_S1x32x128 : FVec Ideal S1x32x128 .f32)) (ix3 0 b k)
      = Lay.rot pos (fun d => Y (ix4 b 0 0 d)) k := by
  unfold Lay.rot
  pointwise []
  simp only [ang_at]
  split <;> rename_i h
  · simp only [Nat.add_comm 64]
  · simp only [show 64 + (k.val - 64) = k.val by omega, Fin.eta]

/-- The keys' heads normalised. -/
def normT (z : FVec Ideal S32x1x14592 .f32) (kn : FVec Ideal S128 .f32) : FVec Ideal S32x1x8x128 .f32 :=
  mulf (mulf (shapeCast S32x1x8x128 (extractStridedSlice S32x1x1024 ![0, 0, 5120] z slices_S32x1x14592_S32x1x1024_0_0_5120) shapeCasts_S32x1x1024_S32x1x8x128) (broadcastInDim S32x1x8x128 ![0, 1, 2, 3] bcast_S32x1x8x1_S32x1x8x128_0_1_2_3 (Host.rsqrt (addf (Host.divf (broadcastInDim S32x1x8x1 ![0, 1, 2] bcast_S32x1x8_S32x1x8x1_0_1_2 (Host.reduceAdd (mulf (shapeCast S32x1x8x128 (extractStridedSlice S32x1x1024 ![0, 0, 5120] z slices_S32x1x14592_S32x1x1024_0_0_5120) shapeCasts_S32x1x1024_S32x1x8x128) (shapeCast S32x1x8x128 (extractStridedSlice S32x1x1024 ![0, 0, 5120] z slices_S32x1x14592_S32x1x1024_0_0_5120) shapeCasts_S32x1x1024_S32x1x8x128)) (constant (F := Ideal) S_ .f32 0x00000000#32) reducesTo_S32x1x8x128_S32x1x8_d3 h_S_)) (broadcastInDim S32x1x8x1 ![] bcast_S_S32x1x8x1 (constant S_ .f32 0x43000000#32))) (broadcastInDim S32x1x8x1 ![] bcast_S_S32x1x8x1 (constant S_ .f32 0x358637BD#32)))))) (broadcastInDim S32x1x8x128 ![0, 1, 2, 3] bcast_S1x1x1x128_S32x1x8x128_0_1_2_3 (broadcastInDim S1x1x1x128 ![3] bcast_S128_S1x1x1x128_3 kn))

/-- The keys' heads normalised, at an index. -/
theorem rms_at (z : FVec Ideal S32x1x14592 .f32) (kn : FVec Ideal S128 .f32) (b : Fin 32) (k : Fin 1024) (d : Fin 128) :
    normT z kn (ix4 b 0 ⟨k.val / 128, by omega⟩ d)
      = Lay.rmsHead (headOf (fun n => z (ix3 b 0 n)) 5120 1024 (by decide) (by decide) k) (fun d => kn (ix1 d)) d := by
  unfold normT Lay.rmsHead headOf head
  pointwise []

/-- The index queries' heads, at an index. -/
theorem iq_at (z : FVec Ideal S32x1x14592 .f32) (b : Fin 32) (k : Fin 2048) (d : Fin 128) :
    (shapeCast S32x1x16x128 (extractStridedSlice S32x1x2048 ![0, 0, 8192] z slices_S32x1x14592_S32x1x2048_0_0_8192) shapeCasts_S32x1x2048_S32x1x16x128 : FVec Ideal S32x1x16x128 .f32) (ix4 b 0 ⟨k.val / 128, by omega⟩ d)
      = headOf (fun n => z (ix3 b 0 n)) 8192 2048 (by decide) (by decide) k d := by
  unfold headOf head
  pointwise []

/-- The index key's head, at an index. -/
theorem ik_at (z : FVec Ideal S32x1x14592 .f32) (b : Fin 32) (d : Fin 128) :
    (broadcastInDim S32x1x1x128 ![0, 1, 3] bcast_S32x1x128_S32x1x1x128_0_1_3 (extractStridedSlice S32x1x128 ![0, 0, 14336] z slices_S32x1x14592_S32x1x128_0_0_14336) : FVec Ideal S32x1x1x128 .f32) (ix4 b 0 0 d)
      = z (ix3 b 0 ⟨14336 + d.val, by omega⟩) := by
  pointwise []

/-- The projection's array with the one step's axis, at an index. -/
theorem z_at (z : FVec Ideal S32x14592 .f32) (b : Fin 32) (n : Fin 14592) :
    (broadcastInDim S32x1x14592 ![0, 2] bcast_S32x14592_S32x1x14592_0_2 z : FVec Ideal S32x1x14592 .f32) (ix3 b 0 n) = z (ix2 b n) := by
  pointwise []

end AttPrepS.Ref
-- ==== Proof.AttPrepS.Ref.lean ====
module
public import proofs.«01_k».proof.Proof.AttPrepS.RefPoints
public import proofs.«01_k».proof.Proof.Gen.AttPrepSRefIdeal.Run

/-! What the plain preparation of the sample batch's attention leaves in its arrays. -/

@[expose] public section

set_option maxRecDepth 16384

noncomputable section

namespace AttPrepS.Ref
open Idealize.ShloMosaic Idealize.ShloMosaic.TcCoe Idealize.SL.Sem Idealize.ShloMosaic.StableHlo
open Cert.AttPrepSRefIdeal Cert.AttPrepSRefIdeal.Gen

variable (m : (ℓ : Loc nD τ sig) → Buf (Elt Ideal) ℓ) (c : Dev nD)

/-- The projection's array with the one step's axis. -/
def zB (z : FVec Ideal S32x14592 .f32) : FVec Ideal S32x1x14592 .f32 := broadcastInDim S32x1x14592 ![0, 2] bcast_S32x14592_S32x1x14592_0_2 z

/-- A row of it is the array's row. -/
theorem zB_row (z : FVec Ideal S32x14592 .f32) (b : Fin 32) : (fun n => zB z (ix3 b 0 n)) = row z b := funext fun n => z_at z b n

/-- The reference's keys. -/
theorem ref_key : Cert.AttPrepSRefIdeal.Value.res_main_v134 m c = fun j => keyF (m (c, main_arg0)) (m (c, main_arg2)) (j 1) (j 2) := by
  funext j
  idx_vars j
  obtain rfl : j0 = 0 := Subsingleton.elim (α := Fin 1) _ _
  unfold Cert.AttPrepSRefIdeal.Value.res_main_v134
  refine (rot8_at (normT (zB (m (c, main_arg0))) (m (c, main_arg2))) j1 j2).trans ?_
  unfold keyF
  refine congrArg (fun x => Lay.rot _ x _) (funext fun d => (rms_at (zB (m (c, main_arg0))) (m (c, main_arg2)) j1 j2 d).trans ?_)
  rw [zB_row]

/-- The reference's index queries. -/
theorem ref_idxq : Cert.AttPrepSRefIdeal.Value.res_main_v136 m c = fun j => idxqF (m (c, main_arg0)) (j 1) (j 2) := by
  funext j
  idx_vars j
  obtain rfl : j0 = 0 := Subsingleton.elim (α := Fin 1) _ _
  unfold Cert.AttPrepSRefIdeal.Value.res_main_v136
  refine (rot16_at _ j1 j2).trans ?_
  unfold idxqF
  refine congrArg (fun x => Lay.rot _ x _) (funext fun d => (iq_at (zB (m (c, main_arg0))) j1 j2 d).trans ?_)
  rw [zB_row]

/-- The reference's index keys. -/
theorem ref_idxk : Cert.AttPrepSRefIdeal.Value.res_main_v137 m c = fun j => idxkF (m (c, main_arg0)) (j 1) (j 2) := by
  funext j
  idx_vars j
  obtain rfl : j0 = 0 := Subsingleton.elim (α := Fin 1) _ _
  unfold Cert.AttPrepSRefIdeal.Value.res_main_v137
  refine (rot1_at _ j1 j2).trans ?_
  unfold idxkF
  exact congrArg (fun x => Lay.rot _ x _) (funext fun d => (ik_at (zB (m (c, main_arg0))) j1 d).trans (z_at _ _ _))

/-- The reference's values, which it reshapes to heads and back. -/
theorem ref_val (z : FVec Ideal S32x14592 .f32) :
    (shapeCast S1x32x1024 (shapeCast S32x1x1024 (shapeCast S32x1x8x128 (extractStridedSlice S32x1x1024 ![0, 0, 6144] (broadcastInDim S32x1x14592 ![0, 2] bcast_S32x14592_S32x1x14592_0_2 z) slices_S32x1x14592_S32x1x1024_0_0_6144) shapeCasts_S32x1x1024_S32x1x8x128) shapeCasts_S32x1x8x128_S32x1x1024) shapeCasts_S32x1x1024_S1x32x1024 : FVec Ideal S1x32x1024 .f32)
      = fun j => valF z (j 1) (j 2) := by
  funext j
  idx_vars j
  obtain rfl : j0 = 0 := Subsingleton.elim (α := Fin 1) _ _
  unfold valF
  pointwise []

end AttPrepS.Ref
-- ==== Proof.TailS.Points.lean ====
module
public import proofs.«01_k».proof.Proof.Gen.TailSIdeal.Value
public import proofs.«01_k».proof.Proof.Lay.Tail
public import Idealize.ShloMosaic.Lib.Pipeline.ReadBack
public import Idealize.ShloMosaic.Lib.Pipeline.ValueKit
public import Idealize.ShloMosaic.Lib.Claim
public import Idealize.ShloMosaic.Lib.Pointwise
public import Idealize.ShloMosaic.Lib.ValueIdx

/-! What a point of the end of the layer computes from its blocks. -/

@[expose] public section

set_option maxRecDepth 16384

noncomputable section

namespace TailS
open Idealize.ShloMosaic Idealize.ShloMosaic.TcCoe Idealize.SL.Sem
open Cert.TailSIdeal Cert.TailSIdeal.Gen

/-- Row `i` of a block's inputs. -/
def tokOf (oa : FVec Ideal S32x1024 .f32) (ob : FVec Ideal S32x1024 .bf16) (ga gb x : FVec Ideal S32x2048 .f32) (p : FVec Ideal S32x256 .f32) (i : Fin 32) : Lay.Tok :=
  ⟨fun d => oa (ix2 i d), fun d => ob (ix2 i d), fun d => ga (ix2 i d), fun d => gb (ix2 i d), fun d => x (ix2 i d), fun d => p (ix2 i d)⟩

/-- The weights, as a point reads them. -/
def wtsOf (wa wb : FVec Ideal S1024x2048 .bf16) (wo : FVec Ideal S2048x2048 .bf16) (pn : FVec Ideal S1x2048 .f32) (wg : FVec Ideal S2048x2048 .bf16)
    (wp : FVec Ideal S256x2048 .bf16) : Lay.Wts :=
  ⟨fun d k => wa (ix2 d k), fun d k => wb (ix2 d k), fun d k => wo (ix2 d k), fun k => pn (ix2 0 k), fun d k => wg (ix2 d k), fun d k => wp (ix2 d k)⟩

/-- The gated sum, at an index. -/
theorem pay3_at (oa : FVec Ideal S32x1024 .f32) (ob : FVec Ideal S32x1024 .bf16) (ga gb : FVec Ideal S32x2048 .f32) (wa wb : FVec Ideal S1024x2048 .bf16) (i : Fin 32) (k : Fin 2048) :
    (k0_pay3 (F := Ideal) oa wa ob wb ga gb : FVec Ideal S32x2048 .bf16) (ix2 i k)
      = (Lay.sig (ga (ix2 i k)) * (∑ d : Fin 1024, (oa (ix2 i d) * wa (ix2 d k) : EReal))
        + Lay.sig (gb (ix2 i k)) * (∑ d : Fin 1024, (ob (ix2 i d) * wb (ix2 d k) : EReal)) : EReal) := by
  unfold Lay.sig
  pointwise [k0_pay3]

/-- The end of the layer over a block whose gated sum is `mg`, at an index. -/
theorem pay1_at (x : FVec Ideal S32x2048 .f32) (mg : FVec Ideal S32x2048 .bf16) (wo : FVec Ideal S2048x2048 .bf16) (pn : FVec Ideal S1x2048 .f32)
    (wg : FVec Ideal S2048x2048 .bf16) (p : FVec Ideal S32x256 .f32) (wp : FVec Ideal S256x2048 .bf16) (i : Fin 32) (k : Fin 2048)
    (y : Fin 2048 → EReal) (hy : ∀ k, y k = x (ix2 i k) + (∑ d : Fin 2048, (mg (ix2 i d) * wo (ix2 d k) : EReal))) :
    (k0_pay1 (F := Ideal) x mg wo pn wg p wp : FVec Ideal S32x2048 .f32) (ix2 i k)
      = (y k + Lay.sig (∑ d : Fin 2048, Lay.rms y (fun d => pn (ix2 0 d)) d * (wg (ix2 d k) : EReal))
          * (∑ d : Fin 256, (p (ix2 i d) * wp (ix2 d k) : EReal)) : EReal) := by
  unfold Lay.sig Lay.rms
  simp only [hy]
  pointwise [k0_pay1]

theorem pay2_eq (x : FVec Ideal S32x2048 .f32) : k0_pay2 (F := Ideal) x = x := by
  funext j
  idx_vars j
  pointwise [k0_pay2]

variable (m : (ℓ : Loc nD τ sig) → Buf (Elt Ideal) ℓ) (c : Dev nD)

/-- A point's output, as the payloads of its blocks. -/
theorem out_eq (t : Fin cfg0.N) :
    outsAt0 m c t = k0_pay1 (F := Ideal) (k0_pay2 (F := Ideal) (iblk m c 4 t)) (k0_pay3 (F := Ideal) (iblk m c 0 t) (iblk m c 6 t) (iblk m c 1 t) (iblk m c 7 t) (X0_2 m c t) (X0_3 m c t))
      (iblk m c 8 t) (iblk m c 9 t) (iblk m c 10 t) (iblk m c 5 t) (iblk m c 11 t) := by
  unfold outsAt0
  frame_out

end TailS
-- ==== Proof.TailS.Final.lean ====
module
public import proofs.«01_k».proof.Proof.TailS.Points

/-! What the end of the layer for the sample batch leaves in its array, in terms of the arguments. -/

@[expose] public section

set_option maxRecDepth 16384

noncomputable section

namespace TailS
open Idealize.ShloMosaic Idealize.ShloMosaic.TcCoe Idealize.SL.Sem Idealize.ShloMosaic.StableHlo
open Cert.TailSIdeal Cert.TailSIdeal.Gen

/-- Token `r`, as the end of the layer reads it. -/
def argTok (oa : FVec Ideal S32x1x1024 .f32) (ob : FVec Ideal S32x1x1024 .bf16) (z : FVec Ideal S32x1x14592 .f32) (x : FVec Ideal S32x1x2048 .f32) (p : FVec Ideal S32x1x256 .f32)
    (r : Fin 32) : Lay.Tok :=
  ⟨fun d => oa (ix3 r 0 d), fun d => ob (ix3 r 0 d),
    fun d => z (ix3 r 0 ⟨10240 + d.val, by omega⟩),
    fun d => z (ix3 r 0 ⟨12288 + d.val, by omega⟩),
    fun d => x (ix3 r 0 d), fun d => p (ix3 r 0 d)⟩

/-- The weights as given. -/
def argWts (wa wb : FVec Ideal S1024x2048 .f32) (wo : FVec Ideal S2048x2048 .f32) (pn : FVec Ideal S2048 .f32) (wg : FVec Ideal S2048x2048 .f32)
    (wp : FVec Ideal S256x2048 .f32) : Lay.Wts :=
  ⟨fun d k => wa (ix2 d k), fun d k => wb (ix2 d k), fun d k => wo (ix2 d k), fun k => pn (ix1 k), fun d k => wg (ix2 d k), fun d k => wp (ix2 d k)⟩

/-- The blocks that the windows stage at a point. -/
theorem idx_all : ∀ t : Fin cfg0.N, win0_0.index t = ![t.val, 0] ∧ win0_1.index t = ![t.val, 0] ∧ win0_2.index t = ![t.val, 5] ∧ win0_3.index t = ![t.val, 6]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- Row `i` of a point. -/
def rowOf (t : Fin cfg0.N) (i : Fin 32) : Fin 32 :=
  ⟨32 * t.val + i.val, by have := lt_of_lt_of_eq t.isLt (show cfg0.N = 1 from N_0); omega⟩

theorem win0 (W : FVec Ideal S32x1024 .f32) (t : Fin cfg0.N) (i : Fin 32) (k : Fin 1024) :
    View.read (Elt Ideal) ((cfg0.win 0).blk t).view W (ix2 i k) = W (ix2 (rowOf t i) k) := by
  blk_ext [(idx_all t).1, rowOf]

theorem win1 (W : FVec Ideal S32x1024 .bf16) (t : Fin cfg0.N) (i : Fin 32) (k : Fin 1024) :
    View.read (Elt Ideal) ((cfg0.win 1).blk t).view W (ix2 i k) = W (ix2 (rowOf t i) k) := by
  blk_ext [(idx_all t).2.1, rowOf]

theorem win4 (W : FVec Ideal S32x2048 .f32) (t : Fin cfg0.N) (i : Fin 32) (k : Fin 2048) :
    View.read (Elt Ideal) ((cfg0.win 4).blk t).view W (ix2 i k) = W (ix2 (rowOf t i) k) := by
  blk_ext [(idx_all t).2.2.2.2.1, rowOf]

theorem win5 (W : FVec Ideal S32x256 .f32) (t : Fin cfg0.N) (i : Fin 32) (k : Fin 256) :
    View.read (Elt Ideal) ((cfg0.win 5).blk t).view W (ix2 i k) = W (ix2 (rowOf t i) k) := by
  blk_ext [(idx_all t).2.2.2.2.2.1, rowOf]

theorem win6 (W : FVec Ideal S1024x2048 .bf16) (t : Fin cfg0.N) (i : Fin 1024) (k : Fin 2048) :
    View.read (Elt Ideal) ((cfg0.win 6).blk t).view W (ix2 i k) = W (ix2 i k) := by
  blk_ext [(idx_all t).2.2.2.2.2.2.1]

theorem win7 (W : FVec Ideal S1024x2048 .bf16) (t : Fin cfg0.N) (i : Fin 1024) (k : Fin 2048) :
    View.read (Elt Ideal) ((cfg0.win 7).blk t).view W (ix2 i k) = W (ix2 i k) := by
  blk_ext [(idx_all t).2.2.2.2.2.2.2.1]

theorem win8 (W : FVec Ideal S2048x2048 .bf16) (t : Fin cfg0.N) (i : Fin 2048) (k : Fin 2048) :
    View.read (Elt Ideal) ((cfg0.win 8).blk t).view W (ix2 i k) = W (ix2 i k) := by
  blk_ext [(idx_all t).2.2.2.2.2.2.2.2.1]

theorem win10 (W : FVec Ideal S2048x2048 .bf16) (t : Fin cfg0.N) (i : Fin 2048) (k : Fin 2048) :
    View.read (Elt Ideal) ((cfg0.win 10).blk t).view W (ix2 i k) = W (ix2 i k) := by
  blk_ext [(idx_all t).2.2.2.2.2.2.2.2.2.2.1]

theorem win11 (W : FVec Ideal S256x2048 .bf16) (t : Fin cfg0.N) (i : Fin 256) (k : Fin 2048) :
    View.read (Elt Ideal) ((cfg0.win 11).blk t).view W (ix2 i k) = W (ix2 i k) := by
  blk_ext [(idx_all t).2.2.2.2.2.2.2.2.2.2.2.1]

theorem win9 (W : FVec Ideal S1x2048 .f32) (t : Fin cfg0.N) (k : Fin 2048) :
    View.read (Elt Ideal) ((cfg0.win 9).blk t).view W (ix2 0 k) = W (ix2 0 k) := by
  blk_ext [(idx_all t).2.2.2.2.2.2.2.2.2.1]

variable (m : (ℓ : Loc nD τ sig) → Buf (Elt Ideal) ℓ) (c : Dev nD)

theorem win2 (t : Fin cfg0.N) (i : Fin 32) (k : Fin 2048) :
    X0_2 m c t (ix2 i k) = (V m c main_v7 : FVec Ideal S32x14592 .f32) (ix2 (rowOf t i) ⟨10240 + k.val, by omega⟩) := by
  unfold X0_2 Pipeline.Window.fill
  rw [dif_pos (moved0_2 t _)]
  blk_ext [iblk, (idx_all t).2.2.1, rowOf]

theorem win3 (t : Fin cfg0.N) (i : Fin 32) (k : Fin 2048) :
    X0_3 m c t (ix2 i k) = (V m c main_v7 : FVec Ideal S32x14592 .f32) (ix2 (rowOf t i) ⟨12288 + k.val, by omega⟩) := by
  unfold X0_3 Pipeline.Window.fill
  rw [dif_pos (moved0_3 t _)]
  blk_ext [iblk, (idx_all t).2.2.2.1, rowOf]

theorem entry_v5 (r : Fin 32) (d : Fin 1024) :
    (V m c main_v5 : FVec Ideal S32x1024 .f32) (ix2 r d)
      = (m (c, main_arg0) : FVec Ideal S32x1x1024 .f32) (ix3 r 0 d) := by
  unfold V
  simp only [hostOps0, List.flatten_cons, List.flatten_nil, List.append_nil, List.cons_append, List.nil_append]
  entry_read
  pointwise []

theorem entry_v6 (r : Fin 32) (d : Fin 1024) :
    (V m c main_v6 : FVec Ideal S32x1024 .bf16) (ix2 r d)
      = (m (c, main_arg1) : FVec Ideal S32x1x1024 .bf16) (ix3 r 0 d) := by
  unfold V
  simp only [hostOps0, List.flatten_cons, List.flatten_nil, List.append_nil, List.cons_append, List.nil_append]
  entry_read
  pointwise []

theorem entry_v7 (r : Fin 32) (d : Fin 14592) :
    (V m c main_v7 : FVec Ideal S32x14592 .f32) (ix2 r d)
      = (m (c, main_arg2) : FVec Ideal S32x1x14592 .f32) (ix3 r 0 d) := by
  unfold V
  simp only [hostOps0, List.flatten_cons, List.flatten_nil, List.append_nil, List.cons_append, List.nil_append]
  entry_read
  pointwise []

theorem entry_v8 (r : Fin 32) (d : Fin 2048) :
    (V m c main_v8 : FVec Ideal S32x2048 .f32) (ix2 r d)
      = (m (c, main_arg3) : FVec Ideal S32x1x2048 .f32) (ix3 r 0 d) := by
  unfold V
  simp only [hostOps0, List.flatten_cons, List.flatten_nil, List.append_nil, List.cons_append, List.nil_append]
  entry_read
  pointwise []

theorem entry_v9 (r : Fin 32) (d : Fin 256) :
    (V m c main_v9 : FVec Ideal S32x256 .f32) (ix2 r d)
      = (m (c, main_arg4) : FVec Ideal S32x1x256 .f32) (ix3 r 0 d) := by
  unfold V
  simp only [hostOps0, List.flatten_cons, List.flatten_nil, List.append_nil, List.cons_append, List.nil_append]
  entry_read
  pointwise []

theorem entry_v0 (i : Fin 1024) (k : Fin 2048) :
    (V m c main_v0 : FVec Ideal S1024x2048 .bf16) (ix2 i k) = (m (c, main_arg5) : FVec Ideal S1024x2048 .f32) (ix2 i k) := by
  unfold V
  simp only [hostOps0, List.flatten_cons, List.flatten_nil, List.append_nil, List.cons_append, List.nil_append]
  entry_read
  pointwise []

theorem entry_v1 (i : Fin 1024) (k : Fin 2048) :
    (V m c main_v1 : FVec Ideal S1024x2048 .bf16) (ix2 i k) = (m (c, main_arg6) : FVec Ideal S1024x2048 .f32) (ix2 i k) := by
  unfold V
  simp only [hostOps0, List.flatten_cons, List.flatten_nil, List.append_nil, List.cons_append, List.nil_append]
  entry_read
  pointwise []

theorem entry_v2 (i : Fin 2048) (k : Fin 2048) :
    (V m c main_v2 : FVec Ideal S2048x2048 .bf16) (ix2 i k) = (m (c, main_arg7) : FVec Ideal S2048x2048 .f32) (ix2 i k) := by
  unfold V
  simp only [hostOps0, List.flatten_cons, List.flatten_nil, List.append_nil, List.cons_append, List.nil_append]
  entry_read
  pointwise []

theorem entry_v3 (i : Fin 2048) (k : Fin 2048) :
    (V m c main_v3 : FVec Ideal S2048x2048 .bf16) (ix2 i k) = (m (c, main_arg9) : FVec Ideal S2048x2048 .f32) (ix2 i k) := by
  unfold V
  simp only [hostOps0, List.flatten_cons, List.flatten_nil, List.append_nil, List.cons_append, List.nil_append]
  entry_read
  pointwise []

theorem entry_v4 (i : Fin 256) (k : Fin 2048) :
    (V m c main_v4 : FVec Ideal S256x2048 .bf16) (ix2 i k) = (m (c, main_arg10) : FVec Ideal S256x2048 .f32) (ix2 i k) := by
  unfold V
  simp only [hostOps0, List.flatten_cons, List.flatten_nil, List.append_nil, List.cons_append, List.nil_append]
  entry_read
  pointwise []

theorem entry_v10 (k : Fin 2048) : (V m c main_v10 : FVec Ideal S1x2048 .f32) (ix2 0 k) = (m (c, main_arg8) : FVec Ideal S2048 .f32) (ix1 k) := by
  unfold V
  simp only [hostOps0, List.flatten_cons, List.flatten_nil, List.append_nil, List.cons_append, List.nil_append]
  entry_read
  pointwise []

/-- What a row of a point reads is its token. -/
theorem tok_eq (t : Fin cfg0.N) (i : Fin 32) :
    tokOf (iblk m c 0 t) (iblk m c 1 t) (X0_2 m c t) (X0_3 m c t) (iblk m c 4 t) (iblk m c 5 t) i
      = argTok (m (c, main_arg0)) (m (c, main_arg1)) (m (c, main_arg2)) (m (c, main_arg3)) (m (c, main_arg4)) (rowOf t i) :=
  (Lay.Tok.mk.injEq ..).mpr
    ⟨funext fun d => (win0 (V m c main_v5) t i d).trans (entry_v5 m c _ d), funext fun d => (win1 (V m c main_v6) t i d).trans (entry_v6 m c _ d),
      funext fun d => (win2 m c t i d).trans (entry_v7 m c _ _), funext fun d => (win3 m c t i d).trans (entry_v7 m c _ _),
      funext fun d => (win4 (V m c main_v8) t i d).trans (entry_v8 m c _ d), funext fun d => (win5 (V m c main_v9) t i d).trans (entry_v9 m c _ d)⟩

/-- The weights that a point reads are the given ones. -/
theorem wts_eq (t : Fin cfg0.N) :
    wtsOf (iblk m c 6 t) (iblk m c 7 t) (iblk m c 8 t) (iblk m c 9 t) (iblk m c 10 t) (iblk m c 11 t)
      = argWts (m (c, main_arg5)) (m (c, main_arg6)) (m (c, main_arg7)) (m (c, main_arg8)) (m (c, main_arg9)) (m (c, main_arg10)) :=
  (Lay.Wts.mk.injEq ..).mpr
    ⟨funext fun d => funext fun k => (win6 (V m c main_v0) t d k).trans (entry_v0 m c d k),
      funext fun d => funext fun k => (win7 (V m c main_v1) t d k).trans (entry_v1 m c d k),
      funext fun d => funext fun k => (win8 (V m c main_v2) t d k).trans (entry_v2 m c d k),
      funext fun k => (win9 (V m c main_v10) t k).trans (entry_v10 m c k),
      funext fun d => funext fun k => (win10 (V m c main_v3) t d k).trans (entry_v3 m c d k),
      funext fun d => funext fun k => (win11 (V m c main_v4) t d k).trans (entry_v4 m c d k)⟩

/-- A point's output is the end of the layer of its tokens. -/
theorem out_at (t : Fin cfg0.N) (i : Fin 32) (k : Fin 2048) :
    outsAt0 m c t (ix2 i k)
      = Lay.fin (argTok (m (c, main_arg0)) (m (c, main_arg1)) (m (c, main_arg2)) (m (c, main_arg3)) (m (c, main_arg4)) (rowOf t i))
          (argWts (m (c, main_arg5)) (m (c, main_arg6)) (m (c, main_arg7)) (m (c, main_arg8)) (m (c, main_arg9)) (m (c, main_arg10))) k := by
  rw [← tok_eq m c t i, ← wts_eq m c t, out_eq, pay2_eq]
  refine pay1_at _ _ _ _ _ _ _ i k
    (Lay.mid (tokOf (iblk m c 0 t) (iblk m c 1 t) (X0_2 m c t) (X0_3 m c t) (iblk m c 4 t) (iblk m c 5 t) i)
      (wtsOf (iblk m c 6 t) (iblk m c 7 t) (iblk m c 8 t) (iblk m c 9 t) (iblk m c 10 t) (iblk m c 11 t))) fun k => ?_
  unfold Lay.mid
  refine congrArg (_ + ·) (Finset.sum_congr rfl fun d _ => ?_)
  rw [pay3_at]
  rfl

/-- The launch's result. -/
theorem final : (dats m 0 c).arrAt 12 cfg0.N = fun j =>
    Lay.fin (argTok (m (c, main_arg0)) (m (c, main_arg1)) (m (c, main_arg2)) (m (c, main_arg3)) (m (c, main_arg4)) (j 0))
      (argWts (m (c, main_arg5)) (m (c, main_arg6)) (m (c, main_arg7)) (m (c, main_arg8)) (m (c, main_arg9)) (m (c, main_arg10))) (j 1) := by
  refine (dats m 0 c).arrAt_eq_of_covers 12 _ (by decide +kernel) fun t hf y => ?_
  blk_simp
  rw [after0_12]
  have e0 : (win0_12.blk t).view.emb y 0 = rowOf t (y 0) := Fin.ext (by
    have := lt_of_lt_of_eq t.isLt (show cfg0.N = 1 from N_0)
    blk_simp [(idx_all t).2.2.2.2.2.2.2.2.2.2.2.2]
    simp only [rowOf]
    omega)
  have e1 : (win0_12.blk t).view.emb y 1 = y 1 := Fin.ext (by blk_simp [(idx_all t).2.2.2.2.2.2.2.2.2.2.2.2])
  have ey : y = ix2 (y 0) (y 1) := by
    funext a
    fin_cases a
    · rfl
    · rfl
  rw [e0, e1]
  exact (congrArg (outsAt0 m c t) ey).trans (out_at m c t (y 0) (y 1))

end TailS
-- ==== Proof.TailS.Ref.lean ====
module
public import proofs.«01_k».proof.Proof.TailS.Final
public import proofs.«01_k».proof.Proof.Gen.TailSRefIdeal.Run

/-! What the plain end of the layer leaves in its array. -/

@[expose] public section

set_option maxRecDepth 16384

noncomputable section

namespace TailS.Ref
open Idealize.ShloMosaic Idealize.ShloMosaic.TcCoe Idealize.SL.Sem Idealize.ShloMosaic.StableHlo
open Cert.TailSRefIdeal Cert.TailSRefIdeal.Gen

/-- The gated sum, at an index. -/
theorem merged_at (oa : FVec Ideal S32x1x1024 .f32) (ob : FVec Ideal S32x1x1024 .bf16) (z : FVec Ideal S32x1x14592 .f32) (wa wb : FVec Ideal S1024x2048 .f32) (b : Fin 32) (t : Fin 1)
    (k : Fin 2048) :
    ((addf (mulf (Host.divf (broadcastInDim S32x1x2048 ![] bcast_S_S32x1x2048 (constant (F := Ideal) S_ .f32 0x3F800000#32)) (addf (broadcastInDim S32x1x2048 ![] bcast_S_S32x1x2048 (constant (F := Ideal) S_ .f32 0x3F800000#32)) (Host.exp (Host.negf (extractStridedSlice S32x1x2048 ![0, 0, 10240] z slices_S32x1x14592_S32x1x2048_0_0_10240))))) (Host.dotGeneral dot_S32x1x1024_S1024x2048_S32x1x2048_2_0_01_1_n_n none oa wa)) (mulf (Host.divf (broadcastInDim S32x1x2048 ![] bcast_S_S32x1x2048 (constant (F := Ideal) S_ .f32 0x3F800000#32)) (addf (broadcastInDim S32x1x2048 ![] bcast_S_S32x1x2048 (constant (F := Ideal) S_ .f32 0x3F800000#32)) (Host.exp (Host.negf (extractStridedSlice S32x1x2048 ![0, 0, 12288] z slices_S32x1x14592_S32x1x2048_0_0_12288))))) (Host.dotGeneral dot_S32x1x1024_S1024x2048_S32x1x2048_2_0_01_1_n_n none (extf .f32 ob bitsLt_bf16_f32) wb))) : FVec Ideal S32x1x2048 .f32) (ix3 b t k)
      = (Lay.sig (z (ix3 b t ⟨10240 + k.val, by omega⟩)) * (∑ d : Fin 1024, (oa (ix3 b t d) * wa (ix2 d k) : EReal))
        + Lay.sig (z (ix3 b t ⟨12288 + k.val, by omega⟩)) * (∑ d : Fin 1024, (ob (ix3 b t d) * wb (ix2 d k) : EReal)) : EReal) := by
  obtain rfl : t = 0 := Subsingleton.elim _ _
  unfold Lay.sig
  pointwise []
  simp only [zero_sub]

/-- The residual stream after the output projection, at an index. -/
theorem mid_at (M : FVec Ideal S32x1x2048 .f32) (x : FVec Ideal S32x1x2048 .f32) (wo : FVec Ideal S2048x2048 .f32) (b : Fin 32) (t : Fin 1)
    (k : Fin 2048) (h : Fin 2048 → EReal) (hM : ∀ d, M (ix3 b t d) = h d) :
    ((addf x (Host.dotGeneral dot_S32x1x2048_S2048x2048_S32x1x2048_2_0_01_1_n_n none M wo)) : FVec Ideal S32x1x2048 .f32) (ix3 b t k)
      = (x (ix3 b t k) + (∑ d : Fin 2048, h d * (wo (ix2 d k) : EReal)) : EReal) := by
  obtain rfl : (fun d => M (ix3 b t d)) = h := funext hM
  pointwise []

/-- The result over the residual stream `Y`, at an index. -/
theorem fin_at (Y : FVec Ideal S32x1x2048 .f32) (p : FVec Ideal S32x1x256 .f32) (pn : FVec Ideal S2048 .f32) (wg : FVec Ideal S2048x2048 .f32)
    (wp : FVec Ideal S256x2048 .f32) (r : Fin 32) (k : Fin 2048)
    (y : Fin 2048 → EReal) (hY : ∀ k, Y (ix3 r 0 k) = y k) :
    (shapeCast S32x2048 (addf Y (mulf (Host.divf (broadcastInDim S32x1x2048 ![] bcast_S_S32x1x2048 (constant (F := Ideal) S_ .f32 0x3F800000#32)) (addf (broadcastInDim S32x1x2048 ![] bcast_S_S32x1x2048 (constant (F := Ideal) S_ .f32 0x3F800000#32)) (Host.exp (Host.negf (Host.dotGeneral dot_S32x1x2048_S2048x2048_S32x1x2048_2_0_01_1_n_n none (mulf (mulf Y (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf Y Y) (constant (F := Ideal) S_ .f32 0x00000000#32) reducesTo_S32x1x2048_S32x1_d2 h_S_)) (broadcastInDim S32x1x1 ![] bcast_S_S32x1x1 (constant (F := Ideal) S_ .f32 0x45000000#32))) (broadcastInDim S32x1x1 ![] bcast_S_S32x1x1 (constant (F := Ideal) S_ .f32 0x358637BD#32)))))) (broadcastInDim S32x1x2048 ![0, 1, 2] bcast_S1x1x2048_S32x1x2048_0_1_2 (broadcastInDim S1x1x2048 ![2] bcast_S2048_S1x1x2048_2 pn))) wg))))) (Host.dotGeneral dot_S32x1x256_S256x2048_S32x1x2048_2_0_01_1_n_n none p wp))) shapeCasts_S32x1x2048_S32x2048 : FVec Ideal S32x2048 .f32) (ix2 r k)
      = (y k
          + Lay.sig (∑ d : Fin 2048, Lay.rms y (fun d => pn (ix1 d)) d * (wg (ix2 d k) : EReal))
          * (∑ d : Fin 256, (p (ix3 r 0 d) * wp (ix2 d k) : EReal)) : EReal) := by
  obtain rfl : (fun k => Y (ix3 r 0 k)) = y := funext hY
  unfold Lay.sig Lay.rms
  pointwise []
  simp only [zero_sub]

variable (m : (ℓ : Loc nD τ sig) → Buf (Elt Ideal) ℓ) (c : Dev nD)

/-- The reference's result is the end of the layer, token by token. -/
theorem ref_eq : Cert.TailSRefIdeal.Value.res_main_v45 m c = fun j =>
    Lay.fin (argTok (m (c, main_arg0)) (m (c, main_arg1)) (m (c, main_arg2)) (m (c, main_arg3)) (m (c, main_arg4)) (j 0))
      (argWts (m (c, main_arg5)) (m (c, main_arg6)) (m (c, main_arg7)) (m (c, main_arg8)) (m (c, main_arg9)) (m (c, main_arg10))) (j 1) := by
  funext j
  idx_vars j
  unfold Cert.TailSRefIdeal.Value.res_main_v45
  refine fin_at _ (m (c, main_arg4)) (m (c, main_arg8)) (m (c, main_arg9)) (m (c, main_arg10)) j0 j1
    (Lay.mid (argTok (m (c, main_arg0)) (m (c, main_arg1)) (m (c, main_arg2)) (m (c, main_arg3)) (m (c, main_arg4)) j0)
      (argWts (m (c, main_arg5)) (m (c, main_arg6)) (m (c, main_arg7)) (m (c, main_arg8)) (m (c, main_arg9)) (m (c, main_arg10)))) fun k => ?_
  exact mid_at _ (m (c, main_arg3)) (m (c, main_arg7)) _ _ k _ fun d =>
    merged_at (m (c, main_arg0)) (m (c, main_arg1)) (m (c, main_arg2)) (m (c, main_arg5)) (m (c, main_arg6)) _ _ d

end TailS.Ref
-- ==== Proof.lean ====
module

public import proofs.«01_k».proof.Proof.Gen.InProj
public import proofs.«01_k».proof.Proof.Gen.InProj.Frame
public import proofs.«01_k».proof.Proof.Gen.InProjIdeal.Frame
public import proofs.«01_k».proof.Proof.Gen.InProjRefIdeal.Run
public import proofs.«01_k».proof.Proof.Gen.Tail
public import proofs.«01_k».proof.Proof.Gen.Tail.Frame
public import proofs.«01_k».proof.Proof.Gen.TailIdeal.Value
public import proofs.«01_k».proof.Proof.Gen.TailIdeal.Frame
public import proofs.«01_k».proof.Proof.Gen.TailRefIdeal.Run
public import proofs.«01_k».proof.Proof.Gen.AttPrep
public import proofs.«01_k».proof.Proof.Gen.AttPrep.Frame
public import proofs.«01_k».proof.Proof.Gen.AttPrepIdeal.Value
public import proofs.«01_k».proof.Proof.Gen.AttPrepIdeal.Frame
public import proofs.«01_k».proof.Proof.Gen.AttPrepRefIdeal.Run
public import proofs.«01_k».proof.Proof.Gen.Step
public import proofs.«01_k».proof.Proof.Gen.Step.Frame
public import proofs.«01_k».proof.Proof.Gen.StepIdeal.Value
public import proofs.«01_k».proof.Proof.Gen.StepIdeal.Frame
public import proofs.«01_k».proof.Proof.Gen.StepRefIdeal.Run
public import proofs.«01_k».proof.Proof.Gen.PrepS
public import proofs.«01_k».proof.Proof.Gen.PrepS.Frame
public import proofs.«01_k».proof.Proof.Gen.PrepSIdeal.Value
public import proofs.«01_k».proof.Proof.Gen.PrepSIdeal.Frame
public import proofs.«01_k».proof.Proof.Gen.InProjS
public import proofs.«01_k».proof.Proof.Gen.InProjS.Frame
public import proofs.«01_k».proof.Proof.Gen.InProjSIdeal.Frame
public import proofs.«01_k».proof.Proof.Gen.InProjSRefIdeal.Run
public import proofs.«01_k».proof.Proof.Gen.AttPrepS
public import proofs.«01_k».proof.Proof.Gen.AttPrepS.Frame
public import proofs.«01_k».proof.Proof.Gen.AttPrepSIdeal.Value
public import proofs.«01_k».proof.Proof.Gen.AttPrepSIdeal.Frame
public import proofs.«01_k».proof.Proof.Gen.AttPrepSRefIdeal.Run
public import proofs.«01_k».proof.Proof.Gen.TailS
public import proofs.«01_k».proof.Proof.Gen.TailS.Frame
public import proofs.«01_k».proof.Proof.Gen.TailSIdeal.Value
public import proofs.«01_k».proof.Proof.Gen.TailSIdeal.Frame
public import proofs.«01_k».proof.Proof.Gen.TailSRefIdeal.Run
public import proofs.«01_k».proof.Proof.Gen.PrepSRefIdeal.Run
public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gdn.Final
public import proofs.«01_k».proof.Proof.Gdn.RefLoop
public import proofs.«01_k».proof.Proof.Gdn.Pre
public import proofs.«01_k».proof.Proof.InProj.Ref
public import proofs.«01_k».proof.Proof.Tail.Ref
public import proofs.«01_k».proof.Proof.AttPrep.Ref
public import proofs.«01_k».proof.Proof.Step.Ref
public import proofs.«01_k».proof.Proof.PrepS.Ref
public import proofs.«01_k».proof.Proof.InProjS.Ref
public import proofs.«01_k».proof.Proof.AttPrepS.Ref
public import proofs.«01_k».proof.Proof.TailS.Ref
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The precondition says that the arguments of the recurrence are real numbers. -/
theorem gdn_args {m : (ℓ : Loc Cert.KernelIdeal.nD Cert.KernelIdeal.τ Cert.KernelIdeal.sig) → Buf (Elt Ideal) ℓ}
    (h : Cert.Pre_KernelIdeal_gdn_finite (hPre_gdn_finite := Gdn.Pre.facts) m) (c : Dev Cert.KernelIdeal.nD) : (Gdn.argsOf m c).Finite :=
  @Gdn.Pre.finite_of_fn Gdn.Pre.facts (Gdn.argsOf m c) (m (c, Cert.KernelIdeal.main_arg3)) (m (c, Cert.KernelIdeal.main_arg7)) fun i => congrFun (h c) i

/-- The reference runs and leaves its arguments and every counter as they were. -/
theorem gdn_ref_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

/-- The kernel's results are the reference's. -/
theorem gdn_value : Cert.algebraic_KernelIdeal_ReferenceIdeal_pre_gdn_finite (hKernelIdeal := Cert.KernelIdeal.Gen.facts)
    (hReferenceIdeal := Cert.ReferenceIdeal.Gen.facts) (hPre_gdn_finite := Gdn.Pre.facts) := by
  intro m g m' g' hpre hagree
  have H := gdn_args hpre
  have ea : ∀ c, Gdn.Ref.argsR m' c = Gdn.argsOf m c := fun c => by
    obtain ⟨h0, h1, h2, -, h4, h5, h6, -⟩ := hagree c
    exact (Gdn.Args.mk.injEq ..).mpr ⟨h0, h1, h2, h4, h5, h6⟩
  refine ⟨fun c => fun j => Gdn.outF (Gdn.argsOf m c) (m (c, Cert.KernelIdeal.main_arg3)) (m (c, Cert.KernelIdeal.main_arg7)) (j 0) (j 1) (j 2),
    fun c => fun j => Gdn.stF (Gdn.argsOf m c) (j 0) (j 1) (j 2) (j 3), ?_, ?_⟩
  · refine (θ_run _ _ _).mono (fun r h c => ?_) (Cert.KernelIdeal.Value.run_blocks (F := Ideal) m g)
    obtain ⟨h0, h1, h2⟩ := h c
    exact ⟨h0.trans (Gdn.final_out (H c)), h1.trans (Gdn.final_st (H c)), h2⟩
  · refine (θ_run _ _ _).mono (fun r h c => ?_) (Cert.ReferenceIdeal.Value.run (F := Ideal) m' g')
    obtain ⟨h0, h1, h2⟩ := h c
    obtain ⟨-, -, -, e3, -, -, -, e7⟩ := hagree c
    have H' : (Gdn.Ref.argsR m' c).Finite := by rw [ea c]; exact H c
    refine ⟨h0.trans ((Gdn.Ref.ref_out m' c H').trans ?_), h1.trans ((Gdn.Ref.ref_st m' c H').trans ?_), h2⟩
    · rw [ea c]
      have e3' : (m' (c, Cert.ReferenceIdeal.main_arg3) : FVec Ideal Cert.KernelIdeal.S2x4096x14592 .f32) = m (c, Cert.KernelIdeal.main_arg3) := e3
      have e7' : (m' (c, Cert.ReferenceIdeal.main_arg7) : FVec Ideal Cert.KernelIdeal.S1x128 .f32) = m (c, Cert.KernelIdeal.main_arg7) := e7
      exact congrArg₂ (fun z gain => fun j : Cert.KernelIdeal.S2x4096x1024.Idx => Gdn.outF (Gdn.argsOf m c) z gain (j 0) (j 1) (j 2)) e3' e7'
    · rw [ea c]
      rfl

/-- The plain projection runs and leaves its arguments and every counter as they were. -/
theorem inproj_ref_frame : Cert.quiescent_InProjRefIdeal (hInProjRefIdeal := Cert.InProjRefIdeal.Gen.facts) := fun m g _ =>
  (θ_run _ _ _).mono (fun r h => ⟨fun c => (h c).2.2, sem_eq_zero_of_no_sems (by decide) r.2⟩) (Cert.InProjRefIdeal.Value.run (F := Ideal) m g)

/-- The projection kernel's array is the plain projection, and the rows cut out of it are those of the plain projection. -/
theorem inproj_value : Cert.algebraic_InProjIdeal_InProjRefIdeal (hInProjIdeal := Cert.InProjIdeal.Gen.facts)
    (hInProjRefIdeal := Cert.InProjRefIdeal.Gen.facts) := by
  intro m g m' g' _ hagree
  refine ⟨fun c => fun j => InProj.zF (m (c, Cert.InProjIdeal.main_arg0)) (m (c, Cert.InProjIdeal.main_arg1))
    (m (c, Cert.InProjIdeal.main_arg2)) (j 0) (j 1),
    fun c => fun j => InProj.cutF (m (c, Cert.InProjIdeal.main_arg0)) (m (c, Cert.InProjIdeal.main_arg1))
    (m (c, Cert.InProjIdeal.main_arg2)) (j 0) (j 1) (j 2), ?_, ?_⟩
  · exact InProj.run m g
  · refine (θ_run _ _ _).mono (fun r h c => ?_) (Cert.InProjRefIdeal.Value.run (F := Ideal) m' g')
    obtain ⟨h0, h1, h2⟩ := h c
    obtain ⟨e0, e1, e2⟩ := hagree c
    have e0' : (m' (c, Cert.InProjRefIdeal.main_arg0) : FVec Ideal Cert.InProjIdeal.S2x4096x2048 .f32) = m (c, Cert.InProjIdeal.main_arg0) := e0
    have e1' : (m' (c, Cert.InProjRefIdeal.main_arg1) : FVec Ideal Cert.InProjIdeal.S2048 .f32) = m (c, Cert.InProjIdeal.main_arg1) := e1
    have e2' : (m' (c, Cert.InProjRefIdeal.main_arg2) : FVec Ideal Cert.InProjIdeal.S2048x14592 .bf16) = m (c, Cert.InProjIdeal.main_arg2) := e2
    refine ⟨h0.trans ((InProj.Ref.ref_eq _ _ _).trans ?_), h1.trans ((InProj.Ref.ref_cut _ _ _).trans ?_), h2⟩
    · exact congr (congrArg₂ (fun x gain => fun w => fun j : Cert.InProjIdeal.S8192x14592.Idx => InProj.zF x gain w (j 0) (j 1)) e0' e1') e2'
    · exact congr (congrArg₂ (fun x gain => fun w => fun j : Cert.InProjIdeal.S2x3x3072.Idx => InProj.cutF x gain w (j 0) (j 1) (j 2)) e0' e1') e2'

/-- The plain end of the layer runs and leaves its arguments and every counter as they were. -/
theorem tail_ref_frame : Cert.quiescent_TailRefIdeal (hTailRefIdeal := Cert.TailRefIdeal.Gen.facts) := fun m g _ =>
  (θ_run _ _ _).mono (fun r h => ⟨fun c => (h c).2, sem_eq_zero_of_no_sems (by decide) r.2⟩) (Cert.TailRefIdeal.Value.run (F := Ideal) m g)

/-- The array of the kernel that ends the layer is the plain one's. -/
theorem tail_value : Cert.algebraic_TailIdeal_TailRefIdeal (hTailIdeal := Cert.TailIdeal.Gen.facts)
    (hTailRefIdeal := Cert.TailRefIdeal.Gen.facts) := by
  intro m g m' g' _ hagree
  refine ⟨fun c => fun j => Lay.fin
    (Tail.argTok (m (c, Cert.TailIdeal.main_arg0)) (m (c, Cert.TailIdeal.main_arg1)) (m (c, Cert.TailIdeal.main_arg2)) (m (c, Cert.TailIdeal.main_arg3)) (m (c, Cert.TailIdeal.main_arg4)) (j 0))
    (Tail.argWts (m (c, Cert.TailIdeal.main_arg5)) (m (c, Cert.TailIdeal.main_arg6)) (m (c, Cert.TailIdeal.main_arg7)) (m (c, Cert.TailIdeal.main_arg8)) (m (c, Cert.TailIdeal.main_arg9)) (m (c, Cert.TailIdeal.main_arg10))) (j 1), ?_, ?_⟩
  · refine (θ_run _ _ _).mono (fun r h c => ?_) (Cert.TailIdeal.Value.run_blocks (F := Ideal) m g)
    obtain ⟨h0, h1⟩ := h c
    exact ⟨h0.trans (Tail.final m c), h1⟩
  · refine (θ_run _ _ _).mono (fun r h c => ?_) (Cert.TailRefIdeal.Value.run (F := Ideal) m' g')
    obtain ⟨h0, h1⟩ := h c
    obtain ⟨e0, e1, e2, e3, e4, e5, e6, e7, e8, e9, e10⟩ := hagree c
    have e0' : (m' (c, Cert.TailRefIdeal.main_arg0) : FVec Ideal Cert.TailIdeal.S2x4096x1024 .bf16) = m (c, Cert.TailIdeal.main_arg0) := e0
    have e1' : (m' (c, Cert.TailRefIdeal.main_arg1) : FVec Ideal Cert.TailIdeal.S2x4096x1024 .bf16) = m (c, Cert.TailIdeal.main_arg1) := e1
    have e2' : (m' (c, Cert.TailRefIdeal.main_arg2) : FVec Ideal Cert.TailIdeal.S2x4096x14592 .f32) = m (c, Cert.TailIdeal.main_arg2) := e2
    have e3' : (m' (c, Cert.TailRefIdeal.main_arg3) : FVec Ideal Cert.TailIdeal.S2x4096x2048 .f32) = m (c, Cert.TailIdeal.main_arg3) := e3
    have e4' : (m' (c, Cert.TailRefIdeal.main_arg4) : FVec Ideal Cert.TailIdeal.S2x4096x256 .f32) = m (c, Cert.TailIdeal.main_arg4) := e4
    have e5' : (m' (c, Cert.TailRefIdeal.main_arg5) : FVec Ideal Cert.TailIdeal.S1024x2048 .f32) = m (c, Cert.TailIdeal.main_arg5) := e5
    have e6' : (m' (c, Cert.TailRefIdeal.main_arg6) : FVec Ideal Cert.TailIdeal.S1024x2048 .f32) = m (c, Cert.TailIdeal.main_arg6) := e6
    have e7' : (m' (c, Cert.TailRefIdeal.main_arg7) : FVec Ideal Cert.TailIdeal.S2048x2048 .f32) = m (c, Cert.TailIdeal.main_arg7) := e7
    have e8' : (m' (c, Cert.TailRefIdeal.main_arg8) : FVec Ideal Cert.TailIdeal.S2048 .f32) = m (c, Cert.TailIdeal.main_arg8) := e8
    have e9' : (m' (c, Cert.TailRefIdeal.main_arg9) : FVec Ideal Cert.TailIdeal.S2048x2048 .f32) = m (c, Cert.TailIdeal.main_arg9) := e9
    have e10' : (m' (c, Cert.TailRefIdeal.main_arg10) : FVec Ideal Cert.TailIdeal.S256x2048 .f32) = m (c, Cert.TailIdeal.main_arg10) := e10
    refine ⟨h0.trans ((Tail.Ref.ref_eq m' c).trans ?_), h1⟩
    have et := congr (congr (congr (congrArg₂ Tail.argTok e0' e1') e2') e3') e4'
    have ew := congr (congr (congr (congr (congrArg₂ Tail.argWts e5' e6') e7') e8') e9') e10'
    exact congrArg₂ (fun (tok : Fin 8192 → Lay.Tok) (w : Lay.Wts) => fun j : Cert.TailIdeal.S8192x2048.Idx => Lay.fin (tok (j 0)) w (j 1)) et ew

/-- The plain preparation of the attention runs and leaves its arguments and every counter as they were. -/
theorem attprep_ref_frame : Cert.quiescent_AttPrepRefIdeal (hAttPrepRefIdeal := Cert.AttPrepRefIdeal.Gen.facts) := fun m g _ =>
  (θ_run _ _ _).mono (fun r h => ⟨fun c => (h c).2.2.2.2, sem_eq_zero_of_no_sems (by decide) r.2⟩) (Cert.AttPrepRefIdeal.Value.run (F := Ideal) m g)

/-- The keys, values, index queries and index keys of the kernel that prepares the attention are the plain ones. -/
theorem attprep_value : Cert.algebraic_AttPrepIdeal_AttPrepRefIdeal (hAttPrepIdeal := Cert.AttPrepIdeal.Gen.facts)
    (hAttPrepRefIdeal := Cert.AttPrepRefIdeal.Gen.facts) := by
  intro m g m' g' _ hagree
  refine ⟨fun c => fun j => AttPrep.keyF (m (c, Cert.AttPrepIdeal.main_arg0)) (m (c, Cert.AttPrepIdeal.main_arg2)) (j 0) (j 1) (j 2),
    fun c => fun j => AttPrep.valF (m (c, Cert.AttPrepIdeal.main_arg0)) (j 0) (j 1) (j 2),
    fun c => fun j => AttPrep.idxqF (m (c, Cert.AttPrepIdeal.main_arg0)) (j 0) (j 1) (j 2),
    fun c => fun j => AttPrep.idxkF (m (c, Cert.AttPrepIdeal.main_arg0)) (j 0) (j 1) (j 2), ?_, ?_⟩
  · refine (θ_run _ _ _).mono (fun r h c => ?_) (Cert.AttPrepIdeal.Value.run_blocks (F := Ideal) m g)
    obtain ⟨-, h1, h2, -, -, h5, h6, -, -, ha⟩ := h c
    exact ⟨h1.trans (AttPrep.final_key m c), h2.trans (AttPrep.final_val m c), h5.trans (AttPrep.final_idxq m c),
      h6.trans (AttPrep.final_idxk m c), ha⟩
  · refine (θ_run _ _ _).mono (fun r h c => ?_) (Cert.AttPrepRefIdeal.Value.run (F := Ideal) m' g')
    obtain ⟨h0, h1, h2, h3, ha⟩ := h c
    obtain ⟨e0, -, e2⟩ := hagree c
    have e0' : (m' (c, Cert.AttPrepRefIdeal.main_arg0) : FVec Ideal Cert.AttPrepIdeal.S2x4096x14592 .f32) = m (c, Cert.AttPrepIdeal.main_arg0) := e0
    have e2' : (m' (c, Cert.AttPrepRefIdeal.main_arg2) : FVec Ideal Cert.AttPrepIdeal.S128 .f32) = m (c, Cert.AttPrepIdeal.main_arg2) := e2
    refine ⟨h0.trans ((AttPrep.Ref.ref_key m' c).trans ?_), h1.trans ((AttPrep.Ref.ref_val (m' (c, Cert.AttPrepRefIdeal.main_arg0))).trans ?_),
      h2.trans ((AttPrep.Ref.ref_idxq m' c).trans ?_), h3.trans ((AttPrep.Ref.ref_idxk m' c).trans ?_), ha⟩
    · exact congrArg₂ (fun z kn => fun j : Cert.AttPrepIdeal.S2x4096x1024.Idx => AttPrep.keyF z kn (j 0) (j 1) (j 2)) e0' e2'
    · exact congrArg (fun z => fun j : Cert.AttPrepIdeal.S2x4096x1024.Idx => AttPrep.valF z (j 0) (j 1) (j 2)) e0'
    · exact congrArg (fun z => fun j : Cert.AttPrepIdeal.S2x4096x2048.Idx => AttPrep.idxqF z (j 0) (j 1) (j 2)) e0'
    · exact congrArg (fun z => fun j : Cert.AttPrepIdeal.S2x4096x128.Idx => AttPrep.idxkF z (j 0) (j 1) (j 2)) e0'

/-- The precondition says that the arguments of the step are real numbers. -/
theorem step_args {m : (ℓ : Loc Cert.StepIdeal.nD Cert.StepIdeal.τ Cert.StepIdeal.sig) → Buf (Elt Ideal) ℓ}
    (h : Cert.Pre_StepIdeal_step_finite (hPre_step_finite := Step.Pre.facts) m) (c : Dev Cert.StepIdeal.nD) :
    Step.Pre.Reals (m (c, Cert.StepIdeal.main_arg0)) (m (c, Cert.StepIdeal.main_arg1)) (m (c, Cert.StepIdeal.main_arg2)) (m (c, Cert.StepIdeal.main_arg4)) (m (c, Cert.StepIdeal.main_arg5)) :=
  @Step.Pre.reals_of_fn Step.Pre.facts (m (c, Cert.StepIdeal.main_arg0)) (m (c, Cert.StepIdeal.main_arg1)) (m (c, Cert.StepIdeal.main_arg2)) (m (c, Cert.StepIdeal.main_arg3))
    (m (c, Cert.StepIdeal.main_arg4)) (m (c, Cert.StepIdeal.main_arg5)) (m (c, Cert.StepIdeal.main_arg6)) fun i => congrFun (h c) i

/-- The plain step of the delta rule runs and leaves its arguments and every counter as they were. -/
theorem step_ref_frame : Cert.quiescent_StepRefIdeal (hStepRefIdeal := Cert.StepRefIdeal.Gen.facts) := fun m g _ =>
  (θ_run _ _ _).mono (fun r h => ⟨fun c => (h c).2.2, sem_eq_zero_of_no_sems (by decide) r.2⟩) (Cert.StepRefIdeal.Value.run (F := Ideal) m g)

/-- The output and the states of the decoding step's kernel are those of the plain step. -/
theorem step_value : Cert.algebraic_StepIdeal_StepRefIdeal_pre_step_finite (hStepIdeal := Cert.StepIdeal.Gen.facts)
    (hStepRefIdeal := Cert.StepRefIdeal.Gen.facts) (hPre_step_finite := Step.Pre.facts) := by
  intro m g m' g' hpre hagree
  have H := step_args hpre
  refine ⟨fun c => fun j => Step.outF (m (c, Cert.StepIdeal.main_arg0)) (m (c, Cert.StepIdeal.main_arg1)) (m (c, Cert.StepIdeal.main_arg2)) (m (c, Cert.StepIdeal.main_arg3)) (m (c, Cert.StepIdeal.main_arg4)) (m (c, Cert.StepIdeal.main_arg5)) (m (c, Cert.StepIdeal.main_arg6)) (j 0) (j 1),
    fun c => fun j => Step.stateF (m (c, Cert.StepIdeal.main_arg0)) (m (c, Cert.StepIdeal.main_arg1)) (m (c, Cert.StepIdeal.main_arg2)) (m (c, Cert.StepIdeal.main_arg4)) (m (c, Cert.StepIdeal.main_arg5)) (j 0) (j 1) (j 2) (j 3), ?_, ?_⟩
  · refine (θ_run _ _ _).mono (fun r h c => ?_) (Cert.StepIdeal.Value.run_blocks (F := Ideal) m g)
    obtain ⟨h0, h1, h2⟩ := h c
    exact ⟨h0.trans (Step.final_out m c (H c)), h1.trans (Step.final_state m c (H c)), h2⟩
  · refine (θ_run _ _ _).mono (fun r h c => ?_) (Cert.StepRefIdeal.Value.run (F := Ideal) m' g')
    obtain ⟨h0, h1, h2⟩ := h c
    obtain ⟨e0, e1, e2, e3, e4, e5, e6⟩ := hagree c
    have e0' : (m' (c, Cert.StepRefIdeal.main_arg0) : FVec Ideal Cert.StepIdeal.S32x1024 .f32) = m (c, Cert.StepIdeal.main_arg0) := e0
    have e1' : (m' (c, Cert.StepRefIdeal.main_arg1) : FVec Ideal Cert.StepIdeal.S32x1024 .f32) = m (c, Cert.StepIdeal.main_arg1) := e1
    have e2' : (m' (c, Cert.StepRefIdeal.main_arg2) : FVec Ideal Cert.StepIdeal.S32x1024 .f32) = m (c, Cert.StepIdeal.main_arg2) := e2
    have e3' : (m' (c, Cert.StepRefIdeal.main_arg3) : FVec Ideal Cert.StepIdeal.S32x14592 .f32) = m (c, Cert.StepIdeal.main_arg3) := e3
    have e4' : (m' (c, Cert.StepRefIdeal.main_arg4) : FVec Ideal Cert.StepIdeal.S32x128 .f32) = m (c, Cert.StepIdeal.main_arg4) := e4
    have e5' : (m' (c, Cert.StepRefIdeal.main_arg5) : FVec Ideal Cert.StepIdeal.S32x8x128x128 .f32) = m (c, Cert.StepIdeal.main_arg5) := e5
    have e6' : (m' (c, Cert.StepRefIdeal.main_arg6) : FVec Ideal Cert.StepIdeal.S128 .f32) = m (c, Cert.StepIdeal.main_arg6) := e6
    refine ⟨h0.trans ((Step.Ref.ref_out m' c).trans ?_), h1.trans ((Step.Ref.ref_state (m' (c, Cert.StepRefIdeal.main_arg0)) (m' (c, Cert.StepRefIdeal.main_arg1))
      (m' (c, Cert.StepRefIdeal.main_arg2)) (m' (c, Cert.StepRefIdeal.main_arg4)) (m' (c, Cert.StepRefIdeal.main_arg5))).trans ?_), h2⟩
    · have eo := congr (congr (congr (congr (congr (congrArg₂ Step.outF e0' e1') e2') e3') e4') e5') e6'
      exact congrArg (fun f => fun j : Cert.StepIdeal.S32x1024.Idx => f (j 0) (j 1)) eo
    · have es := congr (congr (congr (congrArg₂ Step.stateF e0' e1') e2') e4') e5'
      exact congrArg (fun f => fun j : Cert.StepIdeal.S32x8x128x128.Idx => f (j 0) (j 1) (j 2) (j 3)) es

/-- The plain convolution of the sample batch returns and leaves its arguments. -/
theorem preps_ref_frame : Cert.quiescent_PrepSRefIdeal (hPrepSRefIdeal := Cert.PrepSRefIdeal.Gen.facts) := fun m g _ =>
  (θ_run _ _ _).mono (fun r h => ⟨fun c => (h c).2.2.2.2, sem_eq_zero_of_no_sems (by decide) r.2⟩) (Cert.PrepSRefIdeal.Value.run (F := Ideal) m g)

/-- The sample batch's convolution with its norms and gates computes what the plain one computes. -/
theorem preps_value : Cert.algebraic_PrepSIdeal_PrepSRefIdeal (hPrepSIdeal := Cert.PrepSIdeal.Gen.facts) (hPrepSRefIdeal := Cert.PrepSRefIdeal.Gen.facts) := by
  intro m g m' g' _ hagree
  refine ⟨fun c => fun j => PrepS.qF (m (c, Cert.PrepSIdeal.main_arg0)) (m (c, Cert.PrepSIdeal.main_arg1)) (m (c, Cert.PrepSIdeal.main_arg2)) (j 0) (j 1),
    fun c => fun j => PrepS.kF (m (c, Cert.PrepSIdeal.main_arg0)) (m (c, Cert.PrepSIdeal.main_arg1)) (m (c, Cert.PrepSIdeal.main_arg2)) (j 0) (j 1),
    fun c => fun j => PrepS.vF (m (c, Cert.PrepSIdeal.main_arg0)) (m (c, Cert.PrepSIdeal.main_arg1)) (m (c, Cert.PrepSIdeal.main_arg2)) (j 0) (j 1),
    fun c => fun j => PrepS.bF (m (c, Cert.PrepSIdeal.main_arg0)) (m (c, Cert.PrepSIdeal.main_arg3)) (m (c, Cert.PrepSIdeal.main_arg4)) (j 0) (j 1), ?_, ?_⟩
  · refine (θ_run _ _ _).mono (fun r h c => ?_) (Cert.PrepSIdeal.Value.run_blocks (F := Ideal) m g)
    obtain ⟨h0, h1, h2, h3, h4⟩ := h c
    exact ⟨h0.trans (PrepS.final_q m c), h1.trans (PrepS.final_k m c), h2.trans (PrepS.final_v m c), h3.trans (PrepS.final_b m c), h4⟩
  · refine (θ_run _ _ _).mono (fun r h c => ?_) (Cert.PrepSRefIdeal.Value.run (F := Ideal) m' g')
    obtain ⟨h0, h1, h2, h3, h4⟩ := h c
    obtain ⟨e0, e1, e2, e3, e4⟩ := hagree c
    have e0' : (m' (c, Cert.PrepSRefIdeal.main_arg0) : FVec Ideal Cert.PrepSIdeal.S32x14592 .f32) = m (c, Cert.PrepSIdeal.main_arg0) := e0
    have e1' : (m' (c, Cert.PrepSRefIdeal.main_arg1) : FVec Ideal Cert.PrepSIdeal.S32x3x3072 .f32) = m (c, Cert.PrepSIdeal.main_arg1) := e1
    have e2' : (m' (c, Cert.PrepSRefIdeal.main_arg2) : FVec Ideal Cert.PrepSIdeal.S4x3072 .f32) = m (c, Cert.PrepSIdeal.main_arg2) := e2
    have e3' : (m' (c, Cert.PrepSRefIdeal.main_arg3) : FVec Ideal Cert.PrepSIdeal.S8 .f32) = m (c, Cert.PrepSIdeal.main_arg3) := e3
    have e4' : (m' (c, Cert.PrepSRefIdeal.main_arg4) : FVec Ideal Cert.PrepSIdeal.S8 .f32) = m (c, Cert.PrepSIdeal.main_arg4) := e4
    refine ⟨h0.trans ((PrepS.Ref.ref_q m' c).trans ?_), h1.trans ((PrepS.Ref.ref_k m' c).trans ?_), h2.trans ((PrepS.Ref.ref_v m' c).trans ?_),
      h3.trans ((PrepS.Ref.ref_b (m' (c, Cert.PrepSRefIdeal.main_arg0)) (m' (c, Cert.PrepSRefIdeal.main_arg3)) (m' (c, Cert.PrepSRefIdeal.main_arg4))).trans ?_), h4⟩
    · exact congrArg (fun f => fun j : Cert.PrepSIdeal.S32x1024.Idx => f (j 0) (j 1)) (congr (congrArg₂ PrepS.qF e0' e1') e2')
    · exact congrArg (fun f => fun j : Cert.PrepSIdeal.S32x1024.Idx => f (j 0) (j 1)) (congr (congrArg₂ PrepS.kF e0' e1') e2')
    · exact congrArg (fun f => fun j : Cert.PrepSIdeal.S32x1024.Idx => f (j 0) (j 1)) (congr (congrArg₂ PrepS.vF e0' e1') e2')
    · exact congrArg (fun f => fun j : Cert.PrepSIdeal.S32x128.Idx => f (j 0) (j 1)) (congr (congrArg₂ PrepS.bF e0' e3') e4')

/-- The plain projection of the sample batch runs and leaves its arguments and every counter as they were. -/
theorem inprojs_ref_frame : Cert.quiescent_InProjSRefIdeal (hInProjSRefIdeal := Cert.InProjSRefIdeal.Gen.facts) := fun m g _ =>
  (θ_run _ _ _).mono (fun r h => ⟨fun c => (h c).2.2, sem_eq_zero_of_no_sems (by decide) r.2⟩) (Cert.InProjSRefIdeal.Value.run (F := Ideal) m g)

/-- The array of the sample batch's projection is the plain projection, and the convolution's next state is the plain one's. -/
theorem inprojs_value : Cert.algebraic_InProjSIdeal_InProjSRefIdeal (hInProjSIdeal := Cert.InProjSIdeal.Gen.facts)
    (hInProjSRefIdeal := Cert.InProjSRefIdeal.Gen.facts) := by
  intro m g m' g' _ hagree
  refine ⟨fun c => fun j => InProjS.zF (m (c, Cert.InProjSIdeal.main_arg0)) (m (c, Cert.InProjSIdeal.main_arg1))
    (m (c, Cert.InProjSIdeal.main_arg2)) (j 0) (j 1),
    fun c => fun j => InProjS.nextF (m (c, Cert.InProjSIdeal.main_arg0)) (m (c, Cert.InProjSIdeal.main_arg1))
    (m (c, Cert.InProjSIdeal.main_arg2)) (m (c, Cert.InProjSIdeal.main_arg3)) (j 0) (j 1) (j 2), ?_, ?_⟩
  · exact InProjS.run m g
  · refine (θ_run _ _ _).mono (fun r h c => ?_) (Cert.InProjSRefIdeal.Value.run (F := Ideal) m' g')
    obtain ⟨h0, h1, h2⟩ := h c
    obtain ⟨e0, e1, e2, e3⟩ := hagree c
    have e0' : (m' (c, Cert.InProjSRefIdeal.main_arg0) : FVec Ideal Cert.InProjSIdeal.S32x1x2048 .f32) = m (c, Cert.InProjSIdeal.main_arg0) := e0
    have e1' : (m' (c, Cert.InProjSRefIdeal.main_arg1) : FVec Ideal Cert.InProjSIdeal.S2048 .f32) = m (c, Cert.InProjSIdeal.main_arg1) := e1
    have e2' : (m' (c, Cert.InProjSRefIdeal.main_arg2) : FVec Ideal Cert.InProjSIdeal.S2048x14592 .bf16) = m (c, Cert.InProjSIdeal.main_arg2) := e2
    have e3' : (m' (c, Cert.InProjSRefIdeal.main_arg3) : FVec Ideal Cert.InProjSIdeal.S32x3x3072 .f32) = m (c, Cert.InProjSIdeal.main_arg3) := e3
    refine ⟨h0.trans ((InProjS.Ref.ref_eq _ _ _).trans ?_), h1.trans ((InProjS.Ref.ref_next _ _ _ _).trans ?_), h2⟩
    · exact congr (congrArg₂ (fun x gain => fun w => fun j : Cert.InProjSIdeal.S32x14592.Idx => InProjS.zF x gain w (j 0) (j 1)) e0' e1') e2'
    · exact congr (congr (congrArg₂ (fun x gain => fun w st => fun j : Cert.InProjSIdeal.S32x3x3072.Idx => InProjS.nextF x gain w st (j 0) (j 1) (j 2)) e0' e1') e2') e3'

/-- The plain preparation of the sample batch's attention runs and leaves its arguments and every counter as they were. -/
theorem attpreps_ref_frame : Cert.quiescent_AttPrepSRefIdeal (hAttPrepSRefIdeal := Cert.AttPrepSRefIdeal.Gen.facts) := fun m g _ =>
  (θ_run _ _ _).mono (fun r h => ⟨fun c => (h c).2.2.2.2, sem_eq_zero_of_no_sems (by decide) r.2⟩) (Cert.AttPrepSRefIdeal.Value.run (F := Ideal) m g)

/-- The keys, values, index queries and index keys of the kernel that prepares the sample batch's attention are the plain ones. -/
theorem attpreps_value : Cert.algebraic_AttPrepSIdeal_AttPrepSRefIdeal (hAttPrepSIdeal := Cert.AttPrepSIdeal.Gen.facts)
    (hAttPrepSRefIdeal := Cert.AttPrepSRefIdeal.Gen.facts) := by
  intro m g m' g' _ hagree
  refine ⟨fun c => fun j => AttPrepS.keyF (m (c, Cert.AttPrepSIdeal.main_arg0)) (m (c, Cert.AttPrepSIdeal.main_arg2)) (j 1) (j 2),
    fun c => fun j => AttPrepS.valF (m (c, Cert.AttPrepSIdeal.main_arg0)) (j 1) (j 2),
    fun c => fun j => AttPrepS.idxqF (m (c, Cert.AttPrepSIdeal.main_arg0)) (j 1) (j 2),
    fun c => fun j => AttPrepS.idxkF (m (c, Cert.AttPrepSIdeal.main_arg0)) (j 1) (j 2), ?_, ?_⟩
  · refine (θ_run _ _ _).mono (fun r h c => ?_) (Cert.AttPrepSIdeal.Value.run_blocks (F := Ideal) m g)
    obtain ⟨-, h1, h2, h5, h6, -, ha⟩ := h c
    exact ⟨h1.trans (AttPrepS.final_key m c), h2.trans (AttPrepS.final_val m c), h5.trans (AttPrepS.final_idxq m c),
      h6.trans (AttPrepS.final_idxk m c), ha⟩
  · refine (θ_run _ _ _).mono (fun r h c => ?_) (Cert.AttPrepSRefIdeal.Value.run (F := Ideal) m' g')
    obtain ⟨h0, h1, h2, h3, ha⟩ := h c
    obtain ⟨e0, -, e2⟩ := hagree c
    have e0' : (m' (c, Cert.AttPrepSRefIdeal.main_arg0) : FVec Ideal Cert.AttPrepSIdeal.S32x14592 .f32) = m (c, Cert.AttPrepSIdeal.main_arg0) := e0
    have e2' : (m' (c, Cert.AttPrepSRefIdeal.main_arg2) : FVec Ideal Cert.AttPrepSIdeal.S128 .f32) = m (c, Cert.AttPrepSIdeal.main_arg2) := e2
    refine ⟨h0.trans ((AttPrepS.Ref.ref_key m' c).trans ?_), h1.trans ((AttPrepS.Ref.ref_val (m' (c, Cert.AttPrepSRefIdeal.main_arg0))).trans ?_),
      h2.trans ((AttPrepS.Ref.ref_idxq m' c).trans ?_), h3.trans ((AttPrepS.Ref.ref_idxk m' c).trans ?_), ha⟩
    · exact congrArg₂ (fun z kn => fun j : Cert.AttPrepSIdeal.S1x32x1024.Idx => AttPrepS.keyF z kn (j 1) (j 2)) e0' e2'
    · exact congrArg (fun z => fun j : Cert.AttPrepSIdeal.S1x32x1024.Idx => AttPrepS.valF z (j 1) (j 2)) e0'
    · exact congrArg (fun z => fun j : Cert.AttPrepSIdeal.S1x32x2048.Idx => AttPrepS.idxqF z (j 1) (j 2)) e0'
    · exact congrArg (fun z => fun j : Cert.AttPrepSIdeal.S1x32x128.Idx => AttPrepS.idxkF z (j 1) (j 2)) e0'

/-- The plain end of the layer for the sample batch runs and leaves its arguments and every counter as they were. -/
theorem tails_ref_frame : Cert.quiescent_TailSRefIdeal (hTailSRefIdeal := Cert.TailSRefIdeal.Gen.facts) := fun m g _ =>
  (θ_run _ _ _).mono (fun r h => ⟨fun c => (h c).2, sem_eq_zero_of_no_sems (by decide) r.2⟩) (Cert.TailSRefIdeal.Value.run (F := Ideal) m g)

/-- The array of the kernel that ends the layer for the sample batch is the plain one's. -/
theorem tails_value : Cert.algebraic_TailSIdeal_TailSRefIdeal (hTailSIdeal := Cert.TailSIdeal.Gen.facts)
    (hTailSRefIdeal := Cert.TailSRefIdeal.Gen.facts) := by
  intro m g m' g' _ hagree
  refine ⟨fun c => fun j => Lay.fin
    (TailS.argTok (m (c, Cert.TailSIdeal.main_arg0)) (m (c, Cert.TailSIdeal.main_arg1)) (m (c, Cert.TailSIdeal.main_arg2)) (m (c, Cert.TailSIdeal.main_arg3)) (m (c, Cert.TailSIdeal.main_arg4)) (j 0))
    (TailS.argWts (m (c, Cert.TailSIdeal.main_arg5)) (m (c, Cert.TailSIdeal.main_arg6)) (m (c, Cert.TailSIdeal.main_arg7)) (m (c, Cert.TailSIdeal.main_arg8)) (m (c, Cert.TailSIdeal.main_arg9)) (m (c, Cert.TailSIdeal.main_arg10))) (j 1), ?_, ?_⟩
  · refine (θ_run _ _ _).mono (fun r h c => ?_) (Cert.TailSIdeal.Value.run_blocks (F := Ideal) m g)
    obtain ⟨h0, h1⟩ := h c
    exact ⟨h0.trans (TailS.final m c), h1⟩
  · refine (θ_run _ _ _).mono (fun r h c => ?_) (Cert.TailSRefIdeal.Value.run (F := Ideal) m' g')
    obtain ⟨h0, h1⟩ := h c
    obtain ⟨e0, e1, e2, e3, e4, e5, e6, e7, e8, e9, e10⟩ := hagree c
    have e0' : (m' (c, Cert.TailSRefIdeal.main_arg0) : FVec Ideal Cert.TailSIdeal.S32x1x1024 .f32) = m (c, Cert.TailSIdeal.main_arg0) := e0
    have e1' : (m' (c, Cert.TailSRefIdeal.main_arg1) : FVec Ideal Cert.TailSIdeal.S32x1x1024 .bf16) = m (c, Cert.TailSIdeal.main_arg1) := e1
    have e2' : (m' (c, Cert.TailSRefIdeal.main_arg2) : FVec Ideal Cert.TailSIdeal.S32x1x14592 .f32) = m (c, Cert.TailSIdeal.main_arg2) := e2
    have e3' : (m' (c, Cert.TailSRefIdeal.main_arg3) : FVec Ideal Cert.TailSIdeal.S32x1x2048 .f32) = m (c, Cert.TailSIdeal.main_arg3) := e3
    have e4' : (m' (c, Cert.TailSRefIdeal.main_arg4) : FVec Ideal Cert.TailSIdeal.S32x1x256 .f32) = m (c, Cert.TailSIdeal.main_arg4) := e4
    have e5' : (m' (c, Cert.TailSRefIdeal.main_arg5) : FVec Ideal Cert.TailSIdeal.S1024x2048 .f32) = m (c, Cert.TailSIdeal.main_arg5) := e5
    have e6' : (m' (c, Cert.TailSRefIdeal.main_arg6) : FVec Ideal Cert.TailSIdeal.S1024x2048 .f32) = m (c, Cert.TailSIdeal.main_arg6) := e6
    have e7' : (m' (c, Cert.TailSRefIdeal.main_arg7) : FVec Ideal Cert.TailSIdeal.S2048x2048 .f32) = m (c, Cert.TailSIdeal.main_arg7) := e7
    have e8' : (m' (c, Cert.TailSRefIdeal.main_arg8) : FVec Ideal Cert.TailSIdeal.S2048 .f32) = m (c, Cert.TailSIdeal.main_arg8) := e8
    have e9' : (m' (c, Cert.TailSRefIdeal.main_arg9) : FVec Ideal Cert.TailSIdeal.S2048x2048 .f32) = m (c, Cert.TailSIdeal.main_arg9) := e9
    have e10' : (m' (c, Cert.TailSRefIdeal.main_arg10) : FVec Ideal Cert.TailSIdeal.S256x2048 .f32) = m (c, Cert.TailSIdeal.main_arg10) := e10
    refine ⟨h0.trans ((TailS.Ref.ref_eq m' c).trans ?_), h1⟩
    have et := congr (congr (congr (congrArg₂ TailS.argTok e0' e1') e2') e3') e4'
    have ew := congr (congr (congr (congr (congrArg₂ TailS.argWts e5' e6') e7') e8') e9') e10'
    exact congrArg₂ (fun (tok : Fin 32 → Lay.Tok) (w : Lay.Wts) => fun j : Cert.TailSIdeal.S32x2048.Idx => Lay.fin (tok (j 0)) w (j 1)) et ew

/-- Everything that is claimed. -/
theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.Tail.Gen.facts, Cert.TailIdeal.Gen.facts, Cert.TailRefIdeal.Gen.facts,
    Cert.AttPrep.Gen.facts, Cert.AttPrepIdeal.Gen.facts, Cert.AttPrepRefIdeal.Gen.facts,
    Cert.Step.Gen.facts, Cert.StepIdeal.Gen.facts, Cert.StepRefIdeal.Gen.facts,
    Cert.PrepS.Gen.facts, Cert.PrepSIdeal.Gen.facts, Cert.PrepSRefIdeal.Gen.facts,
    Cert.InProjS.Gen.facts, Cert.InProjSIdeal.Gen.facts, Cert.InProjSRefIdeal.Gen.facts,
    Cert.AttPrepS.Gen.facts, Cert.AttPrepSIdeal.Gen.facts, Cert.AttPrepSRefIdeal.Gen.facts,
    Cert.TailS.Gen.facts, Cert.TailSIdeal.Gen.facts, Cert.TailSRefIdeal.Gen.facts,
    Gdn.Pre.facts, Step.Pre.facts,
    fun m ρ _ => Cert.Kernel.Gen.frame m ρ,
    fun m ρ _ => Cert.KernelIdeal.Gen.frame m ρ,
    fun m ρ _ => Cert.KernelIdeal.Gen.frame m ρ,
    gdn_ref_frame,
    fun m ρ _ => gdn_ref_frame m ρ trivial,
    fun m ρ _ => Cert.InProj.Gen.frame m ρ,
    fun m ρ _ => Cert.InProjIdeal.Gen.frame m ρ,
    inproj_ref_frame,
    fun m ρ _ => Cert.Tail.Gen.frame m ρ,
    fun m ρ _ => Cert.TailIdeal.Gen.frame m ρ,
    tail_ref_frame,
    fun m ρ _ => Cert.AttPrep.Gen.frame m ρ,
    fun m ρ _ => Cert.AttPrepIdeal.Gen.frame m ρ,
    attprep_ref_frame,
    fun m ρ _ => Cert.Step.Gen.frame m ρ,
    fun m ρ _ => Cert.StepIdeal.Gen.frame m ρ,
    fun m ρ _ => Cert.StepIdeal.Gen.frame m ρ,
    step_ref_frame,
    fun m ρ _ => step_ref_frame m ρ trivial,
    fun m ρ _ => Cert.PrepS.Gen.frame m ρ,
    fun m ρ _ => Cert.PrepSIdeal.Gen.frame m ρ,
    preps_ref_frame,
    fun m ρ _ => Cert.InProjS.Gen.frame m ρ,
    fun m ρ _ => Cert.InProjSIdeal.Gen.frame m ρ,
    inprojs_ref_frame,
    fun m ρ _ => Cert.AttPrepS.Gen.frame m ρ,
    fun m ρ _ => Cert.AttPrepSIdeal.Gen.frame m ρ,
    attpreps_ref_frame,
    fun m ρ _ => Cert.TailS.Gen.frame m ρ,
    fun m ρ _ => Cert.TailSIdeal.Gen.frame m ρ,
    tails_ref_frame,
    trivial,
    gdn_value,
    trivial,
    inproj_value,
    trivial,
    tail_value,
    trivial,
    attprep_value,
    trivial,
    step_value,
    trivial,
    preps_value,
    trivial,
    inprojs_value,
    trivial,
    attpreps_value,
    trivial,
    tails_value⟩

end Cert.Proof

end
